-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))).1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))).2.1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))).2.2 = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2 = (fun _ => 1#1)

def Pre_KernelIdeal_planned [hPre_planned : Cert.Pre_planned.Facts] (m : (ℓ : Loc Cert.KernelIdeal.nD Cert.KernelIdeal.τ Cert.KernelIdeal.sig) → Buf (Elt Ideal) ℓ) : Prop :=
  ∀ c : Dev Cert.KernelIdeal.nD,
    (Cert.Pre_planned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_planned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_planned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_planned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_planned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_planned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_planned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_planned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_planned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.1 = (fun _ => 1#1)
    ∧ (Cert.Pre_planned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2 = (fun _ => 1#1)

def Pre_RefIdeal (m : (ℓ : Loc Cert.RefIdeal.nD Cert.RefIdeal.τ Cert.RefIdeal.sig) → Buf (Elt Ideal) ℓ) : Prop :=
  True

def Pre_RefIdeal_planned [hPre_planned : Cert.Pre_planned.Facts] (m : (ℓ : Loc Cert.RefIdeal.nD Cert.RefIdeal.τ Cert.RefIdeal.sig) → Buf (Elt Ideal) ℓ) : Prop :=
  ∀ c : Dev Cert.RefIdeal.nD,
    (Cert.Pre_planned.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6)) (m ((c.tc : Thread Cert.RefIdeal.nD Cert.RefIdeal.τ).loc Cert.RefIdeal.main_arg7)) (m ((c.tc : Thread Cert.RefIdeal.nD Cert.RefIdeal.τ).loc Cert.RefIdeal.main_arg8)) (m ((c.tc : Thread Cert.RefIdeal.nD Cert.RefIdeal.τ).loc Cert.RefIdeal.main_arg9)) (m ((c.tc : Thread Cert.RefIdeal.nD Cert.RefIdeal.τ).loc Cert.RefIdeal.main_arg10))).1 = (fun _ => 1#1)
    ∧ (Cert.Pre_planned.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6)) (m ((c.tc : Thread Cert.RefIdeal.nD Cert.RefIdeal.τ).loc Cert.RefIdeal.main_arg7)) (m ((c.tc : Thread Cert.RefIdeal.nD Cert.RefIdeal.τ).loc Cert.RefIdeal.main_arg8)) (m ((c.tc : Thread Cert.RefIdeal.nD Cert.RefIdeal.τ).loc Cert.RefIdeal.main_arg9)) (m ((c.tc : Thread Cert.RefIdeal.nD Cert.RefIdeal.τ).loc Cert.RefIdeal.main_arg10))).2.1 = (fun _ => 1#1)
    ∧ (Cert.Pre_planned.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6)) (m ((c.tc : Thread Cert.RefIdeal.nD Cert.RefIdeal.τ).loc Cert.RefIdeal.main_arg7)) (m ((c.tc : Thread Cert.RefIdeal.nD Cert.RefIdeal.τ).loc Cert.RefIdeal.main_arg8)) (m ((c.tc : Thread Cert.RefIdeal.nD Cert.RefIdeal.τ).loc Cert.RefIdeal.main_arg9)) (m ((c.tc : Thread Cert.RefIdeal.nD Cert.RefIdeal.τ).loc Cert.RefIdeal.main_arg10))).2.2.1 = (fun _ => 1#1)
    ∧ (Cert.Pre_planned.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6)) (m ((c.tc : Thread Cert.RefIdeal.nD Cert.RefIdeal.τ).loc Cert.RefIdeal.main_arg7)) (m ((c.tc : Thread Cert.RefIdeal.nD Cert.RefIdeal.τ).loc Cert.RefIdeal.main_arg8)) (m ((c.tc : Thread Cert.RefIdeal.nD Cert.RefIdeal.τ).loc Cert.RefIdeal.main_arg9)) (m ((c.tc : Thread Cert.RefIdeal.nD Cert.RefIdeal.τ).loc Cert.RefIdeal.main_arg10))).2.2.2.1 = (fun _ => 1#1)
    ∧ (Cert.Pre_planned.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6)) (m ((c.tc : Thread Cert.RefIdeal.nD Cert.RefIdeal.τ).loc Cert.RefIdeal.main_arg7)) (m ((c.tc : Thread Cert.RefIdeal.nD Cert.RefIdeal.τ).loc Cert.RefIdeal.main_arg8)) (m ((c.tc : Thread Cert.RefIdeal.nD Cert.RefIdeal.τ).loc Cert.RefIdeal.main_arg9)) (m ((c.tc : Thread Cert.RefIdeal.nD Cert.RefIdeal.τ).loc Cert.RefIdeal.main_arg10))).2.2.2.2.1 = (fun _ => 1#1)
    ∧ (Cert.Pre_planned.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6)) (m ((c.tc : Thread Cert.RefIdeal.nD Cert.RefIdeal.τ).loc Cert.RefIdeal.main_arg7)) (m ((c.tc : Thread Cert.RefIdeal.nD Cert.RefIdeal.τ).loc Cert.RefIdeal.main_arg8)) (m ((c.tc : Thread Cert.RefIdeal.nD Cert.RefIdeal.τ).loc Cert.RefIdeal.main_arg9)) (m ((c.tc : Thread Cert.RefIdeal.nD Cert.RefIdeal.τ).loc Cert.RefIdeal.main_arg10))).2.2.2.2.2.1 = (fun _ => 1#1)
    ∧ (Cert.Pre_planned.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6)) (m ((c.tc : Thread Cert.RefIdeal.nD Cert.RefIdeal.τ).loc Cert.RefIdeal.main_arg7)) (m ((c.tc : Thread Cert.RefIdeal.nD Cert.RefIdeal.τ).loc Cert.RefIdeal.main_arg8)) (m ((c.tc : Thread Cert.RefIdeal.nD Cert.RefIdeal.τ).loc Cert.RefIdeal.main_arg9)) (m ((c.tc : Thread Cert.RefIdeal.nD Cert.RefIdeal.τ).loc Cert.RefIdeal.main_arg10))).2.2.2.2.2.2.1 = (fun _ => 1#1)
    ∧ (Cert.Pre_planned.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6)) (m ((c.tc : Thread Cert.RefIdeal.nD Cert.RefIdeal.τ).loc Cert.RefIdeal.main_arg7)) (m ((c.tc : Thread Cert.RefIdeal.nD Cert.RefIdeal.τ).loc Cert.RefIdeal.main_arg8)) (m ((c.tc : Thread Cert.RefIdeal.nD Cert.RefIdeal.τ).loc Cert.RefIdeal.main_arg9)) (m ((c.tc : Thread Cert.RefIdeal.nD Cert.RefIdeal.τ).loc Cert.RefIdeal.main_arg10))).2.2.2.2.2.2.2.1 = (fun _ => 1#1)
    ∧ (Cert.Pre_planned.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6)) (m ((c.tc : Thread Cert.RefIdeal.nD Cert.RefIdeal.τ).loc Cert.RefIdeal.main_arg7)) (m ((c.tc : Thread Cert.RefIdeal.nD Cert.RefIdeal.τ).loc Cert.RefIdeal.main_arg8)) (m ((c.tc : Thread Cert.RefIdeal.nD Cert.RefIdeal.τ).loc Cert.RefIdeal.main_arg9)) (m ((c.tc : Thread Cert.RefIdeal.nD Cert.RefIdeal.τ).loc Cert.RefIdeal.main_arg10))).2.2.2.2.2.2.2.2.1 = (fun _ => 1#1)
    ∧ (Cert.Pre_planned.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6)) (m ((c.tc : Thread Cert.RefIdeal.nD Cert.RefIdeal.τ).loc Cert.RefIdeal.main_arg7)) (m ((c.tc : Thread Cert.RefIdeal.nD Cert.RefIdeal.τ).loc Cert.RefIdeal.main_arg8)) (m ((c.tc : Thread Cert.RefIdeal.nD Cert.RefIdeal.τ).loc Cert.RefIdeal.main_arg9)) (m ((c.tc : Thread Cert.RefIdeal.nD Cert.RefIdeal.τ).loc Cert.RefIdeal.main_arg10))).2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Ref2Ideal (m : (ℓ : Loc Cert.Ref2Ideal.nD Cert.Ref2Ideal.τ Cert.Ref2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Ref3Ideal (m : (ℓ : Loc Cert.Ref3Ideal.nD Cert.Ref3Ideal.τ Cert.Ref3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Ref4Ideal (m : (ℓ : Loc Cert.Ref4Ideal.nD Cert.Ref4Ideal.τ Cert.Ref4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Ref5Ideal (m : (ℓ : Loc Cert.Ref5Ideal.nD Cert.Ref5Ideal.τ Cert.Ref5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Ref6Ideal (m : (ℓ : Loc Cert.Ref6Ideal.nD Cert.Ref6Ideal.τ Cert.Ref6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Ref7Ideal (m : (ℓ : Loc Cert.Ref7Ideal.nD Cert.Ref7Ideal.τ Cert.Ref7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite [hPre_finite : Cert.Pre_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).1 = (fun _ => 1#1)
    ∧ (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.1 = (fun _ => 1#1)
    ∧ (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.2.1 = (fun _ => 1#1)
    ∧ (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.2.2 = (fun _ => 1#1)

def Pre_Ref8Ideal (m : (ℓ : Loc Cert.Ref8Ideal.nD Cert.Ref8Ideal.τ Cert.Ref8Ideal.sig) → Buf (Elt Ideal) ℓ) : Prop :=
  True

def Pre_Ref8Ideal_finite [hPre_finite : Cert.Pre_finite.Facts] (m : (ℓ : Loc Cert.Ref8Ideal.nD Cert.Ref8Ideal.τ Cert.Ref8Ideal.sig) → Buf (Elt Ideal) ℓ) : Prop :=
  ∀ c : Dev Cert.Ref8Ideal.nD,
    (Cert.Pre_finite.fn (F := Ideal) (m ((c.tc : Thread Cert.Ref8Ideal.nD Cert.Ref8Ideal.τ).loc Cert.Ref8Ideal.main_arg0)) (m ((c.tc : Thread Cert.Ref8Ideal.nD Cert.Ref8Ideal.τ).loc Cert.Ref8Ideal.main_arg1)) (m ((c.tc : Thread Cert.Ref8Ideal.nD Cert.Ref8Ideal.τ).loc Cert.Ref8Ideal.main_arg2)) (m ((c.tc : Thread Cert.Ref8Ideal.nD Cert.Ref8Ideal.τ).loc Cert.Ref8Ideal.main_arg3)) (m ((c.tc : Thread Cert.Ref8Ideal.nD Cert.Ref8Ideal.τ).loc Cert.Ref8Ideal.main_arg4)) (m ((c.tc : Thread Cert.Ref8Ideal.nD Cert.Ref8Ideal.τ).loc Cert.Ref8Ideal.main_arg5)) (m ((c.tc : Thread Cert.Ref8Ideal.nD Cert.Ref8Ideal.τ).loc Cert.Ref8Ideal.main_arg6))).1 = (fun _ => 1#1)
    ∧ (Cert.Pre_finite.fn (F := Ideal) (m ((c.tc : Thread Cert.Ref8Ideal.nD Cert.Ref8Ideal.τ).loc Cert.Ref8Ideal.main_arg0)) (m ((c.tc : Thread Cert.Ref8Ideal.nD Cert.Ref8Ideal.τ).loc Cert.Ref8Ideal.main_arg1)) (m ((c.tc : Thread Cert.Ref8Ideal.nD Cert.Ref8Ideal.τ).loc Cert.Ref8Ideal.main_arg2)) (m ((c.tc : Thread Cert.Ref8Ideal.nD Cert.Ref8Ideal.τ).loc Cert.Ref8Ideal.main_arg3)) (m ((c.tc : Thread Cert.Ref8Ideal.nD Cert.Ref8Ideal.τ).loc Cert.Ref8Ideal.main_arg4)) (m ((c.tc : Thread Cert.Ref8Ideal.nD Cert.Ref8Ideal.τ).loc Cert.Ref8Ideal.main_arg5)) (m ((c.tc : Thread Cert.Ref8Ideal.nD Cert.Ref8Ideal.τ).loc Cert.Ref8Ideal.main_arg6))).2.1 = (fun _ => 1#1)
    ∧ (Cert.Pre_finite.fn (F := Ideal) (m ((c.tc : Thread Cert.Ref8Ideal.nD Cert.Ref8Ideal.τ).loc Cert.Ref8Ideal.main_arg0)) (m ((c.tc : Thread Cert.Ref8Ideal.nD Cert.Ref8Ideal.τ).loc Cert.Ref8Ideal.main_arg1)) (m ((c.tc : Thread Cert.Ref8Ideal.nD Cert.Ref8Ideal.τ).loc Cert.Ref8Ideal.main_arg2)) (m ((c.tc : Thread Cert.Ref8Ideal.nD Cert.Ref8Ideal.τ).loc Cert.Ref8Ideal.main_arg3)) (m ((c.tc : Thread Cert.Ref8Ideal.nD Cert.Ref8Ideal.τ).loc Cert.Ref8Ideal.main_arg4)) (m ((c.tc : Thread Cert.Ref8Ideal.nD Cert.Ref8Ideal.τ).loc Cert.Ref8Ideal.main_arg5)) (m ((c.tc : Thread Cert.Ref8Ideal.nD Cert.Ref8Ideal.τ).loc Cert.Ref8Ideal.main_arg6))).2.2.1 = (fun _ => 1#1)
    ∧ (Cert.Pre_finite.fn (F := Ideal) (m ((c.tc : Thread Cert.Ref8Ideal.nD Cert.Ref8Ideal.τ).loc Cert.Ref8Ideal.main_arg0)) (m ((c.tc : Thread Cert.Ref8Ideal.nD Cert.Ref8Ideal.τ).loc Cert.Ref8Ideal.main_arg1)) (m ((c.tc : Thread Cert.Ref8Ideal.nD Cert.Ref8Ideal.τ).loc Cert.Ref8Ideal.main_arg2)) (m ((c.tc : Thread Cert.Ref8Ideal.nD Cert.Ref8Ideal.τ).loc Cert.Ref8Ideal.main_arg3)) (m ((c.tc : Thread Cert.Ref8Ideal.nD Cert.Ref8Ideal.τ).loc Cert.Ref8Ideal.main_arg4)) (m ((c.tc : Thread Cert.Ref8Ideal.nD Cert.Ref8Ideal.τ).loc Cert.Ref8Ideal.main_arg5)) (m ((c.tc : Thread Cert.Ref8Ideal.nD Cert.Ref8Ideal.τ).loc Cert.Ref8Ideal.main_arg6))).2.2.2 = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_planned [hKernelIdeal : Cert.KernelIdeal.Facts] [hPre_planned : Cert.Pre_planned.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_planned m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6)
      ∧ r.2.mem ((c.tc : Thread Cert.RefIdeal.nD Cert.RefIdeal.τ).loc Cert.RefIdeal.main_arg7) = m ((c.tc : Thread Cert.RefIdeal.nD Cert.RefIdeal.τ).loc Cert.RefIdeal.main_arg7)
      ∧ r.2.mem ((c.tc : Thread Cert.RefIdeal.nD Cert.RefIdeal.τ).loc Cert.RefIdeal.main_arg8) = m ((c.tc : Thread Cert.RefIdeal.nD Cert.RefIdeal.τ).loc Cert.RefIdeal.main_arg8)
      ∧ r.2.mem ((c.tc : Thread Cert.RefIdeal.nD Cert.RefIdeal.τ).loc Cert.RefIdeal.main_arg9) = m ((c.tc : Thread Cert.RefIdeal.nD Cert.RefIdeal.τ).loc Cert.RefIdeal.main_arg9)
      ∧ r.2.mem ((c.tc : Thread Cert.RefIdeal.nD Cert.RefIdeal.τ).loc Cert.RefIdeal.main_arg10) = m ((c.tc : Thread Cert.RefIdeal.nD Cert.RefIdeal.τ).loc Cert.RefIdeal.main_arg10))
      ∧ r.2.sem = fun _ => 0)

def quiescent_RefIdeal_pre_planned [hRefIdeal : Cert.RefIdeal.Facts] [hPre_planned : Cert.Pre_planned.Facts] : Prop :=
  ∀ (m : (ℓ : Loc Cert.RefIdeal.nD Cert.RefIdeal.τ Cert.RefIdeal.sig) → Buf (Elt Ideal) ℓ) (g : Dev Cert.RefIdeal.nD → PrngReg), Pre_RefIdeal_planned m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6)
      ∧ r.2.mem ((c.tc : Thread Cert.RefIdeal.nD Cert.RefIdeal.τ).loc Cert.RefIdeal.main_arg7) = m ((c.tc : Thread Cert.RefIdeal.nD Cert.RefIdeal.τ).loc Cert.RefIdeal.main_arg7)
      ∧ r.2.mem ((c.tc : Thread Cert.RefIdeal.nD Cert.RefIdeal.τ).loc Cert.RefIdeal.main_arg8) = m ((c.tc : Thread Cert.RefIdeal.nD Cert.RefIdeal.τ).loc Cert.RefIdeal.main_arg8)
      ∧ r.2.mem ((c.tc : Thread Cert.RefIdeal.nD Cert.RefIdeal.τ).loc Cert.RefIdeal.main_arg9) = m ((c.tc : Thread Cert.RefIdeal.nD Cert.RefIdeal.τ).loc Cert.RefIdeal.main_arg9)
      ∧ r.2.mem ((c.tc : Thread Cert.RefIdeal.nD Cert.RefIdeal.τ).loc Cert.RefIdeal.main_arg10) = m ((c.tc : Thread Cert.RefIdeal.nD Cert.RefIdeal.τ).loc Cert.RefIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Ref2Ideal [hRef2Ideal : Cert.Ref2Ideal.Facts] : Prop :=
  ∀ (m : (ℓ : Loc Cert.Ref2Ideal.nD Cert.Ref2Ideal.τ Cert.Ref2Ideal.sig) → Buf (Elt Ideal) ℓ) (g : Dev Cert.Ref2Ideal.nD → PrngReg), Pre_Ref2Ideal m →
    θ_run (Cert.Ref2Ideal.defs (F := Ideal)) (onTc (τ := Cert.Ref2Ideal.τ) (Cert.Ref2Ideal.main (F := Ideal))) ⟨m, fun _ => 0, g⟩ (fun r => (∀ c : Dev Cert.Ref2Ideal.nD,
      r.2.mem ((c.tc : Thread Cert.Ref2Ideal.nD Cert.Ref2Ideal.τ).loc Cert.Ref2Ideal.main_arg0) = m ((c.tc : Thread Cert.Ref2Ideal.nD Cert.Ref2Ideal.τ).loc Cert.Ref2Ideal.main_arg0)
      ∧ r.2.mem ((c.tc : Thread Cert.Ref2Ideal.nD Cert.Ref2Ideal.τ).loc Cert.Ref2Ideal.main_arg1) = m ((c.tc : Thread Cert.Ref2Ideal.nD Cert.Ref2Ideal.τ).loc Cert.Ref2Ideal.main_arg1)
      ∧ r.2.mem ((c.tc : Thread Cert.Ref2Ideal.nD Cert.Ref2Ideal.τ).loc Cert.Ref2Ideal.main_arg2) = m ((c.tc : Thread Cert.Ref2Ideal.nD Cert.Ref2Ideal.τ).loc Cert.Ref2Ideal.main_arg2)
      ∧ r.2.mem ((c.tc : Thread Cert.Ref2Ideal.nD Cert.Ref2Ideal.τ).loc Cert.Ref2Ideal.main_arg3) = m ((c.tc : Thread Cert.Ref2Ideal.nD Cert.Ref2Ideal.τ).loc Cert.Ref2Ideal.main_arg3)
      ∧ r.2.mem ((c.tc : Thread Cert.Ref2Ideal.nD Cert.Ref2Ideal.τ).loc Cert.Ref2Ideal.main_arg4) = m ((c.tc : Thread Cert.Ref2Ideal.nD Cert.Ref2Ideal.τ).loc Cert.Ref2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Ref3Ideal [hRef3Ideal : Cert.Ref3Ideal.Facts] : Prop :=
  ∀ (m : (ℓ : Loc Cert.Ref3Ideal.nD Cert.Ref3Ideal.τ Cert.Ref3Ideal.sig) → Buf (Elt Ideal) ℓ) (g : Dev Cert.Ref3Ideal.nD → PrngReg), Pre_Ref3Ideal m →
    θ_run (Cert.Ref3Ideal.defs (F := Ideal)) (onTc (τ := Cert.Ref3Ideal.τ) (Cert.Ref3Ideal.main (F := Ideal))) ⟨m, fun _ => 0, g⟩ (fun r => (∀ c : Dev Cert.Ref3Ideal.nD,
      r.2.mem ((c.tc : Thread Cert.Ref3Ideal.nD Cert.Ref3Ideal.τ).loc Cert.Ref3Ideal.main_arg0) = m ((c.tc : Thread Cert.Ref3Ideal.nD Cert.Ref3Ideal.τ).loc Cert.Ref3Ideal.main_arg0)
      ∧ r.2.mem ((c.tc : Thread Cert.Ref3Ideal.nD Cert.Ref3Ideal.τ).loc Cert.Ref3Ideal.main_arg1) = m ((c.tc : Thread Cert.Ref3Ideal.nD Cert.Ref3Ideal.τ).loc Cert.Ref3Ideal.main_arg1)
      ∧ r.2.mem ((c.tc : Thread Cert.Ref3Ideal.nD Cert.Ref3Ideal.τ).loc Cert.Ref3Ideal.main_arg2) = m ((c.tc : Thread Cert.Ref3Ideal.nD Cert.Ref3Ideal.τ).loc Cert.Ref3Ideal.main_arg2)
      ∧ r.2.mem ((c.tc : Thread Cert.Ref3Ideal.nD Cert.Ref3Ideal.τ).loc Cert.Ref3Ideal.main_arg3) = m ((c.tc : Thread Cert.Ref3Ideal.nD Cert.Ref3Ideal.τ).loc Cert.Ref3Ideal.main_arg3)
      ∧ r.2.mem ((c.tc : Thread Cert.Ref3Ideal.nD Cert.Ref3Ideal.τ).loc Cert.Ref3Ideal.main_arg4) = m ((c.tc : Thread Cert.Ref3Ideal.nD Cert.Ref3Ideal.τ).loc Cert.Ref3Ideal.main_arg4)
      ∧ r.2.mem ((c.tc : Thread Cert.Ref3Ideal.nD Cert.Ref3Ideal.τ).loc Cert.Ref3Ideal.main_arg5) = m ((c.tc : Thread Cert.Ref3Ideal.nD Cert.Ref3Ideal.τ).loc Cert.Ref3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Ref4Ideal [hRef4Ideal : Cert.Ref4Ideal.Facts] : Prop :=
  ∀ (m : (ℓ : Loc Cert.Ref4Ideal.nD Cert.Ref4Ideal.τ Cert.Ref4Ideal.sig) → Buf (Elt Ideal) ℓ) (g : Dev Cert.Ref4Ideal.nD → PrngReg), Pre_Ref4Ideal m →
    θ_run (Cert.Ref4Ideal.defs (F := Ideal)) (onTc (τ := Cert.Ref4Ideal.τ) (Cert.Ref4Ideal.main (F := Ideal))) ⟨m, fun _ => 0, g⟩ (fun r => (∀ c : Dev Cert.Ref4Ideal.nD,
      r.2.mem ((c.tc : Thread Cert.Ref4Ideal.nD Cert.Ref4Ideal.τ).loc Cert.Ref4Ideal.main_arg0) = m ((c.tc : Thread Cert.Ref4Ideal.nD Cert.Ref4Ideal.τ).loc Cert.Ref4Ideal.main_arg0)
      ∧ r.2.mem ((c.tc : Thread Cert.Ref4Ideal.nD Cert.Ref4Ideal.τ).loc Cert.Ref4Ideal.main_arg1) = m ((c.tc : Thread Cert.Ref4Ideal.nD Cert.Ref4Ideal.τ).loc Cert.Ref4Ideal.main_arg1)
      ∧ r.2.mem ((c.tc : Thread Cert.Ref4Ideal.nD Cert.Ref4Ideal.τ).loc Cert.Ref4Ideal.main_arg2) = m ((c.tc : Thread Cert.Ref4Ideal.nD Cert.Ref4Ideal.τ).loc Cert.Ref4Ideal.main_arg2)
      ∧ r.2.mem ((c.tc : Thread Cert.Ref4Ideal.nD Cert.Ref4Ideal.τ).loc Cert.Ref4Ideal.main_arg3) = m ((c.tc : Thread Cert.Ref4Ideal.nD Cert.Ref4Ideal.τ).loc Cert.Ref4Ideal.main_arg3)
      ∧ r.2.mem ((c.tc : Thread Cert.Ref4Ideal.nD Cert.Ref4Ideal.τ).loc Cert.Ref4Ideal.main_arg4) = m ((c.tc : Thread Cert.Ref4Ideal.nD Cert.Ref4Ideal.τ).loc Cert.Ref4Ideal.main_arg4)
      ∧ r.2.mem ((c.tc : Thread Cert.Ref4Ideal.nD Cert.Ref4Ideal.τ).loc Cert.Ref4Ideal.main_arg5) = m ((c.tc : Thread Cert.Ref4Ideal.nD Cert.Ref4Ideal.τ).loc Cert.Ref4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Ref5Ideal [hRef5Ideal : Cert.Ref5Ideal.Facts] : Prop :=
  ∀ (m : (ℓ : Loc Cert.Ref5Ideal.nD Cert.Ref5Ideal.τ Cert.Ref5Ideal.sig) → Buf (Elt Ideal) ℓ) (g : Dev Cert.Ref5Ideal.nD → PrngReg), Pre_Ref5Ideal m →
    θ_run (Cert.Ref5Ideal.defs (F := Ideal)) (onTc (τ := Cert.Ref5Ideal.τ) (Cert.Ref5Ideal.main (F := Ideal))) ⟨m, fun _ => 0, g⟩ (fun r => (∀ c : Dev Cert.Ref5Ideal.nD,
      r.2.mem ((c.tc : Thread Cert.Ref5Ideal.nD Cert.Ref5Ideal.τ).loc Cert.Ref5Ideal.main_arg0) = m ((c.tc : Thread Cert.Ref5Ideal.nD Cert.Ref5Ideal.τ).loc Cert.Ref5Ideal.main_arg0)
      ∧ r.2.mem ((c.tc : Thread Cert.Ref5Ideal.nD Cert.Ref5Ideal.τ).loc Cert.Ref5Ideal.main_arg1) = m ((c.tc : Thread Cert.Ref5Ideal.nD Cert.Ref5Ideal.τ).loc Cert.Ref5Ideal.main_arg1)
      ∧ r.2.mem ((c.tc : Thread Cert.Ref5Ideal.nD Cert.Ref5Ideal.τ).loc Cert.Ref5Ideal.main_arg2) = m ((c.tc : Thread Cert.Ref5Ideal.nD Cert.Ref5Ideal.τ).loc Cert.Ref5Ideal.main_arg2)
      ∧ r.2.mem ((c.tc : Thread Cert.Ref5Ideal.nD Cert.Ref5Ideal.τ).loc Cert.Ref5Ideal.main_arg3) = m ((c.tc : Thread Cert.Ref5Ideal.nD Cert.Ref5Ideal.τ).loc Cert.Ref5Ideal.main_arg3)
      ∧ r.2.mem ((c.tc : Thread Cert.Ref5Ideal.nD Cert.Ref5Ideal.τ).loc Cert.Ref5Ideal.main_arg4) = m ((c.tc : Thread Cert.Ref5Ideal.nD Cert.Ref5Ideal.τ).loc Cert.Ref5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Ref6Ideal [hRef6Ideal : Cert.Ref6Ideal.Facts] : Prop :=
  ∀ (m : (ℓ : Loc Cert.Ref6Ideal.nD Cert.Ref6Ideal.τ Cert.Ref6Ideal.sig) → Buf (Elt Ideal) ℓ) (g : Dev Cert.Ref6Ideal.nD → PrngReg), Pre_Ref6Ideal m →
    θ_run (Cert.Ref6Ideal.defs (F := Ideal)) (onTc (τ := Cert.Ref6Ideal.τ) (Cert.Ref6Ideal.main (F := Ideal))) ⟨m, fun _ => 0, g⟩ (fun r => (∀ c : Dev Cert.Ref6Ideal.nD,
      r.2.mem ((c.tc : Thread Cert.Ref6Ideal.nD Cert.Ref6Ideal.τ).loc Cert.Ref6Ideal.main_arg0) = m ((c.tc : Thread Cert.Ref6Ideal.nD Cert.Ref6Ideal.τ).loc Cert.Ref6Ideal.main_arg0)
      ∧ r.2.mem ((c.tc : Thread Cert.Ref6Ideal.nD Cert.Ref6Ideal.τ).loc Cert.Ref6Ideal.main_arg1) = m ((c.tc : Thread Cert.Ref6Ideal.nD Cert.Ref6Ideal.τ).loc Cert.Ref6Ideal.main_arg1)
      ∧ r.2.mem ((c.tc : Thread Cert.Ref6Ideal.nD Cert.Ref6Ideal.τ).loc Cert.Ref6Ideal.main_arg2) = m ((c.tc : Thread Cert.Ref6Ideal.nD Cert.Ref6Ideal.τ).loc Cert.Ref6Ideal.main_arg2)
      ∧ r.2.mem ((c.tc : Thread Cert.Ref6Ideal.nD Cert.Ref6Ideal.τ).loc Cert.Ref6Ideal.main_arg3) = m ((c.tc : Thread Cert.Ref6Ideal.nD Cert.Ref6Ideal.τ).loc Cert.Ref6Ideal.main_arg3)
      ∧ r.2.mem ((c.tc : Thread Cert.Ref6Ideal.nD Cert.Ref6Ideal.τ).loc Cert.Ref6Ideal.main_arg4) = m ((c.tc : Thread Cert.Ref6Ideal.nD Cert.Ref6Ideal.τ).loc Cert.Ref6Ideal.main_arg4)
      ∧ r.2.mem ((c.tc : Thread Cert.Ref6Ideal.nD Cert.Ref6Ideal.τ).loc Cert.Ref6Ideal.main_arg5) = m ((c.tc : Thread Cert.Ref6Ideal.nD Cert.Ref6Ideal.τ).loc Cert.Ref6Ideal.main_arg5)
      ∧ r.2.mem ((c.tc : Thread Cert.Ref6Ideal.nD Cert.Ref6Ideal.τ).loc Cert.Ref6Ideal.main_arg6) = m ((c.tc : Thread Cert.Ref6Ideal.nD Cert.Ref6Ideal.τ).loc Cert.Ref6Ideal.main_arg6)
      ∧ r.2.mem ((c.tc : Thread Cert.Ref6Ideal.nD Cert.Ref6Ideal.τ).loc Cert.Ref6Ideal.main_arg7) = m ((c.tc : Thread Cert.Ref6Ideal.nD Cert.Ref6Ideal.τ).loc Cert.Ref6Ideal.main_arg7)
      ∧ r.2.mem ((c.tc : Thread Cert.Ref6Ideal.nD Cert.Ref6Ideal.τ).loc Cert.Ref6Ideal.main_arg8) = m ((c.tc : Thread Cert.Ref6Ideal.nD Cert.Ref6Ideal.τ).loc Cert.Ref6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Ref7Ideal [hRef7Ideal : Cert.Ref7Ideal.Facts] : Prop :=
  ∀ (m : (ℓ : Loc Cert.Ref7Ideal.nD Cert.Ref7Ideal.τ Cert.Ref7Ideal.sig) → Buf (Elt Ideal) ℓ) (g : Dev Cert.Ref7Ideal.nD → PrngReg), Pre_Ref7Ideal m →
    θ_run (Cert.Ref7Ideal.defs (F := Ideal)) (onTc (τ := Cert.Ref7Ideal.τ) (Cert.Ref7Ideal.main (F := Ideal))) ⟨m, fun _ => 0, g⟩ (fun r => (∀ c : Dev Cert.Ref7Ideal.nD,
      r.2.mem ((c.tc : Thread Cert.Ref7Ideal.nD Cert.Ref7Ideal.τ).loc Cert.Ref7Ideal.main_arg0) = m ((c.tc : Thread Cert.Ref7Ideal.nD Cert.Ref7Ideal.τ).loc Cert.Ref7Ideal.main_arg0)
      ∧ r.2.mem ((c.tc : Thread Cert.Ref7Ideal.nD Cert.Ref7Ideal.τ).loc Cert.Ref7Ideal.main_arg1) = m ((c.tc : Thread Cert.Ref7Ideal.nD Cert.Ref7Ideal.τ).loc Cert.Ref7Ideal.main_arg1)
      ∧ r.2.mem ((c.tc : Thread Cert.Ref7Ideal.nD Cert.Ref7Ideal.τ).loc Cert.Ref7Ideal.main_arg2) = m ((c.tc : Thread Cert.Ref7Ideal.nD Cert.Ref7Ideal.τ).loc Cert.Ref7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Kernel8Ideal_pre_finite [hKernel8Ideal : Cert.Kernel8Ideal.Facts] [hPre_finite : Cert.Pre_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Ref8Ideal [hRef8Ideal : Cert.Ref8Ideal.Facts] : Prop :=
  ∀ (m : (ℓ : Loc Cert.Ref8Ideal.nD Cert.Ref8Ideal.τ Cert.Ref8Ideal.sig) → Buf (Elt Ideal) ℓ) (g : Dev Cert.Ref8Ideal.nD → PrngReg), Pre_Ref8Ideal m →
    θ_run (Cert.Ref8Ideal.defs (F := Ideal)) (onTc (τ := Cert.Ref8Ideal.τ) (Cert.Ref8Ideal.main (F := Ideal))) ⟨m, fun _ => 0, g⟩ (fun r => (∀ c : Dev Cert.Ref8Ideal.nD,
      r.2.mem ((c.tc : Thread Cert.Ref8Ideal.nD Cert.Ref8Ideal.τ).loc Cert.Ref8Ideal.main_arg0) = m ((c.tc : Thread Cert.Ref8Ideal.nD Cert.Ref8Ideal.τ).loc Cert.Ref8Ideal.main_arg0)
      ∧ r.2.mem ((c.tc : Thread Cert.Ref8Ideal.nD Cert.Ref8Ideal.τ).loc Cert.Ref8Ideal.main_arg1) = m ((c.tc : Thread Cert.Ref8Ideal.nD Cert.Ref8Ideal.τ).loc Cert.Ref8Ideal.main_arg1)
      ∧ r.2.mem ((c.tc : Thread Cert.Ref8Ideal.nD Cert.Ref8Ideal.τ).loc Cert.Ref8Ideal.main_arg2) = m ((c.tc : Thread Cert.Ref8Ideal.nD Cert.Ref8Ideal.τ).loc Cert.Ref8Ideal.main_arg2)
      ∧ r.2.mem ((c.tc : Thread Cert.Ref8Ideal.nD Cert.Ref8Ideal.τ).loc Cert.Ref8Ideal.main_arg3) = m ((c.tc : Thread Cert.Ref8Ideal.nD Cert.Ref8Ideal.τ).loc Cert.Ref8Ideal.main_arg3)
      ∧ r.2.mem ((c.tc : Thread Cert.Ref8Ideal.nD Cert.Ref8Ideal.τ).loc Cert.Ref8Ideal.main_arg4) = m ((c.tc : Thread Cert.Ref8Ideal.nD Cert.Ref8Ideal.τ).loc Cert.Ref8Ideal.main_arg4)
      ∧ r.2.mem ((c.tc : Thread Cert.Ref8Ideal.nD Cert.Ref8Ideal.τ).loc Cert.Ref8Ideal.main_arg5) = m ((c.tc : Thread Cert.Ref8Ideal.nD Cert.Ref8Ideal.τ).loc Cert.Ref8Ideal.main_arg5)
      ∧ r.2.mem ((c.tc : Thread Cert.Ref8Ideal.nD Cert.Ref8Ideal.τ).loc Cert.Ref8Ideal.main_arg6) = m ((c.tc : Thread Cert.Ref8Ideal.nD Cert.Ref8Ideal.τ).loc Cert.Ref8Ideal.main_arg6))
      ∧ r.2.sem = fun _ => 0)

def quiescent_Ref8Ideal_pre_finite [hRef8Ideal : Cert.Ref8Ideal.Facts] [hPre_finite : Cert.Pre_finite.Facts] : Prop :=
  ∀ (m : (ℓ : Loc Cert.Ref8Ideal.nD Cert.Ref8Ideal.τ Cert.Ref8Ideal.sig) → Buf (Elt Ideal) ℓ) (g : Dev Cert.Ref8Ideal.nD → PrngReg), Pre_Ref8Ideal_finite m →
    θ_run (Cert.Ref8Ideal.defs (F := Ideal)) (onTc (τ := Cert.Ref8Ideal.τ) (Cert.Ref8Ideal.main (F := Ideal))) ⟨m, fun _ => 0, g⟩ (fun r => (∀ c : Dev Cert.Ref8Ideal.nD,
      r.2.mem ((c.tc : Thread Cert.Ref8Ideal.nD Cert.Ref8Ideal.τ).loc Cert.Ref8Ideal.main_arg0) = m ((c.tc : Thread Cert.Ref8Ideal.nD Cert.Ref8Ideal.τ).loc Cert.Ref8Ideal.main_arg0)
      ∧ r.2.mem ((c.tc : Thread Cert.Ref8Ideal.nD Cert.Ref8Ideal.τ).loc Cert.Ref8Ideal.main_arg1) = m ((c.tc : Thread Cert.Ref8Ideal.nD Cert.Ref8Ideal.τ).loc Cert.Ref8Ideal.main_arg1)
      ∧ r.2.mem ((c.tc : Thread Cert.Ref8Ideal.nD Cert.Ref8Ideal.τ).loc Cert.Ref8Ideal.main_arg2) = m ((c.tc : Thread Cert.Ref8Ideal.nD Cert.Ref8Ideal.τ).loc Cert.Ref8Ideal.main_arg2)
      ∧ r.2.mem ((c.tc : Thread Cert.Ref8Ideal.nD Cert.Ref8Ideal.τ).loc Cert.Ref8Ideal.main_arg3) = m ((c.tc : Thread Cert.Ref8Ideal.nD Cert.Ref8Ideal.τ).loc Cert.Ref8Ideal.main_arg3)
      ∧ r.2.mem ((c.tc : Thread Cert.Ref8Ideal.nD Cert.Ref8Ideal.τ).loc Cert.Ref8Ideal.main_arg4) = m ((c.tc : Thread Cert.Ref8Ideal.nD Cert.Ref8Ideal.τ).loc Cert.Ref8Ideal.main_arg4)
      ∧ r.2.mem ((c.tc : Thread Cert.Ref8Ideal.nD Cert.Ref8Ideal.τ).loc Cert.Ref8Ideal.main_arg5) = m ((c.tc : Thread Cert.Ref8Ideal.nD Cert.Ref8Ideal.τ).loc Cert.Ref8Ideal.main_arg5)
      ∧ r.2.mem ((c.tc : Thread Cert.Ref8Ideal.nD Cert.Ref8Ideal.τ).loc Cert.Ref8Ideal.main_arg6) = m ((c.tc : Thread Cert.Ref8Ideal.nD Cert.Ref8Ideal.τ).loc Cert.Ref8Ideal.main_arg6))
      ∧ r.2.sem = fun _ => 0)

def preserves_Kernel_KernelIdeal : Prop :=
  True

def algebraic_KernelIdeal_RefIdeal_pre_planned [hKernelIdeal : Cert.KernelIdeal.Facts] [hRefIdeal : Cert.RefIdeal.Facts] [hPre_planned : Cert.Pre_planned.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RefIdeal.nD Cert.RefIdeal.τ Cert.RefIdeal.sig) → Buf (Elt Ideal) ℓ) (g' : Dev Cert.RefIdeal.nD → PrngReg), Pre_KernelIdeal_planned m →
    (∀ c : Dev Cert.KernelIdeal.nD,
      m' ((c.tc : Thread Cert.RefIdeal.nD Cert.RefIdeal.τ).loc Cert.RefIdeal.main_arg0) = m ((c.tc : Thread Cert.KernelIdeal.nD Cert.KernelIdeal.τ).loc Cert.KernelIdeal.main_arg0)
      ∧ m' ((c.tc : Thread Cert.RefIdeal.nD Cert.RefIdeal.τ).loc Cert.RefIdeal.main_arg1) = m ((c.tc : Thread Cert.KernelIdeal.nD Cert.KernelIdeal.τ).loc Cert.KernelIdeal.main_arg1)
      ∧ m' ((c.tc : Thread Cert.RefIdeal.nD Cert.RefIdeal.τ).loc Cert.RefIdeal.main_arg2) = m ((c.tc : Thread Cert.KernelIdeal.nD Cert.KernelIdeal.τ).loc Cert.KernelIdeal.main_arg2)
      ∧ m' ((c.tc : Thread Cert.RefIdeal.nD Cert.RefIdeal.τ).loc Cert.RefIdeal.main_arg3) = m ((c.tc : Thread Cert.KernelIdeal.nD Cert.KernelIdeal.τ).loc Cert.KernelIdeal.main_arg3)
      ∧ m' ((c.tc : Thread Cert.RefIdeal.nD Cert.RefIdeal.τ).loc Cert.RefIdeal.main_arg4) = m ((c.tc : Thread Cert.KernelIdeal.nD Cert.KernelIdeal.τ).loc Cert.KernelIdeal.main_arg4)
      ∧ m' ((c.tc : Thread Cert.RefIdeal.nD Cert.RefIdeal.τ).loc Cert.RefIdeal.main_arg5) = m ((c.tc : Thread Cert.KernelIdeal.nD Cert.KernelIdeal.τ).loc Cert.KernelIdeal.main_arg5)
      ∧ m' ((c.tc : Thread Cert.RefIdeal.nD Cert.RefIdeal.τ).loc Cert.RefIdeal.main_arg6) = m ((c.tc : Thread Cert.KernelIdeal.nD Cert.KernelIdeal.τ).loc Cert.KernelIdeal.main_arg6)
      ∧ m' ((c.tc : Thread Cert.RefIdeal.nD Cert.RefIdeal.τ).loc Cert.RefIdeal.main_arg7) = m ((c.tc : Thread Cert.KernelIdeal.nD Cert.KernelIdeal.τ).loc Cert.KernelIdeal.main_arg7)
      ∧ m' ((c.tc : Thread Cert.RefIdeal.nD Cert.RefIdeal.τ).loc Cert.RefIdeal.main_arg8) = m ((c.tc : Thread Cert.KernelIdeal.nD Cert.KernelIdeal.τ).loc Cert.KernelIdeal.main_arg8)
      ∧ m' ((c.tc : Thread Cert.RefIdeal.nD Cert.RefIdeal.τ).loc Cert.RefIdeal.main_arg9) = m ((c.tc : Thread Cert.KernelIdeal.nD Cert.KernelIdeal.τ).loc Cert.KernelIdeal.main_arg9)
      ∧ m' ((c.tc : Thread Cert.RefIdeal.nD Cert.RefIdeal.τ).loc Cert.RefIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v34) = v0 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4)
          ∧ r.2.mem ((c.tc : Thread Cert.RefIdeal.nD Cert.RefIdeal.τ).loc Cert.RefIdeal.main_arg5) = m' ((c.tc : Thread Cert.RefIdeal.nD Cert.RefIdeal.τ).loc Cert.RefIdeal.main_arg5)
          ∧ r.2.mem ((c.tc : Thread Cert.RefIdeal.nD Cert.RefIdeal.τ).loc Cert.RefIdeal.main_arg6) = m' ((c.tc : Thread Cert.RefIdeal.nD Cert.RefIdeal.τ).loc Cert.RefIdeal.main_arg6)
          ∧ r.2.mem ((c.tc : Thread Cert.RefIdeal.nD Cert.RefIdeal.τ).loc Cert.RefIdeal.main_arg7) = m' ((c.tc : Thread Cert.RefIdeal.nD Cert.RefIdeal.τ).loc Cert.RefIdeal.main_arg7)
          ∧ r.2.mem ((c.tc : Thread Cert.RefIdeal.nD Cert.RefIdeal.τ).loc Cert.RefIdeal.main_arg8) = m' ((c.tc : Thread Cert.RefIdeal.nD Cert.RefIdeal.τ).loc Cert.RefIdeal.main_arg8)
          ∧ r.2.mem ((c.tc : Thread Cert.RefIdeal.nD Cert.RefIdeal.τ).loc Cert.RefIdeal.main_arg9) = m' ((c.tc : Thread Cert.RefIdeal.nD Cert.RefIdeal.τ).loc Cert.RefIdeal.main_arg9)
          ∧ r.2.mem ((c.tc : Thread Cert.RefIdeal.nD Cert.RefIdeal.τ).loc Cert.RefIdeal.main_arg10) = m' ((c.tc : Thread Cert.RefIdeal.nD Cert.RefIdeal.τ).loc Cert.RefIdeal.main_arg10))

def preserves_Kernel2_Kernel2Ideal : Prop :=
  True

def algebraic_Kernel2Ideal_Ref2Ideal [hKernel2Ideal : Cert.Kernel2Ideal.Facts] [hRef2Ideal : Cert.Ref2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Ref2Ideal.nD Cert.Ref2Ideal.τ Cert.Ref2Ideal.sig) → Buf (Elt Ideal) ℓ) (g' : Dev Cert.Ref2Ideal.nD → PrngReg), Pre_Kernel2Ideal m →
    (∀ c : Dev Cert.Kernel2Ideal.nD,
      m' ((c.tc : Thread Cert.Ref2Ideal.nD Cert.Ref2Ideal.τ).loc Cert.Ref2Ideal.main_arg0) = m ((c.tc : Thread Cert.Kernel2Ideal.nD Cert.Kernel2Ideal.τ).loc Cert.Kernel2Ideal.main_arg0)
      ∧ m' ((c.tc : Thread Cert.Ref2Ideal.nD Cert.Ref2Ideal.τ).loc Cert.Ref2Ideal.main_arg1) = m ((c.tc : Thread Cert.Kernel2Ideal.nD Cert.Kernel2Ideal.τ).loc Cert.Kernel2Ideal.main_arg1)
      ∧ m' ((c.tc : Thread Cert.Ref2Ideal.nD Cert.Ref2Ideal.τ).loc Cert.Ref2Ideal.main_arg2) = m ((c.tc : Thread Cert.Kernel2Ideal.nD Cert.Kernel2Ideal.τ).loc Cert.Kernel2Ideal.main_arg2)
      ∧ m' ((c.tc : Thread Cert.Ref2Ideal.nD Cert.Ref2Ideal.τ).loc Cert.Ref2Ideal.main_arg3) = m ((c.tc : Thread Cert.Kernel2Ideal.nD Cert.Kernel2Ideal.τ).loc Cert.Kernel2Ideal.main_arg3)
      ∧ m' ((c.tc : Thread Cert.Ref2Ideal.nD Cert.Ref2Ideal.τ).loc Cert.Ref2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Ref2Ideal.defs (F := Ideal)) (onTc (τ := Cert.Ref2Ideal.τ) (Cert.Ref2Ideal.main (F := Ideal))) ⟨m', fun _ => 0, g'⟩ (fun r => ∀ c : Dev Cert.Ref2Ideal.nD,
          r.2.mem ((c.tc : Thread Cert.Ref2Ideal.nD Cert.Ref2Ideal.τ).loc Cert.Ref2Ideal.main_v22) = v0 c
          ∧ r.2.mem ((c.tc : Thread Cert.Ref2Ideal.nD Cert.Ref2Ideal.τ).loc Cert.Ref2Ideal.main_arg0) = m' ((c.tc : Thread Cert.Ref2Ideal.nD Cert.Ref2Ideal.τ).loc Cert.Ref2Ideal.main_arg0)
          ∧ r.2.mem ((c.tc : Thread Cert.Ref2Ideal.nD Cert.Ref2Ideal.τ).loc Cert.Ref2Ideal.main_arg1) = m' ((c.tc : Thread Cert.Ref2Ideal.nD Cert.Ref2Ideal.τ).loc Cert.Ref2Ideal.main_arg1)
          ∧ r.2.mem ((c.tc : Thread Cert.Ref2Ideal.nD Cert.Ref2Ideal.τ).loc Cert.Ref2Ideal.main_arg2) = m' ((c.tc : Thread Cert.Ref2Ideal.nD Cert.Ref2Ideal.τ).loc Cert.Ref2Ideal.main_arg2)
          ∧ r.2.mem ((c.tc : Thread Cert.Ref2Ideal.nD Cert.Ref2Ideal.τ).loc Cert.Ref2Ideal.main_arg3) = m' ((c.tc : Thread Cert.Ref2Ideal.nD Cert.Ref2Ideal.τ).loc Cert.Ref2Ideal.main_arg3)
          ∧ r.2.mem ((c.tc : Thread Cert.Ref2Ideal.nD Cert.Ref2Ideal.τ).loc Cert.Ref2Ideal.main_arg4) = m' ((c.tc : Thread Cert.Ref2Ideal.nD Cert.Ref2Ideal.τ).loc Cert.Ref2Ideal.main_arg4))

def preserves_Kernel3_Kernel3Ideal : Prop :=
  True

def algebraic_Kernel3Ideal_Ref3Ideal [hKernel3Ideal : Cert.Kernel3Ideal.Facts] [hRef3Ideal : Cert.Ref3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Ref3Ideal.nD Cert.Ref3Ideal.τ Cert.Ref3Ideal.sig) → Buf (Elt Ideal) ℓ) (g' : Dev Cert.Ref3Ideal.nD → PrngReg), Pre_Kernel3Ideal m →
    (∀ c : Dev Cert.Kernel3Ideal.nD,
      m' ((c.tc : Thread Cert.Ref3Ideal.nD Cert.Ref3Ideal.τ).loc Cert.Ref3Ideal.main_arg0) = m ((c.tc : Thread Cert.Kernel3Ideal.nD Cert.Kernel3Ideal.τ).loc Cert.Kernel3Ideal.main_arg0)
      ∧ m' ((c.tc : Thread Cert.Ref3Ideal.nD Cert.Ref3Ideal.τ).loc Cert.Ref3Ideal.main_arg1) = m ((c.tc : Thread Cert.Kernel3Ideal.nD Cert.Kernel3Ideal.τ).loc Cert.Kernel3Ideal.main_arg1)
      ∧ m' ((c.tc : Thread Cert.Ref3Ideal.nD Cert.Ref3Ideal.τ).loc Cert.Ref3Ideal.main_arg2) = m ((c.tc : Thread Cert.Kernel3Ideal.nD Cert.Kernel3Ideal.τ).loc Cert.Kernel3Ideal.main_arg2)
      ∧ m' ((c.tc : Thread Cert.Ref3Ideal.nD Cert.Ref3Ideal.τ).loc Cert.Ref3Ideal.main_arg3) = m ((c.tc : Thread Cert.Kernel3Ideal.nD Cert.Kernel3Ideal.τ).loc Cert.Kernel3Ideal.main_arg3)
      ∧ m' ((c.tc : Thread Cert.Ref3Ideal.nD Cert.Ref3Ideal.τ).loc Cert.Ref3Ideal.main_arg4) = m ((c.tc : Thread Cert.Kernel3Ideal.nD Cert.Kernel3Ideal.τ).loc Cert.Kernel3Ideal.main_arg4)
      ∧ m' ((c.tc : Thread Cert.Ref3Ideal.nD Cert.Ref3Ideal.τ).loc Cert.Ref3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Ref3Ideal.defs (F := Ideal)) (onTc (τ := Cert.Ref3Ideal.τ) (Cert.Ref3Ideal.main (F := Ideal))) ⟨m', fun _ => 0, g'⟩ (fun r => ∀ c : Dev Cert.Ref3Ideal.nD,
          r.2.mem ((c.tc : Thread Cert.Ref3Ideal.nD Cert.Ref3Ideal.τ).loc Cert.Ref3Ideal.main_v31) = v0 c
          ∧ r.2.mem ((c.tc : Thread Cert.Ref3Ideal.nD Cert.Ref3Ideal.τ).loc Cert.Ref3Ideal.main_arg0) = m' ((c.tc : Thread Cert.Ref3Ideal.nD Cert.Ref3Ideal.τ).loc Cert.Ref3Ideal.main_arg0)
          ∧ r.2.mem ((c.tc : Thread Cert.Ref3Ideal.nD Cert.Ref3Ideal.τ).loc Cert.Ref3Ideal.main_arg1) = m' ((c.tc : Thread Cert.Ref3Ideal.nD Cert.Ref3Ideal.τ).loc Cert.Ref3Ideal.main_arg1)
          ∧ r.2.mem ((c.tc : Thread Cert.Ref3Ideal.nD Cert.Ref3Ideal.τ).loc Cert.Ref3Ideal.main_arg2) = m' ((c.tc : Thread Cert.Ref3Ideal.nD Cert.Ref3Ideal.τ).loc Cert.Ref3Ideal.main_arg2)
          ∧ r.2.mem ((c.tc : Thread Cert.Ref3Ideal.nD Cert.Ref3Ideal.τ).loc Cert.Ref3Ideal.main_arg3) = m' ((c.tc : Thread Cert.Ref3Ideal.nD Cert.Ref3Ideal.τ).loc Cert.Ref3Ideal.main_arg3)
          ∧ r.2.mem ((c.tc : Thread Cert.Ref3Ideal.nD Cert.Ref3Ideal.τ).loc Cert.Ref3Ideal.main_arg4) = m' ((c.tc : Thread Cert.Ref3Ideal.nD Cert.Ref3Ideal.τ).loc Cert.Ref3Ideal.main_arg4)
          ∧ r.2.mem ((c.tc : Thread Cert.Ref3Ideal.nD Cert.Ref3Ideal.τ).loc Cert.Ref3Ideal.main_arg5) = m' ((c.tc : Thread Cert.Ref3Ideal.nD Cert.Ref3Ideal.τ).loc Cert.Ref3Ideal.main_arg5))

def preserves_Kernel4_Kernel4Ideal : Prop :=
  True

def algebraic_Kernel4Ideal_Ref4Ideal [hKernel4Ideal : Cert.Kernel4Ideal.Facts] [hRef4Ideal : Cert.Ref4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Ref4Ideal.nD Cert.Ref4Ideal.τ Cert.Ref4Ideal.sig) → Buf (Elt Ideal) ℓ) (g' : Dev Cert.Ref4Ideal.nD → PrngReg), Pre_Kernel4Ideal m →
    (∀ c : Dev Cert.Kernel4Ideal.nD,
      m' ((c.tc : Thread Cert.Ref4Ideal.nD Cert.Ref4Ideal.τ).loc Cert.Ref4Ideal.main_arg0) = m ((c.tc : Thread Cert.Kernel4Ideal.nD Cert.Kernel4Ideal.τ).loc Cert.Kernel4Ideal.main_arg0)
      ∧ m' ((c.tc : Thread Cert.Ref4Ideal.nD Cert.Ref4Ideal.τ).loc Cert.Ref4Ideal.main_arg1) = m ((c.tc : Thread Cert.Kernel4Ideal.nD Cert.Kernel4Ideal.τ).loc Cert.Kernel4Ideal.main_arg1)
      ∧ m' ((c.tc : Thread Cert.Ref4Ideal.nD Cert.Ref4Ideal.τ).loc Cert.Ref4Ideal.main_arg2) = m ((c.tc : Thread Cert.Kernel4Ideal.nD Cert.Kernel4Ideal.τ).loc Cert.Kernel4Ideal.main_arg2)
      ∧ m' ((c.tc : Thread Cert.Ref4Ideal.nD Cert.Ref4Ideal.τ).loc Cert.Ref4Ideal.main_arg3) = m ((c.tc : Thread Cert.Kernel4Ideal.nD Cert.Kernel4Ideal.τ).loc Cert.Kernel4Ideal.main_arg3)
      ∧ m' ((c.tc : Thread Cert.Ref4Ideal.nD Cert.Ref4Ideal.τ).loc Cert.Ref4Ideal.main_arg4) = m ((c.tc : Thread Cert.Kernel4Ideal.nD Cert.Kernel4Ideal.τ).loc Cert.Kernel4Ideal.main_arg4)
      ∧ m' ((c.tc : Thread Cert.Ref4Ideal.nD Cert.Ref4Ideal.τ).loc Cert.Ref4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Ref4Ideal.defs (F := Ideal)) (onTc (τ := Cert.Ref4Ideal.τ) (Cert.Ref4Ideal.main (F := Ideal))) ⟨m', fun _ => 0, g'⟩ (fun r => ∀ c : Dev Cert.Ref4Ideal.nD,
          r.2.mem ((c.tc : Thread Cert.Ref4Ideal.nD Cert.Ref4Ideal.τ).loc Cert.Ref4Ideal.main_v41) = v0 c
          ∧ r.2.mem ((c.tc : Thread Cert.Ref4Ideal.nD Cert.Ref4Ideal.τ).loc Cert.Ref4Ideal.main_v43) = v1 c
          ∧ r.2.mem ((c.tc : Thread Cert.Ref4Ideal.nD Cert.Ref4Ideal.τ).loc Cert.Ref4Ideal.main_arg0) = m' ((c.tc : Thread Cert.Ref4Ideal.nD Cert.Ref4Ideal.τ).loc Cert.Ref4Ideal.main_arg0)
          ∧ r.2.mem ((c.tc : Thread Cert.Ref4Ideal.nD Cert.Ref4Ideal.τ).loc Cert.Ref4Ideal.main_arg1) = m' ((c.tc : Thread Cert.Ref4Ideal.nD Cert.Ref4Ideal.τ).loc Cert.Ref4Ideal.main_arg1)
          ∧ r.2.mem ((c.tc : Thread Cert.Ref4Ideal.nD Cert.Ref4Ideal.τ).loc Cert.Ref4Ideal.main_arg2) = m' ((c.tc : Thread Cert.Ref4Ideal.nD Cert.Ref4Ideal.τ).loc Cert.Ref4Ideal.main_arg2)
          ∧ r.2.mem ((c.tc : Thread Cert.Ref4Ideal.nD Cert.Ref4Ideal.τ).loc Cert.Ref4Ideal.main_arg3) = m' ((c.tc : Thread Cert.Ref4Ideal.nD Cert.Ref4Ideal.τ).loc Cert.Ref4Ideal.main_arg3)
          ∧ r.2.mem ((c.tc : Thread Cert.Ref4Ideal.nD Cert.Ref4Ideal.τ).loc Cert.Ref4Ideal.main_arg4) = m' ((c.tc : Thread Cert.Ref4Ideal.nD Cert.Ref4Ideal.τ).loc Cert.Ref4Ideal.main_arg4)
          ∧ r.2.mem ((c.tc : Thread Cert.Ref4Ideal.nD Cert.Ref4Ideal.τ).loc Cert.Ref4Ideal.main_arg5) = m' ((c.tc : Thread Cert.Ref4Ideal.nD Cert.Ref4Ideal.τ).loc Cert.Ref4Ideal.main_arg5))

def preserves_Kernel5_Kernel5Ideal : Prop :=
  True

def algebraic_Kernel5Ideal_Ref5Ideal [hKernel5Ideal : Cert.Kernel5Ideal.Facts] [hRef5Ideal : Cert.Ref5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Ref5Ideal.nD Cert.Ref5Ideal.τ Cert.Ref5Ideal.sig) → Buf (Elt Ideal) ℓ) (g' : Dev Cert.Ref5Ideal.nD → PrngReg), Pre_Kernel5Ideal m →
    (∀ c : Dev Cert.Kernel5Ideal.nD,
      m' ((c.tc : Thread Cert.Ref5Ideal.nD Cert.Ref5Ideal.τ).loc Cert.Ref5Ideal.main_arg0) = m ((c.tc : Thread Cert.Kernel5Ideal.nD Cert.Kernel5Ideal.τ).loc Cert.Kernel5Ideal.main_arg0)
      ∧ m' ((c.tc : Thread Cert.Ref5Ideal.nD Cert.Ref5Ideal.τ).loc Cert.Ref5Ideal.main_arg1) = m ((c.tc : Thread Cert.Kernel5Ideal.nD Cert.Kernel5Ideal.τ).loc Cert.Kernel5Ideal.main_arg1)
      ∧ m' ((c.tc : Thread Cert.Ref5Ideal.nD Cert.Ref5Ideal.τ).loc Cert.Ref5Ideal.main_arg2) = m ((c.tc : Thread Cert.Kernel5Ideal.nD Cert.Kernel5Ideal.τ).loc Cert.Kernel5Ideal.main_arg2)
      ∧ m' ((c.tc : Thread Cert.Ref5Ideal.nD Cert.Ref5Ideal.τ).loc Cert.Ref5Ideal.main_arg3) = m ((c.tc : Thread Cert.Kernel5Ideal.nD Cert.Kernel5Ideal.τ).loc Cert.Kernel5Ideal.main_arg3)
      ∧ m' ((c.tc : Thread Cert.Ref5Ideal.nD Cert.Ref5Ideal.τ).loc Cert.Ref5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Ref5Ideal.defs (F := Ideal)) (onTc (τ := Cert.Ref5Ideal.τ) (Cert.Ref5Ideal.main (F := Ideal))) ⟨m', fun _ => 0, g'⟩ (fun r => ∀ c : Dev Cert.Ref5Ideal.nD,
          r.2.mem ((c.tc : Thread Cert.Ref5Ideal.nD Cert.Ref5Ideal.τ).loc Cert.Ref5Ideal.main_v15) = v0 c
          ∧ r.2.mem ((c.tc : Thread Cert.Ref5Ideal.nD Cert.Ref5Ideal.τ).loc Cert.Ref5Ideal.main_arg0) = m' ((c.tc : Thread Cert.Ref5Ideal.nD Cert.Ref5Ideal.τ).loc Cert.Ref5Ideal.main_arg0)
          ∧ r.2.mem ((c.tc : Thread Cert.Ref5Ideal.nD Cert.Ref5Ideal.τ).loc Cert.Ref5Ideal.main_arg1) = m' ((c.tc : Thread Cert.Ref5Ideal.nD Cert.Ref5Ideal.τ).loc Cert.Ref5Ideal.main_arg1)
          ∧ r.2.mem ((c.tc : Thread Cert.Ref5Ideal.nD Cert.Ref5Ideal.τ).loc Cert.Ref5Ideal.main_arg2) = m' ((c.tc : Thread Cert.Ref5Ideal.nD Cert.Ref5Ideal.τ).loc Cert.Ref5Ideal.main_arg2)
          ∧ r.2.mem ((c.tc : Thread Cert.Ref5Ideal.nD Cert.Ref5Ideal.τ).loc Cert.Ref5Ideal.main_arg3) = m' ((c.tc : Thread Cert.Ref5Ideal.nD Cert.Ref5Ideal.τ).loc Cert.Ref5Ideal.main_arg3)
          ∧ r.2.mem ((c.tc : Thread Cert.Ref5Ideal.nD Cert.Ref5Ideal.τ).loc Cert.Ref5Ideal.main_arg4) = m' ((c.tc : Thread Cert.Ref5Ideal.nD Cert.Ref5Ideal.τ).loc Cert.Ref5Ideal.main_arg4))

def preserves_Kernel6_Kernel6Ideal : Prop :=
  True

def algebraic_Kernel6Ideal_Ref6Ideal [hKernel6Ideal : Cert.Kernel6Ideal.Facts] [hRef6Ideal : Cert.Ref6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Ref6Ideal.nD Cert.Ref6Ideal.τ Cert.Ref6Ideal.sig) → Buf (Elt Ideal) ℓ) (g' : Dev Cert.Ref6Ideal.nD → PrngReg), Pre_Kernel6Ideal m →
    (∀ c : Dev Cert.Kernel6Ideal.nD,
      m' ((c.tc : Thread Cert.Ref6Ideal.nD Cert.Ref6Ideal.τ).loc Cert.Ref6Ideal.main_arg0) = m ((c.tc : Thread Cert.Kernel6Ideal.nD Cert.Kernel6Ideal.τ).loc Cert.Kernel6Ideal.main_arg0)
      ∧ m' ((c.tc : Thread Cert.Ref6Ideal.nD Cert.Ref6Ideal.τ).loc Cert.Ref6Ideal.main_arg1) = m ((c.tc : Thread Cert.Kernel6Ideal.nD Cert.Kernel6Ideal.τ).loc Cert.Kernel6Ideal.main_arg1)
      ∧ m' ((c.tc : Thread Cert.Ref6Ideal.nD Cert.Ref6Ideal.τ).loc Cert.Ref6Ideal.main_arg2) = m ((c.tc : Thread Cert.Kernel6Ideal.nD Cert.Kernel6Ideal.τ).loc Cert.Kernel6Ideal.main_arg2)
      ∧ m' ((c.tc : Thread Cert.Ref6Ideal.nD Cert.Ref6Ideal.τ).loc Cert.Ref6Ideal.main_arg3) = m ((c.tc : Thread Cert.Kernel6Ideal.nD Cert.Kernel6Ideal.τ).loc Cert.Kernel6Ideal.main_arg3)
      ∧ m' ((c.tc : Thread Cert.Ref6Ideal.nD Cert.Ref6Ideal.τ).loc Cert.Ref6Ideal.main_arg4) = m ((c.tc : Thread Cert.Kernel6Ideal.nD Cert.Kernel6Ideal.τ).loc Cert.Kernel6Ideal.main_arg4)
      ∧ m' ((c.tc : Thread Cert.Ref6Ideal.nD Cert.Ref6Ideal.τ).loc Cert.Ref6Ideal.main_arg5) = m ((c.tc : Thread Cert.Kernel6Ideal.nD Cert.Kernel6Ideal.τ).loc Cert.Kernel6Ideal.main_arg5)
      ∧ m' ((c.tc : Thread Cert.Ref6Ideal.nD Cert.Ref6Ideal.τ).loc Cert.Ref6Ideal.main_arg6) = m ((c.tc : Thread Cert.Kernel6Ideal.nD Cert.Kernel6Ideal.τ).loc Cert.Kernel6Ideal.main_arg6)
      ∧ m' ((c.tc : Thread Cert.Ref6Ideal.nD Cert.Ref6Ideal.τ).loc Cert.Ref6Ideal.main_arg7) = m ((c.tc : Thread Cert.Kernel6Ideal.nD Cert.Kernel6Ideal.τ).loc Cert.Kernel6Ideal.main_arg7)
      ∧ m' ((c.tc : Thread Cert.Ref6Ideal.nD Cert.Ref6Ideal.τ).loc Cert.Ref6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v27_0)) (v1 : (c : Dev Cert.Kernel6Ideal.nD) → Buf (Elt Ideal) ((c.tc : Thread Cert.Kernel6Ideal.nD Cert.Kernel6Ideal.τ).loc Cert.Kernel6Ideal.main_v27_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v27_0) = v0 c
          ∧ r.2.mem ((c.tc : Thread Cert.Kernel6Ideal.nD Cert.Kernel6Ideal.τ).loc Cert.Kernel6Ideal.main_v27_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Ref6Ideal.defs (F := Ideal)) (onTc (τ := Cert.Ref6Ideal.τ) (Cert.Ref6Ideal.main (F := Ideal))) ⟨m', fun _ => 0, g'⟩ (fun r => ∀ c : Dev Cert.Ref6Ideal.nD,
          r.2.mem ((c.tc : Thread Cert.Ref6Ideal.nD Cert.Ref6Ideal.τ).loc Cert.Ref6Ideal.main_v40) = v0 c
          ∧ r.2.mem ((c.tc : Thread Cert.Ref6Ideal.nD Cert.Ref6Ideal.τ).loc Cert.Ref6Ideal.main_v43) = v1 c
          ∧ r.2.mem ((c.tc : Thread Cert.Ref6Ideal.nD Cert.Ref6Ideal.τ).loc Cert.Ref6Ideal.main_arg0) = m' ((c.tc : Thread Cert.Ref6Ideal.nD Cert.Ref6Ideal.τ).loc Cert.Ref6Ideal.main_arg0)
          ∧ r.2.mem ((c.tc : Thread Cert.Ref6Ideal.nD Cert.Ref6Ideal.τ).loc Cert.Ref6Ideal.main_arg1) = m' ((c.tc : Thread Cert.Ref6Ideal.nD Cert.Ref6Ideal.τ).loc Cert.Ref6Ideal.main_arg1)
          ∧ r.2.mem ((c.tc : Thread Cert.Ref6Ideal.nD Cert.Ref6Ideal.τ).loc Cert.Ref6Ideal.main_arg2) = m' ((c.tc : Thread Cert.Ref6Ideal.nD Cert.Ref6Ideal.τ).loc Cert.Ref6Ideal.main_arg2)
          ∧ r.2.mem ((c.tc : Thread Cert.Ref6Ideal.nD Cert.Ref6Ideal.τ).loc Cert.Ref6Ideal.main_arg3) = m' ((c.tc : Thread Cert.Ref6Ideal.nD Cert.Ref6Ideal.τ).loc Cert.Ref6Ideal.main_arg3)
          ∧ r.2.mem ((c.tc : Thread Cert.Ref6Ideal.nD Cert.Ref6Ideal.τ).loc Cert.Ref6Ideal.main_arg4) = m' ((c.tc : Thread Cert.Ref6Ideal.nD Cert.Ref6Ideal.τ).loc Cert.Ref6Ideal.main_arg4)
          ∧ r.2.mem ((c.tc : Thread Cert.Ref6Ideal.nD Cert.Ref6Ideal.τ).loc Cert.Ref6Ideal.main_arg5) = m' ((c.tc : Thread Cert.Ref6Ideal.nD Cert.Ref6Ideal.τ).loc Cert.Ref6Ideal.main_arg5)
          ∧ r.2.mem ((c.tc : Thread Cert.Ref6Ideal.nD Cert.Ref6Ideal.τ).loc Cert.Ref6Ideal.main_arg6) = m' ((c.tc : Thread Cert.Ref6Ideal.nD Cert.Ref6Ideal.τ).loc Cert.Ref6Ideal.main_arg6)
          ∧ r.2.mem ((c.tc : Thread Cert.Ref6Ideal.nD Cert.Ref6Ideal.τ).loc Cert.Ref6Ideal.main_arg7) = m' ((c.tc : Thread Cert.Ref6Ideal.nD Cert.Ref6Ideal.τ).loc Cert.Ref6Ideal.main_arg7)
          ∧ r.2.mem ((c.tc : Thread Cert.Ref6Ideal.nD Cert.Ref6Ideal.τ).loc Cert.Ref6Ideal.main_arg8) = m' ((c.tc : Thread Cert.Ref6Ideal.nD Cert.Ref6Ideal.τ).loc Cert.Ref6Ideal.main_arg8))

def preserves_Kernel7_Kernel7Ideal : Prop :=
  True

def algebraic_Kernel7Ideal_Ref7Ideal [hKernel7Ideal : Cert.Kernel7Ideal.Facts] [hRef7Ideal : Cert.Ref7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Ref7Ideal.nD Cert.Ref7Ideal.τ Cert.Ref7Ideal.sig) → Buf (Elt Ideal) ℓ) (g' : Dev Cert.Ref7Ideal.nD → PrngReg), Pre_Kernel7Ideal m →
    (∀ c : Dev Cert.Kernel7Ideal.nD,
      m' ((c.tc : Thread Cert.Ref7Ideal.nD Cert.Ref7Ideal.τ).loc Cert.Ref7Ideal.main_arg0) = m ((c.tc : Thread Cert.Kernel7Ideal.nD Cert.Kernel7Ideal.τ).loc Cert.Kernel7Ideal.main_arg0)
      ∧ m' ((c.tc : Thread Cert.Ref7Ideal.nD Cert.Ref7Ideal.τ).loc Cert.Ref7Ideal.main_arg1) = m ((c.tc : Thread Cert.Kernel7Ideal.nD Cert.Kernel7Ideal.τ).loc Cert.Kernel7Ideal.main_arg1)
      ∧ m' ((c.tc : Thread Cert.Ref7Ideal.nD Cert.Ref7Ideal.τ).loc Cert.Ref7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Ref7Ideal.defs (F := Ideal)) (onTc (τ := Cert.Ref7Ideal.τ) (Cert.Ref7Ideal.main (F := Ideal))) ⟨m', fun _ => 0, g'⟩ (fun r => ∀ c : Dev Cert.Ref7Ideal.nD,
          r.2.mem ((c.tc : Thread Cert.Ref7Ideal.nD Cert.Ref7Ideal.τ).loc Cert.Ref7Ideal.main_v6) = v0 c
          ∧ r.2.mem ((c.tc : Thread Cert.Ref7Ideal.nD Cert.Ref7Ideal.τ).loc Cert.Ref7Ideal.main_arg0) = m' ((c.tc : Thread Cert.Ref7Ideal.nD Cert.Ref7Ideal.τ).loc Cert.Ref7Ideal.main_arg0)
          ∧ r.2.mem ((c.tc : Thread Cert.Ref7Ideal.nD Cert.Ref7Ideal.τ).loc Cert.Ref7Ideal.main_arg1) = m' ((c.tc : Thread Cert.Ref7Ideal.nD Cert.Ref7Ideal.τ).loc Cert.Ref7Ideal.main_arg1)
          ∧ r.2.mem ((c.tc : Thread Cert.Ref7Ideal.nD Cert.Ref7Ideal.τ).loc Cert.Ref7Ideal.main_arg2) = m' ((c.tc : Thread Cert.Ref7Ideal.nD Cert.Ref7Ideal.τ).loc Cert.Ref7Ideal.main_arg2))

def preserves_Kernel8_Kernel8Ideal : Prop :=
  True

def algebraic_Kernel8Ideal_Ref8Ideal_pre_finite [hKernel8Ideal : Cert.Kernel8Ideal.Facts] [hRef8Ideal : Cert.Ref8Ideal.Facts] [hPre_finite : Cert.Pre_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Ref8Ideal.nD Cert.Ref8Ideal.τ Cert.Ref8Ideal.sig) → Buf (Elt Ideal) ℓ) (g' : Dev Cert.Ref8Ideal.nD → PrngReg), Pre_Kernel8Ideal_finite m →
    (∀ c : Dev Cert.Kernel8Ideal.nD,
      m' ((c.tc : Thread Cert.Ref8Ideal.nD Cert.Ref8Ideal.τ).loc Cert.Ref8Ideal.main_arg0) = m ((c.tc : Thread Cert.Kernel8Ideal.nD Cert.Kernel8Ideal.τ).loc Cert.Kernel8Ideal.main_arg0)
      ∧ m' ((c.tc : Thread Cert.Ref8Ideal.nD Cert.Ref8Ideal.τ).loc Cert.Ref8Ideal.main_arg1) = m ((c.tc : Thread Cert.Kernel8Ideal.nD Cert.Kernel8Ideal.τ).loc Cert.Kernel8Ideal.main_arg1)
      ∧ m' ((c.tc : Thread Cert.Ref8Ideal.nD Cert.Ref8Ideal.τ).loc Cert.Ref8Ideal.main_arg2) = m ((c.tc : Thread Cert.Kernel8Ideal.nD Cert.Kernel8Ideal.τ).loc Cert.Kernel8Ideal.main_arg2)
      ∧ m' ((c.tc : Thread Cert.Ref8Ideal.nD Cert.Ref8Ideal.τ).loc Cert.Ref8Ideal.main_arg3) = m ((c.tc : Thread Cert.Kernel8Ideal.nD Cert.Kernel8Ideal.τ).loc Cert.Kernel8Ideal.main_arg3)
      ∧ m' ((c.tc : Thread Cert.Ref8Ideal.nD Cert.Ref8Ideal.τ).loc Cert.Ref8Ideal.main_arg4) = m ((c.tc : Thread Cert.Kernel8Ideal.nD Cert.Kernel8Ideal.τ).loc Cert.Kernel8Ideal.main_arg4)
      ∧ m' ((c.tc : Thread Cert.Ref8Ideal.nD Cert.Ref8Ideal.τ).loc Cert.Ref8Ideal.main_arg5) = m ((c.tc : Thread Cert.Kernel8Ideal.nD Cert.Kernel8Ideal.τ).loc Cert.Kernel8Ideal.main_arg5)
      ∧ m' ((c.tc : Thread Cert.Ref8Ideal.nD Cert.Ref8Ideal.τ).loc Cert.Ref8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v29_2)) (v1 : (c : Dev Cert.Kernel8Ideal.nD) → Buf (Elt Ideal) ((c.tc : Thread Cert.Kernel8Ideal.nD Cert.Kernel8Ideal.τ).loc Cert.Kernel8Ideal.main_v29_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v29_2) = v0 c
          ∧ r.2.mem ((c.tc : Thread Cert.Kernel8Ideal.nD Cert.Kernel8Ideal.τ).loc Cert.Kernel8Ideal.main_v29_3) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Ref8Ideal.defs (F := Ideal)) (onTc (τ := Cert.Ref8Ideal.τ) (Cert.Ref8Ideal.main (F := Ideal))) ⟨m', fun _ => 0, g'⟩ (fun r => ∀ c : Dev Cert.Ref8Ideal.nD,
          r.2.mem ((c.tc : Thread Cert.Ref8Ideal.nD Cert.Ref8Ideal.τ).loc Cert.Ref8Ideal.main_v49) = v0 c
          ∧ r.2.mem ((c.tc : Thread Cert.Ref8Ideal.nD Cert.Ref8Ideal.τ).loc Cert.Ref8Ideal.main_v51) = v1 c
          ∧ r.2.mem ((c.tc : Thread Cert.Ref8Ideal.nD Cert.Ref8Ideal.τ).loc Cert.Ref8Ideal.main_arg0) = m' ((c.tc : Thread Cert.Ref8Ideal.nD Cert.Ref8Ideal.τ).loc Cert.Ref8Ideal.main_arg0)
          ∧ r.2.mem ((c.tc : Thread Cert.Ref8Ideal.nD Cert.Ref8Ideal.τ).loc Cert.Ref8Ideal.main_arg1) = m' ((c.tc : Thread Cert.Ref8Ideal.nD Cert.Ref8Ideal.τ).loc Cert.Ref8Ideal.main_arg1)
          ∧ r.2.mem ((c.tc : Thread Cert.Ref8Ideal.nD Cert.Ref8Ideal.τ).loc Cert.Ref8Ideal.main_arg2) = m' ((c.tc : Thread Cert.Ref8Ideal.nD Cert.Ref8Ideal.τ).loc Cert.Ref8Ideal.main_arg2)
          ∧ r.2.mem ((c.tc : Thread Cert.Ref8Ideal.nD Cert.Ref8Ideal.τ).loc Cert.Ref8Ideal.main_arg3) = m' ((c.tc : Thread Cert.Ref8Ideal.nD Cert.Ref8Ideal.τ).loc Cert.Ref8Ideal.main_arg3)
          ∧ r.2.mem ((c.tc : Thread Cert.Ref8Ideal.nD Cert.Ref8Ideal.τ).loc Cert.Ref8Ideal.main_arg4) = m' ((c.tc : Thread Cert.Ref8Ideal.nD Cert.Ref8Ideal.τ).loc Cert.Ref8Ideal.main_arg4)
          ∧ r.2.mem ((c.tc : Thread Cert.Ref8Ideal.nD Cert.Ref8Ideal.τ).loc Cert.Ref8Ideal.main_arg5) = m' ((c.tc : Thread Cert.Ref8Ideal.nD Cert.Ref8Ideal.τ).loc Cert.Ref8Ideal.main_arg5)
          ∧ r.2.mem ((c.tc : Thread Cert.Ref8Ideal.nD Cert.Ref8Ideal.τ).loc Cert.Ref8Ideal.main_arg6) = m' ((c.tc : Thread Cert.Ref8Ideal.nD Cert.Ref8Ideal.τ).loc Cert.Ref8Ideal.main_arg6))

def Claim : Prop :=
  ∃ (hKernel : Cert.Kernel.Facts) (hKernelIdeal : Cert.KernelIdeal.Facts) (hRefIdeal : Cert.RefIdeal.Facts) (hKernel2 : Cert.Kernel2.Facts) (hKernel2Ideal : Cert.Kernel2Ideal.Facts) (hRef2Ideal : Cert.Ref2Ideal.Facts) (hKernel3 : Cert.Kernel3.Facts) (hKernel3Ideal : Cert.Kernel3Ideal.Facts) (hRef3Ideal : Cert.Ref3Ideal.Facts) (hKernel4 : Cert.Kernel4.Facts) (hKernel4Ideal : Cert.Kernel4Ideal.Facts) (hRef4Ideal : Cert.Ref4Ideal.Facts) (hKernel5 : Cert.Kernel5.Facts) (hKernel5Ideal : Cert.Kernel5Ideal.Facts) (hRef5Ideal : Cert.Ref5Ideal.Facts) (hKernel6 : Cert.Kernel6.Facts) (hKernel6Ideal : Cert.Kernel6Ideal.Facts) (hRef6Ideal : Cert.Ref6Ideal.Facts) (hKernel7 : Cert.Kernel7.Facts) (hKernel7Ideal : Cert.Kernel7Ideal.Facts) (hRef7Ideal : Cert.Ref7Ideal.Facts) (hKernel8 : Cert.Kernel8.Facts) (hKernel8Ideal : Cert.Kernel8Ideal.Facts) (hRef8Ideal : Cert.Ref8Ideal.Facts) (hPre_in_range : Cert.Pre_in_range.Facts) (hPre_planned : Cert.Pre_planned.Facts) (hPre_finite : Cert.Pre_finite.Facts),
    quiescent_Kernel (hKernel := hKernel) (hPre_in_range := hPre_in_range)
    ∧ quiescent_KernelIdeal (hKernelIdeal := hKernelIdeal) (hPre_in_range := hPre_in_range)
    ∧ quiescent_KernelIdeal_pre_planned (hKernelIdeal := hKernelIdeal) (hPre_planned := hPre_planned)
    ∧ quiescent_RefIdeal (hRefIdeal := hRefIdeal)
    ∧ quiescent_RefIdeal_pre_planned (hRefIdeal := hRefIdeal) (hPre_planned := hPre_planned)
    ∧ quiescent_Kernel2 (hKernel2 := hKernel2)
    ∧ quiescent_Kernel2Ideal (hKernel2Ideal := hKernel2Ideal)
    ∧ quiescent_Ref2Ideal (hRef2Ideal := hRef2Ideal)
    ∧ quiescent_Kernel3 (hKernel3 := hKernel3)
    ∧ quiescent_Kernel3Ideal (hKernel3Ideal := hKernel3Ideal)
    ∧ quiescent_Ref3Ideal (hRef3Ideal := hRef3Ideal)
    ∧ quiescent_Kernel4 (hKernel4 := hKernel4)
    ∧ quiescent_Kernel4Ideal (hKernel4Ideal := hKernel4Ideal)
    ∧ quiescent_Ref4Ideal (hRef4Ideal := hRef4Ideal)
    ∧ quiescent_Kernel5 (hKernel5 := hKernel5)
    ∧ quiescent_Kernel5Ideal (hKernel5Ideal := hKernel5Ideal)
    ∧ quiescent_Ref5Ideal (hRef5Ideal := hRef5Ideal)
    ∧ quiescent_Kernel6 (hKernel6 := hKernel6)
    ∧ quiescent_Kernel6Ideal (hKernel6Ideal := hKernel6Ideal)
    ∧ quiescent_Ref6Ideal (hRef6Ideal := hRef6Ideal)
    ∧ quiescent_Kernel7 (hKernel7 := hKernel7)
    ∧ quiescent_Kernel7Ideal (hKernel7Ideal := hKernel7Ideal)
    ∧ quiescent_Ref7Ideal (hRef7Ideal := hRef7Ideal)
    ∧ quiescent_Kernel8 (hKernel8 := hKernel8)
    ∧ quiescent_Kernel8Ideal (hKernel8Ideal := hKernel8Ideal)
    ∧ quiescent_Kernel8Ideal_pre_finite (hKernel8Ideal := hKernel8Ideal) (hPre_finite := hPre_finite)
    ∧ quiescent_Ref8Ideal (hRef8Ideal := hRef8Ideal)
    ∧ quiescent_Ref8Ideal_pre_finite (hRef8Ideal := hRef8Ideal) (hPre_finite := hPre_finite)
    ∧ preserves_Kernel_KernelIdeal
    ∧ algebraic_KernelIdeal_RefIdeal_pre_planned (hKernelIdeal := hKernelIdeal) (hRefIdeal := hRefIdeal) (hPre_planned := hPre_planned)
    ∧ preserves_Kernel2_Kernel2Ideal
    ∧ algebraic_Kernel2Ideal_Ref2Ideal (hKernel2Ideal := hKernel2Ideal) (hRef2Ideal := hRef2Ideal)
    ∧ preserves_Kernel3_Kernel3Ideal
    ∧ algebraic_Kernel3Ideal_Ref3Ideal (hKernel3Ideal := hKernel3Ideal) (hRef3Ideal := hRef3Ideal)
    ∧ preserves_Kernel4_Kernel4Ideal
    ∧ algebraic_Kernel4Ideal_Ref4Ideal (hKernel4Ideal := hKernel4Ideal) (hRef4Ideal := hRef4Ideal)
    ∧ preserves_Kernel5_Kernel5Ideal
    ∧ algebraic_Kernel5Ideal_Ref5Ideal (hKernel5Ideal := hKernel5Ideal) (hRef5Ideal := hRef5Ideal)
    ∧ preserves_Kernel6_Kernel6Ideal
    ∧ algebraic_Kernel6Ideal_Ref6Ideal (hKernel6Ideal := hKernel6Ideal) (hRef6Ideal := hRef6Ideal)
    ∧ preserves_Kernel7_Kernel7Ideal
    ∧ algebraic_Kernel7Ideal_Ref7Ideal (hKernel7Ideal := hKernel7Ideal) (hRef7Ideal := hRef7Ideal)
    ∧ preserves_Kernel8_Kernel8Ideal
    ∧ algebraic_Kernel8Ideal_Ref8Ideal_pre_finite (hKernel8Ideal := hKernel8Ideal) (hRef8Ideal := hRef8Ideal) (hPre_finite := hPre_finite)
-- ==== Pre_finite.lean ====
abbrev S8x4096x1024 : Shape := ⟨3, ![8, 4096, 1024]⟩
abbrev S1024 : Shape := ⟨1, ![1024]⟩
abbrev S8x1024 : Shape := ⟨2, ![8, 1024]⟩
abbrev S1024x2064 : Shape := ⟨2, ![1024, 2064]⟩
abbrev S16 : Shape := ⟨1, ![16]⟩
abbrev S64 : Shape := ⟨1, ![64]⟩
abbrev S1024x16 : Shape := ⟨2, ![1024, 16]⟩
abbrev S_ : Shape := ⟨0, ![]⟩

class Facts : Prop where
  slices_S1024x2064_S1024x16_0_2048 : S1024x2064.Slices ![0, 2048] S1024x16
  bcast_S_S1024 : S_.BroadcastsInDim S1024 (![] : Fin 0 → Fin S1024.rank)
  bcast_S_S8x1024 : S_.BroadcastsInDim S8x1024 (![] : Fin 0 → Fin S8x1024.rank)
  bcast_S_S1024x16 : S_.BroadcastsInDim S1024x16 (![] : Fin 0 → Fin S1024x16.rank)

variable [Facts]

def fn {F : FTy → Type} [FloatOps F] (main_arg0 : FVec F S8x4096x1024 .f32) (main_arg1 : FVec F S1024 .f32) (main_arg2 : FVec F S8x1024 .f32) (main_arg3 : FVec F S8x1024 .f32) (main_arg4 : FVec F S1024x2064 .f32) (main_arg5 : FVec F S16 .f32) (main_arg6 : FVec F S64 .f32) : IVec S1024 1 × IVec S8x1024 1 × IVec S8x1024 1 × IVec S1024x16 1 :=
  let main_v0 : FVec F S1024x16 .f32 := (extractStridedSlice S1024x16 ![0, 2048] · slices_S1024x2064_S1024x16_0_2048) main_arg4
  let main_v1 : FVec F S1024 .f32 := Host.absf main_arg1
  let main_cst : FVec F S_ .f32 := constant S_ .f32 0x7F800000#32
  let main_v2 : FVec F S1024 .f32 := broadcastInDim S1024 ![] bcast_S_S1024 main_cst
  let main_v3 : IVec S1024 1 := cmpf .olt main_v1 main_v2
  let main_v4 : FVec F S8x1024 .f32 := Host.absf main_arg2
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_v7 : FVec F S8x1024 .f32 := Host.absf main_arg3
  let main_cst_1 : FVec F S_ .f32 := constant S_ .f32 0x7F800000#32
  let main_v8 : FVec F S8x1024 .f32 := broadcastInDim S8x1024 ![] bcast_S_S8x1024 main_cst_1
  let main_v9 : IVec S8x1024 1 := cmpf .olt main_v7 main_v8
  let main_v10 : FVec F S1024x16 .f32 := Host.absf main_v0
  let main_cst_2 : FVec F S_ .f32 := constant S_ .f32 0x7F800000#32
  let main_v11 : FVec F S1024x16 .f32 := broadcastInDim S1024x16 ![] bcast_S_S1024x16 main_cst_2
  let main_v12 : IVec S1024x16 1 := cmpf .olt main_v10 main_v11
  (main_v3, main_v6, main_v9, main_v12)
-- ==== Pre_in_range.lean ====
abbrev S32768x1152 : Shape := ⟨2, ![32768, 1152]⟩
abbrev S2x32x1024x256 : Shape := ⟨4, ![2, 32, 1024, 256]⟩
abbrev S2x32x256x1024 : Shape := ⟨4, ![2, 32, 256, 1024]⟩
abbrev S32768x2 : Shape := ⟨2, ![32768, 2]⟩
abbrev S240 : Shape := ⟨1, ![240]⟩
abbrev S_ : Shape := ⟨0, ![]⟩

class Facts : Prop where
  bcast_S_S240 : S_.BroadcastsInDim S240 (![] : Fin 0 → Fin S240.rank)

variable [Facts]

def fn {F : FTy → Type} [FloatOps F] (main_arg0 : FVec F S32768x1152 .f32) (main_arg1 : FVec F S2x32x1024x256 .f32) (main_arg2 : FVec F S2x32x1024x256 .f32) (main_arg3 : FVec F S2x32x256x1024 .f32) (main_arg4 : IVec S32768x2 32) (main_arg5 : IVec S240 32) (main_arg6 : IVec S240 32) (main_arg7 : IVec S240 32) (main_arg8 : IVec S240 32) (main_arg9 : IVec S240 32) (main_arg10 : IVec S240 32) : IVec S240 1 × IVec S240 1 × IVec S240 1 :=
  let main_c : IVec S_ 32 := constantI S_ 32 0#32
  let main_v0 : IVec S240 32 := broadcastInDim S240 ![] bcast_S_S240 main_c
  let main_v1 : IVec S240 1 := cmpi .sge main_arg5 main_v0
  let main_c_0 : IVec S_ 32 := constantI S_ 32 128#32
  let main_v2 : IVec S240 32 := broadcastInDim S240 ![] bcast_S_S240 main_c_0
  let main_v3 : IVec S240 1 := cmpi .slt main_arg5 main_v2
  let main_v4 : IVec S240 1 := andi main_v1 main_v3
  let main_c_1 : IVec S_ 32 := constantI S_ 32 0#32
  let main_v5 : IVec S240 32 := broadcastInDim S240 ![] bcast_S_S240 main_c_1
  let main_v6 : IVec S240 1 := cmpi .sge main_arg6 main_v5
  let main_c_2 : IVec S_ 32 := constantI S_ 32 32#32
  let main_v7 : IVec S240 32 := broadcastInDim S240 ![] bcast_S_S240 main_c_2
  let main_v8 : IVec S240 1 := cmpi .slt main_arg6 main_v7
  let main_v9 : IVec S240 1 := andi main_v6 main_v8
  let main_c_3 : IVec S_ 32 := constantI S_ 32 0#32
  let main_v10 : IVec S240 32 := broadcastInDim S240 ![] bcast_S_S240 main_c_3
  let main_v11 : IVec S240 1 := cmpi .sge main_arg7 main_v10
  let main_c_4 : IVec S_ 32 := constantI S_ 32 32#32
  let main_v12 : IVec S240 32 := broadcastInDim S240 ![] bcast_S_S240 main_c_4
  let main_v13 : IVec S240 1 := cmpi .slt main_arg7 main_v12
  let main_v14 : IVec S240 1 := andi main_v11 main_v13
  (main_v4, main_v9, main_v14)
-- ==== Pre_planned.lean ====
abbrev S32768x1152 : Shape := ⟨2, ![32768, 1152]⟩
abbrev S2x32x1024x256 : Shape := ⟨4, ![2, 32, 1024, 256]⟩
abbrev S2x32x256x1024 : Shape := ⟨4, ![2, 32, 256, 1024]⟩
abbrev S32768x2 : Shape := ⟨2, ![32768, 2]⟩
abbrev S240 : Shape := ⟨1, ![240]⟩
abbrev S239 : Shape := ⟨1, ![239]⟩
abbrev S_ : Shape := ⟨0, ![]⟩
abbrev S32768x240 : Shape := ⟨2, ![32768, 240]⟩
abbrev S1x240 : Shape := ⟨2, ![1, 240]⟩
abbrev S1 : Shape := ⟨1, ![1]⟩
abbrev S32768x1 : Shape := ⟨2, ![32768, 1]⟩

class Facts : Prop where
  slices_S240_S239_0 : S240.Slices ![0] S239
  slices_S240_S239_1 : S240.Slices ![1] S239
  bcast_S_S239 : S_.BroadcastsInDim S239 (![] : Fin 0 → Fin S239.rank)
  bcast_S240_S1x240_1 : S240.BroadcastsInDim S1x240 (![1] : Fin 1 → Fin S1x240.rank)
  bcast_S_S1x240 : S_.BroadcastsInDim S1x240 (![] : Fin 0 → Fin S1x240.rank)
  bcast_S1x240_S32768x240_0_1 : S1x240.BroadcastsInDim S32768x240 (![0, 1] : Fin 2 → Fin S32768x240.rank)
  slices_S32768x1152_S32768x2_0_1026 : S32768x1152.Slices ![0, 1026] S32768x2
  bcast_S_S240 : S_.BroadcastsInDim S240 (![] : Fin 0 → Fin S240.rank)
  slices_S240_S1_0 : S240.Slices ![0] S1
  bcast_S_S1 : S_.BroadcastsInDim S1 (![] : Fin 0 → Fin S1.rank)
  slices_S240_S1_239 : S240.Slices ![239] S1
  slices_S32768x2_S32768x1_0_0 : S32768x2.Slices ![0, 0] S32768x1
  bcast_S32768x1_S32768x240_0_1 : S32768x1.BroadcastsInDim S32768x240 (![0, 1] : Fin 2 → Fin S32768x240.rank)
  slices_S32768x2_S32768x1_0_1 : S32768x2.Slices ![0, 1] S32768x1
  bcast_S_S32768x2 : S_.BroadcastsInDim S32768x2 (![] : Fin 0 → Fin S32768x2.rank)

variable [Facts]

def fn_part6 {F : FTy → Type} [FloatOps F] (main_arg4 : IVec S32768x2 32) (main_arg7 : IVec S240 32) (main_v49 : FVec F S32768x2 .f32) (main_v54 : IVec S240 1) (main_v59 : IVec S240 1) (main_v64 : IVec S240 1) (main_v69 : IVec S240 1) (main_v82 : IVec S240 1) (main_v93 : IVec S1 1) (main_v101 : IVec S239 1) (main_v112 : IVec S1 1) (main_v113 : IVec S32768x240 1) (main_v114 : IVec S1x240 32) (main_v115 : IVec S32768x1 32) : IVec S240 1 × IVec S240 1 × IVec S240 1 × IVec S240 1 × IVec S240 1 × IVec S1 1 × IVec S239 1 × IVec S1 1 × IVec S32768x240 1 × IVec S32768x2 1 :=
  let main_v116 : IVec S32768x240 32 := broadcastInDim S32768x240 ![0, 1] bcast_S1x240_S32768x240_0_1 main_v114
  let main_v117 : IVec S32768x240 32 := broadcastInDim S32768x240 ![0, 1] bcast_S32768x1_S32768x240_0_1 main_v115
  let main_v118 : IVec S32768x240 1 := cmpi .eq main_v116 main_v117
  let main_v119 : IVec S1x240 32 := broadcastInDim S1x240 ![1] bcast_S240_S1x240_1 main_arg7
  let main_v120 : IVec S32768x1 32 := (extractStridedSlice S32768x1 ![0, 1] · slices_S32768x2_S32768x1_0_1) main_arg4
  let main_v121 : IVec S32768x240 32 := broadcastInDim S32768x240 ![0, 1] bcast_S1x240_S32768x240_0_1 main_v119
  let main_v122 : IVec S32768x240 32 := broadcastInDim S32768x240 ![0, 1] bcast_S32768x1_S32768x240_0_1 main_v120
  let main_v123 : IVec S32768x240 1 := cmpi .eq main_v121 main_v122
  let main_v124 : IVec S32768x240 1 := andi main_v118 main_v123
  let main_v125 : IVec S32768x240 1 := ori main_v113 main_v124
  let main_cst : FVec F S_ .f32 := constant S_ .f32 0x00000000#32
  let main_v126 : FVec F S32768x2 .f32 := broadcastInDim S32768x2 ![] bcast_S_S32768x2 main_cst
  let main_v127 : IVec S32768x2 1 := cmpf .oge main_v49 main_v126
  let main_cst_27 : FVec F S_ .f32 := constant S_ .f32 0x3F800000#32
  let main_v128 : FVec F S32768x2 .f32 := broadcastInDim S32768x2 ![] bcast_S_S32768x2 main_cst_27
  let main_v129 : IVec S32768x2 1 := cmpf .ole main_v49 main_v128
  let main_v130 : IVec S32768x2 1 := andi main_v127 main_v129
  (main_v54, main_v59, main_v64, main_v69, main_v82, main_v93, main_v101, main_v112, main_v125, main_v130)

def fn_part5 {F : FTy → Type} [FloatOps F] (main_arg4 : IVec S32768x2 32) (main_arg5 : IVec S240 32) (main_arg6 : IVec S240 32) (main_arg7 : IVec S240 32) (main_arg8 : IVec S240 32) (main_arg10 : IVec S240 32) (main_v3 : IVec S239 32) (main_v8 : IVec S239 1) (main_v19 : IVec S239 1) (main_v30 : IVec S239 1) (main_v48 : IVec S32768x240 1) (main_v49 : FVec F S32768x2 .f32) (main_v54 : IVec S240 1) (main_v59 : IVec S240 1) (main_v64 : IVec S240 1) (main_v69 : IVec S240 1) (main_v82 : IVec S240 1) (main_v93 : IVec S1 1) (main_v95 : IVec S239 1) : IVec S240 1 × IVec S240 1 × IVec S240 1 × IVec S240 1 × IVec S240 1 × IVec S1 1 × IVec S239 1 × IVec S1 1 × IVec S32768x240 1 × IVec S32768x2 1 :=
  let main_c_23 : IVec S_ 32 := constantI S_ 32 1#32
  let main_v96 : IVec S239 32 := broadcastInDim S239 ![] bcast_S_S239 main_c_23
  let main_v97 : IVec S239 1 := cmpi .eq main_v3 main_v96
  let main_v98 : IVec S239 1 := andi main_v95 main_v97
  let main_v99 : IVec S239 1 := ori main_v8 main_v19
  let main_v100 : IVec S239 1 := andi main_v98 main_v99
  let main_v101 : IVec S239 1 := ori main_v100 main_v30
  let main_v102 : IVec S1 32 := (extractStridedSlice S1 ![239] · slices_S240_S1_239) main_arg5
  let main_c_24 : IVec S_ 32 := constantI S_ 32 127#32
  let main_v103 : IVec S1 32 := broadcastInDim S1 ![] bcast_S_S1 main_c_24
  let main_v104 : IVec S1 1 := cmpi .eq main_v102 main_v103
  let main_v105 : IVec S1 32 := (extractStridedSlice S1 ![239] · slices_S240_S1_239) main_arg8
  let main_c_25 : IVec S_ 32 := constantI S_ 32 0#32
  let main_v106 : IVec S1 32 := broadcastInDim S1 ![] bcast_S_S1 main_c_25
  let main_v107 : IVec S1 1 := cmpi .eq main_v105 main_v106
  let main_v108 : IVec S1 32 := (extractStridedSlice S1 ![239] · slices_S240_S1_239) main_arg10
  let main_c_26 : IVec S_ 32 := constantI S_ 32 256#32
  let main_v109 : IVec S1 32 := broadcastInDim S1 ![] bcast_S_S1 main_c_26
  let main_v110 : IVec S1 1 := cmpi .eq main_v108 main_v109
  let main_v111 : IVec S1 1 := ori main_v107 main_v110
  let main_v112 : IVec S1 1 := andi main_v104 main_v111
  let main_v113 : IVec S32768x240 1 := noti main_v48
  let main_v114 : IVec S1x240 32 := broadcastInDim S1x240 ![1] bcast_S240_S1x240_1 main_arg6
  let main_v115 : IVec S32768x1 32 := (extractStridedSlice S32768x1 ![0, 0] · slices_S32768x2_S32768x1_0_0) main_arg4
  fn_part6 (F := F) main_arg4 main_arg7 main_v49 main_v54 main_v59 main_v64 main_v69 main_v82 main_v93 main_v101 main_v112 main_v113 main_v114 main_v115

def fn_part4 {F : FTy → Type} [FloatOps F] (main_arg4 : IVec S32768x2 32) (main_arg5 : IVec S240 32) (main_arg6 : IVec S240 32) (main_arg7 : IVec S240 32) (main_arg8 : IVec S240 32) (main_arg9 : IVec S240 32) (main_arg10 : IVec S240 32) (main_v2 : IVec S239 32) (main_v3 : IVec S239 32) (main_v8 : IVec S239 1) (main_v19 : IVec S239 1) (main_v30 : IVec S239 1) (main_v48 : IVec S32768x240 1) (main_v49 : FVec F S32768x2 .f32) (main_v54 : IVec S240 1) (main_v59 : IVec S240 1) (main_v64 : IVec S240 1) (main_v69 : IVec S240 1) (main_v71 : IVec S240 1) (main_v76 : IVec S240 1) : IVec S240 1 × IVec S240 1 × IVec S240 1 × IVec S240 1 × IVec S240 1 × IVec S1 1 × IVec S239 1 × IVec S1 1 × IVec S32768x240 1 × IVec S32768x2 1 :=
  let main_v77 : IVec S240 1 := cmpi .slt main_arg9 main_arg10
  let main_v78 : IVec S240 1 := andi main_v76 main_v77
  let main_c_18 : IVec S_ 32 := constantI S_ 32 256#32
  let main_v79 : IVec S240 32 := broadcastInDim S240 ![] bcast_S_S240 main_c_18
  let main_v80 : IVec S240 1 := cmpi .sle main_arg10 main_v79
  let main_v81 : IVec S240 1 := andi main_v78 main_v80
  let main_v82 : IVec S240 1 := ori main_v71 main_v81
  let main_v83 : IVec S1 32 := (extractStridedSlice S1 ![0] · slices_S240_S1_0) main_arg5
  let main_c_19 : IVec S_ 32 := constantI S_ 32 0#32
  let main_v84 : IVec S1 32 := broadcastInDim S1 ![] bcast_S_S1 main_c_19
  let main_v85 : IVec S1 1 := cmpi .eq main_v83 main_v84
  let main_v86 : IVec S1 32 := (extractStridedSlice S1 ![0] · slices_S240_S1_0) main_arg8
  let main_c_20 : IVec S_ 32 := constantI S_ 32 1#32
  let main_v87 : IVec S1 32 := broadcastInDim S1 ![] bcast_S_S1 main_c_20
  let main_v88 : IVec S1 1 := cmpi .eq main_v86 main_v87
  let main_v89 : IVec S1 1 := andi main_v85 main_v88
  let main_v90 : IVec S1 32 := (extractStridedSlice S1 ![0] · slices_S240_S1_0) main_arg9
  let main_c_21 : IVec S_ 32 := constantI S_ 32 0#32
  let main_v91 : IVec S1 32 := broadcastInDim S1 ![] bcast_S_S1 main_c_21
  let main_v92 : IVec S1 1 := cmpi .eq main_v90 main_v91
  let main_v93 : IVec S1 1 := andi main_v89 main_v92
  let main_c_22 : IVec S_ 32 := constantI S_ 32 1#32
  let main_v94 : IVec S239 32 := broadcastInDim S239 ![] bcast_S_S239 main_c_22
  let main_v95 : IVec S239 1 := cmpi .eq main_v2 main_v94
  fn_part5 (F := F) main_arg4 main_arg5 main_arg6 main_arg7 main_arg8 main_arg10 main_v3 main_v8 main_v19 main_v30 main_v48 main_v49 main_v54 main_v59 main_v64 main_v69 main_v82 main_v93 main_v95

def fn_part3 {F : FTy → Type} [FloatOps F] (main_arg4 : IVec S32768x2 32) (main_arg5 : IVec S240 32) (main_arg6 : IVec S240 32) (main_arg7 : IVec S240 32) (main_arg8 : IVec S240 32) (main_arg9 : IVec S240 32) (main_arg10 : IVec S240 32) (main_v2 : IVec S239 32) (main_v3 : IVec S239 32) (main_v8 : IVec S239 1) (main_v19 : IVec S239 1) (main_v30 : IVec S239 1) (main_v48 : IVec S32768x240 1) (main_v49 : FVec F S32768x2 .f32) (main_v54 : IVec S240 1) (main_v59 : IVec S240 1) : IVec S240 1 × IVec S240 1 × IVec S240 1 × IVec S240 1 × IVec S240 1 × IVec S1 1 × IVec S239 1 × IVec S1 1 × IVec S32768x240 1 × IVec S32768x2 1 :=
  let main_c_11 : IVec S_ 32 := constantI S_ 32 0#32
  let main_v60 : IVec S240 32 := broadcastInDim S240 ![] bcast_S_S240 main_c_11
  let main_v61 : IVec S240 1 := cmpi .sge main_arg7 main_v60
  let main_c_12 : IVec S_ 32 := constantI S_ 32 32#32
  let main_v62 : IVec S240 32 := broadcastInDim S240 ![] bcast_S_S240 main_c_12
  let main_v63 : IVec S240 1 := cmpi .slt main_arg7 main_v62
  let main_v64 : IVec S240 1 := andi main_v61 main_v63
  let main_c_13 : IVec S_ 32 := constantI S_ 32 3#32
  let main_v65 : IVec S240 32 := broadcastInDim S240 ![] bcast_S_S240 main_c_13
  let main_v66 : IVec S240 32 := Host.shrui main_arg6 main_v65
  let main_c_14 : IVec S_ 32 := constantI S_ 32 3#32
  let main_v67 : IVec S240 32 := broadcastInDim S240 ![] bcast_S_S240 main_c_14
  let main_v68 : IVec S240 32 := Host.shrui main_arg7 main_v67
  let main_v69 : IVec S240 1 := cmpi .eq main_v66 main_v68
  let main_c_15 : IVec S_ 32 := constantI S_ 32 0#32
  let main_v70 : IVec S240 32 := broadcastInDim S240 ![] bcast_S_S240 main_c_15
  let main_v71 : IVec S240 1 := cmpi .eq main_arg8 main_v70
  let main_c_16 : IVec S_ 32 := constantI S_ 32 1#32
  let main_v72 : IVec S240 32 := broadcastInDim S240 ![] bcast_S_S240 main_c_16
  let main_v73 : IVec S240 1 := cmpi .eq main_arg8 main_v72
  let main_c_17 : IVec S_ 32 := constantI S_ 32 0#32
  let main_v74 : IVec S240 32 := broadcastInDim S240 ![] bcast_S_S240 main_c_17
  let main_v75 : IVec S240 1 := cmpi .sge main_arg9 main_v74
  let main_v76 : IVec S240 1 := andi main_v73 main_v75
  fn_part4 (F := F) main_arg4 main_arg5 main_arg6 main_arg7 main_arg8 main_arg9 main_arg10 main_v2 main_v3 main_v8 main_v19 main_v30 main_v48 main_v49 main_v54 main_v59 main_v64 main_v69 main_v71 main_v76

def fn_part2 {F : FTy → Type} [FloatOps F] (main_arg0 : FVec F S32768x1152 .f32) (main_arg4 : IVec S32768x2 32) (main_arg5 : IVec S240 32) (main_arg6 : IVec S240 32) (main_arg7 : IVec S240 32) (main_arg8 : IVec S240 32) (main_arg9 : IVec S240 32) (main_arg10 : IVec S240 32) (main_v2 : IVec S239 32) (main_v3 : IVec S239 32) (main_v8 : IVec S239 1) (main_v19 : IVec S239 1) (main_v30 : IVec S239 1) (main_v36 : IVec S32768x240 32) (main_v39 : IVec S1x240 1) : IVec S240 1 × IVec S240 1 × IVec S240 1 × IVec S240 1 × IVec S240 1 × IVec S1 1 × IVec S239 1 × IVec S1 1 × IVec S32768x240 1 × IVec S32768x2 1 :=
  let main_v40 : IVec S1x240 32 := broadcastInDim S1x240 ![1] bcast_S240_S1x240_1 main_arg9
  let main_v41 : IVec S32768x240 32 := broadcastInDim S32768x240 ![0, 1] bcast_S1x240_S32768x240_0_1 main_v40
  let main_v42 : IVec S32768x240 1 := cmpi .sge main_v36 main_v41
  let main_v43 : IVec S32768x240 1 := broadcastInDim S32768x240 ![0, 1] bcast_S1x240_S32768x240_0_1 main_v39
  let main_v44 : IVec S32768x240 1 := andi main_v43 main_v42
  let main_v45 : IVec S1x240 32 := broadcastInDim S1x240 ![1] bcast_S240_S1x240_1 main_arg10
  let main_v46 : IVec S32768x240 32 := broadcastInDim S32768x240 ![0, 1] bcast_S1x240_S32768x240_0_1 main_v45
  let main_v47 : IVec S32768x240 1 := cmpi .slt main_v36 main_v46
  let main_v48 : IVec S32768x240 1 := andi main_v44 main_v47
  let main_v49 : FVec F S32768x2 .f32 := (extractStridedSlice S32768x2 ![0, 1026] · slices_S32768x1152_S32768x2_0_1026) main_arg0
  let main_c_7 : IVec S_ 32 := constantI S_ 32 0#32
  let main_v50 : IVec S240 32 := broadcastInDim S240 ![] bcast_S_S240 main_c_7
  let main_v51 : IVec S240 1 := cmpi .sge main_arg5 main_v50
  let main_c_8 : IVec S_ 32 := constantI S_ 32 128#32
  let main_v52 : IVec S240 32 := broadcastInDim S240 ![] bcast_S_S240 main_c_8
  let main_v53 : IVec S240 1 := cmpi .slt main_arg5 main_v52
  let main_v54 : IVec S240 1 := andi main_v51 main_v53
  let main_c_9 : IVec S_ 32 := constantI S_ 32 0#32
  let main_v55 : IVec S240 32 := broadcastInDim S240 ![] bcast_S_S240 main_c_9
  let main_v56 : IVec S240 1 := cmpi .sge main_arg6 main_v55
  let main_c_10 : IVec S_ 32 := constantI S_ 32 32#32
  let main_v57 : IVec S240 32 := broadcastInDim S240 ![] bcast_S_S240 main_c_10
  let main_v58 : IVec S240 1 := cmpi .slt main_arg6 main_v57
  let main_v59 : IVec S240 1 := andi main_v56 main_v58
  fn_part3 (F := F) main_arg4 main_arg5 main_arg6 main_arg7 main_arg8 main_arg9 main_arg10 main_v2 main_v3 main_v8 main_v19 main_v30 main_v48 main_v49 main_v54 main_v59

def fn_part1 {F : FTy → Type} [FloatOps F] (main_arg0 : FVec F S32768x1152 .f32) (main_arg4 : IVec S32768x2 32) (main_arg5 : IVec S240 32) (main_arg6 : IVec S240 32) (main_arg7 : IVec S240 32) (main_arg8 : IVec S240 32) (main_arg9 : IVec S240 32) (main_arg10 : IVec S240 32) (main_v0 : IVec S239 32) (main_v1 : IVec S239 32) (main_v2 : IVec S239 32) (main_v3 : IVec S239 32) (main_v8 : IVec S239 1) (main_v19 : IVec S239 1) (main_c_2 : IVec S_ 32) : IVec S240 1 × IVec S240 1 × IVec S240 1 × IVec S240 1 × IVec S240 1 × IVec S1 1 × IVec S239 1 × IVec S1 1 × IVec S32768x240 1 × IVec S32768x2 1 :=
  let main_v20 : IVec S239 32 := broadcastInDim S239 ![] bcast_S_S239 main_c_2
  let main_v21 : IVec S239 1 := cmpi .eq main_v3 main_v20
  let main_v22 : IVec S239 1 := cmpi .eq main_v1 main_v0
  let main_v23 : IVec S239 1 := andi main_v21 main_v22
  let main_c_3 : IVec S_ 32 := constantI S_ 32 0#32
  let main_v24 : IVec S239 32 := broadcastInDim S239 ![] bcast_S_S239 main_c_3
  let main_v25 : IVec S239 1 := cmpi .eq main_v2 main_v24
  let main_v26 : IVec S239 32 := (extractStridedSlice S239 ![0] · slices_S240_S239_0) main_arg10
  let main_c_4 : IVec S_ 32 := constantI S_ 32 256#32
  let main_v27 : IVec S239 32 := broadcastInDim S239 ![] bcast_S_S239 main_c_4
  let main_v28 : IVec S239 1 := cmpi .eq main_v26 main_v27
  let main_v29 : IVec S239 1 := ori main_v25 main_v28
  let main_v30 : IVec S239 1 := andi main_v23 main_v29
  let main_v31 : IVec S32768x240 32 := iotaInDim S32768x240 32 0
  let main_v32 : IVec S1x240 32 := broadcastInDim S1x240 ![1] bcast_S240_S1x240_1 main_arg5
  let main_c_5 : IVec S_ 32 := constantI S_ 32 256#32
  let main_v33 : IVec S1x240 32 := broadcastInDim S1x240 ![] bcast_S_S1x240 main_c_5
  let main_v34 : IVec S1x240 32 := muli main_v32 main_v33
  let main_v35 : IVec S32768x240 32 := broadcastInDim S32768x240 ![0, 1] bcast_S1x240_S32768x240_0_1 main_v34
  let main_v36 : IVec S32768x240 32 := subi main_v31 main_v35
  let main_v37 : IVec S1x240 32 := broadcastInDim S1x240 ![1] bcast_S240_S1x240_1 main_arg8
  let main_c_6 : IVec S_ 32 := constantI S_ 32 1#32
  let main_v38 : IVec S1x240 32 := broadcastInDim S1x240 ![] bcast_S_S1x240 main_c_6
  let main_v39 : IVec S1x240 1 := cmpi .eq main_v37 main_v38
  fn_part2 (F := F) main_arg0 main_arg4 main_arg5 main_arg6 main_arg7 main_arg8 main_arg9 main_arg10 main_v2 main_v3 main_v8 main_v19 main_v30 main_v36 main_v39

def fn {F : FTy → Type} [FloatOps F] (main_arg0 : FVec F S32768x1152 .f32) (main_arg1 : FVec F S2x32x1024x256 .f32) (main_arg2 : FVec F S2x32x1024x256 .f32) (main_arg3 : FVec F S2x32x256x1024 .f32) (main_arg4 : IVec S32768x2 32) (main_arg5 : IVec S240 32) (main_arg6 : IVec S240 32) (main_arg7 : IVec S240 32) (main_arg8 : IVec S240 32) (main_arg9 : IVec S240 32) (main_arg10 : IVec S240 32) : IVec S240 1 × IVec S240 1 × IVec S240 1 × IVec S240 1 × IVec S240 1 × IVec S1 1 × IVec S239 1 × IVec S1 1 × IVec S32768x240 1 × IVec S32768x2 1 :=
  let main_v0 : IVec S239 32 := (extractStridedSlice S239 ![0] · slices_S240_S239_0) main_arg5
  let main_v1 : IVec S239 32 := (extractStridedSlice S239 ![1] · slices_S240_S239_1) main_arg5
  let main_v2 : IVec S239 32 := (extractStridedSlice S239 ![0] · slices_S240_S239_0) main_arg8
  let main_v3 : IVec S239 32 := (extractStridedSlice S239 ![1] · slices_S240_S239_1) main_arg8
  let main_v4 : IVec S239 1 := cmpi .eq main_v1 main_v0
  let main_v5 : IVec S239 32 := (extractStridedSlice S239 ![1] · slices_S240_S239_1) main_arg9
  let main_v6 : IVec S239 32 := (extractStridedSlice S239 ![0] · slices_S240_S239_0) main_arg10
  let main_v7 : IVec S239 1 := cmpi .eq main_v5 main_v6
  let main_v8 : IVec S239 1 := andi main_v4 main_v7
  let main_c : IVec S_ 32 := constantI S_ 32 1#32
  let main_v9 : IVec S239 32 := broadcastInDim S239 ![] bcast_S_S239 main_c
  let main_v10 : IVec S239 32 := addi main_v0 main_v9
  let main_v11 : IVec S239 1 := cmpi .eq main_v1 main_v10
  let main_v12 : IVec S239 32 := (extractStridedSlice S239 ![1] · slices_S240_S239_1) main_arg9
  let main_c_0 : IVec S_ 32 := constantI S_ 32 0#32
  let main_v13 : IVec S239 32 := broadcastInDim S239 ![] bcast_S_S239 main_c_0
  let main_v14 : IVec S239 1 := cmpi .eq main_v12 main_v13
  let main_v15 : IVec S239 1 := andi main_v11 main_v14
  let main_v16 : IVec S239 32 := (extractStridedSlice S239 ![0] · slices_S240_S239_0) main_arg10
  let main_c_1 : IVec S_ 32 := constantI S_ 32 256#32
  let main_v17 : IVec S239 32 := broadcastInDim S239 ![] bcast_S_S239 main_c_1
  let main_v18 : IVec S239 1 := cmpi .eq main_v16 main_v17
  let main_v19 : IVec S239 1 := andi main_v15 main_v18
  let main_c_2 : IVec S_ 32 := constantI S_ 32 0#32
  fn_part1 (F := F) main_arg0 main_arg4 main_arg5 main_arg6 main_arg7 main_arg8 main_arg9 main_arg10 main_v0 main_v1 main_v2 main_v3 main_v8 main_v19 main_c_2
-- ==== Kernel.lean ====
abbrev S32768x1152 : Shape := ⟨2, ![32768, 1152]⟩
abbrev S2x32x1024x256 : Shape := ⟨4, ![2, 32, 1024, 256]⟩
abbrev S2x32x256x1024 : Shape := ⟨4, ![2, 32, 256, 1024]⟩
abbrev S32768x2 : Shape := ⟨2, ![32768, 2]⟩
abbrev S240 : Shape := ⟨1, ![240]⟩
abbrev S32768x1024 : Shape := ⟨2, ![32768, 1024]⟩
abbrev S256x1152 : Shape := ⟨2, ![256, 1152]⟩
abbrev S1 : Shape := ⟨1, ![1]⟩
abbrev S1x8x1024x256 : Shape := ⟨4, ![1, 8, 1024, 256]⟩
abbrev S1x8x256x1024 : Shape := ⟨4, ![1, 8, 256, 1024]⟩
abbrev S256x1024 : Shape := ⟨2, ![256, 1024]⟩
abbrev S8x2x1024x256 : Shape := ⟨4, ![8, 2, 1024, 256]⟩
abbrev S8x256x1024 : Shape := ⟨3, ![8, 256, 1024]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S1x256x1024 : Shape := ⟨3, ![1, 256, 1024]⟩
abbrev S256x1 : Shape := ⟨2, ![256, 1]⟩
abbrev S256x256 : Shape := ⟨2, ![256, 256]⟩

abbrev nBuf : Space → Nat
  | .hbm => 6
  | .vmem => 9
  | .smem => 6
  | _ => 0

abbrev bufTy : (tb : Table) → Fin (tcTables nBuf tb) → BufTy
  | .hbm, ⟨0, _⟩ => ⟨S32768x1152, .f32⟩
  | .hbm, ⟨1, _⟩ => ⟨S2x32x1024x256, .f32⟩
  | .hbm, ⟨2, _⟩ => ⟨S2x32x1024x256, .f32⟩
  | .hbm, ⟨3, _⟩ => ⟨S2x32x256x1024, .f32⟩
  | .hbm, ⟨4, _⟩ => ⟨S32768x2, .i32⟩
  | .hbm, ⟨5, _⟩ => ⟨S32768x1024, .f32⟩
  | .local _ .vmem, ⟨0, _⟩ => ⟨S256x1152, .f32⟩
  | .local _ .vmem, ⟨1, _⟩ => ⟨S256x1152, .f32⟩
  | .local _ .vmem, ⟨2, _⟩ => ⟨S1x8x1024x256, .f32⟩
  | .local _ .vmem, ⟨3, _⟩ => ⟨S1x8x1024x256, .f32⟩
  | .local _ .vmem, ⟨4, _⟩ => ⟨S1x8x256x1024, .f32⟩
  | .local _ .vmem, ⟨5, _⟩ => ⟨S256x1024, .f32⟩
  | .local _ .vmem, ⟨6, _⟩ => ⟨S256x1024, .f32⟩
  | .local _ .vmem, ⟨7, _⟩ => ⟨S8x2x1024x256, .bf16⟩
  | .local _ .vmem, ⟨8, _⟩ => ⟨S8x256x1024, .bf16⟩
  | .local _ .smem, ⟨0, _⟩ => ⟨S240, .i32⟩
  | .local _ .smem, ⟨1, _⟩ => ⟨S240, .i32⟩
  | .local _ .smem, ⟨2, _⟩ => ⟨S240, .i32⟩
  | .local _ .smem, ⟨3, _⟩ => ⟨S240, .i32⟩
  | .local _ .smem, ⟨4, _⟩ => ⟨S240, .i32⟩
  | .local _ .smem, ⟨5, _⟩ => ⟨S240, .i32⟩
  | _, _ => ⟨S32768x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_arg5 : Ref sig .tc := ⟨.smem, 0, rfl⟩
abbrev main_arg6 : Ref sig .tc := ⟨.smem, 1, rfl⟩
abbrev main_arg7 : Ref sig .tc := ⟨.smem, 2, rfl⟩
abbrev main_arg8 : Ref sig .tc := ⟨.smem, 3, rfl⟩
abbrev main_arg9 : Ref sig .tc := ⟨.smem, 4, rfl⟩
abbrev main_arg10 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![240], ![false]⟩

abbrev pre0 : Pipeline.Prefetch sig := ⟨6, ![main_arg5.idx, main_arg6.idx, main_arg7.idx, main_arg8.idx, main_arg9.idx, main_arg10.idx], fun | 0 => main_arg5.names | 1 => main_arg6.names | 2 => main_arg7.names | 3 => main_arg8.names | 4 => main_arg9.names | 5 => main_arg10.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v22 : Index := Scalar.indexCast v1
  ![v22.toNat]
def k0_off3 (i : grid0.Coords) : Fin 1 → Nat :=
  let arg0 : BitVec 32 := BitVec.ofNat 32 (i 0).val
  let v45 : Index := Scalar.indexCast arg0
  ![v45.toNat]
def k0_off4 (i : grid0.Coords) : Fin 1 → Nat :=
  let arg0 : BitVec 32 := BitVec.ofNat 32 (i 0).val
  let v51 : Index := Scalar.indexCast arg0
  ![v51.toNat]
def k0_off5 (v63 : BitVec 32) : Fin 4 → Nat :=
  let c8_i32_18 : BitVec 32 := 8#32
  let c0_i32_19 : BitVec 32 := 0#32
  let v64 : BitVec 1 := Scalar.cmpi .eq c8_i32_18 c0_i32_19
  let c1_i32_20 : BitVec 32 := 1#32
  let v65 : BitVec 32 := Scalar.select v64 c1_i32_20 c8_i32_18
  let v66 : BitVec 32 := Scalar.remsi v63 v65
  let c0_i32_22 : BitVec 32 := 0#32
  let v68 : BitVec 1 := Scalar.cmpi .slt v66 c0_i32_22
  let c0_i32_23 : BitVec 32 := 0#32
  let v69 : BitVec 1 := Scalar.cmpi .slt v65 c0_i32_23
  let v70 : BitVec 1 := Scalar.xori v68 v69
  let c0_i32_21 : BitVec 32 := 0#32
  let v67 : BitVec 1 := Scalar.cmpi .ne v66 c0_i32_21
  let v71 : BitVec 1 := Scalar.andi v70 v67
  let v72 : BitVec 32 := Scalar.addi v66 v65
  let v73 : BitVec 32 := Scalar.select v71 v72 v66
  let v77 : Index := Scalar.indexCast v73
  let c0_25 : Index := 0#32
  let c0_26 : Index := 0#32
  let c0_27 : Index := 0#32
  ![v77.toNat, 0, 0, 0]
def k0_cond2 (v46 : BitVec 32) : BitVec 1 :=
  let c1_i32_15 : BitVec 32 := 1#32
  let v47 : BitVec 1 := Scalar.cmpi .eq v46 c1_i32_15
  let v48 : BitVec 32 := Scalar.extui v47
  let c0_i32_16 : BitVec 32 := 0#32
  let v49 : BitVec 1 := Scalar.cmpi .ne v48 c0_i32_16
  v49

def k0_off6 (v63 : BitVec 32) : Fin 4 → Nat :=
  let c8_i32_18 : BitVec 32 := 8#32
  let c0_i32_19 : BitVec 32 := 0#32
  let v64 : BitVec 1 := Scalar.cmpi .eq c8_i32_18 c0_i32_19
  let c1_i32_20 : BitVec 32 := 1#32
  let v65 : BitVec 32 := Scalar.select v64 c1_i32_20 c8_i32_18
  let v66 : BitVec 32 := Scalar.remsi v63 v65
  let c0_i32_22 : BitVec 32 := 0#32
  let v68 : BitVec 1 := Scalar.cmpi .slt v66 c0_i32_22
  let c0_i32_23 : BitVec 32 := 0#32
  let v69 : BitVec 1 := Scalar.cmpi .slt v65 c0_i32_23
  let v70 : BitVec 1 := Scalar.xori v68 v69
  let c0_i32_21 : BitVec 32 := 0#32
  let v67 : BitVec 1 := Scalar.cmpi .ne v66 c0_i32_21
  let v71 : BitVec 1 := Scalar.andi v70 v67
  let v72 : BitVec 32 := Scalar.addi v66 v65
  let v73 : BitVec 32 := Scalar.select v71 v72 v66
  let v81 : Index := Scalar.indexCast v73
  let c1 : Index := 1#32
  let c0_29 : Index := 0#32
  let c0_30 : Index := 0#32
  ![v81.toNat, 1, 0, 0]
def k0_off7 (v63 : BitVec 32) : Fin 3 → Nat :=
  let c8_i32_18 : BitVec 32 := 8#32
  let c0_i32_19 : BitVec 32 := 0#32
  let v64 : BitVec 1 := Scalar.cmpi .eq c8_i32_18 c0_i32_19
  let c1_i32_20 : BitVec 32 := 1#32
  let v65 : BitVec 32 := Scalar.select v64 c1_i32_20 c8_i32_18
  let v66 : BitVec 32 := Scalar.remsi v63 v65
  let c0_i32_22 : BitVec 32 := 0#32
  let v68 : BitVec 1 := Scalar.cmpi .slt v66 c0_i32_22
  let c0_i32_23 : BitVec 32 := 0#32
  let v69 : BitVec 1 := Scalar.cmpi .slt v65 c0_i32_23
  let v70 : BitVec 1 := Scalar.xori v68 v69
  let c0_i32_21 : BitVec 32 := 0#32
  let v67 : BitVec 1 := Scalar.cmpi .ne v66 c0_i32_21
  let v71 : BitVec 1 := Scalar.andi v70 v67
  let v72 : BitVec 32 := Scalar.addi v66 v65
  let v73 : BitVec 32 := Scalar.select v71 v72 v66
  let v91 : Index := Scalar.indexCast v73
  let c0_32 : Index := 0#32
  let c0_33 : Index := 0#32
  ![v91.toNat, 0, 0]

def k0_chk1 (v46 : BitVec 32) (v63 : BitVec 32) : Prop :=
  (∀ (k0_h2 : k0_cond2 v46 = 1#1), ∀ a, (k0_off5 v63) a + S1x1x1024x256.size a ≤ S8x2x1024x256.size a) ∧
  (∀ (k0_h2 : k0_cond2 v46 = 1#1), ∀ a, (k0_off6 v63) a + S1x1x1024x256.size a ≤ S8x2x1024x256.size a) ∧
  (∀ (k0_h2 : k0_cond2 v46 = 1#1), ∀ a, (k0_off7 v63) a + S1x256x1024.size a ≤ S8x256x1024.size a)
theorem k0_off5_inb : ∀ (v46 : BitVec 32) (v63 : BitVec 32) (k0_hw1 : k0_chk1 v46 v63), ∀ (k0_h2 : k0_cond2 v46 = 1#1), ∀ a, (k0_off5 v63) a + S1x1x1024x256.size a ≤ S8x2x1024x256.size a := fun v46 v63 k0_hw1 k0_h2 => k0_hw1.1 k0_h2
theorem k0_off6_inb : ∀ (v46 : BitVec 32) (v63 : BitVec 32) (k0_hw1 : k0_chk1 v46 v63), ∀ (k0_h2 : k0_cond2 v46 = 1#1), ∀ a, (k0_off6 v63) a + S1x1x1024x256.size a ≤ S8x2x1024x256.size a := fun v46 v63 k0_hw1 k0_h2 => k0_hw1.2.1 k0_h2
theorem k0_off7_inb : ∀ (v46 : BitVec 32) (v63 : BitVec 32) (k0_hw1 : k0_chk1 v46 v63), ∀ (k0_h2 : k0_cond2 v46 = 1#1), ∀ a, (k0_off7 v63) a + S1x256x1024.size a ≤ S8x256x1024.size a := fun v46 v63 k0_hw1 k0_h2 => k0_hw1.2.2 k0_h2

def k0_off8 (i : grid0.Coords) : Fin 1 → Nat :=
  let arg0 : BitVec 32 := BitVec.ofNat 32 (i 0).val
  let v95 : Index := Scalar.indexCast arg0
  ![v95.toNat]
def k0_off9 (v96 : BitVec 32) : Fin 4 → Nat :=
  let c8_i32_35 : BitVec 32 := 8#32
  let c0_i32_36 : BitVec 32 := 0#32
  let v97 : BitVec 1 := Scalar.cmpi .eq c8_i32_35 c0_i32_36
  let c1_i32_37 : BitVec 32 := 1#32
  let v98 : BitVec 32 := Scalar.select v97 c1_i32_37 c8_i32_35
  let v99 : BitVec 32 := Scalar.remsi v96 v98
  let c0_i32_39 : BitVec 32 := 0#32
  let v101 : BitVec 1 := Scalar.cmpi .slt v99 c0_i32_39
  let c0_i32_40 : BitVec 32 := 0#32
  let v102 : BitVec 1 := Scalar.cmpi .slt v98 c0_i32_40
  let v103 : BitVec 1 := Scalar.xori v101 v102
  let c0_i32_38 : BitVec 32 := 0#32
  let v100 : BitVec 1 := Scalar.cmpi .ne v99 c0_i32_38
  let v104 : BitVec 1 := Scalar.andi v103 v100
  let v105 : BitVec 32 := Scalar.addi v99 v98
  let v106 : BitVec 32 := Scalar.select v104 v105 v99
  let v110 : Index := Scalar.indexCast v106
  let c0_43 : Index := 0#32
  let c0_44 : Index := 0#32
  let c0_45 : Index := 0#32
  ![v110.toNat, 0, 0, 0]

def k0_off10 (v96 : BitVec 32) : Fin 4 → Nat :=
  let c8_i32_35 : BitVec 32 := 8#32
  let c0_i32_36 : BitVec 32 := 0#32
  let v97 : BitVec 1 := Scalar.cmpi .eq c8_i32_35 c0_i32_36
  let c1_i32_37 : BitVec 32 := 1#32
  let v98 : BitVec 32 := Scalar.select v97 c1_i32_37 c8_i32_35
  let v99 : BitVec 32 := Scalar.remsi v96 v98
  let c0_i32_39 : BitVec 32 := 0#32
  let v101 : BitVec 1 := Scalar.cmpi .slt v99 c0_i32_39
  let c0_i32_40 : BitVec 32 := 0#32
  let v102 : BitVec 1 := Scalar.cmpi .slt v98 c0_i32_40
  let v103 : BitVec 1 := Scalar.xori v101 v102
  let c0_i32_38 : BitVec 32 := 0#32
  let v100 : BitVec 1 := Scalar.cmpi .ne v99 c0_i32_38
  let v104 : BitVec 1 := Scalar.andi v103 v100
  let v105 : BitVec 32 := Scalar.addi v99 v98
  let v106 : BitVec 32 := Scalar.select v104 v105 v99
  let v114 : Index := Scalar.indexCast v106
  let c1_47 : Index := 1#32
  let c0_48 : Index := 0#32
  let c0_49 : Index := 0#32
  ![v114.toNat, 1, 0, 0]
def k0_off11 (v96 : BitVec 32) : Fin 3 → Nat :=
  let c8_i32_35 : BitVec 32 := 8#32
  let c0_i32_36 : BitVec 32 := 0#32
  let v97 : BitVec 1 := Scalar.cmpi .eq c8_i32_35 c0_i32_36
  let c1_i32_37 : BitVec 32 := 1#32
  let v98 : BitVec 32 := Scalar.select v97 c1_i32_37 c8_i32_35
  let v99 : BitVec 32 := Scalar.remsi v96 v98
  let c0_i32_39 : BitVec 32 := 0#32
  let v101 : BitVec 1 := Scalar.cmpi .slt v99 c0_i32_39
  let c0_i32_40 : BitVec 32 := 0#32
  let v102 : BitVec 1 := Scalar.cmpi .slt v98 c0_i32_40
  let v103 : BitVec 1 := Scalar.xori v101 v102
  let c0_i32_38 : BitVec 32 := 0#32
  let v100 : BitVec 1 := Scalar.cmpi .ne v99 c0_i32_38
  let v104 : BitVec 1 := Scalar.andi v103 v100
  let v105 : BitVec 32 := Scalar.addi v99 v98
  let v106 : BitVec 32 := Scalar.select v104 v105 v99
  let v124 : Index := Scalar.indexCast v106
  let c0_51 : Index := 0#32
  let c0_52 : Index := 0#32
  ![v124.toNat, 0, 0]

def k0_chk2 (v46 : BitVec 32) (v96 : BitVec 32) : Prop :=
  (∀ (k0_h2 : k0_cond2 v46 = 1#1), ∀ a, (k0_off9 v96) a + S1x1x1024x256.size a ≤ S8x2x1024x256.size a) ∧
  (∀ (k0_h2 : k0_cond2 v46 = 1#1), ∀ a, (k0_off10 v96) a + S1x1x1024x256.size a ≤ S8x2x1024x256.size a) ∧
  (∀ (k0_h2 : k0_cond2 v46 = 1#1), ∀ a, (k0_off11 v96) a + S1x256x1024.size a ≤ S8x256x1024.size a)
theorem k0_off9_inb : ∀ (v46 : BitVec 32) (v96 : BitVec 32) (k0_hw2 : k0_chk2 v46 v96), ∀ (k0_h2 : k0_cond2 v46 = 1#1), ∀ a, (k0_off9 v96) a + S1x1x1024x256.size a ≤ S8x2x1024x256.size a := fun v46 v96 k0_hw2 k0_h2 => k0_hw2.1 k0_h2
theorem k0_off10_inb : ∀ (v46 : BitVec 32) (v96 : BitVec 32) (k0_hw2 : k0_chk2 v46 v96), ∀ (k0_h2 : k0_cond2 v46 = 1#1), ∀ a, (k0_off10 v96) a + S1x1x1024x256.size a ≤ S8x2x1024x256.size a := fun v46 v96 k0_hw2 k0_h2 => k0_hw2.2.1 k0_h2
theorem k0_off11_inb : ∀ (v46 : BitVec 32) (v96 : BitVec 32) (k0_hw2 : k0_chk2 v46 v96), ∀ (k0_h2 : k0_cond2 v46 = 1#1), ∀ a, (k0_off11 v96) a + S1x256x1024.size a ≤ S8x256x1024.size a := fun v46 v96 k0_hw2 k0_h2 => k0_hw2.2.2 k0_h2

def k0_off12 (i : grid0.Coords) : Fin 1 → Nat :=
  let arg0 : BitVec 32 := BitVec.ofNat 32 (i 0).val
  let v129 : Index := Scalar.indexCast arg0
  ![v129.toNat]
def k0_off13 (i : grid0.Coords) : Fin 1 → Nat :=
  let arg0 : BitVec 32 := BitVec.ofNat 32 (i 0).val
  let v134 : Index := Scalar.indexCast arg0
  ![v134.toNat]
def k0_cond3 (v130 : BitVec 32) : BitVec 1 :=
  let c0_i32_54 : BitVec 32 := 0#32
  let v131 : BitVec 1 := Scalar.cmpi .eq v130 c0_i32_54
  let v132 : BitVec 32 := Scalar.extui v131
  let c0_i32_55 : BitVec 32 := 0#32
  let v133 : BitVec 1 := Scalar.cmpi .ne v132 c0_i32_55
  v133

def k0_cond4 (v135 : BitVec 32) : BitVec 1 :=
  let c0_i32_56 : BitVec 32 := 0#32
  let v136 : BitVec 1 := Scalar.cmpi .ne v135 c0_i32_56
  let v137 : BitVec 32 := Scalar.extui v136
  let c0_i32_57 : BitVec 32 := 0#32
  let v138 : BitVec 1 := Scalar.cmpi .ne v137 c0_i32_57
  v138

def cc0_transform_0 (k0_off1_inb : ∀ i : grid0.Coords, ∀ a, (k0_off1 i) a + S1.size a ≤ S240.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S240) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S240.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S240) ![v0.toNat] S1.size (k0_off1_inb i)) numel1_S1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  let c0_i32_7 : BitVec 32 := 0#32
  ![c0_i32_4.toNat, v18.toNat, c0_i32_5.toNat, c0_i32_6.toNat]

def cc0_transform_2 (k0_off1_inb : ∀ i : grid0.Coords, ∀ a, (k0_off1 i) a + S1.size a ≤ S240.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S240) ![v0.toNat] S1.size (k0_off1_inb i)) numel1_S1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  let c0_i32_7 : BitVec 32 := 0#32
  ![c0_i32_4.toNat, v18.toNat, c0_i32_5.toNat, c0_i32_6.toNat]

def cc0_transform_3 (k0_off1_inb : ∀ i : grid0.Coords, ∀ a, (k0_off1 i) a + S1.size a ≤ S240.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S240) ![v0.toNat] S1.size (k0_off1_inb i)) numel1_S1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  let c0_i32_7 : BitVec 32 := 0#32
  ![c0_i32_4.toNat, v18.toNat, c0_i32_5.toNat, c0_i32_6.toNat]

def cc0_transform_4 (k0_off1_inb : ∀ i : grid0.Coords, ∀ a, (k0_off1 i) a + S1.size a ≤ S240.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S240) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefIdeal.lean ====
abbrev S32768x1152 : Shape := ⟨2, ![32768, 1152]⟩
abbrev S2x32x1024x256 : Shape := ⟨4, ![2, 32, 1024, 256]⟩
abbrev S2x32x256x1024 : Shape := ⟨4, ![2, 32, 256, 1024]⟩
abbrev S32768x2 : Shape := ⟨2, ![32768, 2]⟩
abbrev S240 : Shape := ⟨1, ![240]⟩
abbrev S32768x1024 : Shape := ⟨2, ![32768, 1024]⟩
abbrev S32768x32 : Shape := ⟨2, ![32768, 32]⟩
abbrev S32768x1 : Shape := ⟨2, ![32768, 1]⟩
abbrev S_ : Shape := ⟨0, ![]⟩
abbrev S1x32x1024x256 : Shape := ⟨4, ![1, 32, 1024, 256]⟩
abbrev S32x1024x256 : Shape := ⟨3, ![32, 1024, 256]⟩
abbrev S32768x32x256 : Shape := ⟨3, ![32768, 32, 256]⟩
abbrev S1x32x256x1024 : Shape := ⟨4, ![1, 32, 256, 1024]⟩
abbrev S32x256x1024 : Shape := ⟨3, ![32, 256, 1024]⟩
abbrev S32x32768x1024 : Shape := ⟨3, ![32, 32768, 1024]⟩
abbrev S32x32768 : Shape := ⟨2, ![32, 32768]⟩
abbrev S32x32768x1 : Shape := ⟨3, ![32, 32768, 1]⟩

abbrev nBuf : Space → Nat
  | .hbm => 57
  | .vmem => 0
  | .smem => 0
  | _ => 0

abbrev bufTy : (tb : Table) → Fin (tcTables nBuf tb) → BufTy
  | .hbm, ⟨0, _⟩ => ⟨S32768x1152, .f32⟩
  | .hbm, ⟨1, _⟩ => ⟨S2x32x1024x256, .f32⟩
  | .hbm, ⟨2, _⟩ => ⟨S2x32x1024x256, .f32⟩
  | .hbm, ⟨3, _⟩ => ⟨S2x32x256x1024, .f32⟩
  | .hbm, ⟨4, _⟩ => ⟨S32768x2, .i32⟩
  | .hbm, ⟨5, _⟩ => ⟨S240, .i32⟩
  | .hbm, ⟨6, _⟩ => ⟨S240, .i32⟩
  | .hbm, ⟨7, _⟩ => ⟨S240, .i32⟩
  | .hbm, ⟨8, _⟩ => ⟨S240, .i32⟩
  | .hbm, ⟨9, _⟩ => ⟨S240, .i32⟩
  | .hbm, ⟨10, _⟩ => ⟨S240, .i32⟩
  | .hbm, ⟨11, _⟩ => ⟨S32768x1024, .f32⟩
  | .hbm, ⟨12, _⟩ => ⟨S32768x32, .i32⟩
  | .hbm, ⟨13, _⟩ => ⟨S32768x1, .i32⟩
  | .hbm, ⟨14, _⟩ => ⟨S32768x32, .i32⟩
  | .hbm, ⟨15, _⟩ => ⟨S32768x32, .i1⟩
  | .hbm, ⟨16, _⟩ => ⟨S32768x1, .f32⟩
  | .hbm, ⟨17, _⟩ => ⟨S_, .f32⟩
  | .hbm, ⟨18, _⟩ => ⟨S_, .f32⟩
  | .hbm, ⟨19, _⟩ => ⟨S32768x32, .f32⟩
  | .hbm, ⟨20, _⟩ => ⟨S32768x32, .f32⟩
  | .hbm, ⟨21, _⟩ => ⟨S32768x32, .f32⟩
  | .hbm, ⟨22, _⟩ => ⟨S32768x1, .i32⟩
  | .hbm, ⟨23, _⟩ => ⟨S32768x32, .i32⟩
  | .hbm, ⟨24, _⟩ => ⟨S32768x32, .i1⟩
  | .hbm, ⟨25, _⟩ => ⟨S32768x1, .f32⟩
  | .hbm, ⟨26, _⟩ => ⟨S_, .f32⟩
  | .hbm, ⟨27, _⟩ => ⟨S_, .f32⟩
  | .hbm, ⟨28, _⟩ => ⟨S32768x32, .f32⟩
  | .hbm, ⟨29, _⟩ => ⟨S32768x32, .f32⟩
  | .hbm, ⟨30, _⟩ => ⟨S32768x32, .f32⟩
  | .hbm, ⟨31, _⟩ => ⟨S32768x32, .f32⟩
  | .hbm, ⟨32, _⟩ => ⟨S1x32x1024x256, .f32⟩
  | .hbm, ⟨33, _⟩ => ⟨S32x1024x256, .f32⟩
  | .hbm, ⟨34, _⟩ => ⟨S32768x32x256, .f32⟩
  | .hbm, ⟨35, _⟩ => ⟨S1x32x1024x256, .f32⟩
  | .hbm, ⟨36, _⟩ => ⟨S32x1024x256, .f32⟩
  | .hbm, ⟨37, _⟩ => ⟨S32768x32x256, .f32⟩
  | .hbm, ⟨38, _⟩ => ⟨S32768x32x256, .f32⟩
  | .hbm, ⟨39, _⟩ => ⟨S32768x32x256, .f32⟩
  | .hbm, ⟨40, _⟩ => ⟨S_, .f32⟩
  | .hbm, ⟨41, _⟩ => ⟨S32768x32x256, .f32⟩
  | .hbm, ⟨42, _⟩ => ⟨S32768x32x256, .f32⟩
  | .hbm, ⟨43, _⟩ => ⟨S_, .f32⟩
  | .hbm, ⟨44, _⟩ => ⟨S32768x32x256, .f32⟩
  | .hbm, ⟨45, _⟩ => ⟨S32768x32x256, .f32⟩
  | .hbm, ⟨46, _⟩ => ⟨S32768x32x256, .f32⟩
  | .hbm, ⟨47, _⟩ => ⟨S32768x32x256, .f32⟩
  | .hbm, ⟨48, _⟩ => ⟨S1x32x256x1024, .f32⟩
  | .hbm, ⟨49, _⟩ => ⟨S32x256x1024, .f32⟩
  | .hbm, ⟨50, _⟩ => ⟨S32x32768x1024, .f32⟩
  | .hbm, ⟨51, _⟩ => ⟨S32x32768, .f32⟩
  | .hbm, ⟨52, _⟩ => ⟨S32x32768x1, .f32⟩
  | .hbm, ⟨53, _⟩ => ⟨S32x32768x1024, .f32⟩
  | .hbm, ⟨54, _⟩ => ⟨S32x32768x1024, .f32⟩
  | .hbm, ⟨55, _⟩ => ⟨S_, .f32⟩
  | .hbm, ⟨56, _⟩ => ⟨S32768x1024, .f32⟩
  | _, _ => ⟨S32768x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_3 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S8x1024 : Shape := ⟨2, ![8, 1024]⟩
abbrev S1024x1024 : Shape := ⟨2, ![1024, 1024]⟩
abbrev S32768x1024 : Shape := ⟨2, ![32768, 1024]⟩
abbrev S1x1024 : Shape := ⟨2, ![1, 1024]⟩
abbrev S8x1x1024 : Shape := ⟨3, ![8, 1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x1024, .f32⟩
  | .hbm, ⟨5, _⟩ => ⟨S32768x1024, .f32⟩
  | .hbm, ⟨6, _⟩ => ⟨S1x1024, .f32⟩
  | .hbm, ⟨7, _⟩ => ⟨S8x1x1024, .f32⟩
  | .hbm, ⟨8, _⟩ => ⟨S8x1x1024, .f32⟩
  | .hbm, ⟨9, _⟩ => ⟨S1024x1024, .bf16⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Ref2Ideal.lean ====
abbrev S8x4096x1024 : Shape := ⟨3, ![8, 4096, 1024]⟩
abbrev S1024 : Shape := ⟨1, ![1024]⟩
abbrev S8x1024 : Shape := ⟨2, ![8, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S32768x1024 : Shape := ⟨2, ![32768, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x1x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x4096x1024, .f32⟩
  | .hbm, ⟨26, _⟩ => ⟨S8x4096x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x2048 : Shape := ⟨2, ![1024, 2048]⟩
abbrev S8x1024 : Shape := ⟨2, ![8, 1024]⟩
abbrev S32768x1024 : Shape := ⟨2, ![32768, 1024]⟩
abbrev S1x1024 : Shape := ⟨2, ![1, 1024]⟩
abbrev S8x1x1024 : Shape := ⟨3, ![8, 1, 1024]⟩
abbrev S512x1024 : Shape := ⟨2, ![512, 1024]⟩
abbrev S1x1x1024 : Shape := ⟨3, ![1, 1, 1024]⟩
abbrev S512x2048 : Shape := ⟨2, ![512, 2048]⟩

abbrev nBuf : Space → Nat
  | .hbm => 13
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S1024, .f32⟩
  | .hbm, ⟨4, _⟩ => ⟨S1024x2048, .f32⟩
  | .hbm, ⟨5, _⟩ => ⟨S8x1024, .f32⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S1x1024, .f32⟩
  | .hbm, ⟨10, _⟩ => ⟨S1024x2048, .bf16⟩
  | .hbm, ⟨11, _⟩ => ⟨S8x1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x2048, .bf16⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Ref3Ideal.lean ====
abbrev S8x4096x1024 : Shape := ⟨3, ![8, 4096, 1024]⟩
abbrev S1024 : Shape := ⟨1, ![1024]⟩
abbrev S1024x2048 : Shape := ⟨2, ![1024, 2048]⟩
abbrev S8x1024 : Shape := ⟨2, ![8, 1024]⟩
abbrev S1x1x1024 : Shape := ⟨3, ![1, 1, 1024]⟩
abbrev S_ : Shape := ⟨0, ![]⟩
abbrev S8x4096x2048 : Shape := ⟨3, ![8, 4096, 2048]⟩
abbrev S8x1x1024 : Shape := ⟨3, ![8, 1, 1024]⟩
abbrev S32768x1024 : Shape := ⟨2, ![32768, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S1024, .f32⟩
  | .hbm, ⟨4, _⟩ => ⟨S1024x2048, .f32⟩
  | .hbm, ⟨5, _⟩ => ⟨S8x1024, .f32⟩
  | .hbm, ⟨6, _⟩ => ⟨S1x1x1024, .f32⟩
  | .hbm, ⟨7, _⟩ => ⟨S8x4096x1024, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S_, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S_, .f32⟩
  | .hbm, ⟨21, _⟩ => ⟨S8x4096x1024, .f32⟩
  | .hbm, ⟨22, _⟩ => ⟨S8x4096x1024, .f32⟩
  | .hbm, ⟨23, _⟩ => ⟨S_, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x2048, .f32⟩
  | .hbm, ⟨28, _⟩ => ⟨S8x4096x1024, .f32⟩
  | .hbm, ⟨29, _⟩ => ⟨S8x4096x1024, .f32⟩
  | .hbm, ⟨30, _⟩ => ⟨S8x1x1024, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024 : Shape := ⟨1, ![1024]⟩
abbrev S8x1024 : Shape := ⟨2, ![8, 1024]⟩
abbrev S1024x2048 : Shape := ⟨2, ![1024, 2048]⟩
abbrev S64 : Shape := ⟨1, ![64]⟩
abbrev S32768x1024 : Shape := ⟨2, ![32768, 1024]⟩
abbrev S1x1024 : Shape := ⟨2, ![1, 1024]⟩
abbrev S8x1x1024 : Shape := ⟨3, ![8, 1, 1024]⟩
abbrev S1024x1024 : Shape := ⟨2, ![1024, 1024]⟩
abbrev S1x64 : Shape := ⟨2, ![1, 64]⟩
abbrev S16x64 : Shape := ⟨2, ![16, 64]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x128 : Shape := ⟨2, ![512, 128]⟩

abbrev nBuf : Space → Nat
  | .hbm => 20
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x2048, .f32⟩
  | .hbm, ⟨5, _⟩ => ⟨S64, .f32⟩
  | .hbm, ⟨6, _⟩ => ⟨S32768x1024, .f32⟩
  | .hbm, ⟨7, _⟩ => ⟨S1x1024, .f32⟩
  | .hbm, ⟨8, _⟩ => ⟨S8x1x1024, .f32⟩
  | .hbm, ⟨9, _⟩ => ⟨S8x1x1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1x64, .f32⟩
  | .hbm, ⟨15, _⟩ => ⟨S16x64, .f32⟩
  | .hbm, ⟨16, _⟩ => ⟨S1024, .f32⟩
  | .hbm, ⟨17, _⟩ => ⟨S1x1024, .f32⟩
  | .hbm, ⟨18, _⟩ => ⟨S32768x1024, .bf16⟩
  | .hbm, ⟨19, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Ref4Ideal.lean ====
abbrev S8x4096x1024 : Shape := ⟨3, ![8, 4096, 1024]⟩
abbrev S1024 : Shape := ⟨1, ![1024]⟩
abbrev S8x1024 : Shape := ⟨2, ![8, 1024]⟩
abbrev S1024x2048 : Shape := ⟨2, ![1024, 2048]⟩
abbrev S64 : Shape := ⟨1, ![64]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x2048 : Shape := ⟨3, ![8, 4096, 2048]⟩
abbrev S8x4096x16x64 : Shape := ⟨4, ![8, 4096, 16, 64]⟩
abbrev S8x4096x16 : Shape := ⟨3, ![8, 4096, 16]⟩
abbrev S8x4096x16x1 : Shape := ⟨4, ![8, 4096, 16, 1]⟩
abbrev S1x1x1x64 : Shape := ⟨4, ![1, 1, 1, 64]⟩
abbrev S32768x1024 : Shape := ⟨2, ![32768, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x2048, .f32⟩
  | .hbm, ⟨5, _⟩ => ⟨S64, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S8x1x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x4096x1024, .f32⟩
  | .hbm, ⟨27, _⟩ => ⟨S8x4096x1024, .f32⟩
  | .hbm, ⟨28, _⟩ => ⟨S8x1x1024, .f32⟩
  | .hbm, ⟨29, _⟩ => ⟨S8x4096x1024, .f32⟩
  | .hbm, ⟨30, _⟩ => ⟨S8x4096x1024, .f32⟩
  | .hbm, ⟨31, _⟩ => ⟨S8x4096x2048, .f32⟩
  | .hbm, ⟨32, _⟩ => ⟨S8x4096x1024, .f32⟩
  | .hbm, ⟨33, _⟩ => ⟨S8x4096x1024, .f32⟩
  | .hbm, ⟨34, _⟩ => ⟨S8x4096x16x64, .f32⟩
  | .hbm, ⟨35, _⟩ => ⟨S8x4096x16x64, .f32⟩
  | .hbm, ⟨36, _⟩ => ⟨S_, .f32⟩
  | .hbm, ⟨37, _⟩ => ⟨S8x4096x16, .f32⟩
  | .hbm, ⟨38, _⟩ => ⟨S8x4096x16x1, .f32⟩
  | .hbm, ⟨39, _⟩ => ⟨S_, .f32⟩
  | .hbm, ⟨40, _⟩ => ⟨S8x4096x16x1, .f32⟩
  | .hbm, ⟨41, _⟩ => ⟨S8x4096x16x1, .f32⟩
  | .hbm, ⟨42, _⟩ => ⟨S_, .f32⟩
  | .hbm, ⟨43, _⟩ => ⟨S8x4096x16x1, .f32⟩
  | .hbm, ⟨44, _⟩ => ⟨S8x4096x16x1, .f32⟩
  | .hbm, ⟨45, _⟩ => ⟨S8x4096x16x1, .f32⟩
  | .hbm, ⟨46, _⟩ => ⟨S8x4096x16x64, .f32⟩
  | .hbm, ⟨47, _⟩ => ⟨S8x4096x16x64, .f32⟩
  | .hbm, ⟨48, _⟩ => ⟨S1x1x1x64, .f32⟩
  | .hbm, ⟨49, _⟩ => ⟨S8x4096x16x64, .f32⟩
  | .hbm, ⟨50, _⟩ => ⟨S8x4096x16x64, .f32⟩
  | .hbm, ⟨51, _⟩ => ⟨S_, .f32⟩
  | .hbm, ⟨52, _⟩ => ⟨S8x4096x16x64, .f32⟩
  | .hbm, ⟨53, _⟩ => ⟨S8x4096x16x64, .f32⟩
  | .hbm, ⟨54, _⟩ => ⟨S8x4096x16x64, .bf16⟩
  | .hbm, ⟨55, _⟩ => ⟨S32768x1024, .bf16⟩
  | .hbm, ⟨56, _⟩ => ⟨S8x4096x1024, .bf16⟩
  | .hbm, ⟨57, _⟩ => ⟨S32768x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel5.lean ====
abbrev S32768x1024 : Shape := ⟨2, ![32768, 1024]⟩
abbrev S8x4096x1024 : Shape := ⟨3, ![8, 4096, 1024]⟩
abbrev S1024x1024 : Shape := ⟨2, ![1024, 1024]⟩
abbrev S8x1024 : Shape := ⟨2, ![8, 1024]⟩
abbrev S8x1x1024 : Shape := ⟨3, ![8, 1, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 9
  | .vmem => 11
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S8x4096x1024, .f32⟩
  | .hbm, ⟨3, _⟩ => ⟨S1024x1024, .f32⟩
  | .hbm, ⟨4, _⟩ => ⟨S8x1024, .f32⟩
  | .hbm, ⟨5, _⟩ => ⟨S32768x1024, .f32⟩
  | .hbm, ⟨6, _⟩ => ⟨S1024x1024, .bf16⟩
  | .hbm, ⟨7, _⟩ => ⟨S8x1x1024, .f32⟩
  | .hbm, ⟨8, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Ref5Ideal.lean ====
abbrev S32768x1024 : Shape := ⟨2, ![32768, 1024]⟩
abbrev S8x4096x1024 : Shape := ⟨3, ![8, 4096, 1024]⟩
abbrev S1024x1024 : Shape := ⟨2, ![1024, 1024]⟩
abbrev S8x1024 : Shape := ⟨2, ![8, 1024]⟩
abbrev S_ : Shape := ⟨0, ![]⟩
abbrev S8x1x1024 : Shape := ⟨3, ![8, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S8x4096x1024, .f32⟩
  | .hbm, ⟨3, _⟩ => ⟨S1024x1024, .f32⟩
  | .hbm, ⟨4, _⟩ => ⟨S8x1024, .f32⟩
  | .hbm, ⟨5, _⟩ => ⟨S32768x1024, .f32⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S_, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S8x1x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel6.lean ====
abbrev S8x4096x1024 : Shape := ⟨3, ![8, 4096, 1024]⟩
abbrev S1024 : Shape := ⟨1, ![1024]⟩
abbrev S8x1024 : Shape := ⟨2, ![8, 1024]⟩
abbrev S1024x2064 : Shape := ⟨2, ![1024, 2064]⟩
abbrev S16 : Shape := ⟨1, ![16]⟩
abbrev S64 : Shape := ⟨1, ![64]⟩
abbrev S384x256 : Shape := ⟨2, ![384, 256]⟩
abbrev S1x256 : Shape := ⟨2, ![1, 256]⟩
abbrev S_ : Shape := ⟨0, ![]⟩
abbrev S1024x128 : Shape := ⟨2, ![1024, 128]⟩
abbrev S1024x16 : Shape := ⟨2, ![1024, 16]⟩
abbrev S1 : Shape := ⟨1, ![1]⟩
abbrev S1x128 : Shape := ⟨2, ![1, 128]⟩
abbrev S2 : Shape := ⟨1, ![2]⟩
abbrev S32768x1024 : Shape := ⟨2, ![32768, 1024]⟩
abbrev S1x1024 : Shape := ⟨2, ![1, 1024]⟩
abbrev S8x1x1024 : Shape := ⟨3, ![8, 1, 1024]⟩
abbrev S1024x1024 : Shape := ⟨2, ![1024, 1024]⟩
abbrev S1x64 : Shape := ⟨2, ![1, 64]⟩
abbrev S16x64 : Shape := ⟨2, ![16, 64]⟩
abbrev S1024x256 : Shape := ⟨2, ![1024, 256]⟩
abbrev S8192x4096 : Shape := ⟨2, ![8192, 4096]⟩
abbrev S32768x128 : Shape := ⟨2, ![32768, 128]⟩
abbrev S512x1024 : Shape := ⟨2, ![512, 1024]⟩
abbrev S1x1x1024 : Shape := ⟨3, ![1, 1, 1024]⟩
abbrev S1024x512 : Shape := ⟨2, ![1024, 512]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S512x384 : Shape := ⟨2, ![512, 384]⟩

abbrev nBuf : Space → Nat
  | .hbm => 45
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x2064, .f32⟩
  | .hbm, ⟨5, _⟩ => ⟨S16, .f32⟩
  | .hbm, ⟨6, _⟩ => ⟨S64, .f32⟩
  | .hbm, ⟨7, _⟩ => ⟨S384x256, .bf16⟩
  | .hbm, ⟨8, _⟩ => ⟨S1x256, .f32⟩
  | .hbm, ⟨9, _⟩ => ⟨S_, .f32⟩
  | .hbm, ⟨10, _⟩ => ⟨S1024x128, .f32⟩
  | .hbm, ⟨11, _⟩ => ⟨S1024x16, .f32⟩
  | .hbm, ⟨12, _⟩ => ⟨S_, .i32⟩
  | .hbm, ⟨13, _⟩ => ⟨S1, .i32⟩
  | .hbm, ⟨14, _⟩ => ⟨S1024x128, .f32⟩
  | .hbm, ⟨15, _⟩ => ⟨S_, .f32⟩
  | .hbm, ⟨16, _⟩ => ⟨S1x128, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S1x128, .f32⟩
  | .hbm, ⟨23, _⟩ => ⟨S32768x1024, .f32⟩
  | .hbm, ⟨24, _⟩ => ⟨S1x1024, .f32⟩
  | .hbm, ⟨25, _⟩ => ⟨S8x1x1024, .f32⟩
  | .hbm, ⟨26, _⟩ => ⟨S8x1x1024, .f32⟩
  | .hbm, ⟨27, _⟩ => ⟨S1024x1024, .f32⟩
  | .hbm, ⟨28, _⟩ => ⟨S1024x1024, .bf16⟩
  | .hbm, ⟨29, _⟩ => ⟨S1024x1024, .f32⟩
  | .hbm, ⟨30, _⟩ => ⟨S1024x1024, .f32⟩
  | .hbm, ⟨31, _⟩ => ⟨S1024x1024, .bf16⟩
  | .hbm, ⟨32, _⟩ => ⟨S1x64, .f32⟩
  | .hbm, ⟨33, _⟩ => ⟨S16x64, .f32⟩
  | .hbm, ⟨34, _⟩ => ⟨S1024, .f32⟩
  | .hbm, ⟨35, _⟩ => ⟨S1x1024, .f32⟩
  | .hbm, ⟨36, _⟩ => ⟨S1024x128, .bf16⟩
  | .hbm, ⟨37, _⟩ => ⟨S1024x128, .f32⟩
  | .hbm, ⟨38, _⟩ => ⟨S1024x128, .f32⟩
  | .hbm, ⟨39, _⟩ => ⟨S1024x128, .bf16⟩
  | .hbm, ⟨40, _⟩ => ⟨S1024x256, .bf16⟩
  | .hbm, ⟨41, _⟩ => ⟨S32768x1024, .bf16⟩
  | .hbm, ⟨42, _⟩ => ⟨S8192x4096, .bf16⟩
  | .hbm, ⟨43, _⟩ => ⟨S32768x128, .bf16⟩
  | .hbm, ⟨44, _⟩ => ⟨S32768x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x256, .bf16⟩
  | .local _ .vmem, ⟨10, _⟩ => ⟨S1x128, .f32⟩
  | .local _ .vmem, ⟨11, _⟩ => ⟨S1x1024, .f32⟩
  | .local _ .vmem, ⟨12, _⟩ => ⟨S384x256, .bf16⟩
  | .local _ .vmem, ⟨13, _⟩ => ⟨S1x256, .f32⟩
  | .local _ .vmem, ⟨14, _⟩ => ⟨S512x1024, .bf16⟩
  | .local _ .vmem, ⟨15, _⟩ => ⟨S512x1024, .bf16⟩
  | .local _ .vmem, ⟨16, _⟩ => ⟨S1024x512, .bf16⟩
  | .local _ .vmem, ⟨17, _⟩ => ⟨S1024x512, .bf16⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | .local _ .vmem, ⟨21, _⟩ => ⟨S512x128, .bf16⟩
  | .local _ .vmem, ⟨22, _⟩ => ⟨S1x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_c_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27_0 : Ref sig .tc := ⟨.hbm, 41, rfl⟩
abbrev main_v27_1 : Ref sig .tc := ⟨.hbm, 42, rfl⟩
abbrev main_v27_2 : Ref sig .tc := ⟨.hbm, 43, rfl⟩
abbrev main_v27_3 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S384x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Ref6Ideal.lean ====
abbrev S8x4096x1024 : Shape := ⟨3, ![8, 4096, 1024]⟩
abbrev S1024 : Shape := ⟨1, ![1024]⟩
abbrev S8x1024 : Shape := ⟨2, ![8, 1024]⟩
abbrev S1024x2064 : Shape := ⟨2, ![1024, 2064]⟩
abbrev S16 : Shape := ⟨1, ![16]⟩
abbrev S64 : Shape := ⟨1, ![64]⟩
abbrev S384x256 : Shape := ⟨2, ![384, 256]⟩
abbrev S1x256 : Shape := ⟨2, ![1, 256]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x2064 : Shape := ⟨3, ![8, 4096, 2064]⟩
abbrev S8x4096x16 : Shape := ⟨3, ![8, 4096, 16]⟩
abbrev S8x4096x16x64 : Shape := ⟨4, ![8, 4096, 16, 64]⟩
abbrev S8x4096x16x1 : Shape := ⟨4, ![8, 4096, 16, 1]⟩
abbrev S1x1x1x64 : Shape := ⟨4, ![1, 1, 1, 64]⟩
abbrev S32768x1024 : Shape := ⟨2, ![32768, 1024]⟩
abbrev S8x1024x4096 : Shape := ⟨3, ![8, 1024, 4096]⟩
abbrev S8192x4096 : Shape := ⟨2, ![8192, 4096]⟩

abbrev nBuf : Space → Nat
  | .hbm => 60
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x2064, .f32⟩
  | .hbm, ⟨5, _⟩ => ⟨S16, .f32⟩
  | .hbm, ⟨6, _⟩ => ⟨S64, .f32⟩
  | .hbm, ⟨7, _⟩ => ⟨S384x256, .bf16⟩
  | .hbm, ⟨8, _⟩ => ⟨S1x256, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S8x1x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x4096x1024, .f32⟩
  | .hbm, ⟨30, _⟩ => ⟨S8x4096x1024, .f32⟩
  | .hbm, ⟨31, _⟩ => ⟨S8x1x1024, .f32⟩
  | .hbm, ⟨32, _⟩ => ⟨S8x4096x1024, .f32⟩
  | .hbm, ⟨33, _⟩ => ⟨S8x4096x1024, .f32⟩
  | .hbm, ⟨34, _⟩ => ⟨S8x4096x2064, .f32⟩
  | .hbm, ⟨35, _⟩ => ⟨S8x4096x1024, .f32⟩
  | .hbm, ⟨36, _⟩ => ⟨S8x4096x1024, .f32⟩
  | .hbm, ⟨37, _⟩ => ⟨S8x4096x16, .f32⟩
  | .hbm, ⟨38, _⟩ => ⟨S8x4096x16x64, .f32⟩
  | .hbm, ⟨39, _⟩ => ⟨S8x4096x16x64, .f32⟩
  | .hbm, ⟨40, _⟩ => ⟨S_, .f32⟩
  | .hbm, ⟨41, _⟩ => ⟨S8x4096x16, .f32⟩
  | .hbm, ⟨42, _⟩ => ⟨S8x4096x16x1, .f32⟩
  | .hbm, ⟨43, _⟩ => ⟨S_, .f32⟩
  | .hbm, ⟨44, _⟩ => ⟨S8x4096x16x1, .f32⟩
  | .hbm, ⟨45, _⟩ => ⟨S8x4096x16x1, .f32⟩
  | .hbm, ⟨46, _⟩ => ⟨S_, .f32⟩
  | .hbm, ⟨47, _⟩ => ⟨S8x4096x16x1, .f32⟩
  | .hbm, ⟨48, _⟩ => ⟨S8x4096x16x1, .f32⟩
  | .hbm, ⟨49, _⟩ => ⟨S8x4096x16x1, .f32⟩
  | .hbm, ⟨50, _⟩ => ⟨S8x4096x16x64, .f32⟩
  | .hbm, ⟨51, _⟩ => ⟨S8x4096x16x64, .f32⟩
  | .hbm, ⟨52, _⟩ => ⟨S1x1x1x64, .f32⟩
  | .hbm, ⟨53, _⟩ => ⟨S8x4096x16x64, .f32⟩
  | .hbm, ⟨54, _⟩ => ⟨S8x4096x16x64, .f32⟩
  | .hbm, ⟨55, _⟩ => ⟨S8x4096x16x64, .bf16⟩
  | .hbm, ⟨56, _⟩ => ⟨S32768x1024, .bf16⟩
  | .hbm, ⟨57, _⟩ => ⟨S8x4096x1024, .bf16⟩
  | .hbm, ⟨58, _⟩ => ⟨S8x1024x4096, .bf16⟩
  | .hbm, ⟨59, _⟩ => ⟨S8192x4096, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Kernel7.lean ====
abbrev S8x1024 : Shape := ⟨2, ![8, 1024]⟩
abbrev S2x2x1024x3072 : Shape := ⟨4, ![2, 2, 1024, 3072]⟩
abbrev S2x2x3072 : Shape := ⟨3, ![2, 2, 3072]⟩
abbrev S4x1024x3072 : Shape := ⟨3, ![4, 1024, 3072]⟩
abbrev S4x1x3072 : Shape := ⟨3, ![4, 1, 3072]⟩
abbrev S4x8x3072 : Shape := ⟨3, ![4, 8, 3072]⟩
abbrev S1x1024x512 : Shape := ⟨3, ![1, 1024, 512]⟩
abbrev S1x1x512 : Shape := ⟨3, ![1, 1, 512]⟩
abbrev S1x8x512 : Shape := ⟨3, ![1, 8, 512]⟩
abbrev S1024x512 : Shape := ⟨2, ![1024, 512]⟩
abbrev S8x512 : Shape := ⟨2, ![8, 512]⟩
abbrev S1x512 : Shape := ⟨2, ![1, 512]⟩

abbrev nBuf : Space → Nat
  | .hbm => 6
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x2x1024x3072, .f32⟩
  | .hbm, ⟨2, _⟩ => ⟨S2x2x3072, .f32⟩
  | .hbm, ⟨3, _⟩ => ⟨S4x1024x3072, .f32⟩
  | .hbm, ⟨4, _⟩ => ⟨S4x1x3072, .f32⟩
  | .hbm, ⟨5, _⟩ => ⟨S4x8x3072, .f32⟩
  | .local _ .vmem, ⟨0, _⟩ => ⟨S8x1024, .f32⟩
  | .local _ .vmem, ⟨1, _⟩ => ⟨S1x1024x512, .f32⟩
  | .local _ .vmem, ⟨2, _⟩ => ⟨S1x1024x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Ref7Ideal.lean ====
abbrev S8x1024 : Shape := ⟨2, ![8, 1024]⟩
abbrev S2x2x1024x3072 : Shape := ⟨4, ![2, 2, 1024, 3072]⟩
abbrev S2x2x3072 : Shape := ⟨3, ![2, 2, 3072]⟩
abbrev S_ : Shape := ⟨0, ![]⟩
abbrev S2x2x3072x8 : Shape := ⟨4, ![2, 2, 3072, 8]⟩
abbrev S2x2x8x3072 : Shape := ⟨4, ![2, 2, 8, 3072]⟩
abbrev S2x2x1x3072 : Shape := ⟨4, ![2, 2, 1, 3072]⟩
abbrev S4x8x3072 : Shape := ⟨3, ![4, 8, 3072]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x2x1024x3072, .f32⟩
  | .hbm, ⟨2, _⟩ => ⟨S2x2x3072, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S2x2x3072x8, .f32⟩
  | .hbm, ⟨13, _⟩ => ⟨S2x2x8x3072, .f32⟩
  | .hbm, ⟨14, _⟩ => ⟨S2x2x1x3072, .f32⟩
  | .hbm, ⟨15, _⟩ => ⟨S2x2x8x3072, .f32⟩
  | .hbm, ⟨16, _⟩ => ⟨S2x2x8x3072, .f32⟩
  | .hbm, ⟨17, _⟩ => ⟨S4x8x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel8.lean ====
abbrev S8x4096x1024 : Shape := ⟨3, ![8, 4096, 1024]⟩
abbrev S1024 : Shape := ⟨1, ![1024]⟩
abbrev S8x1024 : Shape := ⟨2, ![8, 1024]⟩
abbrev S1024x2064 : Shape := ⟨2, ![1024, 2064]⟩
abbrev S16 : Shape := ⟨1, ![16]⟩
abbrev S64 : Shape := ⟨1, ![64]⟩
abbrev S384x128 : Shape := ⟨2, ![384, 128]⟩
abbrev S1x128 : Shape := ⟨2, ![1, 128]⟩
abbrev S_ : Shape := ⟨0, ![]⟩
abbrev S1024x128 : Shape := ⟨2, ![1024, 128]⟩
abbrev S1024x16 : Shape := ⟨2, ![1024, 16]⟩
abbrev S1 : Shape := ⟨1, ![1]⟩
abbrev S2 : Shape := ⟨1, ![2]⟩
abbrev S384x256 : Shape := ⟨2, ![384, 256]⟩
abbrev S1x256 : Shape := ⟨2, ![1, 256]⟩
abbrev S32768x1024 : Shape := ⟨2, ![32768, 1024]⟩
abbrev S1x1024 : Shape := ⟨2, ![1, 1024]⟩
abbrev S8x1x1024 : Shape := ⟨3, ![8, 1, 1024]⟩
abbrev S1024x1024 : Shape := ⟨2, ![1024, 1024]⟩
abbrev S1x64 : Shape := ⟨2, ![1, 64]⟩
abbrev S16x64 : Shape := ⟨2, ![16, 64]⟩
abbrev S1024x256 : Shape := ⟨2, ![1024, 256]⟩
abbrev S8192x4096 : Shape := ⟨2, ![8192, 4096]⟩
abbrev S32768x128 : Shape := ⟨2, ![32768, 128]⟩
abbrev S512x1024 : Shape := ⟨2, ![512, 1024]⟩
abbrev S1x1x1024 : Shape := ⟨3, ![1, 1, 1024]⟩
abbrev S1024x512 : Shape := ⟨2, ![1024, 512]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S512x384 : Shape := ⟨2, ![512, 384]⟩

abbrev nBuf : Space → Nat
  | .hbm => 49
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x2064, .f32⟩
  | .hbm, ⟨5, _⟩ => ⟨S16, .f32⟩
  | .hbm, ⟨6, _⟩ => ⟨S64, .f32⟩
  | .hbm, ⟨7, _⟩ => ⟨S384x128, .bf16⟩
  | .hbm, ⟨8, _⟩ => ⟨S384x128, .bf16⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1024x128, .f32⟩
  | .hbm, ⟨13, _⟩ => ⟨S1024x16, .f32⟩
  | .hbm, ⟨14, _⟩ => ⟨S_, .i32⟩
  | .hbm, ⟨15, _⟩ => ⟨S1, .i32⟩
  | .hbm, ⟨16, _⟩ => ⟨S1024x128, .f32⟩
  | .hbm, ⟨17, _⟩ => ⟨S_, .f32⟩
  | .hbm, ⟨18, _⟩ => ⟨S1x128, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S1x128, .f32⟩
  | .hbm, ⟨25, _⟩ => ⟨S384x256, .bf16⟩
  | .hbm, ⟨26, _⟩ => ⟨S1x256, .f32⟩
  | .hbm, ⟨27, _⟩ => ⟨S32768x1024, .f32⟩
  | .hbm, ⟨28, _⟩ => ⟨S1x1024, .f32⟩
  | .hbm, ⟨29, _⟩ => ⟨S8x1x1024, .f32⟩
  | .hbm, ⟨30, _⟩ => ⟨S8x1x1024, .f32⟩
  | .hbm, ⟨31, _⟩ => ⟨S1024x1024, .f32⟩
  | .hbm, ⟨32, _⟩ => ⟨S1024x1024, .bf16⟩
  | .hbm, ⟨33, _⟩ => ⟨S1024x1024, .f32⟩
  | .hbm, ⟨34, _⟩ => ⟨S1024x1024, .f32⟩
  | .hbm, ⟨35, _⟩ => ⟨S1024x1024, .bf16⟩
  | .hbm, ⟨36, _⟩ => ⟨S1x64, .f32⟩
  | .hbm, ⟨37, _⟩ => ⟨S16x64, .f32⟩
  | .hbm, ⟨38, _⟩ => ⟨S1024, .f32⟩
  | .hbm, ⟨39, _⟩ => ⟨S1x1024, .f32⟩
  | .hbm, ⟨40, _⟩ => ⟨S1024x128, .bf16⟩
  | .hbm, ⟨41, _⟩ => ⟨S1024x128, .f32⟩
  | .hbm, ⟨42, _⟩ => ⟨S1024x128, .f32⟩
  | .hbm, ⟨43, _⟩ => ⟨S1024x128, .bf16⟩
  | .hbm, ⟨44, _⟩ => ⟨S1024x256, .bf16⟩
  | .hbm, ⟨45, _⟩ => ⟨S32768x1024, .bf16⟩
  | .hbm, ⟨46, _⟩ => ⟨S8192x4096, .bf16⟩
  | .hbm, ⟨47, _⟩ => ⟨S32768x128, .bf16⟩
  | .hbm, ⟨48, _⟩ => ⟨S32768x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x256, .bf16⟩
  | .local _ .vmem, ⟨10, _⟩ => ⟨S1x128, .f32⟩
  | .local _ .vmem, ⟨11, _⟩ => ⟨S1x1024, .f32⟩
  | .local _ .vmem, ⟨12, _⟩ => ⟨S384x256, .bf16⟩
  | .local _ .vmem, ⟨13, _⟩ => ⟨S1x256, .f32⟩
  | .local _ .vmem, ⟨14, _⟩ => ⟨S512x1024, .bf16⟩
  | .local _ .vmem, ⟨15, _⟩ => ⟨S512x1024, .bf16⟩
  | .local _ .vmem, ⟨16, _⟩ => ⟨S1024x512, .bf16⟩
  | .local _ .vmem, ⟨17, _⟩ => ⟨S1024x512, .bf16⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | .local _ .vmem, ⟨21, _⟩ => ⟨S512x128, .bf16⟩
  | .local _ .vmem, ⟨22, _⟩ => ⟨S1x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_cst_2 : Ref sig .tc := ⟨.hbm, 10, rfl⟩
abbrev main_cst_3 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_cst_4 : Ref sig .tc := ⟨.hbm, 17, rfl⟩
abbrev main_v4 : Ref sig .tc := ⟨.hbm, 18, rfl⟩
abbrev main_c_5 : Ref sig .tc := ⟨.hbm, 19, rfl⟩
abbrev main_v5 : Ref sig .tc := ⟨.hbm, 20, rfl⟩
abbrev main_c_6 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev main_v29_2 : Ref sig .tc := ⟨.hbm, 47, rfl⟩
abbrev main_v29_3 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S384x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Ref8Ideal.lean ====
abbrev S8x4096x1024 : Shape := ⟨3, ![8, 4096, 1024]⟩
abbrev S1024 : Shape := ⟨1, ![1024]⟩
abbrev S8x1024 : Shape := ⟨2, ![8, 1024]⟩
abbrev S1024x2064 : Shape := ⟨2, ![1024, 2064]⟩
abbrev S16 : Shape := ⟨1, ![16]⟩
abbrev S64 : Shape := ⟨1, ![64]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S1024x16 : Shape := ⟨2, ![1024, 16]⟩
abbrev S8x4096x16 : Shape := ⟨3, ![8, 4096, 16]⟩
abbrev S1x1x16 : Shape := ⟨3, ![1, 1, 16]⟩
abbrev S8x4096x16x1 : Shape := ⟨4, ![8, 4096, 16, 1]⟩
abbrev S8x4096x16x3 : Shape := ⟨4, ![8, 4096, 16, 3]⟩
abbrev S32768x32 : Shape := ⟨2, ![32768, 32]⟩
abbrev S8x4096x16x6 : Shape := ⟨4, ![8, 4096, 16, 6]⟩
abbrev S32768x96 : Shape := ⟨2, ![32768, 96]⟩
abbrev S32768x128 : Shape := ⟨2, ![32768, 128]⟩

abbrev nBuf : Space → Nat
  | .hbm => 83
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x2064, .f32⟩
  | .hbm, ⟨5, _⟩ => ⟨S16, .f32⟩
  | .hbm, ⟨6, _⟩ => ⟨S64, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x1x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x4096x1024, .f32⟩
  | .hbm, ⟨28, _⟩ => ⟨S8x4096x1024, .f32⟩
  | .hbm, ⟨29, _⟩ => ⟨S8x1x1024, .f32⟩
  | .hbm, ⟨30, _⟩ => ⟨S8x4096x1024, .f32⟩
  | .hbm, ⟨31, _⟩ => ⟨S8x4096x1024, .f32⟩
  | .hbm, ⟨32, _⟩ => ⟨S1024x16, .f32⟩
  | .hbm, ⟨33, _⟩ => ⟨S8x4096x16, .f32⟩
  | .hbm, ⟨34, _⟩ => ⟨S1x1x16, .f32⟩
  | .hbm, ⟨35, _⟩ => ⟨S8x4096x16, .f32⟩
  | .hbm, ⟨36, _⟩ => ⟨S8x4096x16, .f32⟩
  | .hbm, ⟨37, _⟩ => ⟨S8x4096x16, .f32⟩
  | .hbm, ⟨38, _⟩ => ⟨S_, .f32⟩
  | .hbm, ⟨39, _⟩ => ⟨S8x4096x16, .f32⟩
  | .hbm, ⟨40, _⟩ => ⟨S8x4096x16, .f32⟩
  | .hbm, ⟨41, _⟩ => ⟨S8x4096x16, .f32⟩
  | .hbm, ⟨42, _⟩ => ⟨S8x4096x16, .f32⟩
  | .hbm, ⟨43, _⟩ => ⟨S8x4096x16, .i1⟩
  | .hbm, ⟨44, _⟩ => ⟨S8x4096x16, .f32⟩
  | .hbm, ⟨45, _⟩ => ⟨S8x4096x16, .f32⟩
  | .hbm, ⟨46, _⟩ => ⟨S8x4096x16, .f32⟩
  | .hbm, ⟨47, _⟩ => ⟨S8x4096x16, .f32⟩
  | .hbm, ⟨48, _⟩ => ⟨S8x4096x16, .f32⟩
  | .hbm, ⟨49, _⟩ => ⟨S8x4096x16, .f32⟩
  | .hbm, ⟨50, _⟩ => ⟨S8x4096x16, .f32⟩
  | .hbm, ⟨51, _⟩ => ⟨S8x4096x16, .f32⟩
  | .hbm, ⟨52, _⟩ => ⟨S8x4096x16, .f32⟩
  | .hbm, ⟨53, _⟩ => ⟨S_, .f32⟩
  | .hbm, ⟨54, _⟩ => ⟨S_, .f32⟩
  | .hbm, ⟨55, _⟩ => ⟨S8x4096x16, .f32⟩
  | .hbm, ⟨56, _⟩ => ⟨S_, .f32⟩
  | .hbm, ⟨57, _⟩ => ⟨S8x4096x16, .f32⟩
  | .hbm, ⟨58, _⟩ => ⟨S8x4096x16, .f32⟩
  | .hbm, ⟨59, _⟩ => ⟨S8x4096x16, .bf16⟩
  | .hbm, ⟨60, _⟩ => ⟨S8x4096x16, .f32⟩
  | .hbm, ⟨61, _⟩ => ⟨S8x4096x16, .f32⟩
  | .hbm, ⟨62, _⟩ => ⟨S8x4096x16, .bf16⟩
  | .hbm, ⟨63, _⟩ => ⟨S8x4096x16, .f32⟩
  | .hbm, ⟨64, _⟩ => ⟨S8x4096x16, .f32⟩
  | .hbm, ⟨65, _⟩ => ⟨S8x4096x16, .f32⟩
  | .hbm, ⟨66, _⟩ => ⟨S8x4096x16x1, .f32⟩
  | .hbm, ⟨67, _⟩ => ⟨S8x4096x16x1, .f32⟩
  | .hbm, ⟨68, _⟩ => ⟨S8x4096x16x1, .f32⟩
  | .hbm, ⟨69, _⟩ => ⟨S8x4096x16x3, .f32⟩
  | .hbm, ⟨70, _⟩ => ⟨S_, .f32⟩
  | .hbm, ⟨71, _⟩ => ⟨S8x4096x16x3, .f32⟩
  | .hbm, ⟨72, _⟩ => ⟨S_, .f32⟩
  | .hbm, ⟨73, _⟩ => ⟨S32768x32, .f32⟩
  | .hbm, ⟨74, _⟩ => ⟨S8x4096x16x3, .f32⟩
  | .hbm, ⟨75, _⟩ => ⟨S8x4096x16x6, .f32⟩
  | .hbm, ⟨76, _⟩ => ⟨S32768x96, .f32⟩
  | .hbm, ⟨77, _⟩ => ⟨S8x4096x16x6, .f32⟩
  | .hbm, ⟨78, _⟩ => ⟨S32768x96, .f32⟩
  | .hbm, ⟨79, _⟩ => ⟨S32768x128, .f32⟩
  | .hbm, ⟨80, _⟩ => ⟨S32768x128, .bf16⟩
  | .hbm, ⟨81, _⟩ => ⟨S32768x128, .f32⟩
  | .hbm, ⟨82, _⟩ => ⟨S32768x128, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_v0 : Ref sig .tc := ⟨.hbm, 37, rfl⟩
abbrev main_call0_call0_cst : Ref sig .tc := ⟨.hbm, 38, rfl⟩
abbrev main_call0_call0_v0 : Ref sig .tc := ⟨.hbm, 39, rfl⟩
abbrev main_call0_call0_v1 : Ref sig .tc := ⟨.hbm, 40, rfl⟩
abbrev main_call0_call0_v2 : Ref sig .tc := ⟨.hbm, 41, rfl⟩
abbrev main_call0_call0_v3 : Ref sig .tc := ⟨.hbm, 42, rfl⟩
abbrev main_call0_call0_v4 : Ref sig .tc := ⟨.hbm, 43, rfl⟩
abbrev main_call0_call0_v5 : Ref sig .tc := ⟨.hbm, 44, rfl⟩
abbrev main_call0_call0_v6 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_call0_v9 : Ref sig .tc := ⟨.hbm, 48, rfl⟩
abbrev main_call0_call0_v10 : Ref sig .tc := ⟨.hbm, 49, rfl⟩
abbrev main_call0_call0_v11 : Ref sig .tc := ⟨.hbm, 50, rfl⟩
abbrev main_call0_v1 : Ref sig .tc := ⟨.hbm, 51, rfl⟩
abbrev main_v26 : Ref sig .tc := ⟨.hbm, 52, rfl⟩
abbrev main_call1_call0_cst : Ref sig .tc := ⟨.hbm, 53, rfl⟩
abbrev main_call1_call0_v0 : Ref sig .tc := ⟨.hbm, 54, rfl⟩
abbrev main_v27 : Ref sig .tc := ⟨.hbm, 55, rfl⟩
abbrev main_cst_3 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_4 : Ref sig .tc := ⟨.hbm, 70, rfl⟩
abbrev main_v41 : Ref sig .tc := ⟨.hbm, 71, rfl⟩
abbrev main_cst_5 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩

abbrev nD : Nat := 1
abbrev τ : Topo := Topo.v7x

variable {F : FTy → Type} [FloatOps F]
-- ==== Proof.Split.lean ====
module

public import proofs.«01_k».proof.Proof.Gen.KernelIdeal.Skeleton
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp

/-! The experts' body in two stretches: the copy of a bucket's weights into the scratch buffers, and the work of one
item. -/

@[expose] public section

set_option maxRecDepth 65536

noncomputable section

namespace Cert.KernelIdeal.Experts

open Idealize.ShloMosaic Idealize.SL.Sem
open Cert.KernelIdeal Cert.KernelIdeal.Gen

variable {F : FTy → Type} [FloatOps F]

set_option cleanup.letToHave false in
/-- The copy of the eight experts of a bucket, cast to the half-width format, into the scratch buffers. -/
def loadProg (i : grid0.Coords) (arg1 : Memref sig .tc .smem S240 .i32) (harg1 : arg1.IsWhole) (arg2 : Memref sig .tc .smem S240 .i32) (harg2 : arg2.IsWhole) (arg3 : Memref sig .tc .smem S240 .i32) (harg3 : arg3.IsWhole) (arg4 : Memref sig .tc .smem S240 .i32) (harg4 : arg4.IsWhole) (arg5 : Memref sig .tc .smem S240 .i32) (harg5 : arg5.IsWhole) (arg6 : Memref sig .tc .smem S240 .i32) (harg6 : arg6.IsWhole) (arg7 : Memref sig .tc .vmem S256x1152 .f32) (harg7 : arg7.IsWhole) (arg8 : Memref sig .tc .vmem S1x8x1024x256 .f32) (harg8 : arg8.IsWhole) (arg9 : Memref sig .tc .vmem S1x8x1024x256 .f32) (harg9 : arg9.IsWhole) (arg10 : Memref sig .tc .vmem S1x8x256x1024 .f32) (harg10 : arg10.IsWhole) (arg11 : Memref sig .tc .vmem S256x1024 .f32) (harg11 : arg11.IsWhole) (arg12 : Memref sig .tc .vmem S8x2x1024x256 .bf16) (harg12 : arg12.IsWhole) (arg13 : Memref sig .tc .vmem S8x256x1024 .bf16) (harg13 : arg13.IsWhole) :
    Prog (TpuEff nD τ sig (Elt F) Λ₀ .tc) PUnit := do
  k0_part1 i arg1 harg1 arg2 harg2 arg3 harg3 arg4 harg4 arg5 harg5 arg6 harg6 arg7 harg7 arg8 harg8 arg9 harg9 arg10 harg10 arg11 harg11 arg12 harg12 arg13 harg13
  k0_part2 i arg1 harg1 arg2 harg2 arg3 harg3 arg4 harg4 arg5 harg5 arg6 harg6 arg7 harg7 arg8 harg8 arg9 harg9 arg10 harg10 arg11 harg11 arg12 harg12 arg13 harg13
  k0_part3 i arg1 harg1 arg2 harg2 arg3 harg3 arg4 harg4 arg5 harg5 arg6 harg6 arg7 harg7 arg8 harg8 arg9 harg9 arg10 harg10 arg11 harg11 arg12 harg12 arg13 harg13
  let v146 : Vec F S1x1x1024x256 .f32 ← k0_part4 i arg1 harg1 arg2 harg2 arg3 harg3 arg4 harg4 arg5 harg5 arg6 harg6 arg7 harg7 arg8 harg8 arg9 harg9 arg10 harg10 arg11 harg11 arg12 harg12 arg13 harg13
  let v171 : FVec F S256x1024 .f32 ← k0_part5 i arg1 harg1 arg2 harg2 arg3 harg3 arg4 harg4 arg5 harg5 arg6 harg6 arg7 harg7 arg8 harg8 arg9 harg9 arg10 harg10 arg11 harg11 arg12 harg12 arg13 harg13 v146
  let v173 : Vec F S1x256x1024 .bf16 ← Prog.lift (.load arg13 (Rect.unit (s := S8x256x1024) ![6, 0, 0] S1x256x1024.size inb_S8x256x1024_S1x256x1024_6_0_0).toLoadRect (View.loadsAt_vmem h_S1x256x1024))
  Prog.lift (.store arg13 (Rect.unit (s := S8x256x1024) ![6, 0, 0] S1x256x1024.size inb_S8x256x1024_S1x256x1024_6_0_0) (k0_pay1 v171) Finset.univ (View.stores_vmem h_S1x256x1024 (harg13.storeExact_slice rfl _ packedbf16_S8x256x1024_S1x256x1024_6_0_0) (fun _ => rfl)) (.inl rfl))
  let v176 : Vec F S1x1x1024x256 .f32 ← Prog.lift (.load arg8 (Rect.unit (s := S1x8x1024x256) ![0, 7, 0, 0] S1x1x1024x256.size inb_S1x8x1024x256_S1x1x1024x256_0_7_0_0).toLoadRect (View.loadsAt_vmem h_S1x1x1024x256))
  let v179 : Vec F S1x1x1024x256 .bf16 ← Prog.lift (.load arg12 (Rect.unit (s := S8x2x1024x256) ![7, 0, 0, 0] S1x1x1024x256.size inb_S8x2x1024x256_S1x1x1024x256_7_0_0_0).toLoadRect (View.loadsAt_vmem h_S1x1x1024x256))
  Prog.lift (.store arg12 (Rect.unit (s := S8x2x1024x256) ![7, 0, 0, 0] S1x1x1024x256.size inb_S8x2x1024x256_S1x1x1024x256_7_0_0_0) (k0_pay2 v176) Finset.univ (View.stores_vmem h_S1x1x1024x256 (harg12.storeExact_slice rfl _ packedbf16_S8x2x1024x256_S1x1x1024x256_7_0_0_0) (fun _ => rfl)) (.inl rfl))
  let v182 : Vec F S1x1x1024x256 .f32 ← Prog.lift (.load arg9 (Rect.unit (s := S1x8x1024x256) ![0, 7, 0, 0] S1x1x1024x256.size inb_S1x8x1024x256_S1x1x1024x256_0_7_0_0).toLoadRect (View.loadsAt_vmem h_S1x1x1024x256))
  let v185 : Vec F S1x1x1024x256 .bf16 ← Prog.lift (.load arg12 (Rect.unit (s := S8x2x1024x256) ![7, 1, 0, 0] S1x1x1024x256.size inb_S8x2x1024x256_S1x1x1024x256_7_1_0_0).toLoadRect (View.loadsAt_vmem h_S1x1x1024x256))
  Prog.lift (.store arg12 (Rect.unit (s := S8x2x1024x256) ![7, 1, 0, 0] S1x1x1024x256.size inb_S8x2x1024x256_S1x1x1024x256_7_1_0_0) (k0_pay3 v182) Finset.univ (View.stores_vmem h_S1x1x1024x256 (harg12.storeExact_slice rfl _ packedbf16_S8x2x1024x256_S1x1x1024x256_7_1_0_0) (fun _ => rfl)) (.inl rfl))
  let v188 : Vec F S1x1x256x1024 .f32 ← Prog.lift (.load arg10 (Rect.unit (s := S1x8x256x1024) ![0, 7, 0, 0] S1x1x256x1024.size inb_S1x8x256x1024_S1x1x256x1024_0_7_0_0).toLoadRect (View.loadsAt_vmem h_S1x1x256x1024))
  let v191 : Vec F S1x256x1024 .bf16 ← Prog.lift (.load arg13 (Rect.unit (s := S8x256x1024) ![7, 0, 0] S1x256x1024.size inb_S8x256x1024_S1x256x1024_7_0_0).toLoadRect (View.loadsAt_vmem h_S1x256x1024))
  Prog.lift (.store arg13 (Rect.unit (s := S8x256x1024) ![7, 0, 0] S1x256x1024.size inb_S8x256x1024_S1x256x1024_7_0_0) (k0_pay4 v188) Finset.univ (View.stores_vmem h_S1x256x1024 (harg13.storeExact_slice rfl _ packedbf16_S8x256x1024_S1x256x1024_7_0_0) (fun _ => rfl)) (.inl rfl))
  pure ⟨⟩

set_option cleanup.letToHave false in set_option maxHeartbeats 4000000 in
/-- The work of one item: nothing if it is invalid, else the two experts over the tile, stored or added. -/
def tailProg (i : grid0.Coords) (arg1 : Memref sig .tc .smem S240 .i32) (harg1 : arg1.IsWhole) (arg2 : Memref sig .tc .smem S240 .i32) (harg2 : arg2.IsWhole) (arg3 : Memref sig .tc .smem S240 .i32) (harg3 : arg3.IsWhole) (arg4 : Memref sig .tc .smem S240 .i32) (harg4 : arg4.IsWhole) (arg5 : Memref sig .tc .smem S240 .i32) (harg5 : arg5.IsWhole) (arg6 : Memref sig .tc .smem S240 .i32) (harg6 : arg6.IsWhole) (arg7 : Memref sig .tc .vmem S256x1152 .f32) (harg7 : arg7.IsWhole) (arg8 : Memref sig .tc .vmem S1x8x1024x256 .f32) (harg8 : arg8.IsWhole) (arg9 : Memref sig .tc .vmem S1x8x1024x256 .f32) (harg9 : arg9.IsWhole) (arg10 : Memref sig .tc .vmem S1x8x256x1024 .f32) (harg10 : arg10.IsWhole) (arg11 : Memref sig .tc .vmem S256x1024 .f32) (harg11 : arg11.IsWhole) (arg12 : Memref sig .tc .vmem S8x2x1024x256 .bf16) (harg12 : arg12.IsWhole) (arg13 : Memref sig .tc .vmem S8x256x1024 .bf16) (harg13 : arg13.IsWhole) (arg0 : BitVec 32) :
    Prog (TpuEff nD τ sig (Elt F) Λ₀ .tc) PUnit := do
  let v46 : Elt F .i32 ← smemLoad arg4 (Rect.unit (s := S240) (k0_off3 i) S1.size (k0_off3_inb i)) numel1_S1 rfl
  if k0_h2 : k0_cond2 v46 = 1#1 then do
    let ⟨v59, v61, v63, k0_hw1, v73, v89⟩ : Σ' (v59 : IVec S256x1 1) (v61 : FVec F S256x1024 .bf16) (v63 : Elt F .i32) (k0_hw1 : k0_chk1 v46 v63) (v73 : BitVec 32), FVec F S256x256 .f32 ← k0_part6 i arg1 harg1 arg2 harg2 arg3 harg3 arg4 harg4 arg5 harg5 arg6 harg6 arg7 harg7 arg8 harg8 arg9 harg9 arg10 harg10 arg11 harg11 arg12 harg12 arg13 harg13 arg0 v46 k0_h2
    let ⟨v94, v123, v126⟩ : Σ' (v94 : FVec F S256x1024 .f32) (v123 : FVec F S256x256 .bf16), FVec F S256x1024 .bf16 ← k0_part7 i arg1 harg1 arg2 harg2 arg3 harg3 arg4 harg4 arg5 harg5 arg6 harg6 arg7 harg7 arg8 harg8 arg9 harg9 arg10 harg10 arg11 harg11 arg12 harg12 arg13 harg13 arg0 v46 k0_h2 v59 v61 v63 k0_hw1 v73 v89
    let v130 : Elt F .i32 ← smemLoad arg5 (Rect.unit (s := S240) (k0_off12 i) S1.size (k0_off12_inb i)) numel1_S1 rfl
    if k0_h3 : k0_cond3 v130 = 1#1 then do
      let v139 : Vec F S256x1024 .f32 ← Prog.lift (.load arg11 (Rect.unit (s := S256x1024) ![0, 0] S256x1024.size inb_S256x1024_S256x1024_0_0).toLoadRect (View.loadsAt_vmem h_S256x1024))
      Prog.lift (.store arg11 (Rect.unit (s := S256x1024) ![0, 0] S256x1024.size inb_S256x1024_S256x1024_0_0) (k0_pay5 v94 v123 v126) Finset.univ (View.stores_vmem_bits_univ h_S256x1024 rfl) (.inl rfl))
      pure ⟨⟩
    else do
      pure ⟨⟩
    let v135 : Elt F .i32 ← smemLoad arg5 (Rect.unit (s := S240) (k0_off13 i) S1.size (k0_off13_inb i)) numel1_S1 rfl
    if k0_h4 : k0_cond4 v135 = 1#1 then do
      let v139 : Vec F S256x1024 .f32 ← Prog.lift (.load arg11 (Rect.unit (s := S256x1024) ![0, 0] S256x1024.size inb_S256x1024_S256x1024_0_0).toLoadRect (View.loadsAt_vmem h_S256x1024))
      let v142 : Vec F S256x1024 .f32 ← Prog.lift (.load arg11 (Rect.unit (s := S256x1024) ![0, 0] S256x1024.size inb_S256x1024_S256x1024_0_0).toLoadRect (View.loadsAt_vmem h_S256x1024))
      Prog.lift (.store arg11 (Rect.unit (s := S256x1024) ![0, 0] S256x1024.size inb_S256x1024_S256x1024_0_0) (k0_pay6 v94 v123 v126 v139) Finset.univ (View.stores_vmem_bits_univ h_S256x1024 rfl) (.inl rfl))
      pure ⟨⟩
    else do
      pure ⟨⟩
    pure ⟨⟩
  else do
    pure ⟨⟩
  pure ⟨⟩

/-- The body is the test of the bucket, the copy if it changed, and the work of the item. -/
theorem body_split (i : grid0.Coords) (arg1 : Memref sig .tc .smem S240 .i32) (harg1 : arg1.IsWhole) (arg2 : Memref sig .tc .smem S240 .i32) (harg2 : arg2.IsWhole) (arg3 : Memref sig .tc .smem S240 .i32) (harg3 : arg3.IsWhole) (arg4 : Memref sig .tc .smem S240 .i32) (harg4 : arg4.IsWhole) (arg5 : Memref sig .tc .smem S240 .i32) (harg5 : arg5.IsWhole) (arg6 : Memref sig .tc .smem S240 .i32) (harg6 : arg6.IsWhole) (arg7 : Memref sig .tc .vmem S256x1152 .f32) (harg7 : arg7.IsWhole) (arg8 : Memref sig .tc .vmem S1x8x1024x256 .f32) (harg8 : arg8.IsWhole) (arg9 : Memref sig .tc .vmem S1x8x1024x256 .f32) (harg9 : arg9.IsWhole) (arg10 : Memref sig .tc .vmem S1x8x256x1024 .f32) (harg10 : arg10.IsWhole) (arg11 : Memref sig .tc .vmem S256x1024 .f32) (harg11 : arg11.IsWhole) (arg12 : Memref sig .tc .vmem S8x2x1024x256 .bf16) (harg12 : arg12.IsWhole) (arg13 : Memref sig .tc .vmem S8x256x1024 .bf16) (harg13 : arg13.IsWhole) :
    cc0_moe_experts_skel (F := F) i arg1 harg1 arg2 harg2 arg3 harg3 arg4 harg4 arg5 harg5 arg6 harg6 arg7 harg7 arg8 harg8 arg9 harg9 arg10 harg10 arg11 harg11 arg12 harg12 arg13 harg13 = (do
      let r ← k0_part8 (F := F) i arg1 harg1 arg2 harg2 arg3 harg3 arg4 harg4 arg5 harg5 arg6 harg6 arg7 harg7 arg8 harg8 arg9 harg9 arg10 harg10 arg11 harg11 arg12 harg12 arg13 harg13
      if Scalar.cmpi .ne (Scalar.extui (Scalar.ori r.2.1 r.2.2) : BitVec 32) 0#32 = 1#1 then loadProg i arg1 harg1 arg2 harg2 arg3 harg3 arg4 harg4 arg5 harg5 arg6 harg6 arg7 harg7 arg8 harg8 arg9 harg9 arg10 harg10 arg11 harg11 arg12 harg12 arg13 harg13 else pure ⟨⟩
      tailProg i arg1 harg1 arg2 harg2 arg3 harg3 arg4 harg4 arg5 harg5 arg6 harg6 arg7 harg7 arg8 harg8 arg9 harg9 arg10 harg10 arg11 harg11 arg12 harg12 arg13 harg13 r.1) := rfl

end Cert.KernelIdeal.Experts

end
-- ==== Proof.Load.lean ====
module

public import proofs.«01_k».proof.Proof.Split
public import Idealize.ShloMosaic.Lib.Pipeline.TableIdle
public import Idealize.ShloMosaic.Lib.Pipeline.Value

/-! The copy of a bucket's weights into the scratch buffers, run: what the scratch buffers hold after it. -/

@[expose] public section

set_option maxRecDepth 16384

noncomputable section

namespace Cert.KernelIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The place `(0, e, a, b)` of a bucket's block of up projections. -/
def upAt (e : Fin 8) (a : Fin 1024) (b : Fin 256) : S1x8x1024x256.Idx := fun
  | ⟨0, _⟩ => (⟨0, Nat.one_pos⟩ : Fin 1) | ⟨1, _⟩ => e | ⟨2, _⟩ => a | ⟨3, _⟩ => b

/-- The place `(0, e, a, b)` of a bucket's block of down projections. -/
def dnAt (e : Fin 8) (a : Fin 256) (b : Fin 1024) : S1x8x256x1024.Idx := fun
  | ⟨0, _⟩ => (⟨0, Nat.one_pos⟩ : Fin 1) | ⟨1, _⟩ => e | ⟨2, _⟩ => a | ⟨3, _⟩ => b

/-- The scratch of the up projections: expert `e` of the bucket, first `w1`, then `w3`, each cast. -/
def upOf (x8 x9 : Vec F S1x8x1024x256 .f32) : Vec F S8x2x1024x256 .bf16 := fun y =>
  FloatOps.truncf (F := F) .bf16 bitsLt_bf16_f32
    (if (y 1).val = 0 then x8 (upAt (y 0) (y 2) (y 3)) else x9 (upAt (y 0) (y 2) (y 3)))

/-- The scratch of the down projections: expert `e` of the bucket, cast. -/
def dnOf (x10 : Vec F S1x8x256x1024 .f32) : Vec F S8x256x1024 .bf16 := fun y =>
  FloatOps.truncf (F := F) .bf16 bitsLt_bf16_f32 (x10 (dnAt (y 0) (y 1) (y 2)))

/-- What one store of an up projection leaves: the block cast, place by place. -/
theorem up_piece (e k : ℕ) (inb : ∀ a, (![e, k, 0, 0] : Fin 4 → ℕ) a + (![1, 1, 1024, 256] : Fin 4 → ℕ) a ≤ S8x2x1024x256.size a)
    (inb' : ∀ a, (![0, e, 0, 0] : Fin 4 → ℕ) a + S1x1x1024x256.size a ≤ S1x8x1024x256.size a)
    (M : Memref sig .tc .vmem S1x8x1024x256 .f32) (X x8 x9 : Vec F S1x8x1024x256 .f32)
    (hX : X = if k = 0 then x8 else x9) (x : S1x1x1024x256.Idx) :
    (shapeCast S1x1x1024x256 (truncf .bf16 (shapeCast S1024x256
        (M.view.readAt (Elt F) (Rect.unit (s := S1x8x1024x256) ![0, e, 0, 0] S1x1x1024x256.size inb').toLoadRect (M.view.rep X))
        shapeCasts_S1x1x1024x256_S1024x256 : FVec F S1024x256 .f32) bitsLt_bf16_f32)
        shapeCasts_S1024x256_S1x1x1024x256 : FVec F S1x1x1024x256 .bf16) x
      = upOf x8 x9 ((Rect.unit (s := S8x2x1024x256) ![e, k, 0, 0] ![1, 1, 1024, 256] inb).emb x) := by
  have h0 := (x 0).isLt
  have h1 := (x 1).isLt
  have hx0 : (x 0).val = 0 := Nat.lt_one_iff.mp h0
  have hx1 : (x 1).val = 0 := Nat.lt_one_iff.mp h1
  rw [View.readAt_rep]
  refine (congrFun (shapeCast_shapeCast (s := S1x1x1024x256) (t := S1024x256)
    (fun y => FloatOps.truncf (F := F) .bf16 bitsLt_bf16_f32 (X ((Rect.unit (s := S1x8x1024x256) ![0, e, 0, 0] S1x1x1024x256.size inb').toLoadRect.idx y)))
    shapeCasts_S1x1x1024x256_S1024x256 shapeCasts_S1024x256_S1x1x1024x256) x).trans ?_
  have hy : (((Rect.unit (s := S8x2x1024x256) ![e, k, 0, 0] ![1, 1, 1024, 256] inb).emb x) 1).val = k := by
    show k + 1 * (x 1).val = k
    omega
  have hi : (Rect.unit (s := S1x8x1024x256) ![0, e, 0, 0] S1x1x1024x256.size inb').toLoadRect.idx x
      = upAt (((Rect.unit (s := S8x2x1024x256) ![e, k, 0, 0] ![1, 1, 1024, 256] inb).emb x) 0)
          (((Rect.unit (s := S8x2x1024x256) ![e, k, 0, 0] ![1, 1, 1024, 256] inb).emb x) 2)
          (((Rect.unit (s := S8x2x1024x256) ![e, k, 0, 0] ![1, 1, 1024, 256] inb).emb x) 3) := by
    funext a
    fin_cases a
    · exact Fin.ext (show 0 + 1 * (x 0).val = 0 by omega)
    · exact Fin.ext (show e + 1 * (x 1).val = e + 1 * (x 0).val by omega)
    · rfl
    · rfl
  unfold upOf
  rw [hy, hi, hX]
  split <;> rfl

/-- The place of a block of down projections that a place of one expert's reads. -/
def dnX (x : S1x256x1024.Idx) : S1x1x256x1024.Idx := fun
  | ⟨0, _⟩ => (⟨0, Nat.one_pos⟩ : Fin 1) | ⟨1, _⟩ => x 0 | ⟨2, _⟩ => x 1 | ⟨3, _⟩ => x 2

/-- What one store of a down projection leaves. -/
theorem dn_piece (e : ℕ) (inb : ∀ a, (![e, 0, 0] : Fin 3 → ℕ) a + (![1, 256, 1024] : Fin 3 → ℕ) a ≤ S8x256x1024.size a)
    (inb' : ∀ a, (![0, e, 0, 0] : Fin 4 → ℕ) a + S1x1x256x1024.size a ≤ S1x8x256x1024.size a)
    (M : Memref sig .tc .vmem S1x8x256x1024 .f32) (X : Vec F S1x8x256x1024 .f32) (x : S1x256x1024.Idx) :
    (shapeCast S1x256x1024 (truncf .bf16 (shapeCast S256x1024
        (M.view.readAt (Elt F) (Rect.unit (s := S1x8x256x1024) ![0, e, 0, 0] S1x1x256x1024.size inb').toLoadRect (M.view.rep X))
        shapeCasts_S1x1x256x1024_S256x1024 : FVec F S256x1024 .f32) bitsLt_bf16_f32)
        shapeCasts_S256x1024_S1x256x1024 : FVec F S1x256x1024 .bf16) x
      = dnOf X ((Rect.unit (s := S8x256x1024) ![e, 0, 0] ![1, 256, 1024] inb).emb x) := by
  rw [View.readAt_rep]
  have e1 : ∀ (v : S1x1x256x1024.Idx → F .bf16) (x : S1x256x1024.Idx),
      shapeCast S1x256x1024 (shapeCast S256x1024 v shapeCasts_S1x1x256x1024_S256x1024) shapeCasts_S256x1024_S1x256x1024 x
        = v (dnX x) := by
    intro v x
    have h0 : (x 0).val < 1 := (x 0).isLt
    refine (shapeCast_addUnit_apply ![256, 1024] _ shapeCasts_S256x1024_S1x256x1024 x).trans ?_
    refine shapeCast_apply v _ _ (dnX x) ((Shape.rowMajor_val_four (d := ![1, 1, 256, 1024]) _).trans
      (Eq.trans ?_ (Shape.rowMajor_val_two (d := ![256, 1024]) (fun a => x a.succ)).symm))
    show ((0 * 1 + (x 0).val) * 256 + (x 1).val) * 1024 + (x 2).val = (x 1).val * 1024 + (x 2).val
    omega
  refine (e1 (fun y => FloatOps.truncf (F := F) .bf16 bitsLt_bf16_f32 (X ((Rect.unit (s := S1x8x256x1024) ![0, e, 0, 0] S1x1x256x1024.size inb').toLoadRect.idx y))) x).trans ?_
  have hi : (Rect.unit (s := S1x8x256x1024) ![0, e, 0, 0] S1x1x256x1024.size inb').toLoadRect.idx
        (dnX x)
      = dnAt (((Rect.unit (s := S8x256x1024) ![e, 0, 0] ![1, 256, 1024] inb).emb x) 0)
          (((Rect.unit (s := S8x256x1024) ![e, 0, 0] ![1, 256, 1024] inb).emb x) 1)
          (((Rect.unit (s := S8x256x1024) ![e, 0, 0] ![1, 256, 1024] inb).emb x) 2) := by
    funext a
    fin_cases a <;> rfl
  exact congrArg (fun y => FloatOps.truncf (F := F) .bf16 bitsLt_bf16_f32 (X y)) hi

set_option maxHeartbeats 4000000 in
theorem load_run (c : Dev nD) (i : grid0.Coords) (arg1 : Memref sig .tc .smem S240 .i32) (harg1 : arg1.IsWhole) (arg2 : Memref sig .tc .smem S240 .i32) (harg2 : arg2.IsWhole) (arg3 : Memref sig .tc .smem S240 .i32) (harg3 : arg3.IsWhole) (arg4 : Memref sig .tc .smem S240 .i32) (harg4 : arg4.IsWhole) (arg5 : Memref sig .tc .smem S240 .i32) (harg5 : arg5.IsWhole) (arg6 : Memref sig .tc .smem S240 .i32) (harg6 : arg6.IsWhole) (arg7 : Memref sig .tc .vmem S256x1152 .f32) (harg7 : arg7.IsWhole) (arg8 : Memref sig .tc .vmem S1x8x1024x256 .f32) (harg8 : arg8.IsWhole) (arg9 : Memref sig .tc .vmem S1x8x1024x256 .f32) (harg9 : arg9.IsWhole) (arg10 : Memref sig .tc .vmem S1x8x256x1024 .f32) (harg10 : arg10.IsWhole) (arg11 : Memref sig .tc .vmem S256x1024 .f32) (harg11 : arg11.IsWhole) (arg12 : Memref sig .tc .vmem S8x2x1024x256 .bf16) (harg12 : arg12.IsWhole) (arg13 : Memref sig .tc .vmem S8x256x1024 .bf16) (harg13 : arg13.IsWhole) (x8 x9 : Vec F S1x8x1024x256 .f32) (x10 : Vec F S1x8x256x1024 .f32)
    (E : Set ℕ) (K : PUnit → sProp 𝕄) :
    iprop(owns (c : Thread nD τ) arg8 fullShare x8 ∗ owns (c : Thread nD τ) arg9 fullShare x9
        ∗ owns (c : Thread nD τ) arg10 fullShare x10
        ∗ (∃ d, owns (c : Thread nD τ) arg12 fullShare d) ∗ (∃ d, owns (c : Thread nD τ) arg13 fullShare d)
        ∗ (iprop(owns (c : Thread nD τ) arg8 fullShare x8 ∗ owns (c : Thread nD τ) arg9 fullShare x9
            ∗ owns (c : Thread nD τ) arg10 fullShare x10
            ∗ owns (c : Thread nD τ) arg12 fullShare (upOf x8 x9) ∗ owns (c : Thread nD τ) arg13 fullShare (dnOf x10))
            -∗ K ⟨⟩))
      ⊢ wp frame (wpE (defs₀ (F := F)) Variants.none c none) E
          (loadProg i arg1 harg1 arg2 harg2 arg3 harg3 arg4 harg4 arg5 harg5 arg6 harg6 arg7 harg7 arg8 harg8 arg9 harg9 arg10 harg10 arg11 harg11 arg12 harg12 arg13 harg13) K := by
  unfold loadProg
  simp only [k0_part1_eq_skeleton, k0_part2_eq_skeleton, k0_part3_eq_skeleton, k0_part4_eq_skeleton, k0_part5_eq_skeleton]
  unfold k0_part1_skel k0_part2_skel k0_part3_skel k0_part4_skel k0_part5_skel
  rewrite [owns_eq_rep (c : Thread nD τ) arg8, owns_eq_rep (c : Thread nD τ) arg9, owns_eq_rep (c : Thread nD τ) arg10]
  unfold owns
  iintro ⟨H8, H9, H10, ⟨%d12, %f12, -, H12⟩, ⟨%d13, %f13, -, H13⟩, Hk⟩
  sl_exec
  sl_step
  iapply Hk
  isplitl [H8]; · iexact H8
  isplitl [H9]; · iexact H9
  isplitl [H10]; · iexact H10
  isplitl [H12]
  · iexists _; isplitr; swap; · iexact H12
    ipureintro
    funext y
    refine View.read_writes_apply_of_pieces _ _ (upOf x8 x9) _ ?_ y (View.cover_of_tiled _ ![1, 1, 1024, 256] (by sl_kernel_rfl) y)
    simp only [List.forall_mem_cons, List.not_mem_nil, false_imp_iff, implies_true, and_true]
    refine ⟨?_, ?_, ?_, ?_, ?_, ?_, ?_, ?_, ?_, ?_, ?_, ?_, ?_, ?_, ?_, ?_⟩ <;> intro x
    · exact up_piece 7 1 _ inb_S1x8x1024x256_S1x1x1024x256_0_7_0_0 arg9 x9 x8 x9 rfl x
    · exact up_piece 7 0 _ inb_S1x8x1024x256_S1x1x1024x256_0_7_0_0 arg8 x8 x8 x9 rfl x
    · exact up_piece 6 1 _ inb_S1x8x1024x256_S1x1x1024x256_0_6_0_0 arg9 x9 x8 x9 rfl x
    · exact up_piece 6 0 _ inb_S1x8x1024x256_S1x1x1024x256_0_6_0_0 arg8 x8 x8 x9 rfl x
    · exact up_piece 5 1 _ inb_S1x8x1024x256_S1x1x1024x256_0_5_0_0 arg9 x9 x8 x9 rfl x
    · exact up_piece 5 0 _ inb_S1x8x1024x256_S1x1x1024x256_0_5_0_0 arg8 x8 x8 x9 rfl x
    · exact up_piece 4 1 _ inb_S1x8x1024x256_S1x1x1024x256_0_4_0_0 arg9 x9 x8 x9 rfl x
    · exact up_piece 4 0 _ inb_S1x8x1024x256_S1x1x1024x256_0_4_0_0 arg8 x8 x8 x9 rfl x
    · exact up_piece 3 1 _ inb_S1x8x1024x256_S1x1x1024x256_0_3_0_0 arg9 x9 x8 x9 rfl x
    · exact up_piece 3 0 _ inb_S1x8x1024x256_S1x1x1024x256_0_3_0_0 arg8 x8 x8 x9 rfl x
    · exact up_piece 2 1 _ inb_S1x8x1024x256_S1x1x1024x256_0_2_0_0 arg9 x9 x8 x9 rfl x
    · exact up_piece 2 0 _ inb_S1x8x1024x256_S1x1x1024x256_0_2_0_0 arg8 x8 x8 x9 rfl x
    · exact up_piece 1 1 _ inb_S1x8x1024x256_S1x1x1024x256_0_1_0_0 arg9 x9 x8 x9 rfl x
    · exact up_piece 1 0 _ inb_S1x8x1024x256_S1x1x1024x256_0_1_0_0 arg8 x8 x8 x9 rfl x
    · exact up_piece 0 1 _ inb_S1x8x1024x256_S1x1x1024x256_0_0_0_0 arg9 x9 x8 x9 rfl x
    · exact up_piece 0 0 _ inb_S1x8x1024x256_S1x1x1024x256_0_0_0_0 arg8 x8 x8 x9 rfl x
  · iexists _; isplitr; swap; · iexact H13
    ipureintro
    funext y
    refine View.read_writes_apply_of_pieces _ _ (dnOf x10) _ ?_ y (View.cover_of_tiled _ ![1, 256, 1024] (by sl_kernel_rfl) y)
    simp only [List.forall_mem_cons, List.not_mem_nil, false_imp_iff, implies_true, and_true]
    refine ⟨?_, ?_, ?_, ?_, ?_, ?_, ?_, ?_⟩ <;> intro x
    · exact dn_piece 7 _ inb_S1x8x256x1024_S1x1x256x1024_0_7_0_0 arg10 x10 x
    · exact dn_piece 6 _ inb_S1x8x256x1024_S1x1x256x1024_0_6_0_0 arg10 x10 x
    · exact dn_piece 5 _ inb_S1x8x256x1024_S1x1x256x1024_0_5_0_0 arg10 x10 x
    · exact dn_piece 4 _ inb_S1x8x256x1024_S1x1x256x1024_0_4_0_0 arg10 x10 x
    · exact dn_piece 3 _ inb_S1x8x256x1024_S1x1x256x1024_0_3_0_0 arg10 x10 x
    · exact dn_piece 2 _ inb_S1x8x256x1024_S1x1x256x1024_0_2_0_0 arg10 x10 x
    · exact dn_piece 1 _ inb_S1x8x256x1024_S1x1x256x1024_0_1_0_0 arg10 x10 x
    · exact dn_piece 0 _ inb_S1x8x256x1024_S1x1x256x1024_0_0_0_0 arg10 x10 x

end Cert.KernelIdeal.Experts

end
-- ==== Proof.Words.lean ====
module

public import proofs.«01_k».proof.Proof.Load

/-! The words of the work list as the body reads them: the conditions, the offsets of an expert's weights in the
scratch buffers, the bucket an expert lies in. -/

@[expose] public section

set_option maxRecDepth 16384

noncomputable section

namespace Cert.KernelIdeal.Experts

open Idealize.ShloMosaic Idealize.SL.Sem
open Cert.KernelIdeal Cert.KernelIdeal.Gen

variable {F : FTy → Type} [FloatOps F]

theorem cond2_iff (v : BitVec 32) : k0_cond2 v = 1#1 ↔ v = 1#32 := by
  by_cases h : v = 1#32
  · subst h; decide
  · simp [k0_cond2, Scalar.cmpi, IntOp.cmpi, Scalar.extui, h, beq_false_of_ne h, bne]

theorem cond3_iff (v : BitVec 32) : k0_cond3 v = 1#1 ↔ v = 0#32 := by
  by_cases h : v = 0#32
  · subst h; decide
  · simp [k0_cond3, Scalar.cmpi, IntOp.cmpi, Scalar.extui, h, beq_false_of_ne h, bne]

theorem cond4_iff (v : BitVec 32) : k0_cond4 v = 1#1 ↔ ¬ v = 0#32 := by
  by_cases h : v = 0#32
  · subst h; decide
  · simp [k0_cond4, Scalar.cmpi, IntOp.cmpi, Scalar.extui, h, beq_false_of_ne h, bne]

theorem word_eq {w : BitVec 32} (h : w.toNat < 32) : w = BitVec.ofNat 32 (⟨w.toNat, h⟩ : Fin 32).val := by simp

theorem off5_eq {w : BitVec 32} (h : w.toNat < 32) : k0_off5 w = ![w.toNat % 8, 0, 0, 0] := by
  have key := (by decide +kernel : ∀ n : Fin 32, k0_off5 (BitVec.ofNat 32 n.val) = ![(BitVec.ofNat 32 n.val).toNat % 8, 0, 0, 0]) ⟨w.toNat, h⟩
  rwa [← word_eq h] at key
theorem off6_eq {w : BitVec 32} (h : w.toNat < 32) : k0_off6 w = ![w.toNat % 8, 1, 0, 0] := by
  have key := (by decide +kernel : ∀ n : Fin 32, k0_off6 (BitVec.ofNat 32 n.val) = ![(BitVec.ofNat 32 n.val).toNat % 8, 1, 0, 0]) ⟨w.toNat, h⟩
  rwa [← word_eq h] at key
theorem off7_eq {w : BitVec 32} (h : w.toNat < 32) : k0_off7 w = ![w.toNat % 8, 0, 0] := by
  have key := (by decide +kernel : ∀ n : Fin 32, k0_off7 (BitVec.ofNat 32 n.val) = ![(BitVec.ofNat 32 n.val).toNat % 8, 0, 0]) ⟨w.toNat, h⟩
  rwa [← word_eq h] at key
theorem off9_eq {w : BitVec 32} (h : w.toNat < 32) : k0_off9 w = ![w.toNat % 8, 0, 0, 0] := by
  have key := (by decide +kernel : ∀ n : Fin 32, k0_off9 (BitVec.ofNat 32 n.val) = ![(BitVec.ofNat 32 n.val).toNat % 8, 0, 0, 0]) ⟨w.toNat, h⟩
  rwa [← word_eq h] at key
theorem off10_eq {w : BitVec 32} (h : w.toNat < 32) : k0_off10 w = ![w.toNat % 8, 1, 0, 0] := by
  have key := (by decide +kernel : ∀ n : Fin 32, k0_off10 (BitVec.ofNat 32 n.val) = ![(BitVec.ofNat 32 n.val).toNat % 8, 1, 0, 0]) ⟨w.toNat, h⟩
  rwa [← word_eq h] at key
theorem off11_eq {w : BitVec 32} (h : w.toNat < 32) : k0_off11 w = ![w.toNat % 8, 0, 0] := by
  have key := (by decide +kernel : ∀ n : Fin 32, k0_off11 (BitVec.ofNat 32 n.val) = ![(BitVec.ofNat 32 n.val).toNat % 8, 0, 0]) ⟨w.toNat, h⟩
  rwa [← word_eq h] at key

theorem mod8_inb4 (n k : ℕ) (hk : k < 2) (a : Fin 4) :
    (![n % 8, k, 0, 0] : Fin 4 → ℕ) a + S1x1x1024x256.size a ≤ S8x2x1024x256.size a := by
  have := Nat.mod_lt n (by decide : 0 < 8)
  fin_cases a
  · show n % 8 + 1 ≤ 8; omega
  · show k + 1 ≤ 2; omega
  · show 0 + 1024 ≤ 1024; omega
  · show 0 + 256 ≤ 256; omega

theorem mod8_inb3 (n : ℕ) (a : Fin 3) :
    (![n % 8, 0, 0] : Fin 3 → ℕ) a + S1x256x1024.size a ≤ S8x256x1024.size a := by
  have := Nat.mod_lt n (by decide : 0 < 8)
  fin_cases a
  · show n % 8 + 1 ≤ 8; omega
  · show 0 + 256 ≤ 256; omega
  · show 0 + 1024 ≤ 1024; omega

theorem chk1_of {w : BitVec 32} (v : BitVec 32) (h : w.toNat < 32) : k0_chk1 v w := by
  refine ⟨fun _ a => ?_, fun _ a => ?_, fun _ a => ?_⟩
  · rw [off5_eq h]; exact mod8_inb4 _ 0 (by decide) a
  · rw [off6_eq h]; exact mod8_inb4 _ 1 (by decide) a
  · rw [off7_eq h]; exact mod8_inb3 _ a

theorem chk2_of {w : BitVec 32} (v : BitVec 32) (h : w.toNat < 32) : k0_chk2 v w := by
  refine ⟨fun _ a => ?_, fun _ a => ?_, fun _ a => ?_⟩
  · rw [off9_eq h]; exact mod8_inb4 _ 0 (by decide) a
  · rw [off10_eq h]; exact mod8_inb4 _ 1 (by decide) a
  · rw [off11_eq h]; exact mod8_inb3 _ a

/-- The bucket of eight experts that a word names, as the body computes it. -/
def fdiv (v4 : BitVec 32) : BitVec 32 :=
  Scalar.select
    (Scalar.andi
      (Scalar.cmpi .ne
        (Scalar.subi (Scalar.extui (Scalar.cmpi .sgt v4 0#32) : BitVec 32) (Scalar.extui (Scalar.cmpi .slt v4 0#32)))
        (Scalar.subi (Scalar.extui (Scalar.cmpi .sgt 8#32 0#32) : BitVec 32) (Scalar.extui (Scalar.cmpi .slt 8#32 0#32))))
      (Scalar.cmpi .ne (Scalar.remsi v4 8#32) 0#32))
    (Scalar.subi (Scalar.divsi v4 8#32) 1#32) (Scalar.divsi v4 8#32)

theorem fdiv_eq {w : BitVec 32} (h : w.toNat < 32) : (fdiv w).toNat = w.toNat / 8 := by
  have key := (by decide +kernel : ∀ n : Fin 32, (fdiv (BitVec.ofNat 32 n.val)).toNat = (BitVec.ofNat 32 n.val).toNat / 8) ⟨w.toNat, h⟩
  rwa [← word_eq h] at key

theorem fdiv_inj {w w' : BitVec 32} (h : w.toNat < 32) (h' : w'.toNat < 32) : fdiv w = fdiv w' ↔ w.toNat / 8 = w'.toNat / 8 := by
  rw [← fdiv_eq h, ← fdiv_eq h']
  exact ⟨fun e => by rw [e], BitVec.eq_of_toNat_eq⟩

end Cert.KernelIdeal.Experts

end
-- ==== Proof.Tail.lean ====
module

public import proofs.«01_k».proof.Proof.Words
public import Idealize.ShloMosaic.Lib.Pipeline.TableIdle
public import Idealize.ShloMosaic.Lib.Pipeline.Value

/-! The work of one item, run: what the output block holds after it. -/

@[expose] public section

set_option maxRecDepth 16384

noncomputable section

namespace Cert.KernelIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The word a table memref is read at, off its contents. -/
abbrev rd (M : Memref sig .tc .smem S240 .i32) (T : Vec F S240 .i32) (off : Fin 1 → ℕ)
    (inb : ∀ a, off a + S1.size a ≤ S240.size a) : BitVec 32 :=
  M.view.readAt (Elt F) (Rect.unit (s := S240) off S1.size inb).toLoadRect (M.view.rep T)
    (Shape.Idx.first (numel1_S1.symm ▸ Nat.one_pos))

/-- Place `n` of a table. -/
def at0 (n : Fin 240) : S240.Idx := fun | ⟨0, _⟩ => n

/-- The word of item `i` of a table. -/
def word (T : Vec F S240 .i32) (i : grid0.Coords) : BitVec 32 := T (at0 (i 0))

theorem rd_at (M : Memref sig .tc .smem S240 .i32) (T : Vec F S240 .i32) (off : Fin 1 → ℕ)
    (inb : ∀ a, off a + S1.size a ≤ S240.size a) (n : Fin 240) (h : off = ![n.val]) : rd M T off inb = T (at0 n) := by
  subst h
  unfold rd
  rw [View.readAt_rep]
  refine congrArg T (funext fun a => ?_)
  fin_cases a
  exact Fin.ext (show n.val + 1 * 0 = n.val by omega)

theorem rd_word (M : Memref sig .tc .smem S240 .i32) (T : Vec F S240 .i32) (off : Fin 1 → ℕ)
    (inb : ∀ a, off a + S1.size a ≤ S240.size a) (i : grid0.Coords) (h : off = ![(i 0).val]) :
    rd M T off inb = word T i := rd_at M T off inb (i 0) h

/-- Place `(w mod 8, k, b, d)` of the scratch buffer of the up-projections. -/
def upIx (w : BitVec 32) (k : Fin 2) (b : Fin 1024) (d : Fin 256) : S8x2x1024x256.Idx :=
  fun | ⟨0, _⟩ => ⟨w.toNat % 8, Nat.mod_lt _ (by decide)⟩ | ⟨1, _⟩ => k | ⟨2, _⟩ => b | ⟨3, _⟩ => d

/-- Place `(w mod 8, b, d)` of the scratch buffer of the down-projections. -/
def dnIx (w : BitVec 32) (b : Fin 256) (d : Fin 1024) : S8x256x1024.Idx :=
  fun | ⟨0, _⟩ => ⟨w.toNat % 8, Nat.mod_lt _ (by decide)⟩ | ⟨1, _⟩ => b | ⟨2, _⟩ => d

/-- Place `(r, n)` of a block of the sorted rows. -/
def xIx (r : Fin 256) (n : Fin 1152) : S256x1152.Idx := fun | ⟨0, _⟩ => r | ⟨1, _⟩ => n

/-- One up-projection of the expert a word names. -/
def upW (up : Vec F S8x2x1024x256 .bf16) (w : BitVec 32) (k : Fin 2) : Vec F S1x1x1024x256 .bf16 :=
  fun y => up (upIx w k (y 2) (y 3))

/-- The down-projection of the expert a word names. -/
def dnW (dn : Vec F S8x256x1024 .bf16) (w : BitVec 32) : Vec F S1x256x1024 .bf16 :=
  fun y => dn (dnIx w (y 1) (y 2))

/-- The tokens of a block of the sorted rows. -/
def xTok (x7 : Vec F S256x1152 .f32) : Vec F S256x1024 .f32 :=
  fun y => x7 (xIx (y 0) ⟨(y 1).val, Nat.lt_trans (y 1).isLt (by decide)⟩)

/-- A column of a block of the sorted rows. -/
def xCol (x7 : Vec F S256x1152 .f32) (n : Fin 1152) : Vec F S256x1 .f32 := fun y => x7 (xIx (y 0) n)

theorem ld_up (M : Memref sig .tc .vmem S8x2x1024x256 .bf16) (up : Vec F S8x2x1024x256 .bf16) (w : BitVec 32) (k : Fin 2)
    (off : Fin 4 → ℕ) (inb : ∀ a, off a + S1x1x1024x256.size a ≤ S8x2x1024x256.size a) (h : off = ![w.toNat % 8, k.val, 0, 0]) :
    M.view.readAt (Elt F) (Rect.unit (s := S8x2x1024x256) off S1x1x1024x256.size inb).toLoadRect (M.view.rep up) = upW up w k := by
  subst h
  rw [View.readAt_rep]
  funext y
  have h0 : (y 0).val = 0 := Nat.lt_one_iff.mp (y 0).isLt
  have h1 : (y 1).val = 0 := Nat.lt_one_iff.mp (y 1).isLt
  refine congrArg up (funext fun a => ?_)
  fin_cases a
  · exact Fin.ext (show w.toNat % 8 + 1 * (y 0).val = w.toNat % 8 by omega)
  · exact Fin.ext (show k.val + 1 * (y 1).val = k.val by omega)
  · exact Fin.ext (show 0 + 1 * (y 2).val = (y 2).val by omega)
  · exact Fin.ext (show 0 + 1 * (y 3).val = (y 3).val by omega)

theorem ld_dn (M : Memref sig .tc .vmem S8x256x1024 .bf16) (dn : Vec F S8x256x1024 .bf16) (w : BitVec 32)
    (off : Fin 3 → ℕ) (inb : ∀ a, off a + S1x256x1024.size a ≤ S8x256x1024.size a) (h : off = ![w.toNat % 8, 0, 0]) :
    M.view.readAt (Elt F) (Rect.unit (s := S8x256x1024) off S1x256x1024.size inb).toLoadRect (M.view.rep dn) = dnW dn w := by
  subst h
  rw [View.readAt_rep]
  funext y
  have h0 : (y 0).val = 0 := Nat.lt_one_iff.mp (y 0).isLt
  refine congrArg dn (funext fun a => ?_)
  fin_cases a
  · exact Fin.ext (show w.toNat % 8 + 1 * (y 0).val = w.toNat % 8 by omega)
  · exact Fin.ext (show 0 + 1 * (y 1).val = (y 1).val by omega)
  · exact Fin.ext (show 0 + 1 * (y 2).val = (y 2).val by omega)

theorem ld_tok (M : Memref sig .tc .vmem S256x1152 .f32) (x7 : Vec F S256x1152 .f32)
    (inb : ∀ a, (![0, 0] : Fin 2 → ℕ) a + S256x1024.size a ≤ S256x1152.size a) :
    M.view.readAt (Elt F) (Rect.unit (s := S256x1152) ![0, 0] S256x1024.size inb).toLoadRect (M.view.rep x7) = xTok x7 := by
  rw [View.readAt_rep]
  funext y
  refine congrArg x7 (funext fun a => ?_)
  fin_cases a
  · exact Fin.ext (show 0 + 1 * (y 0).val = (y 0).val by omega)
  · exact Fin.ext (show 0 + 1 * (y 1).val = (y 1).val by omega)

theorem ld_col (M : Memref sig .tc .vmem S256x1152 .f32) (x7 : Vec F S256x1152 .f32) (n : ℕ) (hn : n < 1152)
    (inb : ∀ a, (![0, n] : Fin 2 → ℕ) a + S256x1.size a ≤ S256x1152.size a) :
    M.view.readAt (Elt F) (Rect.unit (s := S256x1152) ![0, n] S256x1.size inb).toLoadRect (M.view.rep x7) = xCol x7 ⟨n, hn⟩ := by
  rw [View.readAt_rep]
  funext y
  have h1 : (y 1).val = 0 := Nat.lt_one_iff.mp (y 1).isLt
  refine congrArg x7 (funext fun a => ?_)
  fin_cases a
  · exact Fin.ext (show 0 + 1 * (y 0).val = (y 0).val by omega)
  · exact Fin.ext (show n + 1 * (y 1).val = n by omega)

theorem ld_full (M : Memref sig .tc .vmem S256x1024 .f32) (Y : Vec F S256x1024 .f32)
    (inb : ∀ a, (![0, 0] : Fin 2 → ℕ) a + S256x1024.size a ≤ S256x1024.size a) :
    M.view.readAt (Elt F) (Rect.unit (s := S256x1024) ![0, 0] S256x1024.size inb).toLoadRect (M.view.rep Y) = Y := by
  rw [View.readAt_rep]
  funext y
  refine congrArg Y (funext fun a => ?_)
  fin_cases a
  · exact Fin.ext (show 0 + 1 * (y 0).val = (y 0).val by omega)
  · exact Fin.ext (show 0 + 1 * (y 1).val = (y 1).val by omega)

/-- What an item adds to its tile: both experts' outputs of the rows it owns, weighted. -/
def itemOut (x7 : Vec F S256x1152 .f32) (up : Vec F S8x2x1024x256 .bf16) (dn : Vec F S8x256x1024 .bf16)
    (wlo whi rlo rhi : BitVec 32) : Vec F S256x1024 .f32 :=
  k0_pay5 (k0_pay31 (k0_pay30 rlo rhi (xTok x7) (xCol x7 1026) (upW up wlo 0) (upW up wlo 1)) (dnW dn wlo))
    (k0_pay32 (k0_pay28 (F := F) rlo rhi) (k0_pay29 (xTok x7)) (xCol x7 1027) (upW up whi 0) (upW up whi 1))
    (k0_pay33 (dnW dn whi))

/-- What the output block holds after an item. -/
def outOf (x7 : Vec F S256x1152 .f32) (up : Vec F S8x2x1024x256 .bf16) (dn : Vec F S8x256x1024 .bf16)
    (wlo whi v rlo rhi : BitVec 32) (Y : Vec F S256x1024 .f32) : Vec F S256x1024 .f32 :=
  if v = 1#32 then if rlo = 0#32 then itemOut x7 up dn wlo whi rlo rhi
    else addf Y (itemOut x7 up dn wlo whi rlo rhi) else Y

theorem owns_written (c : Dev nD) (M : Memref sig .tc .vmem S256x1024 .f32) (Y : Vec F S256x1024 .f32)
    (inb : ∀ a, (![0, 0] : Fin 2 → ℕ) a + (![256, 1024] : Fin 2 → ℕ) a ≤ S256x1024.size a) (w X : Vec F S256x1024 .f32) (h : w = X) :
    M.view.read (Elt F) (M.view.writes (Elt F) (M.view.rep Y) [⟨Rect.unit (s := S256x1024) ![0, 0] ![256, 1024] inb, w⟩]) = X := by
  subst h
  funext y
  refine View.read_writes_apply_of_pieces _ _ w _ ?_ y (View.cover_of_tiled _ ![256, 1024] (by sl_kernel_rfl) y)
  simp only [List.forall_mem_cons, List.not_mem_nil, false_imp_iff, implies_true, _root_.and_true]
  intro x
  refine congrArg w (funext fun a => ?_)
  fin_cases a
  · exact Fin.ext (show (x 0).val = 0 + 1 * (x 0).val by omega)
  · exact Fin.ext (show (x 1).val = 0 + 1 * (x 1).val by omega)

set_option maxHeartbeats 4000000 in
theorem tail_first (c : Dev nD) (i : grid0.Coords) (arg1 : Memref sig .tc .smem S240 .i32) (harg1 : arg1.IsWhole) (arg2 : Memref sig .tc .smem S240 .i32) (harg2 : arg2.IsWhole) (arg3 : Memref sig .tc .smem S240 .i32) (harg3 : arg3.IsWhole) (arg4 : Memref sig .tc .smem S240 .i32) (harg4 : arg4.IsWhole) (arg5 : Memref sig .tc .smem S240 .i32) (harg5 : arg5.IsWhole) (arg6 : Memref sig .tc .smem S240 .i32) (harg6 : arg6.IsWhole) (arg7 : Memref sig .tc .vmem S256x1152 .f32) (harg7 : arg7.IsWhole) (arg8 : Memref sig .tc .vmem S1x8x1024x256 .f32) (harg8 : arg8.IsWhole) (arg9 : Memref sig .tc .vmem S1x8x1024x256 .f32) (harg9 : arg9.IsWhole) (arg10 : Memref sig .tc .vmem S1x8x256x1024 .f32) (harg10 : arg10.IsWhole) (arg11 : Memref sig .tc .vmem S256x1024 .f32) (harg11 : arg11.IsWhole) (arg12 : Memref sig .tc .vmem S8x2x1024x256 .bf16) (harg12 : arg12.IsWhole) (arg13 : Memref sig .tc .vmem S8x256x1024 .bf16) (harg13 : arg13.IsWhole) (arg0 : BitVec 32) (x7 : Vec F S256x1152 .f32) (Y : Vec F S256x1024 .f32)
    (up : Vec F S8x2x1024x256 .bf16) (dn : Vec F S8x256x1024 .bf16) (T2 T3 T4 T5 T6 : Vec F S240 .i32)
    (h1 : k0_chk1 (rd arg4 T4 (k0_off3 i) (k0_off3_inb i)) (rd arg2 T2 (k0_off4 i) (k0_off4_inb i)))
    (h2 : k0_chk2 (rd arg4 T4 (k0_off3 i) (k0_off3_inb i)) (rd arg3 T3 (k0_off8 i) (k0_off8_inb i)))
    (h1' : (word T2 i).toNat < 32) (h2' : (word T3 i).toNat < 32)
    (hv : k0_cond2 (rd arg4 T4 (k0_off3 i) (k0_off3_inb i)) = 1#1)
    (hs : k0_cond3 (rd arg5 T5 (k0_off12 i) (k0_off12_inb i)) = 1#1)
    (ha : ¬ k0_cond4 (rd arg5 T5 (k0_off13 i) (k0_off13_inb i)) = 1#1)
    (E : Set ℕ) (K : PUnit → sProp 𝕄) :
    iprop(owns (c : Thread nD τ) arg7 fullShare x7 ∗ owns (c : Thread nD τ) arg12 fullShare up ∗ owns (c : Thread nD τ) arg13 fullShare dn ∗ owns (c : Thread nD τ) arg2 fullShare.right T2 ∗ owns (c : Thread nD τ) arg3 fullShare.right T3 ∗ owns (c : Thread nD τ) arg4 fullShare.right T4 ∗ owns (c : Thread nD τ) arg5 fullShare.right T5 ∗ owns (c : Thread nD τ) arg6 fullShare.right T6 ∗ owns (c : Thread nD τ) arg11 fullShare Y
        ∗ (iprop(owns (c : Thread nD τ) arg7 fullShare x7 ∗ owns (c : Thread nD τ) arg12 fullShare up ∗ owns (c : Thread nD τ) arg13 fullShare dn ∗ owns (c : Thread nD τ) arg2 fullShare.right T2 ∗ owns (c : Thread nD τ) arg3 fullShare.right T3 ∗ owns (c : Thread nD τ) arg4 fullShare.right T4 ∗ owns (c : Thread nD τ) arg5 fullShare.right T5 ∗ owns (c : Thread nD τ) arg6 fullShare.right T6 ∗ owns (c : Thread nD τ) arg11 fullShare (itemOut x7 up dn (word T2 i) (word T3 i) (word T5 i) (word T6 i))) -∗ K ⟨⟩))
      ⊢ wp frame (wpE (defs₀ (F := F)) Variants.none c none) E
          (tailProg i arg1 harg1 arg2 harg2 arg3 harg3 arg4 harg4 arg5 harg5 arg6 harg6 arg7 harg7 arg8 harg8 arg9 harg9 arg10 harg10 arg11 harg11 arg12 harg12 arg13 harg13 arg0) K := by
  unfold tailProg
  simp only [k0_part6_eq_skeleton, k0_part7_eq_skeleton]
  unfold k0_part6_skel k0_part7_skel
  rewrite [owns_eq_rep (c : Thread nD τ) arg7, owns_eq_rep (c : Thread nD τ) arg11 fullShare Y, owns_eq_rep (c : Thread nD τ) arg12, owns_eq_rep (c : Thread nD τ) arg13, owns_eq_rep (c : Thread nD τ) arg2, owns_eq_rep (c : Thread nD τ) arg3, owns_eq_rep (c : Thread nD τ) arg4, owns_eq_rep (c : Thread nD τ) arg5, owns_eq_rep (c : Thread nD τ) arg6]
  iintro ⟨H7, H12, H13, HT2, HT3, HT4, HT5, HT6, H11, Hk⟩
  sl_exec (disch := first | sl_exact h1 | sl_exact h2 | sl_exact hv | sl_exact hs | sl_exact ha)
  sl_step
  iapply Hk
  isplitl [H7]; · iexact H7
  isplitl [H12]; · iexact H12
  isplitl [H13]; · iexact H13
  isplitl [HT2]; · iexact HT2
  isplitl [HT3]; · iexact HT3
  isplitl [HT4]; · iexact HT4
  isplitl [HT5]; · iexact HT5
  isplitl [HT6]; · iexact HT6
  have e2 : (rd arg2 T2 (k0_off4 i) (k0_off4_inb i)) = word T2 i := rd_word _ _ _ _ i (k0_off4_eq i)
  have e3 : (rd arg3 T3 (k0_off8 i) (k0_off8_inb i)) = word T3 i := rd_word _ _ _ _ i (k0_off8_eq i)
  have e5 : (rd arg5 T5 (k0_off4 i) (k0_off4_inb i)) = word T5 i := rd_word _ _ _ _ i (k0_off4_eq i)
  have e6 : (rd arg6 T6 (k0_off4 i) (k0_off4_inb i)) = word T6 i := rd_word _ _ _ _ i (k0_off4_eq i)
  have k78 : tail_first.sl.v78 c i arg2 arg4 arg12 up T2 T4 h1 hv = upW up (word T2 i) 0 :=
    ld_up arg12 up (word T2 i) 0 (k0_off5 (rd arg2 T2 (k0_off4 i) (k0_off4_inb i))) _ (by rw [e2]; exact off5_eq h1')
  have k82 : tail_first.sl.v82 c i arg2 arg4 arg12 up T2 T4 h1 hv = upW up (word T2 i) 1 :=
    ld_up arg12 up (word T2 i) 1 (k0_off6 (rd arg2 T2 (k0_off4 i) (k0_off4_inb i))) _ (by rw [e2]; exact off6_eq h1')
  have k92 : tail_first.sl.v92 c i arg2 arg4 arg5 arg6 arg7 arg12 arg13 x7 up dn T2 T4 T5 T6 h1 hv = dnW dn (word T2 i) :=
    ld_dn arg13 dn (word T2 i) (k0_off7 (rd arg2 T2 (k0_off4 i) (k0_off4_inb i))) _ (by rw [e2]; exact off7_eq h1')
  have k111 : tail_first.sl.v111 c i arg3 arg4 arg12 up T3 T4 h2 hv = upW up (word T3 i) 0 :=
    ld_up arg12 up (word T3 i) 0 (k0_off9 (rd arg3 T3 (k0_off8 i) (k0_off8_inb i))) _ (by rw [e3]; exact off9_eq h2')
  have k115 : tail_first.sl.v115 c i arg3 arg4 arg12 up T3 T4 h2 hv = upW up (word T3 i) 1 :=
    ld_up arg12 up (word T3 i) 1 (k0_off10 (rd arg3 T3 (k0_off8 i) (k0_off8_inb i))) _ (by rw [e3]; exact off10_eq h2')
  have k125 : tail_first.sl.v125 c i arg3 arg4 arg13 dn T3 T4 h2 hv = dnW dn (word T3 i) :=
    ld_dn arg13 dn (word T3 i) (k0_off11 (rd arg3 T3 (k0_off8 i) (k0_off8_inb i))) _ (by rw [e3]; exact off11_eq h2')
  have r1 : tail_first.sl.r_1 c i arg5 T5 = word T5 i := e5
  have r2 : tail_first.sl.r_2 c i arg6 T6 = word T6 i := e6
  unfold owns
  iexists _; isplitr; swap; · iexact H11
  ipureintro
  refine owns_written c arg11 _ _ _ _ ?_
  rw [k78, k82, k92, k111, k115, k125, r1, r2, ld_tok, ld_col arg7 x7 1026 (by decide) _, ld_col arg7 x7 1027 (by decide) _]
  rfl

set_option maxHeartbeats 4000000 in
theorem tail_add (c : Dev nD) (i : grid0.Coords) (arg1 : Memref sig .tc .smem S240 .i32) (harg1 : arg1.IsWhole) (arg2 : Memref sig .tc .smem S240 .i32) (harg2 : arg2.IsWhole) (arg3 : Memref sig .tc .smem S240 .i32) (harg3 : arg3.IsWhole) (arg4 : Memref sig .tc .smem S240 .i32) (harg4 : arg4.IsWhole) (arg5 : Memref sig .tc .smem S240 .i32) (harg5 : arg5.IsWhole) (arg6 : Memref sig .tc .smem S240 .i32) (harg6 : arg6.IsWhole) (arg7 : Memref sig .tc .vmem S256x1152 .f32) (harg7 : arg7.IsWhole) (arg8 : Memref sig .tc .vmem S1x8x1024x256 .f32) (harg8 : arg8.IsWhole) (arg9 : Memref sig .tc .vmem S1x8x1024x256 .f32) (harg9 : arg9.IsWhole) (arg10 : Memref sig .tc .vmem S1x8x256x1024 .f32) (harg10 : arg10.IsWhole) (arg11 : Memref sig .tc .vmem S256x1024 .f32) (harg11 : arg11.IsWhole) (arg12 : Memref sig .tc .vmem S8x2x1024x256 .bf16) (harg12 : arg12.IsWhole) (arg13 : Memref sig .tc .vmem S8x256x1024 .bf16) (harg13 : arg13.IsWhole) (arg0 : BitVec 32) (x7 : Vec F S256x1152 .f32) (Y : Vec F S256x1024 .f32)
    (up : Vec F S8x2x1024x256 .bf16) (dn : Vec F S8x256x1024 .bf16) (T2 T3 T4 T5 T6 : Vec F S240 .i32)
    (h1 : k0_chk1 (rd arg4 T4 (k0_off3 i) (k0_off3_inb i)) (rd arg2 T2 (k0_off4 i) (k0_off4_inb i)))
    (h2 : k0_chk2 (rd arg4 T4 (k0_off3 i) (k0_off3_inb i)) (rd arg3 T3 (k0_off8 i) (k0_off8_inb i)))
    (h1' : (word T2 i).toNat < 32) (h2' : (word T3 i).toNat < 32)
    (hv : k0_cond2 (rd arg4 T4 (k0_off3 i) (k0_off3_inb i)) = 1#1)
    (hs : ¬ k0_cond3 (rd arg5 T5 (k0_off12 i) (k0_off12_inb i)) = 1#1)
    (ha : k0_cond4 (rd arg5 T5 (k0_off13 i) (k0_off13_inb i)) = 1#1)
    (E : Set ℕ) (K : PUnit → sProp 𝕄) :
    iprop(owns (c : Thread nD τ) arg7 fullShare x7 ∗ owns (c : Thread nD τ) arg12 fullShare up ∗ owns (c : Thread nD τ) arg13 fullShare dn ∗ owns (c : Thread nD τ) arg2 fullShare.right T2 ∗ owns (c : Thread nD τ) arg3 fullShare.right T3 ∗ owns (c : Thread nD τ) arg4 fullShare.right T4 ∗ owns (c : Thread nD τ) arg5 fullShare.right T5 ∗ owns (c : Thread nD τ) arg6 fullShare.right T6 ∗ owns (c : Thread nD τ) arg11 fullShare Y
        ∗ (iprop(owns (c : Thread nD τ) arg7 fullShare x7 ∗ owns (c : Thread nD τ) arg12 fullShare up ∗ owns (c : Thread nD τ) arg13 fullShare dn ∗ owns (c : Thread nD τ) arg2 fullShare.right T2 ∗ owns (c : Thread nD τ) arg3 fullShare.right T3 ∗ owns (c : Thread nD τ) arg4 fullShare.right T4 ∗ owns (c : Thread nD τ) arg5 fullShare.right T5 ∗ owns (c : Thread nD τ) arg6 fullShare.right T6 ∗ owns (c : Thread nD τ) arg11 fullShare (addf Y (itemOut x7 up dn (word T2 i) (word T3 i) (word T5 i) (word T6 i)))) -∗ K ⟨⟩))
      ⊢ wp frame (wpE (defs₀ (F := F)) Variants.none c none) E
          (tailProg i arg1 harg1 arg2 harg2 arg3 harg3 arg4 harg4 arg5 harg5 arg6 harg6 arg7 harg7 arg8 harg8 arg9 harg9 arg10 harg10 arg11 harg11 arg12 harg12 arg13 harg13 arg0) K := by
  unfold tailProg
  simp only [k0_part6_eq_skeleton, k0_part7_eq_skeleton]
  unfold k0_part6_skel k0_part7_skel
  rewrite [owns_eq_rep (c : Thread nD τ) arg7, owns_eq_rep (c : Thread nD τ) arg11 fullShare Y, owns_eq_rep (c : Thread nD τ) arg12, owns_eq_rep (c : Thread nD τ) arg13, owns_eq_rep (c : Thread nD τ) arg2, owns_eq_rep (c : Thread nD τ) arg3, owns_eq_rep (c : Thread nD τ) arg4, owns_eq_rep (c : Thread nD τ) arg5, owns_eq_rep (c : Thread nD τ) arg6]
  iintro ⟨H7, H12, H13, HT2, HT3, HT4, HT5, HT6, H11, Hk⟩
  sl_exec (disch := first | sl_exact h1 | sl_exact h2 | sl_exact hv | sl_exact hs | sl_exact ha)
  sl_step
  iapply Hk
  isplitl [H7]; · iexact H7
  isplitl [H12]; · iexact H12
  isplitl [H13]; · iexact H13
  isplitl [HT2]; · iexact HT2
  isplitl [HT3]; · iexact HT3
  isplitl [HT4]; · iexact HT4
  isplitl [HT5]; · iexact HT5
  isplitl [HT6]; · iexact HT6
  have e2 : (rd arg2 T2 (k0_off4 i) (k0_off4_inb i)) = word T2 i := rd_word _ _ _ _ i (k0_off4_eq i)
  have e3 : (rd arg3 T3 (k0_off8 i) (k0_off8_inb i)) = word T3 i := rd_word _ _ _ _ i (k0_off8_eq i)
  have e5 : (rd arg5 T5 (k0_off4 i) (k0_off4_inb i)) = word T5 i := rd_word _ _ _ _ i (k0_off4_eq i)
  have e6 : (rd arg6 T6 (k0_off4 i) (k0_off4_inb i)) = word T6 i := rd_word _ _ _ _ i (k0_off4_eq i)
  have k78 : tail_add.sl.v78 c i arg2 arg4 arg12 up T2 T4 h1 hv = upW up (word T2 i) 0 :=
    ld_up arg12 up (word T2 i) 0 (k0_off5 (rd arg2 T2 (k0_off4 i) (k0_off4_inb i))) _ (by rw [e2]; exact off5_eq h1')
  have k82 : tail_add.sl.v82 c i arg2 arg4 arg12 up T2 T4 h1 hv = upW up (word T2 i) 1 :=
    ld_up arg12 up (word T2 i) 1 (k0_off6 (rd arg2 T2 (k0_off4 i) (k0_off4_inb i))) _ (by rw [e2]; exact off6_eq h1')
  have k92 : tail_add.sl.v92 c i arg2 arg4 arg5 arg6 arg7 arg12 arg13 x7 up dn T2 T4 T5 T6 h1 hv = dnW dn (word T2 i) :=
    ld_dn arg13 dn (word T2 i) (k0_off7 (rd arg2 T2 (k0_off4 i) (k0_off4_inb i))) _ (by rw [e2]; exact off7_eq h1')
  have k111 : tail_add.sl.v111 c i arg3 arg4 arg12 up T3 T4 h2 hv = upW up (word T3 i) 0 :=
    ld_up arg12 up (word T3 i) 0 (k0_off9 (rd arg3 T3 (k0_off8 i) (k0_off8_inb i))) _ (by rw [e3]; exact off9_eq h2')
  have k115 : tail_add.sl.v115 c i arg3 arg4 arg12 up T3 T4 h2 hv = upW up (word T3 i) 1 :=
    ld_up arg12 up (word T3 i) 1 (k0_off10 (rd arg3 T3 (k0_off8 i) (k0_off8_inb i))) _ (by rw [e3]; exact off10_eq h2')
  have k125 : tail_add.sl.v125 c i arg3 arg4 arg13 dn T3 T4 h2 hv = dnW dn (word T3 i) :=
    ld_dn arg13 dn (word T3 i) (k0_off11 (rd arg3 T3 (k0_off8 i) (k0_off8_inb i))) _ (by rw [e3]; exact off11_eq h2')
  have r1 : tail_add.sl.r_1 c i arg5 T5 = word T5 i := e5
  have r2 : tail_add.sl.r_2 c i arg6 T6 = word T6 i := e6
  unfold owns
  iexists _; isplitr; swap; · iexact H11
  ipureintro
  refine owns_written c arg11 _ _ _ _ ?_
  rw [k78, k82, k92, k111, k115, k125, r1, r2, ld_tok, ld_col arg7 x7 1026 (by decide) _, ld_col arg7 x7 1027 (by decide) _]
  refine congrArg₂ (addf (F := F) (φ := .f32)) ?_ rfl
  refine (funext fun y => congrArg _ (Shape.reshapeEquiv_self _ y)).trans ?_
  exact ld_full arg11 Y _

set_option maxHeartbeats 4000000 in
theorem tail_invalid (c : Dev nD) (i : grid0.Coords) (arg1 : Memref sig .tc .smem S240 .i32) (harg1 : arg1.IsWhole) (arg2 : Memref sig .tc .smem S240 .i32) (harg2 : arg2.IsWhole) (arg3 : Memref sig .tc .smem S240 .i32) (harg3 : arg3.IsWhole) (arg4 : Memref sig .tc .smem S240 .i32) (harg4 : arg4.IsWhole) (arg5 : Memref sig .tc .smem S240 .i32) (harg5 : arg5.IsWhole) (arg6 : Memref sig .tc .smem S240 .i32) (harg6 : arg6.IsWhole) (arg7 : Memref sig .tc .vmem S256x1152 .f32) (harg7 : arg7.IsWhole) (arg8 : Memref sig .tc .vmem S1x8x1024x256 .f32) (harg8 : arg8.IsWhole) (arg9 : Memref sig .tc .vmem S1x8x1024x256 .f32) (harg9 : arg9.IsWhole) (arg10 : Memref sig .tc .vmem S1x8x256x1024 .f32) (harg10 : arg10.IsWhole) (arg11 : Memref sig .tc .vmem S256x1024 .f32) (harg11 : arg11.IsWhole) (arg12 : Memref sig .tc .vmem S8x2x1024x256 .bf16) (harg12 : arg12.IsWhole) (arg13 : Memref sig .tc .vmem S8x256x1024 .bf16) (harg13 : arg13.IsWhole) (arg0 : BitVec 32) (x7 : Vec F S256x1152 .f32) (Y : Vec F S256x1024 .f32)
    (up : Vec F S8x2x1024x256 .bf16) (dn : Vec F S8x256x1024 .bf16) (T2 T3 T4 T5 T6 : Vec F S240 .i32)
    (hv : ¬ k0_cond2 (rd arg4 T4 (k0_off3 i) (k0_off3_inb i)) = 1#1)
    (E : Set ℕ) (K : PUnit → sProp 𝕄) :
    iprop(owns (c : Thread nD τ) arg7 fullShare x7 ∗ owns (c : Thread nD τ) arg12 fullShare up ∗ owns (c : Thread nD τ) arg13 fullShare dn ∗ owns (c : Thread nD τ) arg2 fullShare.right T2 ∗ owns (c : Thread nD τ) arg3 fullShare.right T3 ∗ owns (c : Thread nD τ) arg4 fullShare.right T4 ∗ owns (c : Thread nD τ) arg5 fullShare.right T5 ∗ owns (c : Thread nD τ) arg6 fullShare.right T6 ∗ owns (c : Thread nD τ) arg11 fullShare Y
        ∗ (iprop(owns (c : Thread nD τ) arg7 fullShare x7 ∗ owns (c : Thread nD τ) arg12 fullShare up ∗ owns (c : Thread nD τ) arg13 fullShare dn ∗ owns (c : Thread nD τ) arg2 fullShare.right T2 ∗ owns (c : Thread nD τ) arg3 fullShare.right T3 ∗ owns (c : Thread nD τ) arg4 fullShare.right T4 ∗ owns (c : Thread nD τ) arg5 fullShare.right T5 ∗ owns (c : Thread nD τ) arg6 fullShare.right T6 ∗ owns (c : Thread nD τ) arg11 fullShare Y) -∗ K ⟨⟩))
      ⊢ wp frame (wpE (defs₀ (F := F)) Variants.none c none) E
          (tailProg i arg1 harg1 arg2 harg2 arg3 harg3 arg4 harg4 arg5 harg5 arg6 harg6 arg7 harg7 arg8 harg8 arg9 harg9 arg10 harg10 arg11 harg11 arg12 harg12 arg13 harg13 arg0) K := by
  unfold tailProg
  simp only [k0_part6_eq_skeleton, k0_part7_eq_skeleton]
  unfold k0_part6_skel k0_part7_skel
  rewrite [owns_eq_rep (c : Thread nD τ) arg7, owns_eq_rep (c : Thread nD τ) arg11 fullShare Y, owns_eq_rep (c : Thread nD τ) arg12, owns_eq_rep (c : Thread nD τ) arg13, owns_eq_rep (c : Thread nD τ) arg2, owns_eq_rep (c : Thread nD τ) arg3, owns_eq_rep (c : Thread nD τ) arg4, owns_eq_rep (c : Thread nD τ) arg5, owns_eq_rep (c : Thread nD τ) arg6]
  iintro ⟨H7, H12, H13, HT2, HT3, HT4, HT5, HT6, H11, Hk⟩
  sl_exec (disch := first | sl_exact hv)
  sl_step
  iapply Hk
  isplitl [H7]; · iexact H7
  isplitl [H12]; · iexact H12
  isplitl [H13]; · iexact H13
  isplitl [HT2]; · iexact HT2
  isplitl [HT3]; · iexact HT3
  isplitl [HT4]; · iexact HT4
  isplitl [HT5]; · iexact HT5
  isplitl [HT6]; · iexact HT6
  iexact H11

end Cert.KernelIdeal.Experts

end
-- ==== Proof.Body.lean ====
module

public import proofs.«01_k».proof.Proof.Tail
public import Idealize.ShloMosaic.Lib.Pipeline.TableIdle
public import Idealize.ShloMosaic.Lib.Pipeline.Value

/-! One item of the work list, run. -/

@[expose] public section

set_option maxRecDepth 16384

noncomputable section

namespace Cert.KernelIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The place before place `n` of a table; the first place is before itself. -/
def prevAt (n : Fin 240) : Fin 240 := ⟨n.val - 1, by have := n.isLt; omega⟩

theorem off2_eq : ∀ i : grid0.Coords, k0_off2 i = ![(prevAt (i 0)).val] := by decide +kernel

theorem zero_iff : ∀ i : grid0.Coords, Scalar.cmpi .eq (BitVec.ofNat 32 (i 0).val) 0#32 = if (i 0).val = 0 then 1#1 else 0#1 := by
  decide +kernel

theorem cond_iff (a : Prop) [Decidable a] (w w' : BitVec 32) :
    (Scalar.cmpi .ne (Scalar.extui (Scalar.ori (if a then 1#1 else 0#1) (Scalar.cmpi .ne w w')) : BitVec 32) 0#32 = 1#1) ↔ a ∨ w ≠ w' := by
  have e : Scalar.cmpi .ne w w' = if w = w' then 0#1 else 1#1 := by
    by_cases h : w = w'
    · subst h; simp [Scalar.cmpi, IntOp.cmpi]
    · simp [Scalar.cmpi, IntOp.cmpi, h, bne, beq_false_of_ne h]
  rw [e]
  by_cases ha : a <;> by_cases hw : w = w' <;> simp only [ha, hw, if_true, if_false, ne_eq, not_true_eq_false, not_false_eq_true, _root_.or_true, _root_.or_false, _root_.true_or, iff_true, iff_false] <;> decide

set_option maxHeartbeats 4000000 in
theorem choice_run (c : Dev nD) (i : grid0.Coords) (arg1 : Memref sig .tc .smem S240 .i32) (harg1 : arg1.IsWhole) (arg2 : Memref sig .tc .smem S240 .i32) (harg2 : arg2.IsWhole) (arg3 : Memref sig .tc .smem S240 .i32) (harg3 : arg3.IsWhole) (arg4 : Memref sig .tc .smem S240 .i32) (harg4 : arg4.IsWhole) (arg5 : Memref sig .tc .smem S240 .i32) (harg5 : arg5.IsWhole) (arg6 : Memref sig .tc .smem S240 .i32) (harg6 : arg6.IsWhole) (arg7 : Memref sig .tc .vmem S256x1152 .f32) (harg7 : arg7.IsWhole) (arg8 : Memref sig .tc .vmem S1x8x1024x256 .f32) (harg8 : arg8.IsWhole) (arg9 : Memref sig .tc .vmem S1x8x1024x256 .f32) (harg9 : arg9.IsWhole) (arg10 : Memref sig .tc .vmem S1x8x256x1024 .f32) (harg10 : arg10.IsWhole) (arg11 : Memref sig .tc .vmem S256x1024 .f32) (harg11 : arg11.IsWhole) (arg12 : Memref sig .tc .vmem S8x2x1024x256 .bf16) (harg12 : arg12.IsWhole) (arg13 : Memref sig .tc .vmem S8x256x1024 .bf16) (harg13 : arg13.IsWhole) (T2 : Vec F S240 .i32) (E : Set ℕ)
    (K : (Σ' (arg0 : BitVec 32) (v2 : BitVec 1), BitVec 1) → sProp 𝕄) :
    iprop(owns (c : Thread nD τ) arg2 fullShare.right T2 ∗ (owns (c : Thread nD τ) arg2 fullShare.right T2
        -∗ K ⟨BitVec.ofNat 32 (i 0).val, (if (i 0).val = 0 then 1#1 else 0#1), Scalar.cmpi .ne (fdiv (word T2 i)) (fdiv (T2 (at0 (prevAt (i 0)))))⟩))
      ⊢ wp frame (wpE (defs₀ (F := F)) Variants.none c none) E (k0_part8 (F := F) i arg1 harg1 arg2 harg2 arg3 harg3 arg4 harg4 arg5 harg5 arg6 harg6 arg7 harg7 arg8 harg8 arg9 harg9 arg10 harg10 arg11 harg11 arg12 harg12 arg13 harg13) K := by
  rw [← zero_iff i, k0_part8_eq_skeleton]
  unfold k0_part8_skel
  have e1 : (rd arg2 T2 (k0_off1 i) (k0_off1_inb i)) = word T2 i := rd_word _ _ _ _ i (k0_off1_eq i)
  have e2 : (rd arg2 T2 (k0_off2 i) (k0_off2_inb i)) = T2 (at0 (prevAt (i 0))) := rd_at _ _ _ _ _ (off2_eq i)
  rw [← e1, ← e2]
  rewrite [owns_eq_rep (c : Thread nD τ) arg2]
  iintro ⟨HT2, Hk⟩
  sl_exec
  sl_step
  have k2 : choice_run.sl.v2 i = Scalar.cmpi .eq (BitVec.ofNat 32 (i 0).val) 0#32 := rfl
  have k41 : choice_run.sl.v41 c i arg2 T2
      = Scalar.cmpi .ne (fdiv (rd arg2 T2 (k0_off1 i) (k0_off1_inb i))) (fdiv (rd arg2 T2 (k0_off2 i) (k0_off2_inb i))) := rfl
  rw [k2, k41]
  iapply Hk
  iexact HT2

/-- One item, run: the scratch buffers hold its bucket after it, the output block what the item leaves. -/
theorem body_run (c : Dev nD) (i : grid0.Coords) (arg1 : Memref sig .tc .smem S240 .i32) (harg1 : arg1.IsWhole) (arg2 : Memref sig .tc .smem S240 .i32) (harg2 : arg2.IsWhole) (arg3 : Memref sig .tc .smem S240 .i32) (harg3 : arg3.IsWhole) (arg4 : Memref sig .tc .smem S240 .i32) (harg4 : arg4.IsWhole) (arg5 : Memref sig .tc .smem S240 .i32) (harg5 : arg5.IsWhole) (arg6 : Memref sig .tc .smem S240 .i32) (harg6 : arg6.IsWhole) (arg7 : Memref sig .tc .vmem S256x1152 .f32) (harg7 : arg7.IsWhole) (arg8 : Memref sig .tc .vmem S1x8x1024x256 .f32) (harg8 : arg8.IsWhole) (arg9 : Memref sig .tc .vmem S1x8x1024x256 .f32) (harg9 : arg9.IsWhole) (arg10 : Memref sig .tc .vmem S1x8x256x1024 .f32) (harg10 : arg10.IsWhole) (arg11 : Memref sig .tc .vmem S256x1024 .f32) (harg11 : arg11.IsWhole) (arg12 : Memref sig .tc .vmem S8x2x1024x256 .bf16) (harg12 : arg12.IsWhole) (arg13 : Memref sig .tc .vmem S8x256x1024 .bf16) (harg13 : arg13.IsWhole) (x7 : Vec F S256x1152 .f32) (x8 x9 : Vec F S1x8x1024x256 .f32)
    (x10 : Vec F S1x8x256x1024 .f32) (Y : Vec F S256x1024 .f32) (T2 T3 T4 T5 T6 : Vec F S240 .i32)
    (up : Vec F S8x2x1024x256 .bf16) (dn : Vec F S8x256x1024 .bf16)
    (hlo : ∀ n, (T2 (at0 n)).toNat < 32) (hhi : ∀ n, (T3 (at0 n)).toNat < 32)
    (hkeep : (i 0).val ≠ 0 → (T2 (at0 (i 0))).toNat / 8 = (T2 (at0 (prevAt (i 0)))).toNat / 8 → up = upOf x8 x9 ∧ dn = dnOf x10)
    (E : Set ℕ) (K : PUnit → sProp 𝕄) :
    iprop(owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg2 fullShare.right T2 ∗ owns (c : Thread nD τ) arg3 fullShare.right T3 ∗ owns (c : Thread nD τ) arg4 fullShare.right T4 ∗ owns (c : Thread nD τ) arg5 fullShare.right T5 ∗ owns (c : Thread nD τ) arg6 fullShare.right T6 ∗ owns (c : Thread nD τ) arg11 fullShare Y ∗ owns (c : Thread nD τ) arg12 fullShare up ∗ owns (c : Thread nD τ) arg13 fullShare dn
        ∗ (iprop(owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg2 fullShare.right T2 ∗ owns (c : Thread nD τ) arg3 fullShare.right T3 ∗ owns (c : Thread nD τ) arg4 fullShare.right T4 ∗ owns (c : Thread nD τ) arg5 fullShare.right T5 ∗ owns (c : Thread nD τ) arg6 fullShare.right T6
            ∗ owns (c : Thread nD τ) arg11 fullShare (outOf x7 (upOf x8 x9) (dnOf x10) (word T2 i) (word T3 i) (word T4 i) (word T5 i) (word T6 i) Y)
            ∗ owns (c : Thread nD τ) arg12 fullShare (upOf x8 x9) ∗ owns (c : Thread nD τ) arg13 fullShare (dnOf x10)) -∗ K ⟨⟩))
      ⊢ wp frame (wpE (defs₀ (F := F)) Variants.none c none) E (cc0_moe_experts (F := F) i arg1 harg1 arg2 harg2 arg3 harg3 arg4 harg4 arg5 harg5 arg6 harg6 arg7 harg7 arg8 harg8 arg9 harg9 arg10 harg10 arg11 harg11 arg12 harg12 arg13 harg13) K := by
  rw [cc0_moe_experts_eq_skeleton, body_split, wp_bind]
  iintro ⟨H7, H8, H9, H10, HT2, HT3, HT4, HT5, HT6, H11, H12, H13, Hk⟩
  iapply (choice_run c i arg1 harg1 arg2 harg2 arg3 harg3 arg4 harg4 arg5 harg5 arg6 harg6 arg7 harg7 arg8 harg8 arg9 harg9 arg10 harg10 arg11 harg11 arg12 harg12 arg13 harg13 T2 E _)
  isplitl [HT2]; · iexact HT2
  iintro HT2
  have htail : ∀ (arg0 : BitVec 32) (K : PUnit → sProp 𝕄), iprop(owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg2 fullShare.right T2 ∗ owns (c : Thread nD τ) arg3 fullShare.right T3 ∗ owns (c : Thread nD τ) arg4 fullShare.right T4 ∗ owns (c : Thread nD τ) arg5 fullShare.right T5 ∗ owns (c : Thread nD τ) arg6 fullShare.right T6 ∗ owns (c : Thread nD τ) arg11 fullShare Y ∗ owns (c : Thread nD τ) arg12 fullShare (upOf x8 x9) ∗ owns (c : Thread nD τ) arg13 fullShare (dnOf x10)
        ∗ (iprop(owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg2 fullShare.right T2 ∗ owns (c : Thread nD τ) arg3 fullShare.right T3 ∗ owns (c : Thread nD τ) arg4 fullShare.right T4 ∗ owns (c : Thread nD τ) arg5 fullShare.right T5 ∗ owns (c : Thread nD τ) arg6 fullShare.right T6
            ∗ owns (c : Thread nD τ) arg11 fullShare (outOf x7 (upOf x8 x9) (dnOf x10) (word T2 i) (word T3 i) (word T4 i) (word T5 i) (word T6 i) Y)
            ∗ owns (c : Thread nD τ) arg12 fullShare (upOf x8 x9) ∗ owns (c : Thread nD τ) arg13 fullShare (dnOf x10)) -∗ K ⟨⟩))
      ⊢ wp frame (wpE (defs₀ (F := F)) Variants.none c none) E (tailProg i arg1 harg1 arg2 harg2 arg3 harg3 arg4 harg4 arg5 harg5 arg6 harg6 arg7 harg7 arg8 harg8 arg9 harg9 arg10 harg10 arg11 harg11 arg12 harg12 arg13 harg13 arg0) K := by
    intro arg0 K
    have ev : (rd arg4 T4 (k0_off3 i) (k0_off3_inb i)) = word T4 i := rd_word _ _ _ _ i (k0_off3_eq i)
    have e2 : (rd arg2 T2 (k0_off4 i) (k0_off4_inb i)) = word T2 i := rd_word _ _ _ _ i (k0_off4_eq i)
    have e3 : (rd arg3 T3 (k0_off8 i) (k0_off8_inb i)) = word T3 i := rd_word _ _ _ _ i (k0_off8_eq i)
    have e12 : (rd arg5 T5 (k0_off12 i) (k0_off12_inb i)) = word T5 i := rd_word _ _ _ _ i (k0_off12_eq i)
    have e13 : (rd arg5 T5 (k0_off13 i) (k0_off13_inb i)) = word T5 i := rd_word _ _ _ _ i (k0_off13_eq i)
    have h2 : (word T2 i).toNat < 32 := hlo (i 0)
    have h3 : (word T3 i).toNat < 32 := hhi (i 0)
    iintro ⟨H7, H8, H9, H10, HT2, HT3, HT4, HT5, HT6, H11, H12, H13, Hk⟩
    by_cases hv : word T4 i = 1#32
    · by_cases hs : word T5 i = 0#32
      · rw [outOf, if_pos hv, if_pos hs]
        iapply (tail_first c i arg1 harg1 arg2 harg2 arg3 harg3 arg4 harg4 arg5 harg5 arg6 harg6 arg7 harg7 arg8 harg8 arg9 harg9 arg10 harg10 arg11 harg11 arg12 harg12 arg13 harg13 arg0 x7 Y (upOf x8 x9) (dnOf x10) T2 T3 T4 T5 T6 (by rw [e2]; exact chk1_of _ h2) (by rw [e3]; exact chk2_of _ h3) h2 h3 (by rw [ev]; exact (cond2_iff _).mpr hv) (by rw [e12]; exact (cond3_iff _).mpr hs) (by rw [e13, cond4_iff]; exact not_not.mpr hs) E K)
        isplitl [H7]; · iexact H7
        isplitl [H12]; · iexact H12
        isplitl [H13]; · iexact H13
        isplitl [HT2]; · iexact HT2
        isplitl [HT3]; · iexact HT3
        isplitl [HT4]; · iexact HT4
        isplitl [HT5]; · iexact HT5
        isplitl [HT6]; · iexact HT6
        isplitl [H11]; · iexact H11
        iintro ⟨H7, H12, H13, HT2, HT3, HT4, HT5, HT6, H11⟩
        iapply Hk
        iframe H7 H8 H9 H10 HT2 HT3 HT4 HT5 HT6 H11 H12 H13
      · rw [outOf, if_pos hv, if_neg hs]
        iapply (tail_add c i arg1 harg1 arg2 harg2 arg3 harg3 arg4 harg4 arg5 harg5 arg6 harg6 arg7 harg7 arg8 harg8 arg9 harg9 arg10 harg10 arg11 harg11 arg12 harg12 arg13 harg13 arg0 x7 Y (upOf x8 x9) (dnOf x10) T2 T3 T4 T5 T6 (by rw [e2]; exact chk1_of _ h2) (by rw [e3]; exact chk2_of _ h3) h2 h3 (by rw [ev]; exact (cond2_iff _).mpr hv) (by rw [e12, cond3_iff]; exact hs) (by rw [e13]; exact (cond4_iff _).mpr hs) E K)
        isplitl [H7]; · iexact H7
        isplitl [H12]; · iexact H12
        isplitl [H13]; · iexact H13
        isplitl [HT2]; · iexact HT2
        isplitl [HT3]; · iexact HT3
        isplitl [HT4]; · iexact HT4
        isplitl [HT5]; · iexact HT5
        isplitl [HT6]; · iexact HT6
        isplitl [H11]; · iexact H11
        iintro ⟨H7, H12, H13, HT2, HT3, HT4, HT5, HT6, H11⟩
        iapply Hk
        iframe H7 H8 H9 H10 HT2 HT3 HT4 HT5 HT6 H11 H12 H13
    · rw [outOf, if_neg hv]
      iapply (tail_invalid c i arg1 harg1 arg2 harg2 arg3 harg3 arg4 harg4 arg5 harg5 arg6 harg6 arg7 harg7 arg8 harg8 arg9 harg9 arg10 harg10 arg11 harg11 arg12 harg12 arg13 harg13 arg0 x7 Y (upOf x8 x9) (dnOf x10) T2 T3 T4 T5 T6 (by rw [ev, cond2_iff]; exact hv) E K)
      isplitl [H7]; · iexact H7
      isplitl [H12]; · iexact H12
      isplitl [H13]; · iexact H13
      isplitl [HT2]; · iexact HT2
      isplitl [HT3]; · iexact HT3
      isplitl [HT4]; · iexact HT4
      isplitl [HT5]; · iexact HT5
      isplitl [HT6]; · iexact HT6
      isplitl [H11]; · iexact H11
      iintro ⟨H7, H12, H13, HT2, HT3, HT4, HT5, HT6, H11⟩
      iapply Hk
      iframe H7 H8 H9 H10 HT2 HT3 HT4 HT5 HT6 H11 H12 H13
  dsimp only
  by_cases hc : (i 0).val = 0 ∨ fdiv (word T2 i) ≠ fdiv (T2 (at0 (prevAt (i 0))))
  · rw [if_pos ((cond_iff _ _ _).mpr hc), wp_bind]
    iapply (load_run c i arg1 harg1 arg2 harg2 arg3 harg3 arg4 harg4 arg5 harg5 arg6 harg6 arg7 harg7 arg8 harg8 arg9 harg9 arg10 harg10 arg11 harg11 arg12 harg12 arg13 harg13 x8 x9 x10 E _)
    isplitl [H8]; · iexact H8
    isplitl [H9]; · iexact H9
    isplitl [H10]; · iexact H10
    isplitl [H12]; · iexists up; iexact H12
    isplitl [H13]; · iexists dn; iexact H13
    iintro ⟨H8, H9, H10, H12, H13⟩
    iapply (htail _ K)
    iframe H7 H8 H9 H10 HT2 HT3 HT4 HT5 HT6 H11 H12 H13 Hk
  · rw [if_neg (fun h => hc ((cond_iff _ _ _).mp h))]
    have hc0 : (i 0).val ≠ 0 := fun h => hc (.inl h)
    have hcf : fdiv (word T2 i) = fdiv (T2 (at0 (prevAt (i 0)))) := not_not.mp fun h => hc (.inr h)
    obtain ⟨rfl, rfl⟩ := hkeep hc0 ((fdiv_inj (hlo _) (hlo _)).mp hcf)
    iapply (htail _ K)
    iframe H7 H8 H9 H10 HT2 HT3 HT4 HT5 HT6 H11 H12 H13 Hk

end Cert.KernelIdeal.Experts

end
-- ==== Proof.List.lean ====
module

public import proofs.«01_k».proof.Proof.Body
public import proofs.«01_k».proof.Proof.Gen.KernelIdeal.Launch
public import Idealize.ShloMosaic.Lib.Pipeline.FrameBody
public import Idealize.ShloMosaic.Lib.Claim

/-! The work list as the launch finds it: its words in range, the blocks its index maps name, and what each block holds. -/

@[expose] public section

set_option maxRecDepth 16384

noncomputable section

namespace Cert.KernelIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- What a core's buffer holds when the region is entered: what it held at launch. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The six tables of the work list, at launch. -/
def tbl : pre0.Contents (Elt F) := fun j => V m (0 : Dev nD) (pre0.ref j)

theorem V_pre (c : Dev nD) (j : Fin 6) : V m c (pre0.ref j) = tbl m j := by
  obtain rfl : c = 0 := Subsingleton.elim _ _; rfl

/-- The tables by name: row tile, lower and higher expert, validity, first and past-the-last row. -/
def tTile : Vec F S240 .i32 := m (((0 : Dev nD) : Thread nD τ).loc main_arg5)
def tLo : Vec F S240 .i32 := m (((0 : Dev nD) : Thread nD τ).loc main_arg6)
def tHi : Vec F S240 .i32 := m (((0 : Dev nD) : Thread nD τ).loc main_arg7)
def tValid : Vec F S240 .i32 := m (((0 : Dev nD) : Thread nD τ).loc main_arg8)
def tRlo : Vec F S240 .i32 := m (((0 : Dev nD) : Thread nD τ).loc main_arg9)
def tRhi : Vec F S240 .i32 := m (((0 : Dev nD) : Thread nD τ).loc main_arg10)

/-- The tables' words name a row tile and two experts. -/
structure InRange : Prop where
  tile : ∀ n, (tTile m (at0 n)).toNat < 128
  lo : ∀ n, (tLo m (at0 n)).toNat < 32
  hi : ∀ n, (tHi m (at0 n)).toNat < 32

theorem pf_at (k : Fin 6) (T : Vec F S240 .i32) (i : grid0.Coords) (h0 : (Rect.unit (s := S240) (k0_off1 i) S1.size (k0_off1_inb i)).shape.numel = 1) :
    (Rect.unit (s := S240) (k0_off1 i) S1.size (k0_off1_inb i)).point h0 = at0 (i 0) := by
  funext a
  obtain rfl : a = 0 := Subsingleton.elim _ _
  apply Fin.ext
  show k0_off1 i 0 + 1 * 0 = (i 0).val
  rw [k0_off1_eq]
  show (i 0).val + 1 * 0 = (i 0).val
  omega

theorem ix_tile (i : grid0.Coords) : cc0_transform_0 k0_off1_inb numel1_S1 (tbl m) i = ![(word (tTile m) i).toNat, 0] := by
  have h : (tbl m).at 0 (Rect.unit (s := S240) (k0_off1 i) S1.size (k0_off1_inb i)) numel1_S1 = word (tTile m) i :=
    congrArg (tTile m) (pf_at 0 (tTile m) i numel1_S1)
  show ![BitVec.toNat ((tbl m).at 0 (Rect.unit (s := S240) (k0_off1 i) S1.size (k0_off1_inb i)) numel1_S1), 0] = _
  rw [h]

theorem ix_out (i : grid0.Coords) : cc0_transform_4 k0_off1_inb numel1_S1 (tbl m) i = ![(word (tTile m) i).toNat, 0] := ix_tile m i

theorem ix_bucket (i : grid0.Coords) : cc0_transform_1 k0_off1_inb numel1_S1 (tbl m) i = ![0, (fdiv (word (tLo m) i)).toNat, 0, 0] := by
  have h : (tbl m).at 1 (Rect.unit (s := S240) (k0_off1 i) S1.size (k0_off1_inb i)) numel1_S1 = word (tLo m) i :=
    congrArg (tLo m) (pf_at 1 (tLo m) i numel1_S1)
  show ![0, (fdiv ((tbl m).at 1 (Rect.unit (s := S240) (k0_off1 i) S1.size (k0_off1_inb i)) numel1_S1)).toNat, 0, 0] = _
  rw [h]

theorem ix_bucket2 (i : grid0.Coords) : cc0_transform_2 k0_off1_inb numel1_S1 (tbl m) i = ![0, (fdiv (word (tLo m) i)).toNat, 0, 0] := ix_bucket m i
theorem ix_bucket3 (i : grid0.Coords) : cc0_transform_3 k0_off1_inb numel1_S1 (tbl m) i = ![0, (fdiv (word (tLo m) i)).toNat, 0, 0] := ix_bucket m i

abbrev Ok : Prop := ok0 (F := F) (tbl m)

theorem ok_of (h : InRange m) : Ok m := by
  have hb : ∀ i : grid0.Coords, (fdiv (word (tLo m) i)).toNat < 4 := fun i => by
    have := h.lo (i 0)
    rw [fdiv_eq (show (word (tLo m) i).toNat < 32 from this)]
    show (tLo m (at0 (i 0))).toNat / 8 < 4
    omega
  have ht : ∀ i : grid0.Coords, (word (tTile m) i).toNat < 128 := fun i => h.tile (i 0)
  refine ⟨fun i => ⟨fun a => ?_, .inl rfl⟩, fun i => ⟨fun a => ?_, .inl rfl⟩, fun i => ⟨fun a => ?_, .inl rfl⟩, fun i => ⟨fun a => ?_, .inl rfl⟩, fun i => ⟨fun a => ?_, .inl rfl⟩⟩
  · rw [ix_tile]
    have := ht i
    match a with
    | ⟨0, _⟩ => show ((word (tTile m) i).toNat + 1) * 256 ≤ 32768; omega
    | ⟨1, _⟩ => show (0 + 1) * 1152 ≤ 1152; omega
  · rw [ix_bucket]
    have := hb i
    match a with
    | ⟨0, _⟩ => show (0 + 1) * 1 ≤ 2; omega
    | ⟨1, _⟩ => show ((fdiv (word (tLo m) i)).toNat + 1) * 8 ≤ 32; omega
    | ⟨2, _⟩ => show (0 + 1) * 1024 ≤ 1024; omega
    | ⟨3, _⟩ => show (0 + 1) * 256 ≤ 256; omega
  · rw [ix_bucket2]
    have := hb i
    match a with
    | ⟨0, _⟩ => show (0 + 1) * 1 ≤ 2; omega
    | ⟨1, _⟩ => show ((fdiv (word (tLo m) i)).toNat + 1) * 8 ≤ 32; omega
    | ⟨2, _⟩ => show (0 + 1) * 1024 ≤ 1024; omega
    | ⟨3, _⟩ => show (0 + 1) * 256 ≤ 256; omega
  · rw [ix_bucket3]
    have := hb i
    match a with
    | ⟨0, _⟩ => show (0 + 1) * 1 ≤ 2; omega
    | ⟨1, _⟩ => show ((fdiv (word (tLo m) i)).toNat + 1) * 8 ≤ 32; omega
    | ⟨2, _⟩ => show (0 + 1) * 256 ≤ 256; omega
    | ⟨3, _⟩ => show (0 + 1) * 1024 ≤ 1024; omega
  · rw [ix_out]
    have := ht i
    match a with
    | ⟨0, _⟩ => show ((word (tTile m) i).toNat + 1) * 256 ≤ 32768; omega
    | ⟨1, _⟩ => show (0 + 1) * 1024 ≤ 1024; omega

/-- The tables' contents as admissible contents, and the pipeline at them. -/
abbrev adm (hO : Ok m) : (pcfg0 (F := F)).Adm := ⟨tbl m, hO⟩
abbrev cfgM (hO : Ok m) : Pipeline.Cfg sig Λ₀ := cfg0 (adm m hO)

/-- A window's block at a point, read off its array as launched. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The four input blocks at a point. -/
def bX (hO : Ok m) (c : Dev nD) (t : Fin (cfgM m hO).N) : Vec F S256x1152 .f32 := iblk m hO c 0 t
def bW1 (hO : Ok m) (c : Dev nD) (t : Fin (cfgM m hO).N) : Vec F S1x8x1024x256 .f32 := iblk m hO c 1 t
def bW3 (hO : Ok m) (c : Dev nD) (t : Fin (cfgM m hO).N) : Vec F S1x8x1024x256 .f32 := iblk m hO c 2 t
def bW2 (hO : Ok m) (c : Dev nD) (t : Fin (cfgM m hO).N) : Vec F S1x8x256x1024 .f32 := iblk m hO c 3 t

/-- A place of the token array, of the up weights and of the down weights. -/
def inX (r : Fin 32768) (k : Fin 1152) : S32768x1152.Idx := fun | ⟨0, _⟩ => r | ⟨1, _⟩ => k
def inUp (e : Fin 32) (a : Fin 1024) (b : Fin 256) : S2x32x1024x256.Idx := fun | ⟨0, _⟩ => (0 : Fin 2) | ⟨1, _⟩ => e | ⟨2, _⟩ => a | ⟨3, _⟩ => b
def inDn (e : Fin 32) (a : Fin 256) (b : Fin 1024) : S2x32x256x1024.Idx := fun | ⟨0, _⟩ => (0 : Fin 2) | ⟨1, _⟩ => e | ⟨2, _⟩ => a | ⟨3, _⟩ => b

theorem bX_apply (hR : InRange m) (c : Dev nD) (t : Fin (cfgM m (ok_of m hR)).N) (y : S256x1152.Idx) (r : Fin 32768)
    (hr : r.val = (word (tTile m) (grid0.coords t)).toNat * 256 + (y 0).val) :
    bX m (ok_of m hR) c t y = (V m c main_arg0 : Vec F S32768x1152 .f32) (inX r (y 1)) := by
  show (V m c main_arg0 : Vec F S32768x1152 .f32) _ = _
  refine congrArg (V m c main_arg0 : Vec F S32768x1152 .f32) ?_
  funext a
  apply Fin.ext
  have hi := congrFun (ix_tile m (grid0.coords t)) a
  match a with
  | ⟨0, _⟩ =>
    show cc0_transform_0 k0_off1_inb numel1_S1 (tbl m) (grid0.coords t) 0 * 256 + 1 * (y 0).val = r.val
    rw [show cc0_transform_0 k0_off1_inb numel1_S1 (tbl m) (grid0.coords t) 0 = _ from hi, hr]
    show (word (tTile m) (grid0.coords t)).toNat * 256 + 1 * (y 0).val = _
    omega
  | ⟨1, _⟩ =>
    show cc0_transform_0 k0_off1_inb numel1_S1 (tbl m) (grid0.coords t) 1 * 1152 + 1 * (y 1).val = (y 1).val
    rw [show cc0_transform_0 k0_off1_inb numel1_S1 (tbl m) (grid0.coords t) 1 = _ from hi]
    show 0 * 1152 + 1 * (y 1).val = (y 1).val
    omega

theorem bW1_apply (hR : InRange m) (c : Dev nD) (t : Fin (cfgM m (ok_of m hR)).N) (y : S1x8x1024x256.Idx) (e : Fin 32)
    (he : e.val = (word (tLo m) (grid0.coords t)).toNat / 8 * 8 + (y 1).val) :
    bW1 m (ok_of m hR) c t y = (V m c main_arg1 : Vec F S2x32x1024x256 .f32) (inUp e (y 2) (y 3)) := by
  show (V m c main_arg1 : Vec F S2x32x1024x256 .f32) _ = _
  refine congrArg (V m c main_arg1 : Vec F S2x32x1024x256 .f32) ?_
  funext a
  apply Fin.ext
  have hi := congrFun (ix_bucket m (grid0.coords t)) a
  have hf : (fdiv (word (tLo m) (grid0.coords t))).toNat = (word (tLo m) (grid0.coords t)).toNat / 8 := fdiv_eq (hR.lo _)
  match a with
  | ⟨0, _⟩ =>
    show cc0_transform_1 k0_off1_inb numel1_S1 (tbl m) (grid0.coords t) 0 * 1 + 1 * (y 0).val = 0
    rw [show cc0_transform_1 k0_off1_inb numel1_S1 (tbl m) (grid0.coords t) 0 = _ from hi]
    show 0 * 1 + 1 * (y 0).val = 0
    have : (y 0).val < 1 := (y 0).isLt
    omega
  | ⟨1, _⟩ =>
    show cc0_transform_1 k0_off1_inb numel1_S1 (tbl m) (grid0.coords t) 1 * 8 + 1 * (y 1).val = e.val
    rw [show cc0_transform_1 k0_off1_inb numel1_S1 (tbl m) (grid0.coords t) 1 = _ from hi, he]
    show (fdiv (word (tLo m) (grid0.coords t))).toNat * 8 + 1 * (y 1).val = _
    rw [hf]
    omega
  | ⟨2, _⟩ =>
    show cc0_transform_1 k0_off1_inb numel1_S1 (tbl m) (grid0.coords t) 2 * 1024 + 1 * (y 2).val = (y 2).val
    rw [show cc0_transform_1 k0_off1_inb numel1_S1 (tbl m) (grid0.coords t) 2 = _ from hi]
    show 0 * 1024 + 1 * (y 2).val = (y 2).val
    omega
  | ⟨3, _⟩ =>
    show cc0_transform_1 k0_off1_inb numel1_S1 (tbl m) (grid0.coords t) 3 * 256 + 1 * (y 3).val = (y 3).val
    rw [show cc0_transform_1 k0_off1_inb numel1_S1 (tbl m) (grid0.coords t) 3 = _ from hi]
    show 0 * 256 + 1 * (y 3).val = (y 3).val
    omega

theorem bW3_apply (hR : InRange m) (c : Dev nD) (t : Fin (cfgM m (ok_of m hR)).N) (y : S1x8x1024x256.Idx) (e : Fin 32)
    (he : e.val = (word (tLo m) (grid0.coords t)).toNat / 8 * 8 + (y 1).val) :
    bW3 m (ok_of m hR) c t y = (V m c main_arg2 : Vec F S2x32x1024x256 .f32) (inUp e (y 2) (y 3)) := by
  show (V m c main_arg2 : Vec F S2x32x1024x256 .f32) _ = _
  refine congrArg (V m c main_arg2 : Vec F S2x32x1024x256 .f32) ?_
  funext a
  apply Fin.ext
  have hi := congrFun (ix_bucket2 m (grid0.coords t)) a
  have hf : (fdiv (word (tLo m) (grid0.coords t))).toNat = (word (tLo m) (grid0.coords t)).toNat / 8 := fdiv_eq (hR.lo _)
  match a with
  | ⟨0, _⟩ =>
    show cc0_transform_2 k0_off1_inb numel1_S1 (tbl m) (grid0.coords t) 0 * 1 + 1 * (y 0).val = 0
    rw [show cc0_transform_2 k0_off1_inb numel1_S1 (tbl m) (grid0.coords t) 0 = _ from hi]
    show 0 * 1 + 1 * (y 0).val = 0
    have : (y 0).val < 1 := (y 0).isLt
    omega
  | ⟨1, _⟩ =>
    show cc0_transform_2 k0_off1_inb numel1_S1 (tbl m) (grid0.coords t) 1 * 8 + 1 * (y 1).val = e.val
    rw [show cc0_transform_2 k0_off1_inb numel1_S1 (tbl m) (grid0.coords t) 1 = _ from hi, he]
    show (fdiv (word (tLo m) (grid0.coords t))).toNat * 8 + 1 * (y 1).val = _
    rw [hf]
    omega
  | ⟨2, _⟩ =>
    show cc0_transform_2 k0_off1_inb numel1_S1 (tbl m) (grid0.coords t) 2 * 1024 + 1 * (y 2).val = (y 2).val
    rw [show cc0_transform_2 k0_off1_inb numel1_S1 (tbl m) (grid0.coords t) 2 = _ from hi]
    show 0 * 1024 + 1 * (y 2).val = (y 2).val
    omega
  | ⟨3, _⟩ =>
    show cc0_transform_2 k0_off1_inb numel1_S1 (tbl m) (grid0.coords t) 3 * 256 + 1 * (y 3).val = (y 3).val
    rw [show cc0_transform_2 k0_off1_inb numel1_S1 (tbl m) (grid0.coords t) 3 = _ from hi]
    show 0 * 256 + 1 * (y 3).val = (y 3).val
    omega

theorem bW2_apply (hR : InRange m) (c : Dev nD) (t : Fin (cfgM m (ok_of m hR)).N) (y : S1x8x256x1024.Idx) (e : Fin 32)
    (he : e.val = (word (tLo m) (grid0.coords t)).toNat / 8 * 8 + (y 1).val) :
    bW2 m (ok_of m hR) c t y = (V m c main_arg3 : Vec F S2x32x256x1024 .f32) (inDn e (y 2) (y 3)) := by
  show (V m c main_arg3 : Vec F S2x32x256x1024 .f32) _ = _
  refine congrArg (V m c main_arg3 : Vec F S2x32x256x1024 .f32) ?_
  funext a
  apply Fin.ext
  have hi := congrFun (ix_bucket3 m (grid0.coords t)) a
  have hf : (fdiv (word (tLo m) (grid0.coords t))).toNat = (word (tLo m) (grid0.coords t)).toNat / 8 := fdiv_eq (hR.lo _)
  match a with
  | ⟨0, _⟩ =>
    show cc0_transform_3 k0_off1_inb numel1_S1 (tbl m) (grid0.coords t) 0 * 1 + 1 * (y 0).val = 0
    rw [show cc0_transform_3 k0_off1_inb numel1_S1 (tbl m) (grid0.coords t) 0 = _ from hi]
    show 0 * 1 + 1 * (y 0).val = 0
    have : (y 0).val < 1 := (y 0).isLt
    omega
  | ⟨1, _⟩ =>
    show cc0_transform_3 k0_off1_inb numel1_S1 (tbl m) (grid0.coords t) 1 * 8 + 1 * (y 1).val = e.val
    rw [show cc0_transform_3 k0_off1_inb numel1_S1 (tbl m) (grid0.coords t) 1 = _ from hi, he]
    show (fdiv (word (tLo m) (grid0.coords t))).toNat * 8 + 1 * (y 1).val = _
    rw [hf]
    omega
  | ⟨2, _⟩ =>
    show cc0_transform_3 k0_off1_inb numel1_S1 (tbl m) (grid0.coords t) 2 * 256 + 1 * (y 2).val = (y 2).val
    rw [show cc0_transform_3 k0_off1_inb numel1_S1 (tbl m) (grid0.coords t) 2 = _ from hi]
    show 0 * 256 + 1 * (y 2).val = (y 2).val
    omega
  | ⟨3, _⟩ =>
    show cc0_transform_3 k0_off1_inb numel1_S1 (tbl m) (grid0.coords t) 3 * 1024 + 1 * (y 3).val = (y 3).val
    rw [show cc0_transform_3 k0_off1_inb numel1_S1 (tbl m) (grid0.coords t) 3 = _ from hi]
    show 0 * 1024 + 1 * (y 3).val = (y 3).val
    omega

/-- Two items of one bucket have the same weight blocks. -/
theorem same_bucket (hO : Ok m) (hR : InRange m) (c : Dev nD) (t t' : Fin (cfgM m hO).N)
    (h : (word (tLo m) (grid0.coords t)).toNat / 8 = (word (tLo m) (grid0.coords t')).toNat / 8) :
    bW1 m hO c t = bW1 m hO c t' ∧ bW3 m hO c t = bW3 m hO c t' ∧ bW2 m hO c t = bW2 m hO c t' := by
  have hl := hR.lo (grid0.coords t 0)
  refine ⟨?_, ?_, ?_⟩ <;> funext y
  · have hy : (y 1).val < 8 := (y 1).isLt
    have hb : (word (tLo m) (grid0.coords t)).toNat < 32 := hl
    rw [bW1_apply m hR c t y ⟨(word (tLo m) (grid0.coords t)).toNat / 8 * 8 + (y 1).val, by omega⟩ rfl,
      bW1_apply m hR c t' y ⟨(word (tLo m) (grid0.coords t)).toNat / 8 * 8 + (y 1).val, by omega⟩ (by rw [← h])]
  · have hy : (y 1).val < 8 := (y 1).isLt
    have hb : (word (tLo m) (grid0.coords t)).toNat < 32 := hl
    rw [bW3_apply m hR c t y ⟨(word (tLo m) (grid0.coords t)).toNat / 8 * 8 + (y 1).val, by omega⟩ rfl,
      bW3_apply m hR c t' y ⟨(word (tLo m) (grid0.coords t)).toNat / 8 * 8 + (y 1).val, by omega⟩ (by rw [← h])]
  · have hy : (y 1).val < 8 := (y 1).isLt
    have hb : (word (tLo m) (grid0.coords t)).toNat < 32 := hl
    rw [bW2_apply m hR c t y ⟨(word (tLo m) (grid0.coords t)).toNat / 8 * 8 + (y 1).val, by omega⟩ rfl,
      bW2_apply m hR c t' y ⟨(word (tLo m) (grid0.coords t)).toNat / 8 * 8 + (y 1).val, by omega⟩ (by rw [← h])]

end Cert.KernelIdeal.Experts

end
-- ==== Proof.Run.lean ====
module

public import proofs.«01_k».proof.Proof.List
public import Idealize.ShloMosaic.Lib.Pipeline.FrameBody
public import Idealize.ShloMosaic.Lib.Claim

/-! The launch: every item run in its turn, the scratch buffers carrying the weights of the last bucket loaded. -/

@[expose] public section

set_option maxRecDepth 16384

noncomputable section

namespace Cert.KernelIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- What an item leaves in the output's staging buffer, from what the buffer held. -/
def stepOut (hO : Ok m) (c : Dev nD) (t : Fin (cfgM m hO).N) (Y : Vec F S256x1024 .f32) : Vec F S256x1024 .f32 :=
  outOf (bX m hO c t) (upOf (bW1 m hO c t) (bW3 m hO c t)) (dnOf (bW2 m hO c t)) (word (tLo m) (grid0.coords t)) (word (tHi m) (grid0.coords t))
    (word (tValid m) (grid0.coords t)) (word (tRlo m) (grid0.coords t)) (word (tRhi m) (grid0.coords t)) Y

/-- The scratch buffers before a point: the weights of the point before, anything before the first. -/
def carried (hO : Ok m) (c : Dev nD) (t : Fin ((cfgM m hO).N + 1)) : sProp 𝕄 :=
  iprop(∃ (u : Vec F S8x2x1024x256 .bf16) (d : Vec F S8x256x1024 .bf16),
    ⌜∀ t' : Fin (cfgM m hO).N, t'.val + 1 = t.val → u = upOf (bW1 m hO c t') (bW3 m hO c t') ∧ d = dnOf (bW2 m hO c t')⌝
      ∗ owns (c : Thread nD τ) (Memref.whole cc0_scratch0) fullShare u ∗ owns (c : Thread nD τ) (Memref.whole cc0_scratch1) fullShare d)

/-- The six tables, each lent by half. -/
def tables (c : Dev nD) : sProp 𝕄 :=
  iprop(owns (c : Thread nD τ) (Memref.whole main_arg5) fullShare.right (tTile m) ∗ owns (c : Thread nD τ) (Memref.whole main_arg6) fullShare.right (tLo m)
    ∗ owns (c : Thread nD τ) (Memref.whole main_arg7) fullShare.right (tHi m) ∗ owns (c : Thread nD τ) (Memref.whole main_arg8) fullShare.right (tValid m)
    ∗ owns (c : Thread nD τ) (Memref.whole main_arg9) fullShare.right (tRlo m) ∗ owns (c : Thread nD τ) (Memref.whole main_arg10) fullShare.right (tRhi m))

theorem tables_eq (c : Dev nD) : (Pipeline.ΦT pre0 (tbl m) c : sProp 𝕄) = tables m c := by
  unfold Pipeline.ΦT Pipeline.prefHeld tables
  rw [bigSep_univ_eq_bigSepL [(0 : Fin 6), (1 : Fin 6), (2 : Fin 6), (3 : Fin 6), (4 : Fin 6), (5 : Fin 6)] (by decide) (by decide)]
  simp only [owns_whole]
  rfl

def rdat (hO : Ok m) (c : Dev nD) : Pipeline.RDat τ (Elt F) Unit ℕ (UR sig nD τ) ℕ (cfgM m hO) c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = stepOut m hO c t Y
  Φ t := iprop(carried m hO c t ∗ (∃ r, prngReg c r) ∗ tables m c)
  q _ := fullShare
  owed _ := 0

theorem finds0 (hO : Ok m) (c : Dev nD) (t) (Y) (h : (rdat m hO c).Finds 0 t Y) : Y = bX m hO c t := by
  obtain ⟨d, rfl⟩ := (rdat m hO c).finds_in_eq_fetched 0 rfl (fun _ _ _ => rfl) (fun _ _ _ h => h) t Y h
  rfl
theorem finds1 (hO : Ok m) (c : Dev nD) (t) (Y) (h : (rdat m hO c).Finds 1 t Y) : Y = bW1 m hO c t := by
  obtain ⟨d, rfl⟩ := (rdat m hO c).finds_in_eq_fetched 1 rfl (fun _ _ _ => rfl) (fun _ _ _ h => h) t Y h
  rfl
theorem finds2 (hO : Ok m) (c : Dev nD) (t) (Y) (h : (rdat m hO c).Finds 2 t Y) : Y = bW3 m hO c t := by
  obtain ⟨d, rfl⟩ := (rdat m hO c).finds_in_eq_fetched 2 rfl (fun _ _ _ => rfl) (fun _ _ _ h => h) t Y h
  rfl
theorem finds3 (hO : Ok m) (c : Dev nD) (t) (Y) (h : (rdat m hO c).Finds 3 t Y) : Y = bW2 m hO c t := by
  obtain ⟨d, rfl⟩ := (rdat m hO c).finds_in_eq_fetched 3 rfl (fun _ _ _ => rfl) (fun _ _ _ h => h) t Y h
  rfl

/-- The kernel on the memrefs the pipeline hands it at a point. -/
abbrev bodyAt (hO : Ok m) (t : Fin (cfgM m hO).N) :=
  cc0_moe_experts (F := F) (grid0.coords t) (Memref.whole main_arg5) (Memref.isWhole_whole _) (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) (Memref.whole cc0_scratch0) (Memref.isWhole_whole _) (Memref.whole cc0_scratch1) (Memref.isWhole_whole _)

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem coords_val : ∀ t : Fin grid0.N, (grid0.coords t 0).val = t.val := by decide +kernel

/-- The scratch buffers already hold this item's weights when its bucket is the one before's. -/
theorem kept (hO : Ok m) (hR : InRange m) (c : Dev nD) (t : Fin (cfgM m hO).N) (u : Vec F S8x2x1024x256 .bf16) (d : Vec F S8x256x1024 .bf16)
    (h : ∀ t' : Fin (cfgM m hO).N, t'.val + 1 = t.val → u = upOf (bW1 m hO c t') (bW3 m hO c t') ∧ d = dnOf (bW2 m hO c t'))
    (h0 : (grid0.coords t 0).val ≠ 0) (hb : (tLo m (at0 (grid0.coords t 0))).toNat / 8 = (tLo m (at0 (prevAt (grid0.coords t 0)))).toNat / 8) :
    u = upOf (bW1 m hO c t) (bW3 m hO c t) ∧ d = dnOf (bW2 m hO c t) := by
  have ht := coords_val t
  have hlt : t.val < 240 := lt_of_lt_of_eq t.isLt N_0
  have hp : t.val - 1 < grid0.N := by rw [N_0]; omega
  have hpv : grid0.coords ⟨t.val - 1, hp⟩ 0 = prevAt (grid0.coords t 0) := by
    apply Fin.ext
    rw [coords_val]
    show t.val - 1 = (grid0.coords t 0).val - 1
    rw [ht]
  obtain ⟨hu, hd⟩ := h ⟨t.val - 1, hp⟩ (by show t.val - 1 + 1 = t.val; omega)
  obtain ⟨e1, e2, e3⟩ := same_bucket m hO hR c t ⟨t.val - 1, hp⟩ (by
    show (tLo m (at0 (grid0.coords t 0))).toNat / 8 = (tLo m (at0 (grid0.coords ⟨t.val - 1, hp⟩ 0))).toNat / 8
    rw [hpv]; exact hb)
  rw [e1, e2, e3]
  exact ⟨hu, hd⟩

set_option maxHeartbeats 2000000 in
theorem body_point (hO : Ok m) (hR : InRange m) (c : Dev nD) (t : Fin (cfgM m hO).N) (Y4 : Vec F S256x1024 .f32) :
    iprop((carried m hO c t.castSucc ∗ (∃ r, prngReg c r) ∗ tables m c) ∗ (rdat m hO c).owesAt () t.castSucc
      ∗ owns (c : Thread nD τ) (spec0_0.stage ((cfgM m hO).slots t 0)) fullShare (bX m hO c t)
      ∗ owns (c : Thread nD τ) (spec0_1.stage ((cfgM m hO).slots t 1)) fullShare (bW1 m hO c t)
      ∗ owns (c : Thread nD τ) (spec0_2.stage ((cfgM m hO).slots t 2)) fullShare (bW3 m hO c t)
      ∗ owns (c : Thread nD τ) (spec0_3.stage ((cfgM m hO).slots t 3)) fullShare (bW2 m hO c t)
      ∗ owns (c : Thread nD τ) (spec0_4.stage ((cfgM m hO).slots t 4)) fullShare Y4)
    ⊢ wp frame (wpE (defs₀ (F := F)) Variants.none c none) Set.univ (bodyAt m hO t) (fun _ =>
      iprop((carried m hO c t.succ ∗ (∃ r, prngReg c r) ∗ tables m c) ∗ (rdat m hO c).owesAt () t.castSucc
      ∗ owns (c : Thread nD τ) (spec0_0.stage ((cfgM m hO).slots t 0)) fullShare (bX m hO c t)
      ∗ owns (c : Thread nD τ) (spec0_1.stage ((cfgM m hO).slots t 1)) fullShare (bW1 m hO c t)
      ∗ owns (c : Thread nD τ) (spec0_2.stage ((cfgM m hO).slots t 2)) fullShare (bW3 m hO c t)
      ∗ owns (c : Thread nD τ) (spec0_3.stage ((cfgM m hO).slots t 3)) fullShare (bW2 m hO c t)
      ∗ owns (c : Thread nD τ) (spec0_4.stage ((cfgM m hO).slots t 4)) fullShare (stepOut m hO c t Y4))) := by
  unfold carried tables
  iintro ⟨⟨⟨%u, %d, %hk, Hu, Hd⟩, Hr, T1, T2, T3, T4, T5, T6⟩, Ho, H0, H1, H2, H3, H4⟩
  iapply (body_run c (grid0.coords t) _ _ _ _ _ _ _ _ _ _ _ _ _ _ _ _ _ _ _ _ _ _ _ _ _ _ (bX m hO c t) (bW1 m hO c t) (bW3 m hO c t) (bW2 m hO c t) Y4 (tLo m) (tHi m) (tValid m) (tRlo m) (tRhi m) u d hR.lo hR.hi
    (fun h0 hb => kept m hO hR c t u d hk h0 hb) Set.univ _)
  isplitl [H0]; · iexact H0
  isplitl [H1]; · iexact H1
  isplitl [H2]; · iexact H2
  isplitl [H3]; · iexact H3
  isplitl [T2]; · iexact T2
  isplitl [T3]; · iexact T3
  isplitl [T4]; · iexact T4
  isplitl [T5]; · iexact T5
  isplitl [T6]; · iexact T6
  isplitl [H4]; · iexact H4
  isplitl [Hu]; · iexact Hu
  isplitl [Hd]; · iexact Hd
  iintro ⟨H0, H1, H2, H3, T2, T3, T4, T5, T6, H4, Hu, Hd⟩
  isplitl [Hu Hd Hr T1 T2 T3 T4 T5 T6]
  · isplitl [Hu Hd]
    · iexists (upOf (bW1 m hO c t) (bW3 m hO c t)); iexists (dnOf (bW2 m hO c t))
      isplitr
      · ipureintro
        intro t' ht'
        obtain rfl : t' = t := Fin.ext (by have : t'.val + 1 = t.val + 1 := ht'; omega)
        exact ⟨rfl, rfl⟩
      isplitl [Hu]; · iexact Hu
      iexact Hd
    iframe Hr T1 T2 T3 T4 T5 T6
  isplitl [Ho]; · iexact Ho
  isplitl [H0]; · iexact H0
  isplitl [H1]; · iexact H1
  isplitl [H2]; · iexact H2
  isplitl [H3]; · iexact H3
  iexact H4

theorem owns_after {c : Thread nD τ} {sp : Space} {sh : Shape} {e : EltTy} (M : Memref sig c.2.kind sp sh e) (X : sh.Idx → Elt F e) (P : (sh.Idx → Elt F e) → Prop) (h : P X) :
    (owns c M fullShare X : sProp 𝕄) ⊢ iprop(∃ X', ⌜P X'⌝ ∗ owns c M fullShare X') := by
  iintro H; iexists X; isplitr
  · ipureintro; exact h
  · iexact H

set_option maxHeartbeats 2000000 in
theorem body_obligation (hO : Ok m) (hR : InRange m) (c : Dev nD) : (rdat m hO c).BodyObligation (defs₀ (F := F)) Variants.none () Set.univ := fun t Y hY => by
  rw [bigSep_W0, bigSep_W0, defs₀_row m hO]
  have e0 := finds0 m hO c t _ (hY 0)
  have e1 := finds1 m hO c t _ (hY 1)
  have e2 := finds2 m hO c t _ (hY 2)
  have e3 := finds3 m hO c t _ (hY 3)
  rw [e0, e1, e2, e3]
  refine triple_restated (body_point m hO hR c t (Y 4)) rfl .rfl fun _ => ?_
  refine sep_mono .rfl (sep_mono .rfl (sep_mono ?_ (sep_mono ?_ (sep_mono ?_ (sep_mono ?_ ?_)))))
  · exact owns_after _ _ _ rfl
  · exact owns_after _ _ _ rfl
  · exact owns_after _ _ _ rfl
  · exact owns_after _ _ _ rfl
  · exact owns_after _ _ _ rfl

set_option backward.isDefEq.respectTransparency.types false in
set_option maxHeartbeats 2000000 in
/-- The launch: every fair execution ends, the counters at zero, the result standing in the items' relation to what it was. -/
theorem run_main (hO : Ok m) (hR : InRange m) : θ_run defs (onTc (τ := τ) (main (F := F))) (s₀ m ρ)
    (fun r => Pipeline.RDat.FramePost ((Pipeline.pin pcfgs fun _ => adm m hO) 0) (rdat m hO) (V m) r ∧ r.2.sem = fun _ => 0) :=
  Pipeline.RDat.θ_run_frameP_track pcfgs (fun _ => adm m hO) (0 : Fin 1) launch0 defs₀ Variants.none (rdat m hO) m ρ main
    (hbody := body_obligation m hO hR) (hshare := fun c w => by
      have := (rdat m hO c).share_full (fun _ => rfl)
      exact this w)
    (howed := fun _ _ => rfl) (V := V m) (hmain := hmain m Variants.none) (hA := fun _ _ => rfl) (hpf := V_pre m)
    (hin := fun c => by
      show iprop(Pipeline.ΦA spec0 c ∗ Pipeline.ΦT pre0 (tbl m) c) ⊢ iprop(carried m hO c 0 ∗ (∃ r, prngReg c r) ∗ tables m c)
      rw [tables_eq]
      unfold Pipeline.ΦA carried
      rw [scopedRest0_eq]
      iintro ⟨⟨⟨⟨%u, Hu⟩, ⟨%d, Hd⟩⟩, Hr⟩, HT⟩
      isplitl [Hu Hd]
      · iexists u; iexists d
        isplitr
        · ipureintro; intro t' ht'; exact absurd ht' (Nat.succ_ne_zero _)
        rw [owns_whole, owns_whole]
        isplitl [Hu]; · iexact Hu
        iexact Hd
      isplitl [Hr]; · iexact Hr
      iexact HT)
    (hout := fun c => by
      show iprop(carried m hO c (Fin.last _) ∗ (∃ r, prngReg c r) ∗ tables m c) ⊢ Pipeline.ΦA spec0 c
      unfold Pipeline.ΦA carried
      rw [scopedRest0_eq]
      simp only [owns_whole]
      iintro ⟨⟨%u, %d, %hk, Hu, Hd⟩, Hr, HT⟩
      isplitl [Hu Hd]
      · isplitl [Hu]
        · iexists u; iexact Hu
        iexists d; iexact Hd
      iexact Hr)
    (Q' := _) (hQ' := fun _ h => h)

/-- The arguments unchanged and the counters at zero. -/
theorem frame_of (hR : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r hr => ⟨fun c => by
    obtain ⟨h, -⟩ := hr
    exact ⟨(Pipeline.RDat.FramePost.arr_in h c 0 rfl).trans rfl, (Pipeline.RDat.FramePost.arr_in h c 1 rfl).trans rfl,
      (Pipeline.RDat.FramePost.arr_in h c 2 rfl).trans rfl, (Pipeline.RDat.FramePost.arr_in h c 3 rfl).trans rfl,
      (h c).2 main_arg4 (by decide : main_arg4 ∈ Pipeline.restRefs sig spec0), (h c).2 main_arg5 (by decide : main_arg5 ∈ Pipeline.restRefs sig spec0),
      (h c).2 main_arg6 (by decide : main_arg6 ∈ Pipeline.restRefs sig spec0), (h c).2 main_arg7 (by decide : main_arg7 ∈ Pipeline.restRefs sig spec0),
      (h c).2 main_arg8 (by decide : main_arg8 ∈ Pipeline.restRefs sig spec0), (h c).2 main_arg9 (by decide : main_arg9 ∈ Pipeline.restRefs sig spec0),
      (h c).2 main_arg10 (by decide : main_arg10 ∈ Pipeline.restRefs sig spec0)⟩, hr.2⟩) (run_main m ρ (ok_of m hR) hR)

end Cert.KernelIdeal.Experts

end
-- ==== Proof.Frames.lean ====
module

public import proofs.«01_k».proof.Defs
public import proofs.«01_k».proof.Proof.Gen.Pre_in_range
public import proofs.«01_k».proof.Proof.Gen.Pre_planned
public import proofs.«01_k».proof.Proof.Gen.Kernel
public import proofs.«01_k».proof.Proof.Gen.RefIdeal.Run
public import proofs.«01_k».proof.Proof.Run

/-! The preconditions read word by word, and the claims that the programs run. -/

@[expose] public section

set_option maxRecDepth 16384

noncomputable section

namespace Cert.Experts

open Idealize.ShloMosaic Idealize.ShloMosaic.TcCoe Idealize.SL.Sem
open Cert.KernelIdeal.Experts

variable {F : FTy → Type} [FloatOps F]

theorem andi_bool (p q : Bool) : IntOp.andi (BitVec.ofBool p) (BitVec.ofBool q) = BitVec.ofBool (p && q) := by
  cases p <;> cases q <;> decide
theorem ori_bool (p q : Bool) : IntOp.ori (BitVec.ofBool p) (BitVec.ofBool q) = BitVec.ofBool (p || q) := by
  cases p <;> cases q <;> decide
theorem ofBool_one (p : Bool) : (BitVec.ofBool p = 1#1) ↔ p = true := by
  cases p <;> decide

/-- A word at least 0 and below a small bound, both read signed, is below it. -/
theorem lt_of_signed {w : BitVec 32} {n : ℕ} (hn : n < 2 ^ 31) (h0 : (0#32).sle w = true) (h1 : w.slt (BitVec.ofNat 32 n) = true) : w.toNat < n := by
  have hw := w.isLt
  simp only [BitVec.sle, BitVec.slt, decide_eq_true_eq, BitVec.toInt, BitVec.toNat_ofNat] at h0 h1
  have e : n % 2 ^ 32 = n := Nat.mod_eq_of_lt (by omega)
  rw [e] at h1
  split at h0 <;> split at h1 <;> split at h1 <;> omega

/-- The in-range predicate, at any float values: its three arrays all ones bound the three tables. -/
theorem in_range_words (a0 a1 a2 a3 a4 a5 a6 a7 a8 a9 a10)
    (h : (Cert.Pre_in_range.fn (F := F) a0 a1 a2 a3 a4 a5 a6 a7 a8 a9 a10).1 = (fun _ => 1#1)
      ∧ (Cert.Pre_in_range.fn (F := F) a0 a1 a2 a3 a4 a5 a6 a7 a8 a9 a10).2.1 = (fun _ => 1#1)
      ∧ (Cert.Pre_in_range.fn (F := F) a0 a1 a2 a3 a4 a5 a6 a7 a8 a9 a10).2.2 = (fun _ => 1#1)) :
    (∀ y, (a5 y).toNat < 128) ∧ (∀ y, (a6 y).toNat < 32) ∧ (∀ y, (a7 y).toNat < 32) := by
  obtain ⟨h5, h6, h7⟩ := h
  refine ⟨fun y => ?_, fun y => ?_, fun y => ?_⟩
  · have hy := congrFun h5 y
    simp only [Cert.Pre_in_range.fn, andi, cmpi, broadcastInDim, constantI, IntOp.cmpi, andi_bool, ofBool_one, Bool.and_eq_true] at hy
    exact lt_of_signed (by decide) hy.1 hy.2
  · have hy := congrFun h6 y
    simp only [Cert.Pre_in_range.fn, andi, cmpi, broadcastInDim, constantI, IntOp.cmpi, andi_bool, ofBool_one, Bool.and_eq_true] at hy
    exact lt_of_signed (by decide) hy.1 hy.2
  · have hy := congrFun h7 y
    simp only [Cert.Pre_in_range.fn, andi, cmpi, broadcastInDim, constantI, IntOp.cmpi, andi_bool, ofBool_one, Bool.and_eq_true] at hy
    exact lt_of_signed (by decide) hy.1 hy.2

theorem frame_ideal : Cert.quiescent_KernelIdeal := fun m ρ h => by
  have hw := in_range_words (F := Ideal) _ _ _ _ _ _ _ _ _ _ _ (h 0)
  exact frame_of m ρ ⟨fun n => hw.1 _, fun n => hw.2.1 _, fun n => hw.2.2 _⟩

/-- The two programs have one text: the same kernel, the same body table, the same calls. -/
theorem kernel_body : @Cert.Kernel.cc0_moe_experts F _ _ = @Cert.KernelIdeal.cc0_moe_experts F _ _ := rfl
theorem kernel_table : @Cert.Kernel.defs₀ F _ _ = @Cert.KernelIdeal.defs₀ F _ _ := by
  unfold Cert.Kernel.defs₀ Cert.KernelIdeal.defs₀
  refine congrArg Defs.onTc ?_
  funext l a
  match l, a with
  | ⟨0, _⟩, (t, s) => rfl
theorem kernel_defs : @Cert.Kernel.defs F _ _ = @Cert.KernelIdeal.defs F _ _ := by
  unfold Cert.Kernel.defs Cert.KernelIdeal.defs
  exact congrArg (Pipeline.defs _) kernel_table

theorem frame_bits : Cert.quiescent_Kernel := fun m ρ h => by
  have hw := in_range_words (F := Bits) _ _ _ _ _ _ _ _ _ _ _ (h 0)
  rw [kernel_defs]
  exact (θ_run Cert.KernelIdeal.defs _ _).mono (fun _ h => h) (frame_of (F := Bits) m ρ ⟨fun n => hw.1 _, fun n => hw.2.1 _, fun n => hw.2.2 _⟩)

theorem frame_ref : Cert.quiescent_RefIdeal := fun m ρ _ =>
  (θ_run Cert.RefIdeal.defs _ _).mono (fun r h => ⟨fun c => (h c).2,
      Idealize.ShloMosaic.sem_eq_zero_of_no_sems (by decide) r.2⟩)
    (Cert.RefIdeal.Value.run (F := Ideal) m ρ)

end Cert.Experts

end
-- ==== Proof.Plan.lean ====
module

public import proofs.«01_k».proof.Defs
public import proofs.«01_k».proof.Proof.Gen.Pre_planned
public import proofs.«01_k».proof.Proof.Frames
public import Idealize.ShloMosaic.Lib.IdealHost

/-! The plan's precondition read place by place: what it says of the work list, of the rows' experts and of their
weights. -/

@[expose] public section

set_option maxRecDepth 16384

noncomputable section

namespace Cert.Experts

open Idealize.ShloMosaic Idealize.ShloMosaic.TcCoe Idealize.SL.Sem
open Cert.KernelIdeal Cert.KernelIdeal.Experts

/-- Place `(r, k)` of the rows' experts. -/
def eIx (r : Fin 32768) (k : Fin 2) : S32768x2.Idx := fun | ⟨0, _⟩ => r | ⟨1, _⟩ => k

/-- The work list covers the rows: item by item, in unsigned words. -/
structure Planned (X : FVec Ideal S32768x1152 .f32) (E : IVec S32768x2 32) (T Lo Hi Va Ra Rb : IVec S240 32) : Prop where
  tile : ∀ n, (T (at0 n)).toNat < 128
  lo : ∀ n, (Lo (at0 n)).toNat < 32
  hi : ∀ n, (Hi (at0 n)).toNat < 32
  group : ∀ n, (Lo (at0 n)).toNat / 8 = (Hi (at0 n)).toNat / 8
  valid : ∀ n, Va (at0 n) = 0#32 ∨ (Va (at0 n) = 1#32 ∧ (Ra (at0 n)).toNat < (Rb (at0 n)).toNat ∧ (Rb (at0 n)).toNat ≤ 256)
  first : T (at0 0) = 0#32 ∧ Va (at0 0) = 1#32 ∧ Ra (at0 0) = 0#32
  step : ∀ (n : ℕ) (h : n + 1 < 240),
    (Va (at0 ⟨n, by omega⟩) = 1#32 ∧ Va (at0 ⟨n + 1, h⟩) = 1#32 ∧
      ((T (at0 ⟨n + 1, h⟩) = T (at0 ⟨n, by omega⟩) ∧ Ra (at0 ⟨n + 1, h⟩) = Rb (at0 ⟨n, by omega⟩)) ∨
        (T (at0 ⟨n + 1, h⟩) = T (at0 ⟨n, by omega⟩) + 1#32 ∧ Ra (at0 ⟨n + 1, h⟩) = 0#32 ∧ Rb (at0 ⟨n, by omega⟩) = 256#32))) ∨
    (Va (at0 ⟨n + 1, h⟩) = 0#32 ∧ T (at0 ⟨n + 1, h⟩) = T (at0 ⟨n, by omega⟩) ∧
      (Va (at0 ⟨n, by omega⟩) = 0#32 ∨ Rb (at0 ⟨n, by omega⟩) = 256#32))
  last : T (at0 239) = 127#32 ∧ (Va (at0 239) = 0#32 ∨ Rb (at0 239) = 256#32)
  rows : ∀ n (r : Fin 32768), Va (at0 n) = 1#32 → (T (at0 n)).toNat * 256 + (Ra (at0 n)).toNat ≤ r.val →
    r.val < (T (at0 n)).toNat * 256 + (Rb (at0 n)).toNat → Lo (at0 n) = E (eIx r 0) ∧ Hi (at0 n) = E (eIx r 1)
  wts : ∀ (r : Fin 32768), (0 ≤ X (inX r 1026) ∧ X (inX r 1026) ≤ 1) ∧ (0 ≤ X (inX r 1027) ∧ X (inX r 1027) ≤ 1)

theorem noti_bool (p : Bool) : ~~~(BitVec.ofBool p) = BitVec.ofBool (!p) := by cases p <;> decide

/-- Place `n` of the list of neighbours. -/
def ix239 (n : ℕ) (hn : n + 1 < 240) : Cert.Pre_planned.S239.Idx := fun | ⟨0, _⟩ => (⟨n, by omega⟩ : Fin 239)

/-- Row `r` against item `n`, and item `n` in a row of its own. -/
def ixRN (r : Fin 32768) (n : Fin 240) : Cert.Pre_planned.S32768x240.Idx := fun | ⟨0, _⟩ => r | ⟨1, _⟩ => n
def ix1N (n : Fin 240) : Cert.Pre_planned.S1x240.Idx := fun | ⟨0, _⟩ => (0 : Fin 1) | ⟨1, _⟩ => n

section reads
variable {α : Type}

theorem sl239_0 (T : S240.Idx → α) (h : S240.Slices ![0] Cert.Pre_planned.S239) (n : ℕ) (hn : n + 1 < 240) :
    extractStridedSlice Cert.Pre_planned.S239 ![0] T h (ix239 n hn) = T (at0 ⟨n, by omega⟩) := by
  refine congrArg T (funext fun a => ?_)
  fin_cases a
  exact Fin.ext (show 0 + n = n by omega)
theorem sl239_1 (T : S240.Idx → α) (h : S240.Slices ![1] Cert.Pre_planned.S239) (n : ℕ) (hn : n + 1 < 240) :
    extractStridedSlice Cert.Pre_planned.S239 ![1] T h (ix239 n hn) = T (at0 ⟨n + 1, hn⟩) := by
  refine congrArg T (funext fun a => ?_)
  fin_cases a
  exact Fin.ext (show 1 + n = n + 1 by omega)
theorem sl1_0 (T : S240.Idx → α) (h : S240.Slices ![0] Cert.Pre_planned.S1) (y : Cert.Pre_planned.S1.Idx) :
    extractStridedSlice Cert.Pre_planned.S1 ![0] T h y = T (at0 0) := by
  refine congrArg T (funext fun a => ?_)
  have : (y 0).val < 1 := (y 0).isLt
  fin_cases a
  exact Fin.ext (show 0 + (y 0).val = 0 by omega)
theorem sl1_239 (T : S240.Idx → α) (h : S240.Slices ![239] Cert.Pre_planned.S1) (y : Cert.Pre_planned.S1.Idx) :
    extractStridedSlice Cert.Pre_planned.S1 ![239] T h y = T (at0 239) := by
  refine congrArg T (funext fun a => ?_)
  have : (y 0).val < 1 := (y 0).isLt
  fin_cases a
  exact Fin.ext (show 239 + (y 0).val = 239 by omega)
theorem rowOf (d : Fin 2 → Fin 2) (hd : d 1 = 1) (Z : Cert.Pre_planned.S1x240.Idx → α) (h) (r : Fin 32768) (n : Fin 240) :
    broadcastInDim (s := Cert.Pre_planned.S1x240) Cert.Pre_planned.S32768x240 d h Z (ixRN r n) = Z (ix1N n) := by
  refine congrArg Z (funext fun a => ?_)
  fin_cases a
  · rfl
  · exact Fin.ext (show ((ixRN r n) (d 1)).val = n.val by rw [hd]; rfl)
theorem tabOf (d : Fin 1 → Fin 2) (hd : d 0 = 1) (T : S240.Idx → α) (h) (n : Fin 240) :
    broadcastInDim Cert.Pre_planned.S1x240 d h T (ix1N n) = T (at0 n) := by
  refine congrArg T (funext fun a => ?_)
  fin_cases a
  exact Fin.ext (show ((ix1N n) (d 0)).val = n.val by rw [hd]; rfl)
theorem colOf0 (d : Fin 2 → Fin 2) (hd : d 0 = 0) (E : S32768x2.Idx → α) (h1 h2) (r : Fin 32768) (n : Fin 240) :
    broadcastInDim (s := Cert.Pre_planned.S32768x1) Cert.Pre_planned.S32768x240 d h1 (extractStridedSlice Cert.Pre_planned.S32768x1 ![0, 0] E h2) (ixRN r n) = E (eIx r 0) := by
  refine congrArg E (funext fun a => ?_)
  fin_cases a
  · exact Fin.ext (show 0 + ((ixRN r n) (d 0)).val = r.val by rw [hd]; exact Nat.zero_add _)
  · rfl
theorem colOf1 (d : Fin 2 → Fin 2) (hd : d 0 = 0) (E : S32768x2.Idx → α) (h1 h2) (r : Fin 32768) (n : Fin 240) :
    broadcastInDim (s := Cert.Pre_planned.S32768x1) Cert.Pre_planned.S32768x240 d h1 (extractStridedSlice Cert.Pre_planned.S32768x1 ![0, 1] E h2) (ixRN r n) = E (eIx r 1) := by
  refine congrArg E (funext fun a => ?_)
  fin_cases a
  · exact Fin.ext (show 0 + ((ixRN r n) (d 0)).val = r.val by rw [hd]; exact Nat.zero_add _)
  · rfl
/-- A place of the two columns of weights. -/
theorem wtAt (X : S32768x1152.Idx → α) (h) (r : Fin 32768) (k : Fin 2) (q : Fin 1152) (hq : q.val = 1026 + k.val) :
    extractStridedSlice Cert.Pre_planned.S32768x2 ![0, 1026] X h (eIx r k) = X (inX r q) := by
  refine congrArg X (funext fun a => ?_)
  fin_cases a
  · exact Fin.ext (show 0 + r.val = r.val by omega)
  · exact Fin.ext (show 1026 + k.val = q.val by omega)
end reads

theorem sle_nat {x y : BitVec 32} (hx : x.toNat < 2 ^ 31) (hy : y.toNat < 2 ^ 31) : x.sle y = decide (x.toNat ≤ y.toNat) := by
  refine decide_eq_decide.mpr ?_
  rw [BitVec.toInt_eq_toNat_of_lt (by omega), BitVec.toInt_eq_toNat_of_lt (by omega)]
  exact Int.ofNat_le
theorem slt_nat {x y : BitVec 32} (hx : x.toNat < 2 ^ 31) (hy : y.toNat < 2 ^ 31) : x.slt y = decide (x.toNat < y.toNat) := by
  refine decide_eq_decide.mpr ?_
  rw [BitVec.toInt_eq_toNat_of_lt (by omega), BitVec.toInt_eq_toNat_of_lt (by omega)]
  exact Int.ofNat_lt
theorem nonneg_word {x : BitVec 32} (h : (0#32).sle x = true) : x.toNat < 2 ^ 31 := by
  have := x.isLt
  simp only [BitVec.sle, BitVec.toInt, decide_eq_true_eq, BitVec.toNat_ofNat] at h
  split at h <;> split at h <;> omega
theorem above_word {x y : BitVec 32} (hx : x.toNat < 2 ^ 31) (h : x.slt y = true) : y.toNat < 2 ^ 31 := by
  have := y.isLt
  simp only [BitVec.slt, BitVec.toInt, decide_eq_true_eq] at h
  rw [if_pos (by omega)] at h
  split at h <;> omega

theorem shr3 (x : BitVec 32) : (IntOp.shrui .host x 3#32).toNat = x.toNat / 8 := by
  unfold IntOp.shrui
  rw [if_pos (by decide), BitVec.ushiftRight_eq', BitVec.toNat_ushiftRight]
  show x.toNat >>> 3 = _
  rw [Nat.shiftRight_eq_div_pow]

theorem planned_of (a0 a1 a2 a3 a4 a5 a6 a7 a8 a9 a10)
    (h : (Cert.Pre_planned.fn (F := Ideal) a0 a1 a2 a3 a4 a5 a6 a7 a8 a9 a10) =
      ((fun _ => 1#1), (fun _ => 1#1), (fun _ => 1#1), (fun _ => 1#1), (fun _ => 1#1), (fun _ => 1#1), (fun _ => 1#1), (fun _ => 1#1), (fun _ => 1#1), (fun _ => 1#1))) :
    Planned a0 a4 a5 a6 a7 a8 a9 a10 := by
  simp only [Cert.Pre_planned.fn, Cert.Pre_planned.fn_part1, Cert.Pre_planned.fn_part2, Cert.Pre_planned.fn_part3, Cert.Pre_planned.fn_part4, Cert.Pre_planned.fn_part5, Cert.Pre_planned.fn_part6, Prod.mk.injEq] at h
  obtain ⟨h1, h2, h3, h4, h5, h6, h7, h8, h9, h10⟩ := h
  have tile : ∀ n, (a5 (at0 n)).toNat < 128 := fun n => by
    have hy := congrFun h1 (at0 n)
    simp only [andi, cmpi, broadcastInDim, constantI, IntOp.cmpi, andi_bool, ofBool_one, Bool.and_eq_true] at hy
    exact lt_of_signed (by decide) hy.1 hy.2
  have valid : ∀ n, a8 (at0 n) = 0#32 ∨ (a8 (at0 n) = 1#32 ∧ (a9 (at0 n)).toNat < (a10 (at0 n)).toNat ∧ (a10 (at0 n)).toNat ≤ 256) := fun n => by
    have hy := congrFun h5 (at0 n)
    simp only [andi, ori, cmpi, broadcastInDim, constantI, IntOp.cmpi, andi_bool, ori_bool, ofBool_one, Bool.and_eq_true, Bool.or_eq_true, beq_iff_eq] at hy
    refine hy.imp id fun ⟨⟨⟨hv, ha⟩, hb⟩, hc⟩ => ?_
    have ha' := nonneg_word ha
    have hb' := above_word ha' hb
    rw [slt_nat ha' hb', decide_eq_true_eq] at hb
    rw [sle_nat hb' (by decide), decide_eq_true_eq] at hc
    exact ⟨hv, hb, hc⟩
  refine ⟨tile, fun n => ?_, fun n => ?_, fun n => ?_, valid, ?_, fun n hn => ?_, ?_, fun n r hv hl hr => ?_, fun r => ?_⟩
  · have hy := congrFun h2 (at0 n)
    simp only [andi, cmpi, broadcastInDim, constantI, IntOp.cmpi, andi_bool, ofBool_one, Bool.and_eq_true] at hy
    exact lt_of_signed (by decide) hy.1 hy.2
  · have hy := congrFun h3 (at0 n)
    simp only [andi, cmpi, broadcastInDim, constantI, IntOp.cmpi, andi_bool, ofBool_one, Bool.and_eq_true] at hy
    exact lt_of_signed (by decide) hy.1 hy.2
  · have hy := congrFun h4 (at0 n)
    simp only [andi, cmpi, broadcastInDim, constantI, IntOp.cmpi, Host.shrui, ofBool_one, beq_iff_eq] at hy
    rw [← shr3, ← shr3, hy]
  · have hy := congrFun h6 (fun | ⟨0, _⟩ => (0 : Fin 1))
    simp only [andi, cmpi, sl1_0, IntOp.cmpi, andi_bool, ofBool_one, Bool.and_eq_true, beq_iff_eq] at hy
    exact ⟨hy.1.1, hy.1.2, hy.2⟩
  · have hy := congrFun h7 (ix239 n hn)
    simp only [andi, ori, cmpi, addi, IntOp.addi, sl239_0, sl239_1, IntOp.cmpi, andi_bool, ori_bool, ofBool_one, Bool.and_eq_true, Bool.or_eq_true, beq_iff_eq] at hy
    rcases hy with ⟨⟨hv, hw⟩, hs⟩ | ⟨⟨hv, ht⟩, hs⟩
    · exact .inl ⟨hv, hw, hs.imp id fun q => ⟨q.1.1, q.1.2, q.2⟩⟩
    · exact .inr ⟨hv, ht, hs⟩
  · have hy := congrFun h8 (fun | ⟨0, _⟩ => (0 : Fin 1))
    simp only [andi, ori, cmpi, sl1_239, IntOp.cmpi, andi_bool, ori_bool, ofBool_one, Bool.and_eq_true, Bool.or_eq_true, beq_iff_eq] at hy
    exact hy
  · have hy := congrFun h9 (ixRN r n)
    have ht := tile n
    obtain hv0 | ⟨-, hab, hb⟩ := valid n
    · rw [hv0] at hv; exact absurd hv (by decide)
    have key : ∀ z : BitVec 32, z = BitVec.ofNat 32 r.val - a5 (at0 n) * 256#32 → z.toNat = r.val - (a5 (at0 n)).toNat * 256 := fun z hz => by
      subst hz
      have hr' := r.isLt
      simp only [BitVec.toNat_sub, BitVec.toNat_mul, BitVec.toNat_ofNat]
      omega
    have hz := key _ rfl
    have hzl : (BitVec.ofNat 32 r.val - a5 (at0 n) * 256#32).toNat < 2 ^ 31 := by rw [hz]; have := r.isLt; omega
    have ea : (a9 (at0 n)).sle (BitVec.ofNat 32 r.val - a5 (at0 n) * 256#32) = true := by
      rw [sle_nat (by omega) hzl, hz, decide_eq_true_eq]; omega
    have eb : (BitVec.ofNat 32 r.val - a5 (at0 n) * 256#32).slt (a10 (at0 n)) = true := by
      rw [slt_nat hzl (by omega), hz, decide_eq_true_eq]; omega
    simp only [ori, andi, noti, cmpi, subi, muli, IntOp.cmpi] at hy
    rw [colOf0 (d := ![0, 1]) rfl, colOf1 (d := ![0, 1]) rfl] at hy
    iterate 6 rw [rowOf (d := ![0, 1]) rfl] at hy
    simp only [cmpi, muli, IntOp.cmpi] at hy
    iterate 6 rw [tabOf (d := ![1]) rfl] at hy
    have hy' : IntOp.ori (~~~(IntOp.andi (IntOp.andi (BitVec.ofBool (a8 (at0 n) == 1#32)) (BitVec.ofBool ((a9 (at0 n)).sle (BitVec.ofNat 32 r.val - a5 (at0 n) * 256#32)))) (BitVec.ofBool ((BitVec.ofNat 32 r.val - a5 (at0 n) * 256#32).slt (a10 (at0 n))))))
      (IntOp.andi (BitVec.ofBool (a6 (at0 n) == a4 (eIx r 0))) (BitVec.ofBool (a7 (at0 n) == a4 (eIx r 1)))) = 1#1 := by
      exact hy
    rw [ea, eb, hv] at hy'
    simp only [andi_bool, ori_bool, noti_bool, ofBool_one, Bool.and_eq_true, Bool.or_eq_true, beq_iff_eq, beq_self_eq_true, Bool.and_true, Bool.true_and, Bool.not_true, Bool.false_eq_true, _root_.false_or] at hy'
    exact hy'
  · have h0 := congrFun h10 (eIx r 0)
    have h1 := congrFun h10 (eIx r 1)
    simp only [andi, cmpf, wtAt _ _ r 0 1026 rfl, wtAt _ _ r 1 1027 rfl] at h0 h1
    have e0 : FloatOps.ofBits (F := Ideal) .f32 0x00000000#32 = (0 : EReal) := Ideal.ofBits_zero_f32
    have e1 : FloatOps.ofBits (F := Ideal) .f32 0x3F800000#32 = (1 : EReal) := Ideal.ofBits_one_f32
    have rd : ∀ x : EReal, IntOp.andi (FloatOps.cmpf (F := Ideal) (φ := .f32) .oge x (FloatOps.ofBits (F := Ideal) .f32 0x00000000#32))
        (FloatOps.cmpf (F := Ideal) (φ := .f32) .ole x (FloatOps.ofBits (F := Ideal) .f32 0x3F800000#32)) = 1#1 → 0 ≤ x ∧ x ≤ 1 := fun x hx => by
      rw [e0, e1] at hx
      replace hx : IntOp.andi (BitVec.ofBool (decide ((0 : EReal) ≤ x))) (BitVec.ofBool (decide (x ≤ 1))) = 1#1 := hx
      simpa only [andi_bool, ofBool_one, Bool.and_eq_true, decide_eq_true_eq] using hx
    exact ⟨rd _ h0, rd _ h1⟩

end Cert.Experts

end
-- ==== Proof.Dense.lean ====
module

public import proofs.«01_k».proof.Proof.Gen.RefIdeal.Run
public import Idealize.ShloMosaic.Lib.Pointwise

/-! The reference's result, read at a place over the extended reals. -/

@[expose] public section

set_option maxRecDepth 16384

noncomputable section

namespace Cert.RefIdeal.Dense

open Idealize.ShloMosaic Idealize.ShloMosaic.TcCoe
open Cert.RefIdeal Cert.RefIdeal.Gen

/-- The gate of every row at every expert. -/
def gates (X : FVec Ideal S32768x1152 .f32) (E : IVec S32768x2 32) : FVec Ideal S32768x32 .f32 :=
  addf (select (cmpi .eq (broadcastInDim S32768x32 ![0, 1] bcast_S32768x1_S32768x32_0_1 (extractStridedSlice S32768x1 ![0, 0] E slices_S32768x2_S32768x1_0_0)) (iotaInDim S32768x32 32 1)) (broadcastInDim S32768x32 ![0, 1] bcast_S32768x1_S32768x32_0_1 (extractStridedSlice S32768x1 ![0, 1026] X slices_S32768x1152_S32768x1_0_1026)) (broadcastInDim S32768x32 ![] bcast_S_S32768x32 (id (constant S_ .f32 0x00000000#32))))
    (select (cmpi .eq (broadcastInDim S32768x32 ![0, 1] bcast_S32768x1_S32768x32_0_1 (extractStridedSlice S32768x1 ![0, 1] E slices_S32768x2_S32768x1_0_1)) (iotaInDim S32768x32 32 1)) (broadcastInDim S32768x32 ![0, 1] bcast_S32768x1_S32768x32_0_1 (extractStridedSlice S32768x1 ![0, 1027] X slices_S32768x1152_S32768x1_0_1027)) (broadcastInDim S32768x32 ![] bcast_S_S32768x32 (id (constant S_ .f32 0x00000000#32))))

/-- One up-projection of every row at every expert. -/
def proj (X : FVec Ideal S32768x1152 .f32) (W : FVec Ideal S2x32x1024x256 .f32) : FVec Ideal S32768x32x256 .f32 :=
  Host.dotGeneral dot_S32768x1024_S32x1024x256_S32768x32x256_1_1_0_02_n_n none (extractStridedSlice S32768x1024 ![0, 0] X slices_S32768x1152_S32768x1024_0_0) (shapeCast _ (extractStridedSlice S1x32x1024x256 ![0, 0, 0, 0] W slices_S2x32x1024x256_S1x32x1024x256_0_0_0_0) shapeCasts_S1x32x1024x256_S32x1024x256)

/-- The hidden values of every row at every expert. -/
def hidden (a b : FVec Ideal S32768x32x256 .f32) : FVec Ideal S32768x32x256 .f32 :=
  mulf (mulf a (Host.divf (broadcastInDim S32768x32x256 ![] bcast_S_S32768x32x256 (constant S_ .f32 0x3F800000#32)) (addf (broadcastInDim S32768x32x256 ![] bcast_S_S32768x32x256 (constant S_ .f32 0x3F800000#32)) (Host.exp (Host.negf a))))) b

/-- The mixture of every row over all the experts. -/
def dense (X : FVec Ideal S32768x1152 .f32) (W1 W3 : FVec Ideal S2x32x1024x256 .f32) (W2 : FVec Ideal S2x32x256x1024 .f32) (E : IVec S32768x2 32) :
    FVec Ideal S32768x1024 .f32 :=
  Host.reduceAdd (mulf (broadcastInDim S32x32768x1024 ![0, 1, 2] bcast_S32x32768x1_S32x32768x1024_0_1_2 (broadcastInDim S32x32768x1 ![0, 1] bcast_S32x32768_S32x32768x1_0_1 (transpose S32x32768 [1, 0] (gates X E) transposes_S32768x32_S32x32768_1_0)))
    (Host.dotGeneral dot_S32768x32x256_S32x256x1024_S32x32768x1024_2_1_0_2_1_0 none (hidden (proj X W1) (proj X W3)) (shapeCast _ (extractStridedSlice S1x32x256x1024 ![0, 0, 0, 0] W2 slices_S2x32x256x1024_S1x32x256x1024_0_0_0_0) shapeCasts_S1x32x256x1024_S32x256x1024)))
    (constant S_ .f32 0x00000000#32) reducesTo_S32x32768x1024_S32768x1024_d0 h_S_

/-- The hidden value of a row at an expert: the gated product of its two up-projections. -/
def hid (x : Fin 1024 → EReal) (w1 w3 : Fin 1024 → Fin 256 → EReal) (f : Fin 256) : EReal :=
  ((∑ k, x k * w1 k f) * Ideal.logistic (∑ k, x k * w1 k f)) * ∑ k, x k * w3 k f

/-- A row's values, an expert's up-projection and its down-projection. -/
def rowX (X : FVec Ideal S32768x1152 .f32) (r : Fin 32768) (k : Fin 1024) : EReal := X (ix2 r ⟨k.val, Nat.lt_trans k.isLt (by decide)⟩)
def upE (W : FVec Ideal S2x32x1024x256 .f32) (e : Fin 32) (k : Fin 1024) (f : Fin 256) : EReal := W (ix4 0 e k f)
def dnE (W : FVec Ideal S2x32x256x1024 .f32) (e : Fin 32) (f : Fin 256) (n : Fin 1024) : EReal := W (ix4 0 e f n)

/-- The expert a word names. -/
def ex (w : BitVec 32) : Fin 32 := ⟨w.toNat % 32, Nat.mod_lt _ (by decide)⟩

/-- A row's product at one expert, its weight taken in before the down-projection. -/
def one (x : Fin 1024 → EReal) (w1 w3 : Fin 1024 → Fin 256 → EReal) (w2 : Fin 256 → Fin 1024 → EReal) (g : EReal) (n : Fin 1024) : EReal :=
  ∑ f, hid x w1 w3 f * g * w2 f n

/-- What a row's result is: the products at its two experts, added. -/
def target (X : FVec Ideal S32768x1152 .f32) (W1 W3 : FVec Ideal S2x32x1024x256 .f32) (W2 : FVec Ideal S2x32x256x1024 .f32) (E : IVec S32768x2 32)
    (r : Fin 32768) (n : Fin 1024) : EReal :=
  one (rowX X r) (upE W1 (ex (E (ix2 r 0)))) (upE W3 (ex (E (ix2 r 0)))) (dnE W2 (ex (E (ix2 r 0)))) (X (ix2 r 1026)) n
    + one (rowX X r) (upE W1 (ex (E (ix2 r 1)))) (upE W3 (ex (E (ix2 r 1)))) (dnE W2 (ex (E (ix2 r 1)))) (X (ix2 r 1027)) n

theorem hidden_apply (X : FVec Ideal S32768x1152 .f32) (W1 W3 : FVec Ideal S2x32x1024x256 .f32) (r : Fin 32768) (e : Fin 32) (f : Fin 256) :
    hidden (proj X W1) (proj X W3) (ix3 r e f) = hid (rowX X r) (upE W1 e) (upE W3 e) f := by
  pointwise [hidden, proj]
  rfl

theorem is_ex {w : BitVec 32} (hw : w.toNat < 32) (e : Fin 32) : (IntOp.cmpi .eq w (BitVec.ofNat 32 e.val) = 1) ↔ e = ex w := by
  have he := e.isLt
  have : IntOp.cmpi .eq w (BitVec.ofNat 32 e.val) = BitVec.ofBool (w == BitVec.ofNat 32 e.val) := rfl
  rw [this]
  have h1 : ∀ p : Bool, (BitVec.ofBool p = 1) ↔ p = true := by decide
  rw [h1, beq_iff_eq]
  constructor
  · intro h
    refine Fin.ext ?_
    have := congrArg BitVec.toNat h
    rw [BitVec.toNat_ofNat] at this
    show e.val = w.toNat % 32
    omega
  · intro h
    have h2 : e.val = w.toNat % 32 := congrArg Fin.val h
    refine BitVec.eq_of_toNat_eq ?_
    rw [BitVec.toNat_ofNat]
    omega

theorem gates_apply (X : FVec Ideal S32768x1152 .f32) (E : IVec S32768x2 32) (r : Fin 32768) (e : Fin 32)
    (h0 : (E (ix2 r 0)).toNat < 32) (h1 : (E (ix2 r 1)).toNat < 32) :
    gates X E (ix2 r e) = (if e = ex (E (ix2 r 0)) then X (ix2 r 1026) else (0 : EReal)) + (if e = ex (E (ix2 r 1)) then X (ix2 r 1027) else (0 : EReal)) := by
  pointwise [gates]
  have hz : id (constant (F := Ideal) S_ FTy.f32 0#32) ix0 = (0 : EReal) := Ideal.ofBits_zero_f32
  rw [hz, Scalar.select_def, Scalar.select_def]
  simp only [is_ex h0, is_ex h1]

/-- A weight between nought and one goes inside a sum. -/
theorem weight_sum {g : EReal} (h0 : 0 ≤ g) (h1 : g ≤ 1) {ι : Type} (s : Finset ι) (F : ι → EReal) : g * ∑ f ∈ s, F f = ∑ f ∈ s, g * F f := by
  classical
  have ht : g ≠ ⊤ := ne_top_of_le_ne_top (EReal.coe_ne_top 1) h1
  induction s using Finset.induction_on with
  | empty => simp
  | insert a s ha ih => rw [Finset.sum_insert ha, Finset.sum_insert ha, EReal.left_distrib_of_nonneg_of_ne_top h0 ht, ih]

theorem dense_apply (X : FVec Ideal S32768x1152 .f32) (W1 W3 : FVec Ideal S2x32x1024x256 .f32) (W2 : FVec Ideal S2x32x256x1024 .f32) (E : IVec S32768x2 32) (r : Fin 32768) (n : Fin 1024)
    (h0 : (E (ix2 r 0)).toNat < 32) (h1 : (E (ix2 r 1)).toNat < 32)
    (hw0 : (0 : EReal) ≤ X (ix2 r 1026) ∧ X (ix2 r 1026) ≤ (1 : EReal)) (hw1 : (0 : EReal) ≤ X (ix2 r 1027) ∧ X (ix2 r 1027) ≤ (1 : EReal)) :
    dense X W1 W3 W2 E (ix2 r n) = target X W1 W3 W2 E r n := by
  pointwise [dense]
  have inside : ∀ (g : EReal) (e : Fin 32), 0 ≤ g → g ≤ 1 → g * ∑ f, hid (rowX X r) (upE W1 e) (upE W3 e) f * dnE W2 e f n
      = one (rowX X r) (upE W1 e) (upE W3 e) (dnE W2 e) g n := fun g e hg hg' => by
    rw [weight_sum hg hg']
    exact Finset.sum_congr rfl fun f _ => by rw [← mul_assoc, mul_comm g]
  have key : ∀ e : Fin 32, gates X E (ix2 r e) * ∑ f, hidden (proj X W1) (proj X W3) (ix3 r e f) * W2 (ix4 0 e f n)
      = (if e = ex (E (ix2 r 0)) then X (ix2 r 1026) * ∑ f, hid (rowX X r) (upE W1 e) (upE W3 e) f * dnE W2 e f n else (0 : EReal))
        + (if e = ex (E (ix2 r 1)) then X (ix2 r 1027) * ∑ f, hid (rowX X r) (upE W1 e) (upE W3 e) f * dnE W2 e f n else (0 : EReal)) := fun e => by
    rw [gates_apply X E r e h0 h1]
    simp only [hidden_apply]
    rw [EReal.right_distrib_of_nonneg (by split_ifs; exacts [hw0.1, le_refl _]) (by split_ifs; exacts [hw1.1, le_refl _]), ite_mul, ite_mul, zero_mul]
    rfl
  refine (Finset.sum_congr rfl fun e _ => key e).trans ?_
  rw [Finset.sum_add_distrib, Finset.sum_ite_eq' , Finset.sum_ite_eq', if_pos (Finset.mem_univ _), if_pos (Finset.mem_univ _), inside _ _ hw0.1 hw0.2, inside _ _ hw1.1 hw1.2]
  rfl

end Cert.RefIdeal.Dense

end
-- ==== Proof.Item.lean ====
module

public import proofs.«01_k».proof.Proof.Plan
public import proofs.«01_k».proof.Proof.Dense
public import proofs.«01_k».proof.Proof.Run
public import Idealize.ShloMosaic.Lib.Pointwise

/-! One item's product over the extended reals, read place by place: on the item's rows the two experts' products, zero
on the others. -/

@[expose] public section

set_option maxRecDepth 16384

noncomputable section

namespace Cert.KernelIdeal.Experts

open Idealize.ShloMosaic Idealize.ShloMosaic.TcCoe
open Cert.KernelIdeal Cert.KernelIdeal.Gen Cert.Experts
open Cert.RefIdeal.Dense (one hid rowX upE dnE ex target)

/-- The item's test of a row, in naturals. -/
theorem in_rows (r : Fin 256) {rlo rhi : BitVec 32} (hlo : rlo.toNat < 2 ^ 31) (hhi : rhi.toNat < 2 ^ 31) :
    (IntOp.andi (IntOp.cmpi .sge (BitVec.ofNat 32 r.val) rlo) (IntOp.cmpi .slt (BitVec.ofNat 32 r.val) rhi) = 1)
      ↔ (rlo.toNat ≤ r.val ∧ r.val < rhi.toNat) := by
  have hr := r.isLt
  have e : (BitVec.ofNat 32 r.val).toNat = r.val := by
    rw [BitVec.toNat_ofNat]; exact Nat.mod_eq_of_lt (by omega)
  have hn : (BitVec.ofNat 32 r.val).toNat < 2 ^ 31 := by rw [e]; omega
  have h1 : IntOp.cmpi .sge (BitVec.ofNat 32 r.val) rlo = BitVec.ofBool (rlo.sle (BitVec.ofNat 32 r.val)) := rfl
  have h2 : IntOp.cmpi .slt (BitVec.ofNat 32 r.val) rhi = BitVec.ofBool ((BitVec.ofNat 32 r.val).slt rhi) := rfl
  rw [h1, h2, andi_bool, sle_nat hlo hn, slt_nat hn hhi, e]
  have h3 : ∀ p : Bool, (BitVec.ofBool p = 1) ↔ p = true := by decide
  rw [h3, Bool.and_eq_true, decide_eq_true_eq, decide_eq_true_eq]

/-- An item's product at a place of its block. -/
theorem itemOut_apply (x7 : Vec Ideal S256x1152 .f32) (up : Vec Ideal S8x2x1024x256 .bf16) (dn : Vec Ideal S8x256x1024 .bf16)
    (wlo whi rlo rhi : BitVec 32) (hlo : rlo.toNat < 2 ^ 31) (hhi : rhi.toNat < 2 ^ 31) (r : Fin 256) (n : Fin 1024) :
    itemOut (F := Ideal) x7 up dn wlo whi rlo rhi (ix2 r n) =
      if rlo.toNat ≤ r.val ∧ r.val < rhi.toNat then
        one (fun k => x7 (xIx r ⟨k.val, Nat.lt_trans k.isLt (by decide)⟩)) (fun k f => up (upIx wlo 0 k f)) (fun k f => up (upIx wlo 1 k f))
            (fun f n => dn (dnIx wlo f n)) (x7 (xIx r 1026)) n
          + one (fun k => x7 (xIx r ⟨k.val, Nat.lt_trans k.isLt (by decide)⟩)) (fun k f => up (upIx whi 0 k f)) (fun k f => up (upIx whi 1 k f))
            (fun f n => dn (dnIx whi f n)) (x7 (xIx r 1027)) n
      else (0 : EReal) := by
  pointwise [itemOut, k0_pay5, k0_pay31, k0_pay30, k0_pay32, k0_pay28, k0_pay29, k0_pay33]
  simp only [Scalar.select_def, in_rows r hlo hhi]
  by_cases h : rlo.toNat ≤ r.val ∧ r.val < rhi.toNat
  · simp only [if_pos h]
    rfl
  · simp only [if_neg h]
    simp

/-- The places of the arrays, by their coordinates. -/
theorem inX_eq (r : Fin 32768) (k : Fin 1152) : inX r k = ix2 r k := by funext a; fin_cases a <;> rfl
theorem inUp_eq (e : Fin 32) (k : Fin 1024) (f : Fin 256) : inUp e k f = ix4 0 e k f := by funext a; fin_cases a <;> rfl
theorem inDn_eq (e : Fin 32) (f : Fin 256) (n : Fin 1024) : inDn e f n = ix4 0 e f n := by funext a; fin_cases a <;> rfl
theorem eIx_eq (r : Fin 32768) (k : Fin 2) : eIx r k = ix2 r k := by funext a; fin_cases a <;> rfl

variable (m : (ℓ : Loc nD τ sig) → Buf (Elt Ideal) ℓ)

/-- The launch's arrays follow a plan. -/
abbrev PlannedAt (c : Dev nD) : Prop :=
  Planned (V m c main_arg0) (V m c main_arg4) (tTile m) (tLo m) (tHi m) (tValid m) (tRlo m) (tRhi m)

/-- The result of a row, from the launch's arrays. -/
def goal (c : Dev nD) (r : Fin 32768) (n : Fin 1024) : EReal :=
  target (V m c main_arg0) (V m c main_arg1) (V m c main_arg2) (V m c main_arg3) (V m c main_arg4) r n

theorem inRange_of {c : Dev nD} (P : PlannedAt m c) : InRange m := ⟨P.tile, P.lo, P.hi⟩

/-- The weights the scratch buffers hold for a word of the item's bucket are that word's expert's. -/
theorem up_at0 (hR : InRange m) (c : Dev nD) (t : Fin (cfgM m (ok_of m hR)).N) (w : BitVec 32) (hw : w.toNat < 32)
    (hg : (word (tLo m) (grid0.coords t)).toNat / 8 = w.toNat / 8) (k : Fin 1024) (f : Fin 256) :
    upOf (bW1 m (ok_of m hR) c t) (bW3 m (ok_of m hR) c t) (upIx w 0 k f) = upE (V m c main_arg1) (ex w) k f := by
  show bW1 m (ok_of m hR) c t (upAt ⟨w.toNat % 8, _⟩ k f) = _
  rw [bW1_apply m hR c t _ (ex w) (by show w.toNat % 32 = _ + w.toNat % 8; rw [hg]; omega)]
  exact congrArg (V m c main_arg1 : Vec Ideal S2x32x1024x256 .f32) (inUp_eq _ _ _)
theorem up_at1 (hR : InRange m) (c : Dev nD) (t : Fin (cfgM m (ok_of m hR)).N) (w : BitVec 32) (hw : w.toNat < 32)
    (hg : (word (tLo m) (grid0.coords t)).toNat / 8 = w.toNat / 8) (k : Fin 1024) (f : Fin 256) :
    upOf (bW1 m (ok_of m hR) c t) (bW3 m (ok_of m hR) c t) (upIx w 1 k f) = upE (V m c main_arg2) (ex w) k f := by
  show bW3 m (ok_of m hR) c t (upAt ⟨w.toNat % 8, _⟩ k f) = _
  rw [bW3_apply m hR c t _ (ex w) (by show w.toNat % 32 = _ + w.toNat % 8; rw [hg]; omega)]
  exact congrArg (V m c main_arg2 : Vec Ideal S2x32x1024x256 .f32) (inUp_eq _ _ _)
theorem dn_at0 (hR : InRange m) (c : Dev nD) (t : Fin (cfgM m (ok_of m hR)).N) (w : BitVec 32) (hw : w.toNat < 32)
    (hg : (word (tLo m) (grid0.coords t)).toNat / 8 = w.toNat / 8) (f : Fin 256) (n : Fin 1024) :
    dnOf (bW2 m (ok_of m hR) c t) (dnIx w f n) = dnE (V m c main_arg3) (ex w) f n := by
  show bW2 m (ok_of m hR) c t (dnAt ⟨w.toNat % 8, _⟩ f n) = _
  rw [bW2_apply m hR c t _ (ex w) (by show w.toNat % 32 = _ + w.toNat % 8; rw [hg]; omega)]
  exact congrArg (V m c main_arg3 : Vec Ideal S2x32x256x1024 .f32) (inDn_eq _ _ _)
theorem x_at (hR : InRange m) (c : Dev nD) (t : Fin (cfgM m (ok_of m hR)).N) (r : Fin 256) (k : Fin 1152) (R : Fin 32768)
    (h : R.val = (word (tTile m) (grid0.coords t)).toNat * 256 + r.val) :
    bX m (ok_of m hR) c t (xIx r k) = (V m c main_arg0 : Vec Ideal S32768x1152 .f32) (ix2 R k) := by
  rw [bX_apply m hR c t _ R h]
  exact congrArg (V m c main_arg0 : Vec Ideal S32768x1152 .f32) (inX_eq _ _)

/-- A valid item's product at its point of the list. -/
theorem item_at {c : Dev nD} (P : PlannedAt m c) (hR : InRange m) (t : Fin (cfgM m (ok_of m hR)).N)
    (hv : word (tValid m) (grid0.coords t) = 1#32) (r : Fin 256) (n : Fin 1024) (R : Fin 32768)
    (hRr : R.val = (word (tTile m) (grid0.coords t)).toNat * 256 + r.val) :
    itemOut (F := Ideal) (bX m (ok_of m hR) c t) (upOf (bW1 m (ok_of m hR) c t) (bW3 m (ok_of m hR) c t)) (dnOf (bW2 m (ok_of m hR) c t))
        (word (tLo m) (grid0.coords t)) (word (tHi m) (grid0.coords t)) (word (tRlo m) (grid0.coords t)) (word (tRhi m) (grid0.coords t)) (ix2 r n) =
      if (word (tRlo m) (grid0.coords t)).toNat ≤ r.val ∧ r.val < (word (tRhi m) (grid0.coords t)).toNat then goal m c R n else (0 : EReal) := by
  have hval := P.valid (grid0.coords t 0)
  have hv' : tValid m (at0 (grid0.coords t 0)) = 1#32 := hv
  have hb : (word (tRlo m) (grid0.coords t)).toNat < (word (tRhi m) (grid0.coords t)).toNat ∧ (word (tRhi m) (grid0.coords t)).toNat ≤ 256 := by
    rcases hval with h | h
    · rw [hv'] at h; exact absurd h (by decide)
    · exact h.2
  rw [itemOut_apply _ _ _ _ _ _ _ (by omega) (by omega)]
  by_cases h : (word (tRlo m) (grid0.coords t)).toNat ≤ r.val ∧ r.val < (word (tRhi m) (grid0.coords t)).toNat
  · rw [if_pos h, if_pos h]
    obtain ⟨e0, e1⟩ := P.rows (grid0.coords t 0) R hv' (by rw [hRr]; exact Nat.add_le_add_left h.1 _) (by rw [hRr]; exact Nat.add_lt_add_left h.2 _)
    rw [eIx_eq] at e0 e1
    have l0 : (word (tLo m) (grid0.coords t)).toNat < 32 := P.lo _
    have l1 : (word (tHi m) (grid0.coords t)).toNat < 32 := P.hi _
    have hg : (word (tLo m) (grid0.coords t)).toNat / 8 = (word (tHi m) (grid0.coords t)).toNat / 8 := P.group _
    have s0 : (fun k f => upOf (bW1 m (ok_of m hR) c t) (bW3 m (ok_of m hR) c t) (upIx (word (tLo m) (grid0.coords t)) 0 k f)) = upE (V m c main_arg1) (ex (word (tLo m) (grid0.coords t))) :=
      funext fun k => funext fun f => up_at0 m hR c t _ l0 rfl k f
    have s1 : (fun k f => upOf (bW1 m (ok_of m hR) c t) (bW3 m (ok_of m hR) c t) (upIx (word (tLo m) (grid0.coords t)) 1 k f)) = upE (V m c main_arg2) (ex (word (tLo m) (grid0.coords t))) :=
      funext fun k => funext fun f => up_at1 m hR c t _ l0 rfl k f
    have s2 : (fun f n => dnOf (bW2 m (ok_of m hR) c t) (dnIx (word (tLo m) (grid0.coords t)) f n)) = dnE (V m c main_arg3) (ex (word (tLo m) (grid0.coords t))) :=
      funext fun f => funext fun n => dn_at0 m hR c t _ l0 rfl f n
    have u0 : (fun k f => upOf (bW1 m (ok_of m hR) c t) (bW3 m (ok_of m hR) c t) (upIx (word (tHi m) (grid0.coords t)) 0 k f)) = upE (V m c main_arg1) (ex (word (tHi m) (grid0.coords t))) :=
      funext fun k => funext fun f => up_at0 m hR c t _ l1 hg k f
    have u1 : (fun k f => upOf (bW1 m (ok_of m hR) c t) (bW3 m (ok_of m hR) c t) (upIx (word (tHi m) (grid0.coords t)) 1 k f)) = upE (V m c main_arg2) (ex (word (tHi m) (grid0.coords t))) :=
      funext fun k => funext fun f => up_at1 m hR c t _ l1 hg k f
    have u2 : (fun f n => dnOf (bW2 m (ok_of m hR) c t) (dnIx (word (tHi m) (grid0.coords t)) f n)) = dnE (V m c main_arg3) (ex (word (tHi m) (grid0.coords t))) :=
      funext fun f => funext fun n => dn_at0 m hR c t _ l1 hg f n
    have x0 : (fun k : Fin 1024 => bX m (ok_of m hR) c t (xIx r ⟨k.val, Nat.lt_trans k.isLt (by decide)⟩)) = rowX (V m c main_arg0) R :=
      funext fun k => x_at m hR c t r _ R hRr
    rw [s0, s1, s2, u0, u1, u2, x0, x_at m hR c t r 1026 R hRr, x_at m hR c t r 1027 R hRr]
    have e0' : word (tLo m) (grid0.coords t) = (V m c main_arg4 : IVec S32768x2 32) (ix2 R 0) := e0
    have e1' : word (tHi m) (grid0.coords t) = (V m c main_arg4 : IVec S32768x2 32) (ix2 R 1) := e1
    rw [e0', e1']
    rfl
  · rw [if_neg h, if_neg h]

end Cert.KernelIdeal.Experts

end
-- ==== Proof.Value.lean ====
module

public import proofs.«01_k».proof.Proof.Item

/-! The list run over the extended reals: after each item the output's block holds the results of its rows done so far
and zeros below them; every block is written back full, so the array ends with every row's result. -/

@[expose] public section

set_option maxRecDepth 16384

noncomputable section

namespace Cert.KernelIdeal.Experts

open Idealize.ShloMosaic Idealize.ShloMosaic.TcCoe
open Cert.KernelIdeal Cert.KernelIdeal.Gen Cert.Experts

variable (m : (ℓ : Loc nD τ sig) → Buf (Elt Ideal) ℓ)

/-- Point `n` of the list. -/
def pt (hO : Ok m) (n : ℕ) (h : n < 240) : Fin (cfgM m hO).N := ⟨n, lt_of_lt_of_eq h N_0.symm⟩

theorem coords_pt (hO : Ok m) (n : ℕ) (h : n < 240) : grid0.coords (pt m hO n h) 0 = ⟨n, h⟩ :=
  Fin.ext (coords_val (pt m hO n h))

theorem word_pt (hO : Ok m) (T : Vec Ideal S240 .i32) (n : ℕ) (h : n < 240) : word T (grid0.coords (pt m hO n h)) = T (at0 ⟨n, h⟩) :=
  congrArg (fun j => T (at0 j)) (coords_pt m hO n h)

theorem index_pt (hO : Ok m) (n : ℕ) (h : n < 240) : ((cfgM m hO).win 4).index (pt m hO n h) = ![(tTile m (at0 ⟨n, h⟩)).toNat, 0] := by
  rw [← word_pt m hO (tTile m) n h]
  exact ix_out m _

/-- The output's block is written back where the next item has another tile, and at the end. -/
theorem flush_same (hO : Ok m) (n : ℕ) (h : n + 1 < 240) (e : tTile m (at0 ⟨n + 1, h⟩) = tTile m (at0 ⟨n, by omega⟩)) :
    ((cfgM m hO).win 4).flush (pt m hO n (by omega)) = false := by
  have hi : ((cfgM m hO).win 4).index (pt m hO (n + 1) h) = ((cfgM m hO).win 4).index (pt m hO n (by omega)) := by
    rw [index_pt, index_pt, e]
  have hN : (pt m hO n (by omega)).val + 1 ≠ (cfgM m hO).grid.N := by
    rw [show (cfgM m hO).grid.N = 240 from N_0]; show n + 1 ≠ 240; omega
  unfold Pipeline.Window.flush
  rw [Bool.and_eq_false_iff, Bool.or_eq_false_iff]
  refine .inr ⟨decide_eq_false hN, decide_eq_false ?_⟩
  rintro ⟨h', hne⟩
  exact hne hi

theorem flush_other (hO : Ok m) (n : ℕ) (h : n + 1 < 240) (e : tTile m (at0 ⟨n + 1, h⟩) ≠ tTile m (at0 ⟨n, by omega⟩)) :
    ((cfgM m hO).win 4).flush (pt m hO n (by omega)) = true := by
  unfold Pipeline.Window.flush
  rw [Bool.and_eq_true, Bool.or_eq_true]
  refine ⟨rfl, .inr (decide_eq_true ⟨lt_of_lt_of_eq h N_0.symm, fun hne => e ?_⟩)⟩
  have hi : ((cfgM m hO).win 4).index (pt m hO (n + 1) h) = ((cfgM m hO).win 4).index (pt m hO n (by omega)) := hne
  rw [index_pt, index_pt] at hi
  exact BitVec.eq_of_toNat_eq (congrFun hi 0)

theorem flush_end (hO : Ok m) : ((cfgM m hO).win 4).flush (pt m hO 239 (by decide)) = true := by
  unfold Pipeline.Window.flush
  rw [Bool.and_eq_true, Bool.or_eq_true]
  exact ⟨rfl, .inl (decide_eq_true (show 239 + 1 = (cfgM m hO).grid.N from N_0.symm))⟩

/-- A block written back: its own rows overwritten, the others kept. -/
theorem out_write (hR : InRange m) (c : Dev nD) (n : ℕ) (h : n < 240) (G : Vec Ideal S32768x1024 .f32) (X : Vec Ideal S256x1024 .f32)
    (R : Fin 32768) (k : Fin 1024) :
    (((cfgM m (ok_of m hR)).win 4).blk (pt m (ok_of m hR) n h)).view.write (Elt Ideal) G
        (((cfgM m (ok_of m hR)).win 4).cut (grid0.coords (pt m (ok_of m hR) n h)) X) Finset.univ (ix2 R k) =
      if R.val / 256 = (tTile m (at0 ⟨n, h⟩)).toNat then X (ix2 ⟨R.val % 256, Nat.mod_lt _ (by decide)⟩ k) else G (ix2 R k) := by
  have ht := hR.tile ⟨n, h⟩
  have hemb : ∀ (r : Fin 256) (j : Fin 1024), ∃ (h' : (tTile m (at0 ⟨n, h⟩)).toNat * 256 + r.val < 32768),
      (((cfgM m (ok_of m hR)).win 4).blk (pt m (ok_of m hR) n h)).view.emb (ix2 r j) = (ix2 ⟨(tTile m (at0 ⟨n, h⟩)).toNat * 256 + r.val, h'⟩ j : S32768x1024.Idx) := fun r j => by
    have hr := r.isLt
    refine ⟨by omega, ?_⟩
    have hi := ix_out m (grid0.coords (pt m (ok_of m hR) n h))
    rw [word_pt] at hi
    funext a
    apply Fin.ext
    have hia := congrFun hi a
    match a with
    | ⟨0, _⟩ =>
      show cc0_transform_4 k0_off1_inb numel1_S1 (tbl m) (grid0.coords (pt m (ok_of m hR) n h)) 0 * 256 + 1 * r.val = _ * 256 + r.val
      rw [show cc0_transform_4 k0_off1_inb numel1_S1 (tbl m) (grid0.coords (pt m (ok_of m hR) n h)) 0 = _ from hia]
      show (tTile m (at0 ⟨n, h⟩)).toNat * 256 + 1 * r.val = _
      omega
    | ⟨1, _⟩ =>
      show cc0_transform_4 k0_off1_inb numel1_S1 (tbl m) (grid0.coords (pt m (ok_of m hR) n h)) 1 * 1024 + 1 * j.val = j.val
      rw [show cc0_transform_4 k0_off1_inb numel1_S1 (tbl m) (grid0.coords (pt m (ok_of m hR) n h)) 1 = _ from hia]
      show 0 * 1024 + 1 * j.val = j.val
      omega
  by_cases hc : R.val / 256 = (tTile m (at0 ⟨n, h⟩)).toNat
  · rw [if_pos hc]
    obtain ⟨h', e⟩ := hemb ⟨R.val % 256, Nat.mod_lt _ (by decide)⟩ k
    have e2 : (ix2 R k : S32768x1024.Idx) = ix2 ⟨(tTile m (at0 ⟨n, h⟩)).toNat * 256 + R.val % 256, h'⟩ k :=
      congrArg (fun x => ix2 x k) (Fin.ext (by show R.val = _ * 256 + R.val % 256; rw [← hc]; omega))
    rw [e2, ← e]
    exact View.write_emb_of_mem _ _ (Finset.mem_univ _)
  · rw [if_neg hc]
    refine View.write_of_not_mem _ _ _ fun hm => hc ?_
    obtain ⟨y, hy⟩ : ∃ y : S256x1024.Idx, (((cfgM m (ok_of m hR)).win 4).blk (pt m (ok_of m hR) n h)).view.emb y = (ix2 R k : S32768x1024.Idx) := by
      obtain ⟨y, -, hy⟩ := Finset.mem_map.mp hm
      exact ⟨y, hy⟩
    rw [eq_ix2 y] at hy
    obtain ⟨h', e⟩ := hemb (y 0) (y 1)
    have hy0 := congrArg (fun z : S32768x1024.Idx => (z 0).val) (hy.symm.trans e)
    have hlt : (y 0).val < 256 := (y 0).isLt
    have : R.val = (tTile m (at0 ⟨n, h⟩)).toNat * 256 + (y 0).val := hy0
    omega

/-- How many rows of its tile are done after an item. -/
def upto (n : Fin 240) : ℕ := if tValid m (at0 n) = 1#32 then (tRhi m (at0 n)).toNat else 256

/-- A row's two experts are experts. -/
def Known (c : Dev nD) (R : Fin 32768) : Prop :=
  ((V m c main_arg4 : IVec S32768x2 32) (ix2 R 0)).toNat < 32 ∧ ((V m c main_arg4 : IVec S32768x2 32) (ix2 R 1)).toNat < 32

theorem known_of {c : Dev nD} (P : PlannedAt m c) (n : Fin 240) (R : Fin 32768) (hv : tValid m (at0 n) = 1#32)
    (h0 : (tTile m (at0 n)).toNat * 256 + (tRlo m (at0 n)).toNat ≤ R.val) (h1 : R.val < (tTile m (at0 n)).toNat * 256 + (tRhi m (at0 n)).toNat) :
    Known m c R := by
  obtain ⟨e0, e1⟩ := P.rows n R hv h0 h1
  rw [eIx_eq] at e0 e1
  exact ⟨e0 ▸ P.lo n, e1 ▸ P.hi n⟩

/-- A block holds its first `q` rows' results and zeros below. -/
def Done (c : Dev nD) (T : BitVec 32) (q : ℕ) (X : Vec Ideal S256x1024 .f32) : Prop :=
  ∀ (r : Fin 256) (k : Fin 1024) (R : Fin 32768), R.val = T.toNat * 256 + r.val →
    (r.val < q → X (ix2 r k) = goal m c R k ∧ Known m c R) ∧ (q ≤ r.val → X (ix2 r k) = (0 : EReal))

/-- A valid item starting its tile. -/
theorem done_start {c : Dev nD} (P : PlannedAt m c) (hR : InRange m) (n : ℕ) (h : n < 240) (hv : tValid m (at0 ⟨n, h⟩) = 1#32)
    (ha : tRlo m (at0 ⟨n, h⟩) = 0#32) (Y : Vec Ideal S256x1024 .f32) :
    Done m c (tTile m (at0 ⟨n, h⟩)) (tRhi m (at0 ⟨n, h⟩)).toNat (stepOut m (ok_of m hR) c (pt m (ok_of m hR) n h) Y) := by
  intro r k R hr
  have hv' : word (tValid m) (grid0.coords (pt m (ok_of m hR) n h)) = 1#32 := (word_pt m _ _ n h).trans hv
  have ha' : word (tRlo m) (grid0.coords (pt m (ok_of m hR) n h)) = 0#32 := (word_pt m _ _ n h).trans ha
  have hs := item_at m P hR (pt m (ok_of m hR) n h) hv' r k R (by rw [word_pt]; exact hr)
  rw [word_pt m _ (tRhi m), ha'] at hs
  unfold stepOut outOf
  rw [if_pos hv', if_pos ha', ha', word_pt m _ (tRhi m), hs]
  refine ⟨fun hq => ?_, fun hq => ?_⟩
  · rw [if_pos ⟨Nat.zero_le _, hq⟩]
    exact ⟨rfl, known_of m P ⟨n, h⟩ R hv (by rw [ha, hr]; exact Nat.le_add_right _ _) (by rw [hr]; omega)⟩
  · rw [if_neg (fun hh => by omega)]

/-- A valid item going on where the tile stands. -/
theorem done_more {c : Dev nD} (P : PlannedAt m c) (hR : InRange m) (n : ℕ) (h : n < 240) (hv : tValid m (at0 ⟨n, h⟩) = 1#32)
    (ha : tRlo m (at0 ⟨n, h⟩) ≠ 0#32) (Y : Vec Ideal S256x1024 .f32) (hY : Done m c (tTile m (at0 ⟨n, h⟩)) (tRlo m (at0 ⟨n, h⟩)).toNat Y) :
    Done m c (tTile m (at0 ⟨n, h⟩)) (tRhi m (at0 ⟨n, h⟩)).toNat (stepOut m (ok_of m hR) c (pt m (ok_of m hR) n h) Y) := by
  intro r k R hr
  have hv' : word (tValid m) (grid0.coords (pt m (ok_of m hR) n h)) = 1#32 := (word_pt m _ _ n h).trans hv
  have ha' : word (tRlo m) (grid0.coords (pt m (ok_of m hR) n h)) ≠ 0#32 := by rw [word_pt]; exact ha
  have hs := item_at m P hR (pt m (ok_of m hR) n h) hv' r k R (by rw [word_pt]; exact hr)
  have hle : (tRlo m (at0 ⟨n, h⟩)).toNat < (tRhi m (at0 ⟨n, h⟩)).toNat := by
    rcases P.valid ⟨n, h⟩ with h0 | h1
    · rw [hv] at h0; exact absurd h0 (by decide)
    · exact h1.2.1
  obtain ⟨y1, y0⟩ := hY r k R hr
  unfold stepOut outOf
  rw [if_pos hv', if_neg ha']
  show (_ → Y (ix2 r k) + itemOut (F := Ideal) _ _ _ _ _ _ _ (ix2 r k) = _ ∧ _) ∧ (_ → Y (ix2 r k) + itemOut (F := Ideal) _ _ _ _ _ _ _ (ix2 r k) = (0 : EReal))
  rw [hs, word_pt m _ (tRlo m), word_pt m _ (tRhi m)]
  refine ⟨fun hq => ?_, fun hq => ?_⟩
  · by_cases hb : r.val < (tRlo m (at0 ⟨n, h⟩)).toNat
    · rw [if_neg (fun hh => by omega)]
      exact ⟨(add_zero (Y (ix2 r k) : EReal)).trans (y1 hb).1, (y1 hb).2⟩
    · rw [if_pos ⟨by omega, hq⟩, y0 (by omega)]
      exact ⟨zero_add (goal m c R k), known_of m P ⟨n, h⟩ R hv (by rw [hr]; omega) (by rw [hr]; omega)⟩
  · rw [if_neg (fun hh => by omega), y0 (by omega)]
    exact add_zero (0 : EReal)

/-- What the output's block may hold after each item. -/
theorem leaves_done {c : Dev nD} (P : PlannedAt m c) (hR : InRange m) : ∀ (n : ℕ) (h : n < 240) (X : Vec Ideal S256x1024 .f32),
    (rdat m (ok_of m hR) c).Leaves 4 (pt m (ok_of m hR) n h) X → Done m c (tTile m (at0 ⟨n, h⟩)) (upto m ⟨n, h⟩) X := by
  intro n
  induction n with
  | zero =>
    intro h X hX
    obtain ⟨(Y : Vec Ideal S256x1024 .f32), -, hX⟩ := hX
    have hX : X = stepOut m (ok_of m hR) c (pt m (ok_of m hR) 0 h) Y := hX
    obtain ⟨-, hv, ha⟩ := P.first
    have hu : upto m ⟨0, h⟩ = (tRhi m (at0 ⟨0, h⟩)).toNat := if_pos hv
    rw [hX, hu]
    exact done_start m P hR 0 h hv ha Y
  | succ n ih =>
    intro h X hX
    obtain ⟨(Y : Vec Ideal S256x1024 .f32), hY, hX⟩ := hX
    have hX : X = stepOut m (ok_of m hR) c (pt m (ok_of m hR) (n + 1) h) Y := hX
    have hprev : tTile m (at0 ⟨n + 1, h⟩) = tTile m (at0 ⟨n, by omega⟩) → Done m c (tTile m (at0 ⟨n + 1, h⟩)) (upto m ⟨n, by omega⟩) Y := fun e => by
      rw [e]
      have hf := flush_same m (ok_of m hR) n h e
      rcases ((rdat m (ok_of m hR) c).finds_of_pos (w := 4) (t := pt m (ok_of m hR) (n + 1) h) rfl (Nat.succ_ne_zero n) Y).mp hY with hh | hh
      · exact absurd (hh.symm.trans hf) (by decide)
      · exact ih (by omega) Y hh
    rw [hX]
    have one_ne : (1#32 : BitVec 32) ≠ 0#32 := by decide
    rcases P.step n h with ⟨hv0, hv, ⟨e, ha⟩ | ⟨e, ha, hb⟩⟩ | ⟨hv, e, hv0⟩
    · have hlt : (tRlo m (at0 ⟨n, by omega⟩)).toNat < (tRhi m (at0 ⟨n, by omega⟩)).toNat := by
        rcases P.valid ⟨n, by omega⟩ with h0 | h1
        · rw [hv0] at h0; exact absurd h0 one_ne
        · exact h1.2.1
      have hp := hprev e
      rw [upto, if_pos hv0, ← ha] at hp
      rw [upto, if_pos hv]
      refine done_more m P hR (n + 1) h hv (fun h0 => ?_) Y hp
      rw [← ha, h0] at hlt
      exact absurd hlt (Nat.not_lt_zero _)
    · rw [upto, if_pos hv]
      exact done_start m P hR (n + 1) h hv ha Y
    · have hnv : ¬ tValid m (at0 ⟨n + 1, h⟩) = 1#32 := fun h1 => one_ne (h1.symm.trans hv)
      have hs : stepOut m (ok_of m hR) c (pt m (ok_of m hR) (n + 1) h) Y = Y := by
        unfold stepOut outOf
        rw [word_pt m _ (tValid m), if_neg hnv]
      have hp := hprev e
      have hu : upto m ⟨n, by omega⟩ = 256 := by
        unfold upto
        split
        · next h1 =>
          rcases hv0 with h0 | h0
          · exact absurd (h1.symm.trans h0) one_ne
          · rw [h0]; rfl
        · rfl
      rw [hu] at hp
      rw [hs, upto, if_neg hnv]
      exact hp

/-- A block is written back full. -/
theorem full_of_flush {c : Dev nD} (P : PlannedAt m c) (hO : Ok m) (n : ℕ) (h : n < 240)
    (hf : ((cfgM m hO).win 4).flush (pt m hO n h) = true) : upto m ⟨n, h⟩ = 256 := by
  have one_ne : (1#32 : BitVec 32) ≠ 0#32 := by decide
  by_cases hl : n + 1 < 240
  · rcases P.step n hl with ⟨hv0, hv, ⟨e, ha⟩ | ⟨e, ha, hb⟩⟩ | ⟨hv, e, hv0⟩
    · exact absurd (hf.symm.trans (flush_same m hO n hl e)) (by decide)
    · rw [upto, if_pos hv0, hb]; rfl
    · exact absurd (hf.symm.trans (flush_same m hO n hl e)) (by decide)
  · obtain rfl : n = 239 := by omega
    unfold upto
    split
    · next h1 =>
      rcases P.last.2 with h0 | h0
      · exact absurd (h1.symm.trans h0) one_ne
      · have h0' : tRhi m (at0 ⟨239, h⟩) = 256#32 := h0
        rw [h0']; rfl
    · rfl

/-- The rows of the tiles before an item's were written back before it. -/
theorem before_tile {c : Dev nD} (P : PlannedAt m c) (hO : Ok m) (n : ℕ) (h : n + 1 < 240) (q : ℕ) (hq : q < (tTile m (at0 ⟨n + 1, h⟩)).toNat) :
    q < (tTile m (at0 ⟨n, by omega⟩)).toNat ∨ (q = (tTile m (at0 ⟨n, by omega⟩)).toNat ∧ ((cfgM m hO).win 4).flush (pt m hO n (by omega)) = true) := by
  rcases P.step n h with ⟨hv0, hv, ⟨e, ha⟩ | ⟨e, ha, hb⟩⟩ | ⟨hv, e, hv0⟩
  · rw [e] at hq; exact .inl hq
  · have ht := P.tile ⟨n, by omega⟩
    have hs : (tTile m (at0 ⟨n + 1, h⟩)).toNat = (tTile m (at0 ⟨n, by omega⟩)).toNat + 1 := by
      rw [e, BitVec.toNat_add]
      exact Nat.mod_eq_of_lt (by show _ + 1 < 2 ^ 32; omega)
    by_cases hlt : q < (tTile m (at0 ⟨n, by omega⟩)).toNat
    · exact .inl hlt
    · refine .inr ⟨by omega, flush_other m hO n h fun e' => ?_⟩
      rw [e'] at hs
      omega
  · rw [e] at hq; exact .inl hq

/-- What the array may hold after the items up to one: the rows of every block written back have their results. -/
theorem rows_done {c : Dev nD} (P : PlannedAt m c) (hR : InRange m) : ∀ (n : ℕ) (h : n < 240) (G : Vec Ideal S32768x1024 .f32),
    (rdat m (ok_of m hR) c).ArrAt 4 (n + 1) G → ∀ (R : Fin 32768) (k : Fin 1024),
      (R.val / 256 < (tTile m (at0 ⟨n, h⟩)).toNat ∨ (R.val / 256 = (tTile m (at0 ⟨n, h⟩)).toNat ∧ ((cfgM m (ok_of m hR)).win 4).flush (pt m (ok_of m hR) n h) = true)) →
      G (ix2 R k) = goal m c R k ∧ Known m c R := by
  have step : ∀ (n : ℕ) (h : n < 240) (G : Vec Ideal S32768x1024 .f32), (rdat m (ok_of m hR) c).ArrAt 4 (n + 1) G →
      (∀ G₀ : Vec Ideal S32768x1024 .f32, (rdat m (ok_of m hR) c).ArrAt 4 n G₀ → ∀ (R : Fin 32768) (k : Fin 1024),
        R.val / 256 < (tTile m (at0 ⟨n, h⟩)).toNat → G₀ (ix2 R k) = goal m c R k ∧ Known m c R) →
      ∀ (R : Fin 32768) (k : Fin 1024),
      (R.val / 256 < (tTile m (at0 ⟨n, h⟩)).toNat ∨ (R.val / 256 = (tTile m (at0 ⟨n, h⟩)).toNat ∧ ((cfgM m (ok_of m hR)).win 4).flush (pt m (ok_of m hR) n h) = true)) →
      G (ix2 R k) = goal m c R k ∧ Known m c R := by
    intro n h G hG old R k hRk
    have hG' := (congrFun ((rdat m (ok_of m hR) c).ArrAt_succ 4 (pt m (ok_of m hR) n h)) G).mp hG
    by_cases hf : ((cfgM m (ok_of m hR)).win 4).flush (pt m (ok_of m hR) n h) = true
    · rw [if_pos hf] at hG'
      obtain ⟨(G₀ : Vec Ideal S32768x1024 .f32), (X : Vec Ideal S256x1024 .f32), hG₀, hX, rfl⟩ := hG'
      have hw := out_write m hR c n h G₀ X R k
      have hd := leaves_done m P hR n h X hX
      rw [full_of_flush m P (ok_of m hR) n h hf] at hd
      by_cases hc : R.val / 256 = (tTile m (at0 ⟨n, h⟩)).toNat
      · have hw := hw.trans (if_pos hc)
        have hx := (hd ⟨R.val % 256, Nat.mod_lt _ (by decide)⟩ k R (by show R.val = _ * 256 + R.val % 256; rw [← hc]; omega)).1 (Nat.mod_lt _ (by decide))
        exact ⟨hw.trans hx.1, hx.2⟩
      · have hw := hw.trans (if_neg hc)
        have hx := old G₀ hG₀ R k (hRk.resolve_right fun hh => hc hh.1)
        exact ⟨hw.trans hx.1, hx.2⟩
    · rw [if_neg hf] at hG'
      exact old G hG' R k (hRk.resolve_right fun hh => hf hh.2)
  intro n
  induction n with
  | zero =>
    intro h G hG
    refine step 0 h G hG fun G₀ _ R k hlt => ?_
    have h0 : tTile m (at0 ⟨0, h⟩) = 0#32 := P.first.1
    rw [h0] at hlt
    exact absurd hlt (Nat.not_lt_zero _)
  | succ n ih =>
    intro h G hG
    refine step (n + 1) h G hG fun G₀ hG₀ R k hlt => ?_
    exact ih (by omega) G₀ hG₀ R k (before_tile m P (ok_of m hR) n h _ hlt)

/-- What the array holds at the end. -/
theorem all_done {c : Dev nD} (P : PlannedAt m c) (hR : InRange m) (G : Vec Ideal S32768x1024 .f32)
    (hG : (rdat m (ok_of m hR) c).ArrAt 4 (cfgM m (ok_of m hR)).N G) (R : Fin 32768) (k : Fin 1024) :
    G (ix2 R k) = goal m c R k ∧ Known m c R := by
  rw [show (cfgM m (ok_of m hR)).N = 239 + 1 from N_0] at hG
  have hRl := R.isLt
  refine rows_done m P hR 239 (by decide) G hG R k ?_
  have ht : tTile m (at0 ⟨239, by decide⟩) = 127#32 := P.last.1
  rw [ht]
  by_cases hlt : R.val / 256 < 127
  · exact .inl hlt
  · exact .inr ⟨by show R.val / 256 = 127; omega, flush_end m (ok_of m hR)⟩

/-- The array at the end is the dense mixture of the launch's arrays. -/
theorem out_eq {c : Dev nD} (P : PlannedAt m c) (hR : InRange m) (G : Vec Ideal S32768x1024 .f32)
    (hG : (rdat m (ok_of m hR) c).ArrAt 4 (cfgM m (ok_of m hR)).N G) :
    G = Cert.RefIdeal.Dense.dense (V m c main_arg0) (V m c main_arg1) (V m c main_arg2) (V m c main_arg3) (V m c main_arg4) := by
  funext j
  obtain ⟨R, k, rfl⟩ : ∃ (R : Fin 32768) (k : Fin 1024), j = ix2 R k := ⟨j 0, j 1, eq_ix2 j⟩
  obtain ⟨hv, h0, h1⟩ := all_done m P hR G hG R k
  have hw := P.wts R
  rw [inX_eq, inX_eq] at hw
  exact hv.trans (Cert.RefIdeal.Dense.dense_apply _ _ _ _ _ R k h0 h1 hw.1 hw.2).symm

end Cert.KernelIdeal.Experts

end
-- ==== Proof.Og.lean ====
module

public import proofs.«01_k».proof.Defs
public import proofs.«01_k».proof.Proof.Gen.Kernel5
public import proofs.«01_k».proof.Proof.Gen.Kernel5Ideal
public import proofs.«01_k».proof.Proof.Gen.Kernel5Ideal.Value
public import proofs.«01_k».proof.Proof.Gen.Ref5Ideal.Run
public import Idealize.ShloMosaic.Lib.Pointwise

/-! The attention's output projection with its residual: the result of each row in closed form, and the reference's the same. -/

@[expose] public section

set_option maxRecDepth 16384

noncomputable section

namespace Cert.Kernel5Ideal.Closed

open Cert.Kernel5Ideal Cert.Kernel5Ideal.Gen Cert.Kernel5Ideal.Value Idealize.ShloMosaic Idealize.ShloMosaic.TcCoe Idealize.SL.Sem

/-- A row's element of its sequence. -/
def elt (R : Fin 32768) : Fin 8 := ⟨R.val / 4096, by omega⟩
/-- A row's place in its sequence. -/
def pos (R : Fin 32768) : Fin 4096 := ⟨R.val % 4096, by omega⟩

/-- The result at a row and a column: the residual, and the gate times the gated row's product with the weights. -/
def out (x0 x1 : FVec Ideal S32768x1024 .bf16) (x2 : FVec Ideal S8x4096x1024 .f32) (x3 : FVec Ideal S1024x1024 .f32) (x4 : FVec Ideal S8x1024 .f32)
    (R : Fin 32768) (n : Fin 1024) : EReal :=
  x2 (ix3 (elt R) (pos R) n) + x4 (ix2 (elt R) n) * ∑ k : Fin 1024, x0 (ix2 R k) * Ideal.logistic (x1 (ix2 R k)) * x3 (ix2 k n)

/-- The same as an array. -/
def arr (x0 x1 : FVec Ideal S32768x1024 .bf16) (x2 : FVec Ideal S8x4096x1024 .f32) (x3 : FVec Ideal S1024x1024 .f32) (x4 : FVec Ideal S8x1024 .f32) :
    FVec Ideal S32768x1024 .f32 := fun j => out x0 x1 x2 x3 x4 (j 0) (j 1)

/-- What the body stores, read at a row and a column of the block. -/
theorem pay_apply (y0 y1 : Vec Ideal S512x1024 .bf16) (y2 : Vec Ideal S512x1024 .f32) (y4 : Vec Ideal S1x1x1024 .f32) (y3 : Vec Ideal S1024x1024 .bf16)
    (r : Fin 512) (n : Fin 1024) :
    k0_pay1 y0 y1 y2 y4 y3 (ix2 r n)
      = y2 (ix2 r n) + y4 (ix3 0 0 n) * ∑ k : Fin 1024, y0 (ix2 r k) * Ideal.logistic (y1 (ix2 r k)) * y3 (ix2 k n) := by
  pointwise [k0_pay1]

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output's block is that store's payload of the blocks it loads whole. -/
theorem out_eq (y0 y1 : Vec Ideal S512x1024 .bf16) (y2 : Vec Ideal S512x1024 .f32) (y3 : Vec Ideal S1024x1024 .bf16) (y4 : Vec Ideal S1x1x1024 .f32) :
    out0_5 y0 y1 y2 y3 y4 = k0_pay1 y0 y1 y2 y4 y3 := by
  unfold out0_5
  rw [View.canon_unit_zero hz2]
  have l0 : View.ld y0 r0_0 = y0 := View.ld_unit_zero (S := S512x1024) hz2 _ _
  have l1 : View.ld y1 r0_0 = y1 := View.ld_unit_zero (S := S512x1024) hz2 _ _
  have l2 : View.ld y2 r0_0 = y2 := View.ld_unit_zero (S := S512x1024) hz2 _ _
  have l3 : View.ld y3 r0_2 = y3 := View.ld_unit_zero (S := S1024x1024) hz2 _ _
  have l4 : View.ld y4 r0_1 = y4 := View.ld_unit_zero (S := S1x1x1024) hz3 _ _
  rw [l0, l1, l2, l3, l4]

variable (m : (ℓ : Loc nD τ sig) → Buf (Elt Ideal) ℓ)

theorem V_v0 (c : Dev nD) : (V m c main_v0 : Vec Ideal S32768x1024 .f32)
    = shapeCast S32768x1024 (m ((c : Thread nD τ).loc main_arg2) : Vec Ideal S8x4096x1024 .f32) shapeCasts_S8x4096x1024_S32768x1024 := by
  show StableHlo.after hostOps0 (fun b => m (c, b)) (Proc.devRef .tc main_v0) = _
  after_results <;> rfl

theorem V_v1 (c : Dev nD) : (V m c main_v1 : Vec Ideal S1024x1024 .bf16) = (m ((c : Thread nD τ).loc main_arg3) : FVec Ideal S1024x1024 .f32) := by
  show StableHlo.after hostOps0 (fun b => m (c, b)) (Proc.devRef .tc main_v1) = _
  after_results <;> rfl

theorem V_v2 (c : Dev nD) : (V m c main_v2 : Vec Ideal S8x1x1024 .f32)
    = broadcastInDim S8x1x1024 ![0, 2] bcast_S8x1024_S8x1x1024_0_2 (m ((c : Thread nD τ).loc main_arg4) : FVec Ideal S8x1024 .f32) := by
  show StableHlo.after hostOps0 (fun b => m (c, b)) (Proc.devRef .tc main_v2) = _
  after_results <;> rfl

/-- The block each window reads at a point. -/
theorem idx : ∀ t : Fin cfg0.N, win0_0.index t = ![t.val, 0] ∧ win0_1.index t = ![t.val, 0] ∧ win0_2.index t = ![t.val, 0] ∧ win0_3.index t = ![0, 0]
    ∧ win0_4.index t = ![t.val / 8, 0, 0] ∧ win0_5.index t = ![t.val, 0] :=
  (by decide +kernel : ∀ t : Fin grid0.N, _)

/-- The array's row of a block's row. -/
def row (t : Fin 64) (r : Fin 512) : Fin 32768 := ⟨t.val * 512 + r.val, by omega⟩

theorem emb0 (t : Fin cfg0.N) (r : Fin 512) (k : Fin 1024) : ((cfg0.win 0).blk t).view.emb (ix2 r k : S512x1024.Idx) = (ix2 (row t r) k : S32768x1024.Idx) := by
  have e := (idx t).1
  funext a; apply Fin.ext
  match a with
  | ⟨0, _⟩ => show win0_0.index t (0 : Fin 2) * 512 + 1 * r.val = t.val * 512 + r.val; rw [e]; show t.val * 512 + 1 * r.val = _; omega
  | ⟨1, _⟩ => show win0_0.index t (1 : Fin 2) * 1024 + 1 * k.val = k.val; rw [e]; show 0 * 1024 + 1 * k.val = _; omega

theorem emb1 (t : Fin cfg0.N) (r : Fin 512) (k : Fin 1024) : ((cfg0.win 1).blk t).view.emb (ix2 r k : S512x1024.Idx) = (ix2 (row t r) k : S32768x1024.Idx) := by
  have e := (idx t).2.1
  funext a; apply Fin.ext
  match a with
  | ⟨0, _⟩ => show win0_1.index t (0 : Fin 2) * 512 + 1 * r.val = t.val * 512 + r.val; rw [e]; show t.val * 512 + 1 * r.val = _; omega
  | ⟨1, _⟩ => show win0_1.index t (1 : Fin 2) * 1024 + 1 * k.val = k.val; rw [e]; show 0 * 1024 + 1 * k.val = _; omega

theorem emb2 (t : Fin cfg0.N) (r : Fin 512) (k : Fin 1024) : ((cfg0.win 2).blk t).view.emb (ix2 r k : S512x1024.Idx) = (ix2 (row t r) k : S32768x1024.Idx) := by
  have e := (idx t).2.2.1
  funext a; apply Fin.ext
  match a with
  | ⟨0, _⟩ => show win0_2.index t (0 : Fin 2) * 512 + 1 * r.val = t.val * 512 + r.val; rw [e]; show t.val * 512 + 1 * r.val = _; omega
  | ⟨1, _⟩ => show win0_2.index t (1 : Fin 2) * 1024 + 1 * k.val = k.val; rw [e]; show 0 * 1024 + 1 * k.val = _; omega

theorem emb3 (t : Fin cfg0.N) (r : Fin 1024) (k : Fin 1024) : ((cfg0.win 3).blk t).view.emb (ix2 r k : S1024x1024.Idx) = (ix2 r k : S1024x1024.Idx) := by
  have e := (idx t).2.2.2.1
  funext a; apply Fin.ext
  match a with
  | ⟨0, _⟩ => show win0_3.index t (0 : Fin 2) * 1024 + 1 * r.val = r.val; rw [e]; show 0 * 1024 + 1 * r.val = _; omega
  | ⟨1, _⟩ => show win0_3.index t (1 : Fin 2) * 1024 + 1 * k.val = k.val; rw [e]; show 0 * 1024 + 1 * k.val = _; omega

theorem emb4 (t : Fin cfg0.N) (k : Fin 1024) : ((cfg0.win 4).blk t).view.emb (ix3 0 0 k : S1x1x1024.Idx) = (ix3 (⟨t.val / 8, by have := t.isLt; show _ < 8; have : t.val < 64 := t.isLt; omega⟩ : Fin 8) 0 k : S8x1x1024.Idx) := by
  have e := (idx t).2.2.2.2.1
  funext a; apply Fin.ext
  match a with
  | ⟨0, _⟩ => show win0_4.index t (0 : Fin 3) * 1 + 1 * 0 = t.val / 8; rw [e]; show t.val / 8 * 1 + 1 * 0 = _; omega
  | ⟨1, _⟩ => show win0_4.index t (1 : Fin 3) * 1 + 1 * 0 = 0; rw [e]; rfl
  | ⟨2, _⟩ => show win0_4.index t (2 : Fin 3) * 1024 + 1 * k.val = k.val; rw [e]; show 0 * 1024 + 1 * k.val = _; omega

theorem emb5 (t : Fin cfg0.N) (r : Fin 512) (k : Fin 1024) : ((cfg0.win 5).blk t).view.emb (ix2 r k : S512x1024.Idx) = (ix2 (row t r) k : S32768x1024.Idx) := by
  have e := (idx t).2.2.2.2.2
  funext a; apply Fin.ext
  match a with
  | ⟨0, _⟩ => show win0_5.index t (0 : Fin 2) * 512 + 1 * r.val = t.val * 512 + r.val; rw [e]; show t.val * 512 + 1 * r.val = _; omega
  | ⟨1, _⟩ => show win0_5.index t (1 : Fin 2) * 1024 + 1 * k.val = k.val; rw [e]; show 0 * 1024 + 1 * k.val = _; omega

/-- A row of the rows laid flat is a row of its sequence. -/
theorem flat_apply (x : FVec Ideal S8x4096x1024 .f32) (R : Fin 32768) (k : Fin 1024) :
    shapeCast S32768x1024 x shapeCasts_S8x4096x1024_S32768x1024 (ix2 R k) = x (ix3 (elt R) (pos R) k) := by
  pointwise []
  rfl

/-- A sequence's gate as the kernel's operand. -/
theorem mod_apply (x : FVec Ideal S8x1024 .f32) (b : Fin 8) (k : Fin 1024) :
    broadcastInDim S8x1x1024 ![0, 2] bcast_S8x1024_S8x1x1024_0_2 x (ix3 b 0 k) = x (ix2 b k) := by
  pointwise []

theorem elt_row (t : Fin 64) (r : Fin 512) : (⟨t.val / 8, by omega⟩ : Fin 8) = elt (row t r) :=
  Fin.ext (show t.val / 8 = (t.val * 512 + r.val) / 4096 by omega)

/-- The windows' blocks at a point, read. -/
theorem blk0 (c : Dev nD) (t : Fin cfg0.N) (r : Fin 512) (k : Fin 1024) :
    (iblk m c 0 t : Vec Ideal S512x1024 .bf16) (ix2 r k) = (m ((c : Thread nD τ).loc main_arg0) : FVec Ideal S32768x1024 .bf16) (ix2 (row t r) k) := by
  show (V m c main_arg0 : Vec Ideal S32768x1024 .bf16) (((cfg0.win 0).blk t).view.emb (ix2 r k : S512x1024.Idx)) = _
  rw [emb0, V_main_arg0]

theorem blk1 (c : Dev nD) (t : Fin cfg0.N) (r : Fin 512) (k : Fin 1024) :
    (iblk m c 1 t : Vec Ideal S512x1024 .bf16) (ix2 r k) = (m ((c : Thread nD τ).loc main_arg1) : FVec Ideal S32768x1024 .bf16) (ix2 (row t r) k) := by
  show (V m c main_arg1 : Vec Ideal S32768x1024 .bf16) (((cfg0.win 1).blk t).view.emb (ix2 r k : S512x1024.Idx)) = _
  rw [emb1, V_main_arg1]

theorem blk2 (c : Dev nD) (t : Fin cfg0.N) (r : Fin 512) (k : Fin 1024) :
    (iblk m c 2 t : Vec Ideal S512x1024 .f32) (ix2 r k)
      = (m ((c : Thread nD τ).loc main_arg2) : FVec Ideal S8x4096x1024 .f32) (ix3 (elt (row t r)) (pos (row t r)) k) := by
  show (V m c main_v0 : Vec Ideal S32768x1024 .f32) (((cfg0.win 2).blk t).view.emb (ix2 r k : S512x1024.Idx)) = _
  rw [emb2, V_v0, flat_apply]

theorem blk3 (c : Dev nD) (t : Fin cfg0.N) (r : Fin 1024) (k : Fin 1024) :
    (iblk m c 3 t : Vec Ideal S1024x1024 .bf16) (ix2 r k) = (m ((c : Thread nD τ).loc main_arg3) : FVec Ideal S1024x1024 .f32) (ix2 r k) := by
  show (V m c main_v1 : Vec Ideal S1024x1024 .bf16) (((cfg0.win 3).blk t).view.emb (ix2 r k : S1024x1024.Idx)) = _
  rw [emb3, V_v1]

theorem blk4 (c : Dev nD) (t : Fin cfg0.N) (r : Fin 512) (k : Fin 1024) :
    (iblk m c 4 t : Vec Ideal S1x1x1024 .f32) (ix3 0 0 k) = (m ((c : Thread nD τ).loc main_arg4) : FVec Ideal S8x1024 .f32) (ix2 (elt (row t r)) k) := by
  show (V m c main_v2 : Vec Ideal S8x1x1024 .f32) (((cfg0.win 4).blk t).view.emb (ix3 0 0 k : S1x1x1024.Idx)) = _
  rw [emb4, V_v2, mod_apply, ← elt_row t r]

/-- The result on the arguments as launched. -/
def res (c : Dev nD) : FVec Ideal S32768x1024 .f32 :=
  arr (m ((c : Thread nD τ).loc main_arg0)) (m ((c : Thread nD τ).loc main_arg1)) (m ((c : Thread nD τ).loc main_arg2))
    (m ((c : Thread nD τ).loc main_arg3)) (m ((c : Thread nD τ).loc main_arg4))

/-- What a point writes back is its block of the result. -/
theorem flushed_eq (c : Dev nD) (t : Fin cfg0.N) :
    (dats m 0 c).flushed 5 t = ((cfg0.win 5).blk t).view.read (Elt Ideal) (res m c) := by
  rw [flushed5, out_eq]
  funext j
  obtain ⟨r, n, rfl⟩ : ∃ (r : Fin 512) (n : Fin 1024), j = (ix2 r n : S512x1024.Idx) := ⟨j 0, j 1, eq_ix2 j⟩
  refine (pay_apply _ _ _ _ _ r n).trans ?_
  show _ = res m c (((cfg0.win 5).blk t).view.emb (ix2 r n : S512x1024.Idx))
  rw [emb5, blk2, blk4 m c t r]
  simp only [blk0, blk1, blk3]
  rfl

/-- Every place of the result lies in some point's block. -/
theorem covered (i : S32768x1024.Idx) : ∃ t : Fin cfg0.N, (cfg0.win 5).flush t = true ∧ i ∈ ((cfg0.win 5).blk t).view.set := by
  obtain ⟨R, k, rfl⟩ : ∃ (R : Fin 32768) (k : Fin 1024), i = ix2 R k := ⟨i 0, i 1, eq_ix2 i⟩
  refine ⟨(⟨R.val / 512, by show _ < 64; omega⟩ : Fin cfg0.N), flush0_5 _, ?_⟩
  have e : R = row (⟨R.val / 512, by omega⟩ : Fin 64) ⟨R.val % 512, by omega⟩ := Fin.ext (show R.val = R.val / 512 * 512 + R.val % 512 by omega)
  rw [(congrArg (fun q : Fin 32768 => (ix2 q k : S32768x1024.Idx)) e).trans (emb5 (⟨R.val / 512, by show _ < 64; omega⟩ : Fin cfg0.N) ⟨R.val % 512, by omega⟩ k).symm]
  exact View.emb_mem_set _ _

/-- The result's array after the run. -/
theorem final (c : Dev nD) : (dats m 0 c).arrAt 5 cfg0.N = res m c :=
  (dats m 0 c).arrAt_eq_of_cover 5 (res m c) (fun t _ => flushed_eq m c t) covered

end Cert.Kernel5Ideal.Closed

namespace Cert.OutProj

open Idealize.ShloMosaic Idealize.ShloMosaic.TcCoe Idealize.SL.Sem

theorem kernel_table {F : FTy → Type} [FloatOps F] : @Cert.Kernel5.defs₀ F _ _ = @Cert.Kernel5Ideal.defs₀ F _ _ := by
  unfold Cert.Kernel5.defs₀ Cert.Kernel5Ideal.defs₀
  refine congrArg Defs.onTc ?_
  funext l a
  match l, a with
  | ⟨0, _⟩, (t, s) => rfl

theorem kernel_defs {F : FTy → Type} [FloatOps F] : @Cert.Kernel5.defs F _ _ = @Cert.Kernel5Ideal.defs F _ _ := by
  unfold Cert.Kernel5.defs Cert.Kernel5Ideal.defs
  exact congrArg (Pipeline.defs _) kernel_table

theorem frame_bits : Cert.quiescent_Kernel5 := fun m ρ _ => by
  rw [kernel_defs]
  exact (θ_run Cert.Kernel5Ideal.defs _ _).mono (fun _ h => h) (Cert.Kernel5Ideal.Gen.frame (F := Bits) m ρ)

theorem frame_ideal : Cert.quiescent_Kernel5Ideal := fun m ρ _ => Cert.Kernel5Ideal.Gen.frame m ρ

theorem frame_ref : Cert.quiescent_Ref5Ideal := fun m ρ _ =>
  (θ_run Cert.Ref5Ideal.defs _ _).mono (fun r h => ⟨fun c => (h c).2, Idealize.ShloMosaic.sem_eq_zero_of_no_sems (by decide) r.2⟩)
    (Cert.Ref5Ideal.Value.run (F := Ideal) m ρ)

section Reference
open Cert.Ref5Ideal Cert.Ref5Ideal.Gen

/-- The rows times the logistic of their gates, by the reference's division. -/
def gated (o og : FVec Ideal S32768x1024 .bf16) : FVec Ideal S32768x1024 .f32 :=
  mulf (extf .f32 o bitsLt_bf16_f32)
    (Host.divf (broadcastInDim S32768x1024 ![] bcast_S_S32768x1024 (constant S_ .f32 0x3F800000#32))
      (addf (broadcastInDim S32768x1024 ![] bcast_S_S32768x1024 (constant S_ .f32 0x3F800000#32)) (Host.exp (Host.negf (extf .f32 og bitsLt_bf16_f32)))))

/-- The reference's result of its arguments. -/
def plain (o og : FVec Ideal S32768x1024 .bf16) (h : FVec Ideal S8x4096x1024 .f32) (w : FVec Ideal S1024x1024 .f32) (g : FVec Ideal S8x1024 .f32) :
    FVec Ideal S32768x1024 .f32 :=
  shapeCast _ (addf h (mulf
      (broadcastInDim S8x4096x1024 ![0, 1, 2] bcast_S8x1x1024_S8x4096x1024_0_1_2 (broadcastInDim S8x1x1024 ![0, 2] bcast_S8x1024_S8x1x1024_0_2 g))
      (shapeCast _ (Host.dotGeneral dot_S32768x1024_S1024x1024_S32768x1024_1_0_0_1_n_n none (gated o og) w : FVec Ideal S32768x1024 .f32)
        shapeCasts_S32768x1024_S8x4096x1024)))
    shapeCasts_S8x4096x1024_S32768x1024

theorem plain_eq (o og : FVec Ideal S32768x1024 .bf16) (h : FVec Ideal S8x4096x1024 .f32) (w : FVec Ideal S1024x1024 .f32) (g : FVec Ideal S8x1024 .f32) :
    plain o og h w g = Cert.Kernel5Ideal.Closed.arr o og h w g := by
  funext j
  obtain ⟨R, k, rfl⟩ : ∃ (R : Fin 32768) (k : Fin 1024), j = ix2 R k := ⟨j 0, j 1, eq_ix2 j⟩
  pointwise [plain, gated]
  rfl

end Reference

theorem value : Cert.algebraic_Kernel5Ideal_Ref5Ideal := by
  intro m ρ m' ρ' hpre hagree
  refine ⟨fun c => Cert.Kernel5Ideal.Closed.res m c, (θ_run Cert.Kernel5Ideal.defs _ _).mono (fun r h c => ⟨(h c).1.trans (Cert.Kernel5Ideal.Closed.final m c), (h c).2⟩) (Cert.Kernel5Ideal.Value.run_blocks m ρ), ?_⟩
  refine (θ_run Cert.Ref5Ideal.defs _ _).mono (fun r hr c => ⟨(hr c).1.trans ?_, (hr c).2⟩) (Cert.Ref5Ideal.Value.run (F := Ideal) m' ρ')
  obtain ⟨e0, e1, e2, e3, e4⟩ := hagree c
  rw [e0, e1, e2, e3, e4]
  exact plain_eq _ _ _ _ _

end Cert.OutProj

end
-- ==== Proof.Qg.lean ====
module

public import proofs.«01_k».proof.Defs
public import proofs.«01_k».proof.Proof.Gen.Kernel4
public import proofs.«01_k».proof.Proof.Gen.Kernel4Ideal
public import proofs.«01_k».proof.Proof.Gen.Kernel4Ideal.Value
public import proofs.«01_k».proof.Proof.Gen.Ref4Ideal.Run
public import Idealize.ShloMosaic.Lib.Pointwise

/-! The attention layer's queries, normalised head by head, and its output gate: both results of each row in closed form, and the reference's the same. -/

@[expose] public section

set_option maxRecDepth 16384

noncomputable section

namespace Cert.Kernel4Ideal.Closed

open Cert.Kernel4Ideal Cert.Kernel4Ideal.Gen Cert.Kernel4Ideal.Value Idealize.ShloMosaic Idealize.ShloMosaic.TcCoe Idealize.SL.Sem

/-- A row's element of its sequence. -/
def elt (R : Fin 32768) : Fin 8 := ⟨R.val / 4096, by omega⟩
/-- A row's place in its sequence. -/
def pos (R : Fin 32768) : Fin 4096 := ⟨R.val % 4096, by omega⟩
/-- The array's row of a block's row. -/
def row (t : Fin 64) (r : Fin 512) : Fin 32768 := ⟨t.val * 512 + r.val, by omega⟩

theorem elt_row (t : Fin 64) (r : Fin 512) : (⟨t.val / 8, by omega⟩ : Fin 8) = elt (row t r) :=
  Fin.ext (show t.val / 8 = (t.val * 512 + r.val) / 4096 by omega)

theorem hz2 : (![0, 0] : Fin 2 → Nat) = fun _ => 0 := funext fun a => by fin_cases a <;> rfl
theorem hz3 : (![0, 0, 0] : Fin 3 → Nat) = fun _ => 0 := funext fun a => by fin_cases a <;> rfl

/-- A row over the root of its mean square, scaled by the columns' vector, and modulated. -/
def modn (h g sh sc : Fin 1024 → EReal) (k : Fin 1024) : EReal :=
  h k * Ideal.rsqrt (Ideal.div (∑ x : Fin 1024, h x * h x) (Ideal.ofBits FTy.f32 1149239296#32) + Ideal.ofBits FTy.f32 897988541#32) * g k * (1 + sc k) + sh k

/-- The modulated row of the arguments. -/
def nrow (x0 : FVec Ideal S8x4096x1024 .f32) (x1 : FVec Ideal S1024 .f32) (x2 x3 : FVec Ideal S8x1024 .f32) (R : Fin 32768) : Fin 1024 → EReal :=
  modn (fun x => x0 (ix3 (elt R) (pos R) x)) (fun x => x1 (ix1 x)) (fun x => x2 (ix2 (elt R) x)) (fun x => x3 (ix2 (elt R) x))

/-- A column of the weights' first half, and the column of the second half at the same place. -/
def lo (n : Fin 1024) : Fin 2048 := ⟨n.val, by omega⟩
def hi (n : Fin 1024) : Fin 2048 := ⟨1024 + n.val, by omega⟩
/-- A column's place in its head, and the head's column at a place. -/
def inHead (n : Fin 1024) : Fin 64 := ⟨n.val % 64, by omega⟩
def headCol (n : Fin 1024) (x : Fin 64) : Fin 1024 := ⟨n.val / 64 * 64 + x.val, by omega⟩

/-- A column over the root of its head's mean square. -/
def headn (q : Fin 1024 → EReal) (n : Fin 1024) : EReal :=
  q n * Ideal.rsqrt (Ideal.div (∑ x : Fin 64, q (headCol n x) * q (headCol n x)) (Ideal.ofBits FTy.f32 1115684864#32) + Ideal.ofBits FTy.f32 897988541#32)

/-- The queries: the first projection head by head normalised, scaled by the heads' vector and the softmax's constant. -/
def arrQ (x0 : FVec Ideal S8x4096x1024 .f32) (x1 : FVec Ideal S1024 .f32) (x2 x3 : FVec Ideal S8x1024 .f32) (x4 : FVec Ideal S1024x2048 .f32) (x5 : FVec Ideal S64 .f32) :
    FVec Ideal S32768x1024 .bf16 := fun j =>
  headn (fun n => ∑ k : Fin 1024, nrow x0 x1 x2 x3 (j 0) k * x4 (ix2 k (lo n))) (j 1) * x5 (ix1 (inHead (j 1))) * Ideal.ofBits FTy.f32 1043900987#32

/-- The output gate's rows: the second projection. -/
def arrG (x0 : FVec Ideal S8x4096x1024 .f32) (x1 : FVec Ideal S1024 .f32) (x2 x3 : FVec Ideal S8x1024 .f32) (x4 : FVec Ideal S1024x2048 .f32) :
    FVec Ideal S32768x1024 .bf16 := fun j =>
  ∑ k : Fin 1024, nrow x0 x1 x2 x3 (j 0) k * x4 (ix2 k (hi (j 1)))

/-! The sums under the mask: the first 64 lanes of a group, and the last 64. -/

theorem sum_low (f : Fin 128 → EReal) : (∑ x : Fin 128, if x.val < 64 then f x else 0) = ∑ x : Fin 64, f ⟨x.val, by omega⟩ := by
  rw [show (∑ x : Fin 128, if x.val < 64 then f x else 0) = _ from Fin.sum_univ_add (a := 64) (b := 64) (fun x : Fin (64 + 64) => if x.val < 64 then f x else 0)]
  have z : (∑ x : Fin 64, if (Fin.natAdd 64 x : Fin (64 + 64)).val < 64 then f (Fin.natAdd 64 x) else 0) = 0 :=
    Finset.sum_eq_zero fun x _ => if_neg (show ¬(64 + x.val < 64) by omega)
  rw [z, add_zero]
  exact Finset.sum_congr rfl fun x _ => if_pos x.isLt

theorem sum_high (f : Fin 128 → EReal) : (∑ x : Fin 128, if x.val < 64 then 0 else f x) = ∑ x : Fin 64, f ⟨64 + x.val, by omega⟩ := by
  rw [show (∑ x : Fin 128, if x.val < 64 then 0 else f x) = _ from Fin.sum_univ_add (a := 64) (b := 64) (fun x : Fin (64 + 64) => if x.val < 64 then 0 else f x)]
  have z : (∑ x : Fin 64, if (Fin.castAdd 64 x : Fin (64 + 64)).val < 64 then 0 else f (Fin.castAdd 64 x)) = 0 :=
    Finset.sum_eq_zero fun x _ => if_pos x.isLt
  rw [z, zero_add]
  exact Finset.sum_congr rfl fun x _ => if_neg (show ¬(64 + x.val < 64) by omega)

/-- A choice by the mask is a choice by the lane. -/
theorem mask_select (r : Fin 512) (l : Fin 128) (a b : EReal) :
    Scalar.select ((k0_pay6 : IVec S512x128 1) (ix2 r l)) a b = if l.val < 64 then a else b := by
  have e : (k0_pay6 : IVec S512x128 1) (ix2 r l) = if l.val < 64 then 1#1 else 0#1 := by
    pointwise [k0_pay6]
    revert l
    decide
  rw [e]
  by_cases h : l.val < 64
  · rw [if_pos h, if_pos h]; rfl
  · rw [if_neg h, if_neg h]; rfl

/-- A group of 128 lanes, two heads, each over the root of its mean square. -/
def grp (mk : IVec S512x128 1) (a : FVec Ideal S512x128 .f32) : FVec Ideal S512x128 .f32 :=
  mulf a (select mk
    (broadcastTo S512x128 (shapeCast S512x1 (rsqrt (addf (divf (shapeCast S512x1
        (multiReduction .add [1] S512 (select mk (mulf a a) (broadcast S512x128 (Scalar.ofBits .f32 0x00000000#32))) 0x00000000#32 reduces_S512x128_S512 (.inl rfl) rfl)
        shapeCasts_S512_S512x1) (broadcast S512x1 (Scalar.ofBits .f32 0x42800000#32))) (broadcast S512x1 (Scalar.ofBits .f32 0x358637BD#32))))
      shapeCasts_S512x1_S512x1) broadcasts_S512x1_S512x128)
    (broadcastTo S512x128 (shapeCast S512x1 (rsqrt (addf (divf (shapeCast S512x1
        (multiReduction .add [1] S512 (select mk (broadcast S512x128 (Scalar.ofBits .f32 0x00000000#32)) (mulf a a)) 0x00000000#32 reduces_S512x128_S512 (.inl rfl) rfl)
        shapeCasts_S512_S512x1) (broadcast S512x1 (Scalar.ofBits .f32 0x42800000#32))) (broadcast S512x1 (Scalar.ofBits .f32 0x358637BD#32))))
      shapeCasts_S512x1_S512x1) broadcasts_S512x1_S512x128))

/-- A group cut at a multiple of 64 out of the rows, read at a lane: the lane's column over its head's root. -/
theorem grp_apply (o : Nat) (ho : o + 128 ≤ 1024) (d : o % 64 = 0) (a : FVec Ideal S512x128 .f32) (q : Fin 1024 → EReal) (r : Fin 512)
    (hs : ∀ l : Fin 128, a (ix2 r l) = q ⟨o + l.val, by omega⟩) (l : Fin 128) (n : Fin 1024) (hn : n.val = o + l.val) :
    grp k0_pay6 a (ix2 r l) = headn q n := by
  pointwise [grp]
  simp only [mask_select]
  rw [sum_low (fun x => a (ix2 r x) * a (ix2 r x)), sum_high (fun x => a (ix2 r x) * a (ix2 r x))]
  simp only [hs]
  have en : (⟨o + l.val, by omega⟩ : Fin 1024) = n := Fin.ext hn.symm
  rw [en]
  unfold headn
  by_cases h : l.val < 64
  · rw [if_pos h]
    have e : ∀ x : Fin 64, (⟨o + x.val, by omega⟩ : Fin 1024) = headCol n x := fun x => Fin.ext (show o + x.val = n.val / 64 * 64 + x.val by omega)
    simp only [e]
  · rw [if_neg h]
    have e : ∀ x : Fin 64, (⟨o + (64 + x.val), by omega⟩ : Fin 1024) = headCol n x := fun x => Fin.ext (show o + (64 + x.val) = n.val / 64 * 64 + x.val by omega)
    simp only [e]

/-- The eight groups side by side. -/
def cat (mk : IVec S512x128 1) (q : FVec Ideal S512x1024 .f32) : FVec Ideal S512x1024 .f32 :=
  concatenate S512x1024 1 [⟨S512x128, grp mk (extractStridedSlice S512x128 ![0, 0] q slices_S512x1024_o0_0_S512x128)⟩,
    ⟨S512x128, grp mk (extractStridedSlice S512x128 ![0, 128] q slices_S512x1024_o0_128_S512x128)⟩,
    ⟨S512x128, grp mk (extractStridedSlice S512x128 ![0, 256] q slices_S512x1024_o0_256_S512x128)⟩,
    ⟨S512x128, grp mk (extractStridedSlice S512x128 ![0, 384] q slices_S512x1024_o0_384_S512x128)⟩,
    ⟨S512x128, grp mk (extractStridedSlice S512x128 ![0, 512] q slices_S512x1024_o0_512_S512x128)⟩,
    ⟨S512x128, grp mk (extractStridedSlice S512x128 ![0, 640] q slices_S512x1024_o0_640_S512x128)⟩,
    ⟨S512x128, grp mk (extractStridedSlice S512x128 ![0, 768] q slices_S512x1024_o0_768_S512x128)⟩,
    ⟨S512x128, grp mk (extractStridedSlice S512x128 ![0, 896] q slices_S512x1024_o0_896_S512x128)⟩]
    concatenates_S512x128_S512x128_S512x128_S512x128_S512x128_S512x128_S512x128_S512x128_S512x1024_d1

theorem cat_apply (q : FVec Ideal S512x1024 .f32) (r : Fin 512) (n : Fin 1024) :
    cat k0_pay6 q (ix2 r n) = headn (fun k => q (ix2 r k)) n := by
  pointwise [cat]
  by_cases h0 : n.val < 128
  · rw [dif_pos h0]
    exact grp_apply 0 (by omega) rfl _ (fun k => q (ix2 r k)) r (fun l => by pointwise [] <;> exact congrArg (fun k => q (ix2 r k)) (Fin.ext (Nat.zero_add _).symm)) _ n (by show n.val = _; dsimp only; omega)
  rw [dif_neg h0]
  by_cases h1 : n.val - 128 < 128
  · rw [dif_pos h1]
    exact grp_apply 128 (by omega) rfl _ (fun k => q (ix2 r k)) r (fun l => by pointwise []) _ n (by show n.val = _; dsimp only; omega)
  rw [dif_neg h1]
  by_cases h2 : n.val - 128 - 128 < 128
  · rw [dif_pos h2]
    exact grp_apply 256 (by omega) rfl _ (fun k => q (ix2 r k)) r (fun l => by pointwise []) _ n (by show n.val = _; dsimp only; omega)
  rw [dif_neg h2]
  by_cases h3 : n.val - 128 - 128 - 128 < 128
  · rw [dif_pos h3]
    exact grp_apply 384 (by omega) rfl _ (fun k => q (ix2 r k)) r (fun l => by pointwise []) _ n (by show n.val = _; dsimp only; omega)
  rw [dif_neg h3]
  by_cases h4 : n.val - 128 - 128 - 128 - 128 < 128
  · rw [dif_pos h4]
    exact grp_apply 512 (by omega) rfl _ (fun k => q (ix2 r k)) r (fun l => by pointwise []) _ n (by show n.val = _; dsimp only; omega)
  rw [dif_neg h4]
  by_cases h5 : n.val - 128 - 128 - 128 - 128 - 128 < 128
  · rw [dif_pos h5]
    exact grp_apply 640 (by omega) rfl _ (fun k => q (ix2 r k)) r (fun l => by pointwise []) _ n (by show n.val = _; dsimp only; omega)
  rw [dif_neg h5]
  by_cases h6 : n.val - 128 - 128 - 128 - 128 - 128 - 128 < 128
  · rw [dif_pos h6]
    exact grp_apply 768 (by omega) rfl _ (fun k => q (ix2 r k)) r (fun l => by pointwise []) _ n (by show n.val = _; dsimp only; omega)
  rw [dif_neg h6]
  exact grp_apply 896 (by omega) rfl _ (fun k => q (ix2 r k)) r (fun l => by pointwise []) _ n (by show n.val = _; dsimp only; omega)

/-- The queries' last step: scaled by the heads' vector and the softmax's constant. -/
def scaled (g : FVec Ideal S1x1024 .f32) (c : FVec Ideal S512x1024 .f32) : FVec Ideal S512x1024 .bf16 :=
  truncf .bf16 (mulf (mulf c (broadcastTo S512x1024 g broadcasts_S1x1024_S512x1024)) (broadcast S512x1024 (Scalar.ofBits .f32 0x3E38AA3B#32))) bitsLt_bf16_f32

theorem scaled_apply (g : FVec Ideal S1x1024 .f32) (c : FVec Ideal S512x1024 .f32) (r : Fin 512) (n : Fin 1024) :
    scaled g c (ix2 r n) = c (ix2 r n) * g (ix2 0 n) * Ideal.ofBits FTy.f32 1043900987#32 := by
  pointwise [scaled]

/-- A block's modulated row. -/
def brow (y0 : Vec Ideal S512x1024 .f32) (y1 : Vec Ideal S1x1024 .f32) (y2 y3 : Vec Ideal S1x1x1024 .f32) (r : Fin 512) : Fin 1024 → EReal :=
  modn (fun x => y0 (ix2 r x)) (fun x => y1 (ix2 0 x)) (fun x => y2 (ix3 0 0 x)) (fun x => y3 (ix3 0 0 x))

theorem norm_apply (y0 : Vec Ideal S512x1024 .f32) (y1 : Vec Ideal S1x1024 .f32) (y2 y3 : Vec Ideal S1x1x1024 .f32) (r : Fin 512) (k : Fin 1024) :
    k0_pay3 y0 y1 y2 y3 (ix2 r k) = brow y0 y1 y2 y3 r k := by
  pointwise [k0_pay3]
  rfl

theorem proj_apply (y0 : Vec Ideal S512x1024 .f32) (y1 : Vec Ideal S1x1024 .f32) (y2 y3 : Vec Ideal S1x1x1024 .f32) (y4 : Vec Ideal S1024x1024 .bf16) (r : Fin 512) (n : Fin 1024) :
    k0_pay4 y0 y1 y2 y3 y4 (ix2 r n) = ∑ k : Fin 1024, brow y0 y1 y2 y3 r k * y4 (ix2 k n) := by
  pointwise [k0_pay4]
  exact Finset.sum_congr rfl fun k _ => congrArg (· * y4 (ix2 k n)) (norm_apply y0 y1 y2 y3 r k)

/-- What the body stores as queries. -/
theorem q_apply (y0 : Vec Ideal S512x1024 .f32) (y1 : Vec Ideal S1x1024 .f32) (y2 y3 : Vec Ideal S1x1x1024 .f32) (y4 : Vec Ideal S1024x1024 .bf16) (y6 : Vec Ideal S1x1024 .f32)
    (r : Fin 512) (n : Fin 1024) :
    scaled (k0_pay5 y6) (cat k0_pay6 (k0_pay4 y0 y1 y2 y3 y4)) (ix2 r n)
      = headn (fun n => ∑ k : Fin 1024, brow y0 y1 y2 y3 r k * y4 (ix2 k n)) n * y6 (ix2 0 n) * Ideal.ofBits FTy.f32 1043900987#32 := by
  rw [scaled_apply, cat_apply]
  simp only [proj_apply]
  have e : k0_pay5 y6 (ix2 0 n) = y6 (ix2 0 n) := by pointwise [k0_pay5]
  rw [e]

/-- What the body stores as the output gate. -/
theorem g_apply (y0 : Vec Ideal S512x1024 .f32) (y1 : Vec Ideal S1x1024 .f32) (y2 y3 : Vec Ideal S1x1x1024 .f32) (y5 : Vec Ideal S1024x1024 .bf16) (r : Fin 512) (n : Fin 1024) :
    k0_pay2 (k0_pay3 y0 y1 y2 y3) y5 (ix2 r n) = ∑ k : Fin 1024, brow y0 y1 y2 y3 r k * y5 (ix2 k n) := by
  pointwise [k0_pay2]
  exact Finset.sum_congr rfl fun k _ => congrArg (· * y5 (ix2 k n)) (norm_apply y0 y1 y2 y3 r k)

/-- What the body leaves in each output's block is its store's payload of the blocks it loads whole. -/
theorem outQ_eq (y0 : Vec Ideal S512x1024 .f32) (y1 : Vec Ideal S1x1024 .f32) (y2 y3 : Vec Ideal S1x1x1024 .f32) (y4 y5 : Vec Ideal S1024x1024 .bf16) (y6 : Vec Ideal S1x1024 .f32) :
    out0_7 y0 y1 y2 y3 y4 y5 y6 = scaled (k0_pay5 y6) (cat k0_pay6 (k0_pay4 y0 y1 y2 y3 y4)) := by
  unfold out0_7
  rw [View.canon_unit_zero hz2]
  unfold k0_pay31 k0_pay32
  have l0 : View.ld y0 r0_0 = y0 := View.ld_unit_zero (S := S512x1024) hz2 _ _
  have l1 : View.ld y1 r0_1 = y1 := View.ld_unit_zero (S := S1x1024) hz2 _ _
  have l2 : View.ld y2 r0_2 = y2 := View.ld_unit_zero (S := S1x1x1024) hz3 _ _
  have l3 : View.ld y3 r0_2 = y3 := View.ld_unit_zero (S := S1x1x1024) hz3 _ _
  have l4 : View.ld y4 r0_3 = y4 := View.ld_unit_zero (S := S1024x1024) hz2 _ _
  have l6 : View.ld y6 r0_1 = y6 := View.ld_unit_zero (S := S1x1024) hz2 _ _
  rw [l0, l1, l2, l3, l4, l6]
  rfl

theorem outG_eq (y0 : Vec Ideal S512x1024 .f32) (y1 : Vec Ideal S1x1024 .f32) (y2 y3 : Vec Ideal S1x1x1024 .f32) (y4 y5 : Vec Ideal S1024x1024 .bf16) (y6 : Vec Ideal S1x1024 .f32) :
    out0_8 y0 y1 y2 y3 y4 y5 y6 = k0_pay2 (k0_pay3 y0 y1 y2 y3) y5 := by
  unfold out0_8
  rw [View.canon_unit_zero hz2]
  have l0 : View.ld y0 r0_0 = y0 := View.ld_unit_zero (S := S512x1024) hz2 _ _
  have l1 : View.ld y1 r0_1 = y1 := View.ld_unit_zero (S := S1x1024) hz2 _ _
  have l2 : View.ld y2 r0_2 = y2 := View.ld_unit_zero (S := S1x1x1024) hz3 _ _
  have l3 : View.ld y3 r0_2 = y3 := View.ld_unit_zero (S := S1x1x1024) hz3 _ _
  have l5 : View.ld y5 r0_3 = y5 := View.ld_unit_zero (S := S1024x1024) hz2 _ _
  rw [l0, l1, l2, l3, l5]

/-- A row of the rows laid flat is a row of its sequence. -/
theorem flat_apply (x : FVec Ideal S8x4096x1024 .f32) (R : Fin 32768) (k : Fin 1024) :
    shapeCast S32768x1024 x shapeCasts_S8x4096x1024_S32768x1024 (ix2 R k) = x (ix3 (elt R) (pos R) k) := by
  pointwise []
  rfl

/-- A sequence's vector as the kernel's operand. -/
theorem mod_apply (x : FVec Ideal S8x1024 .f32) (b : Fin 8) (k : Fin 1024) :
    broadcastInDim S8x1x1024 ![0, 2] bcast_S8x1024_S8x1x1024_0_2 x (ix3 b 0 k) = x (ix2 b k) := by
  pointwise []

/-- A vector over the columns as the kernel's operand. -/
theorem vec_apply (x : FVec Ideal S1024 .f32) (k : Fin 1024) :
    broadcastInDim S1x1024 ![1] bcast_S1024_S1x1024_1 x (ix2 0 k) = x (ix1 k) := by
  pointwise []

/-- The heads' vector repeated over the heads, as the kernel's operand. -/
def tiled (x : FVec Ideal S64 .f32) : FVec Ideal S1x1024 .f32 :=
  broadcastInDim S1x1024 ![1] bcast_S1024_S1x1024_1
    (shapeCast S1024 (broadcastInDim S16x64 ![0, 1] bcast_S1x64_S16x64_0_1 (shapeCast S1x64 x shapeCasts_S64_S1x64)) shapeCasts_S16x64_S1024)

theorem tiled_apply (x : FVec Ideal S64 .f32) (k : Fin 1024) : tiled x (ix2 0 k) = x (ix1 (inHead k)) := by
  pointwise [tiled]
  rfl

variable (m : (ℓ : Loc nD τ sig) → Buf (Elt Ideal) ℓ)

theorem V_v0 (c : Dev nD) : (V m c main_v0 : Vec Ideal S32768x1024 .f32)
    = shapeCast S32768x1024 (m ((c : Thread nD τ).loc main_arg0) : Vec Ideal S8x4096x1024 .f32) shapeCasts_S8x4096x1024_S32768x1024 := by
  show StableHlo.after hostOps0 (fun b => m (c, b)) (Proc.devRef .tc main_v0) = _
  after_results <;> rfl

theorem V_v1 (c : Dev nD) : (V m c main_v1 : Vec Ideal S1x1024 .f32)
    = broadcastInDim S1x1024 ![1] bcast_S1024_S1x1024_1 (m ((c : Thread nD τ).loc main_arg1) : FVec Ideal S1024 .f32) := by
  show StableHlo.after hostOps0 (fun b => m (c, b)) (Proc.devRef .tc main_v1) = _
  after_results <;> rfl

theorem V_v2 (c : Dev nD) : (V m c main_v2 : Vec Ideal S8x1x1024 .f32)
    = broadcastInDim S8x1x1024 ![0, 2] bcast_S8x1024_S8x1x1024_0_2 (m ((c : Thread nD τ).loc main_arg2) : FVec Ideal S8x1024 .f32) := by
  show StableHlo.after hostOps0 (fun b => m (c, b)) (Proc.devRef .tc main_v2) = _
  after_results <;> rfl

theorem V_v3 (c : Dev nD) : (V m c main_v3 : Vec Ideal S8x1x1024 .f32)
    = broadcastInDim S8x1x1024 ![0, 2] bcast_S8x1024_S8x1x1024_0_2 (m ((c : Thread nD τ).loc main_arg3) : FVec Ideal S8x1024 .f32) := by
  show StableHlo.after hostOps0 (fun b => m (c, b)) (Proc.devRef .tc main_v3) = _
  after_results <;> rfl

theorem V_v5 (c : Dev nD) : (V m c main_v5 : Vec Ideal S1024x1024 .bf16)
    = extractStridedSlice S1024x1024 ![0, 0] (m ((c : Thread nD τ).loc main_arg4) : FVec Ideal S1024x2048 .f32) slices_S1024x2048_S1024x1024_0_0 := by
  show StableHlo.after hostOps0 (fun b => m (c, b)) (Proc.devRef .tc main_v5) = _
  after_results <;> rfl

theorem half4_apply (x : FVec Ideal S1024x2048 .f32) (r k : Fin 1024) :
    extractStridedSlice S1024x1024 ![0, 0] x slices_S1024x2048_S1024x1024_0_0 (ix2 r k) = x (ix2 r (lo k)) := by
  pointwise []
  rfl

theorem V_v7 (c : Dev nD) : (V m c main_v7 : Vec Ideal S1024x1024 .bf16)
    = extractStridedSlice S1024x1024 ![0, 1024] (m ((c : Thread nD τ).loc main_arg4) : FVec Ideal S1024x2048 .f32) slices_S1024x2048_S1024x1024_0_1024 := by
  show StableHlo.after hostOps0 (fun b => m (c, b)) (Proc.devRef .tc main_v7) = _
  after_results <;> rfl

theorem half5_apply (x : FVec Ideal S1024x2048 .f32) (r k : Fin 1024) :
    extractStridedSlice S1024x1024 ![0, 1024] x slices_S1024x2048_S1024x1024_0_1024 (ix2 r k) = x (ix2 r (hi k)) := by
  pointwise []
  rfl

theorem V_v11 (c : Dev nD) : (V m c main_v11 : Vec Ideal S1x1024 .f32) = tiled (m ((c : Thread nD τ).loc main_arg5) : FVec Ideal S64 .f32) := by
  show StableHlo.after hostOps0 (fun b => m (c, b)) (Proc.devRef .tc main_v11) = _
  after_results <;> rfl

/-- The block each window reads at a point. -/
theorem idx : ∀ t : Fin cfg0.N, win0_0.index t = ![t.val, 0] ∧ win0_1.index t = ![0, 0] ∧ win0_2.index t = ![t.val / 8, 0, 0] ∧ win0_3.index t = ![t.val / 8, 0, 0] ∧ win0_4.index t = ![0, 0] ∧ win0_5.index t = ![0, 0] ∧ win0_6.index t = ![0, 0] ∧ win0_7.index t = ![t.val, 0] ∧ win0_8.index t = ![t.val, 0] :=
  (by decide +kernel : ∀ t : Fin grid0.N, _)

theorem emb0 (t : Fin cfg0.N) (r : Fin 512) (k : Fin 1024) :
    ((cfg0.win 0).blk t).view.emb (ix2 r k : S512x1024.Idx) = (ix2 (row t r) k : S32768x1024.Idx) := by
  have e := (idx t).1
  funext a; apply Fin.ext
  match a with
  | ⟨0, _⟩ => show win0_0.index t (0 : Fin 2) * 512 + 1 * r.val = t.val * 512 + r.val; rw [e]; show t.val * 512 + 1 * r.val = _; omega
  | ⟨1, _⟩ => show win0_0.index t (1 : Fin 2) * 1024 + 1 * k.val = k.val; rw [e]; show 0 * 1024 + 1 * k.val = _; omega

theorem emb1 (t : Fin cfg0.N) (k : Fin 1024) :
    ((cfg0.win 1).blk t).view.emb (ix2 0 k : S1x1024.Idx) = (ix2 0 k : S1x1024.Idx) := by
  have e := (idx t).2.1
  funext a; apply Fin.ext
  match a with
  | ⟨0, _⟩ => show win0_1.index t (0 : Fin 2) * 1 + 1 * 0 = 0; rw [e]; rfl
  | ⟨1, _⟩ => show win0_1.index t (1 : Fin 2) * 1024 + 1 * k.val = k.val; rw [e]; show 0 * 1024 + 1 * k.val = _; omega

theorem emb2 (t : Fin cfg0.N) (k : Fin 1024) :
    ((cfg0.win 2).blk t).view.emb (ix3 0 0 k : S1x1x1024.Idx) = (ix3 (⟨t.val / 8, by have : t.val < 64 := t.isLt; omega⟩ : Fin 8) 0 k : S8x1x1024.Idx) := by
  have e := (idx t).2.2.1
  funext a; apply Fin.ext
  match a with
  | ⟨0, _⟩ => show win0_2.index t (0 : Fin 3) * 1 + 1 * 0 = t.val / 8; rw [e]; show t.val / 8 * 1 + 1 * 0 = _; omega
  | ⟨1, _⟩ => show win0_2.index t (1 : Fin 3) * 1 + 1 * 0 = 0; rw [e]; rfl
  | ⟨2, _⟩ => show win0_2.index t (2 : Fin 3) * 1024 + 1 * k.val = k.val; rw [e]; show 0 * 1024 + 1 * k.val = _; omega

theorem emb3 (t : Fin cfg0.N) (k : Fin 1024) :
    ((cfg0.win 3).blk t).view.emb (ix3 0 0 k : S1x1x1024.Idx) = (ix3 (⟨t.val / 8, by have : t.val < 64 := t.isLt; omega⟩ : Fin 8) 0 k : S8x1x1024.Idx) := by
  have e := (idx t).2.2.2.1
  funext a; apply Fin.ext
  match a with
  | ⟨0, _⟩ => show win0_3.index t (0 : Fin 3) * 1 + 1 * 0 = t.val / 8; rw [e]; show t.val / 8 * 1 + 1 * 0 = _; omega
  | ⟨1, _⟩ => show win0_3.index t (1 : Fin 3) * 1 + 1 * 0 = 0; rw [e]; rfl
  | ⟨2, _⟩ => show win0_3.index t (2 : Fin 3) * 1024 + 1 * k.val = k.val; rw [e]; show 0 * 1024 + 1 * k.val = _; omega

theorem emb4 (t : Fin cfg0.N) (r : Fin 1024) (k : Fin 1024) :
    ((cfg0.win 4).blk t).view.emb (ix2 r k : S1024x1024.Idx) = (ix2 r k : S1024x1024.Idx) := by
  have e := (idx t).2.2.2.2.1
  funext a; apply Fin.ext
  match a with
  | ⟨0, _⟩ => show win0_4.index t (0 : Fin 2) * 1024 + 1 * r.val = r.val; rw [e]; show 0 * 1024 + 1 * r.val = _; omega
  | ⟨1, _⟩ => show win0_4.index t (1 : Fin 2) * 1024 + 1 * k.val = k.val; rw [e]; show 0 * 1024 + 1 * k.val = _; omega

theorem emb5 (t : Fin cfg0.N) (r : Fin 1024) (k : Fin 1024) :
    ((cfg0.win 5).blk t).view.emb (ix2 r k : S1024x1024.Idx) = (ix2 r k : S1024x1024.Idx) := by
  have e := (idx t).2.2.2.2.2.1
  funext a; apply Fin.ext
  match a with
  | ⟨0, _⟩ => show win0_5.index t (0 : Fin 2) * 1024 + 1 * r.val = r.val; rw [e]; show 0 * 1024 + 1 * r.val = _; omega
  | ⟨1, _⟩ => show win0_5.index t (1 : Fin 2) * 1024 + 1 * k.val = k.val; rw [e]; show 0 * 1024 + 1 * k.val = _; omega

theorem emb6 (t : Fin cfg0.N) (k : Fin 1024) :
    ((cfg0.win 6).blk t).view.emb (ix2 0 k : S1x1024.Idx) = (ix2 0 k : S1x1024.Idx) := by
  have e := (idx t).2.2.2.2.2.2.1
  funext a; apply Fin.ext
  match a with
  | ⟨0, _⟩ => show win0_6.index t (0 : Fin 2) * 1 + 1 * 0 = 0; rw [e]; rfl
  | ⟨1, _⟩ => show win0_6.index t (1 : Fin 2) * 1024 + 1 * k.val = k.val; rw [e]; show 0 * 1024 + 1 * k.val = _; omega

theorem emb7 (t : Fin cfg0.N) (r : Fin 512) (k : Fin 1024) :
    ((cfg0.win 7).blk t).view.emb (ix2 r k : S512x1024.Idx) = (ix2 (row t r) k : S32768x1024.Idx) := by
  have e := (idx t).2.2.2.2.2.2.2.1
  funext a; apply Fin.ext
  match a with
  | ⟨0, _⟩ => show win0_7.index t (0 : Fin 2) * 512 + 1 * r.val = t.val * 512 + r.val; rw [e]; show t.val * 512 + 1 * r.val = _; omega
  | ⟨1, _⟩ => show win0_7.index t (1 : Fin 2) * 1024 + 1 * k.val = k.val; rw [e]; show 0 * 1024 + 1 * k.val = _; omega

theorem emb8 (t : Fin cfg0.N) (r : Fin 512) (k : Fin 1024) :
    ((cfg0.win 8).blk t).view.emb (ix2 r k : S512x1024.Idx) = (ix2 (row t r) k : S32768x1024.Idx) := by
  have e := (idx t).2.2.2.2.2.2.2.2
  funext a; apply Fin.ext
  match a with
  | ⟨0, _⟩ => show win0_8.index t (0 : Fin 2) * 512 + 1 * r.val = t.val * 512 + r.val; rw [e]; show t.val * 512 + 1 * r.val = _; omega
  | ⟨1, _⟩ => show win0_8.index t (1 : Fin 2) * 1024 + 1 * k.val = k.val; rw [e]; show 0 * 1024 + 1 * k.val = _; omega

/-! The windows' blocks at a point, read in the arguments as launched. -/

theorem blk0 (c : Dev nD) (t : Fin cfg0.N) (r : Fin 512) (k : Fin 1024) :
    (iblk m c 0 t : Vec Ideal S512x1024 .f32) (ix2 r k)
      = (m ((c : Thread nD τ).loc main_arg0) : FVec Ideal S8x4096x1024 .f32) (ix3 (elt (row t r)) (pos (row t r)) k) := by
  show (V m c main_v0 : Vec Ideal S32768x1024 .f32) (((cfg0.win 0).blk t).view.emb (ix2 r k : S512x1024.Idx)) = _
  rw [emb0, V_v0, flat_apply]

theorem blk1 (c : Dev nD) (t : Fin cfg0.N) (k : Fin 1024) :
    (iblk m c 1 t : Vec Ideal S1x1024 .f32) (ix2 0 k) = (m ((c : Thread nD τ).loc main_arg1) : FVec Ideal S1024 .f32) (ix1 k) := by
  show (V m c main_v1 : Vec Ideal S1x1024 .f32) (((cfg0.win 1).blk t).view.emb (ix2 0 k : S1x1024.Idx)) = _
  rw [emb1, V_v1, vec_apply]

theorem blk2 (c : Dev nD) (t : Fin cfg0.N) (r : Fin 512) (k : Fin 1024) :
    (iblk m c 2 t : Vec Ideal S1x1x1024 .f32) (ix3 0 0 k) = (m ((c : Thread nD τ).loc main_arg2) : FVec Ideal S8x1024 .f32) (ix2 (elt (row t r)) k) := by
  show (V m c main_v2 : Vec Ideal S8x1x1024 .f32) (((cfg0.win 2).blk t).view.emb (ix3 0 0 k : S1x1x1024.Idx)) = _
  rw [emb2, V_v2, mod_apply, ← elt_row t r]

theorem blk3 (c : Dev nD) (t : Fin cfg0.N) (r : Fin 512) (k : Fin 1024) :
    (iblk m c 3 t : Vec Ideal S1x1x1024 .f32) (ix3 0 0 k) = (m ((c : Thread nD τ).loc main_arg3) : FVec Ideal S8x1024 .f32) (ix2 (elt (row t r)) k) := by
  show (V m c main_v3 : Vec Ideal S8x1x1024 .f32) (((cfg0.win 3).blk t).view.emb (ix3 0 0 k : S1x1x1024.Idx)) = _
  rw [emb3, V_v3, mod_apply, ← elt_row t r]

theorem blk4 (c : Dev nD) (t : Fin cfg0.N) (r k : Fin 1024) :
    (iblk m c 4 t : Vec Ideal S1024x1024 .bf16) (ix2 r k) = (m ((c : Thread nD τ).loc main_arg4) : FVec Ideal S1024x2048 .f32) (ix2 r (lo k)) := by
  show (V m c main_v5 : Vec Ideal S1024x1024 .bf16) (((cfg0.win 4).blk t).view.emb (ix2 r k : S1024x1024.Idx)) = _
  rw [emb4, V_v5, half4_apply]

theorem blk5 (c : Dev nD) (t : Fin cfg0.N) (r k : Fin 1024) :
    (iblk m c 5 t : Vec Ideal S1024x1024 .bf16) (ix2 r k) = (m ((c : Thread nD τ).loc main_arg4) : FVec Ideal S1024x2048 .f32) (ix2 r (hi k)) := by
  show (V m c main_v7 : Vec Ideal S1024x1024 .bf16) (((cfg0.win 5).blk t).view.emb (ix2 r k : S1024x1024.Idx)) = _
  rw [emb5, V_v7, half5_apply]

theorem blk6 (c : Dev nD) (t : Fin cfg0.N) (k : Fin 1024) :
    (iblk m c 6 t : Vec Ideal S1x1024 .f32) (ix2 0 k) = (m ((c : Thread nD τ).loc main_arg5) : FVec Ideal S64 .f32) (ix1 (inHead k)) := by
  show (V m c main_v11 : Vec Ideal S1x1024 .f32) (((cfg0.win 6).blk t).view.emb (ix2 0 k : S1x1024.Idx)) = _
  rw [emb6, V_v11, tiled_apply]

/-- A point's modulated row is the array's. -/
theorem brow_eq (c : Dev nD) (t : Fin cfg0.N) (r : Fin 512) :
    brow (iblk m c 0 t) (iblk m c 1 t) (iblk m c 2 t) (iblk m c 3 t) r
      = nrow (m ((c : Thread nD τ).loc main_arg0)) (m ((c : Thread nD τ).loc main_arg1)) (m ((c : Thread nD τ).loc main_arg2)) (m ((c : Thread nD τ).loc main_arg3)) (row t r) := by
  unfold brow nrow
  simp only [blk0, blk1, fun k => blk2 m c t r k, fun k => blk3 m c t r k]

/-- The two results on the arguments as launched. -/
def resQ (c : Dev nD) : FVec Ideal S32768x1024 .bf16 :=
  arrQ (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
def resG (c : Dev nD) : FVec Ideal S32768x1024 .bf16 :=
  arrG (m ((c : Thread nD τ).loc main_arg0)) (m ((c : Thread nD τ).loc main_arg1)) (m ((c : Thread nD τ).loc main_arg2))
    (m ((c : Thread nD τ).loc main_arg3)) (m ((c : Thread nD τ).loc main_arg4))

/-- What a point writes back is its block of each result. -/
theorem flushed_eqQ (c : Dev nD) (t : Fin cfg0.N) :
    (dats m 0 c).flushed 7 t = ((cfg0.win 7).blk t).view.read (Elt Ideal) (resQ m c) := by
  rw [flushed7, outQ_eq]
  funext j
  obtain ⟨r, n, rfl⟩ : ∃ (r : Fin 512) (n : Fin 1024), j = (ix2 r n : S512x1024.Idx) := ⟨j 0, j 1, eq_ix2 j⟩
  refine (q_apply _ _ _ _ _ _ r n).trans ?_
  show _ = resQ m c (((cfg0.win 7).blk t).view.emb (ix2 r n : S512x1024.Idx))
  rw [emb7]
  simp only [brow_eq, blk4, blk6]
  rfl

theorem flushed_eqG (c : Dev nD) (t : Fin cfg0.N) :
    (dats m 0 c).flushed 8 t = ((cfg0.win 8).blk t).view.read (Elt Ideal) (resG m c) := by
  rw [flushed8, outG_eq]
  funext j
  obtain ⟨r, n, rfl⟩ : ∃ (r : Fin 512) (n : Fin 1024), j = (ix2 r n : S512x1024.Idx) := ⟨j 0, j 1, eq_ix2 j⟩
  refine (g_apply _ _ _ _ _ r n).trans ?_
  show _ = resG m c (((cfg0.win 8).blk t).view.emb (ix2 r n : S512x1024.Idx))
  rw [emb8]
  simp only [brow_eq, blk5]
  rfl

/-- Every place of the result lies in some point's block. -/
theorem coveredQ (i : S32768x1024.Idx) : ∃ t : Fin cfg0.N, (cfg0.win 7).flush t = true ∧ i ∈ ((cfg0.win 7).blk t).view.set := by
  obtain ⟨R, k, rfl⟩ : ∃ (R : Fin 32768) (k : Fin 1024), i = ix2 R k := ⟨i 0, i 1, eq_ix2 i⟩
  refine ⟨(⟨R.val / 512, by show _ < 64; omega⟩ : Fin cfg0.N), flush0_7 _, ?_⟩
  have e : R = row (⟨R.val / 512, by omega⟩ : Fin 64) ⟨R.val % 512, by omega⟩ := Fin.ext (show R.val = R.val / 512 * 512 + R.val % 512 by omega)
  rw [(congrArg (fun q : Fin 32768 => (ix2 q k : S32768x1024.Idx)) e).trans (emb7 (⟨R.val / 512, by show _ < 64; omega⟩ : Fin cfg0.N) ⟨R.val % 512, by omega⟩ k).symm]
  exact View.emb_mem_set _ _

/-- The result's array after the run. -/
theorem finalQ (c : Dev nD) : (dats m 0 c).arrAt 7 cfg0.N = resQ m c :=
  (dats m 0 c).arrAt_eq_of_cover 7 (resQ m c) (fun t _ => flushed_eqQ m c t) coveredQ

/-- Every place of the result lies in some point's block. -/
theorem coveredG (i : S32768x1024.Idx) : ∃ t : Fin cfg0.N, (cfg0.win 8).flush t = true ∧ i ∈ ((cfg0.win 8).blk t).view.set := by
  obtain ⟨R, k, rfl⟩ : ∃ (R : Fin 32768) (k : Fin 1024), i = ix2 R k := ⟨i 0, i 1, eq_ix2 i⟩
  refine ⟨(⟨R.val / 512, by show _ < 64; omega⟩ : Fin cfg0.N), flush0_8 _, ?_⟩
  have e : R = row (⟨R.val / 512, by omega⟩ : Fin 64) ⟨R.val % 512, by omega⟩ := Fin.ext (show R.val = R.val / 512 * 512 + R.val % 512 by omega)
  rw [(congrArg (fun q : Fin 32768 => (ix2 q k : S32768x1024.Idx)) e).trans (emb8 (⟨R.val / 512, by show _ < 64; omega⟩ : Fin cfg0.N) ⟨R.val % 512, by omega⟩ k).symm]
  exact View.emb_mem_set _ _

/-- The result's array after the run. -/
theorem finalG (c : Dev nD) : (dats m 0 c).arrAt 8 cfg0.N = resG m c :=
  (dats m 0 c).arrAt_eq_of_cover 8 (resG m c) (fun t _ => flushed_eqG m c t) coveredG

end Cert.Kernel4Ideal.Closed

namespace Cert.QueryProj

open Idealize.ShloMosaic Idealize.ShloMosaic.TcCoe Idealize.SL.Sem
open Cert.Kernel4Ideal.Closed (elt pos nrow headn lo hi inHead headCol)

/-- The two programs have one text: the same kernel, the same body table, the same calls. -/
theorem kernel_table {F : FTy → Type} [FloatOps F] : @Cert.Kernel4.defs₀ F _ _ = @Cert.Kernel4Ideal.defs₀ F _ _ := by
  unfold Cert.Kernel4.defs₀ Cert.Kernel4Ideal.defs₀
  refine congrArg Defs.onTc ?_
  funext l a
  match l, a with
  | ⟨0, _⟩, (t, s) => rfl

theorem kernel_defs {F : FTy → Type} [FloatOps F] : @Cert.Kernel4.defs F _ _ = @Cert.Kernel4Ideal.defs F _ _ := by
  unfold Cert.Kernel4.defs Cert.Kernel4Ideal.defs
  exact congrArg (Pipeline.defs _) kernel_table

theorem frame_bits : Cert.quiescent_Kernel4 := fun m ρ _ => by
  rw [kernel_defs]
  exact (θ_run Cert.Kernel4Ideal.defs _ _).mono (fun _ h => h) (Cert.Kernel4Ideal.Gen.frame (F := Bits) m ρ)

theorem frame_ideal : Cert.quiescent_Kernel4Ideal := fun m ρ _ => Cert.Kernel4Ideal.Gen.frame m ρ

theorem frame_ref : Cert.quiescent_Ref4Ideal := fun m ρ _ =>
  (θ_run Cert.Ref4Ideal.defs _ _).mono (fun r h => ⟨fun c => (h c).2.2, Idealize.ShloMosaic.sem_eq_zero_of_no_sems (by decide) r.2⟩)
    (Cert.Ref4Ideal.Value.run (F := Ideal) m ρ)

section Reference
open Cert.Ref4Ideal Cert.Ref4Ideal.Gen

/-- The reference's modulated rows. -/
def normed (h : FVec Ideal S8x4096x1024 .f32) (g : FVec Ideal S1024 .f32) (sh sc : FVec Ideal S8x1024 .f32) : FVec Ideal S8x4096x1024 .f32 :=
  addf (mulf (mulf (mulf h (broadcastInDim S8x4096x1024 ![0, 1, 2] bcast_S8x4096x1_S8x4096x1024_0_1_2
        (Host.rsqrt (addf (Host.divf (broadcastInDim S8x4096x1 ![0, 1] bcast_S8x4096_S8x4096x1_0_1
            (Host.reduceAdd (mulf h h) (constant S_ .f32 0x00000000#32) reducesTo_S8x4096x1024_S8x4096_d2 h_S_))
            (broadcastInDim S8x4096x1 ![] bcast_S_S8x4096x1 (constant S_ .f32 0x44800000#32)))
          (broadcastInDim S8x4096x1 ![] bcast_S_S8x4096x1 (constant S_ .f32 0x358637BD#32))))))
      (broadcastInDim S8x4096x1024 ![0, 1, 2] bcast_S1x1x1024_S8x4096x1024_0_1_2 (broadcastInDim S1x1x1024 ![2] bcast_S1024_S1x1x1024_2 g)))
      (broadcastInDim S8x4096x1024 ![0, 1, 2] bcast_S8x1x1024_S8x4096x1024_0_1_2
        (addf (broadcastInDim S8x1x1024 ![] bcast_S_S8x1x1024 (constant S_ .f32 0x3F800000#32)) (broadcastInDim S8x1x1024 ![0, 2] bcast_S8x1024_S8x1x1024_0_2 sc))))
    (broadcastInDim S8x4096x1024 ![0, 1, 2] bcast_S8x1x1024_S8x4096x1024_0_1_2 (broadcastInDim S8x1x1024 ![0, 2] bcast_S8x1024_S8x1x1024_0_2 sh))

theorem normed_apply (h : FVec Ideal S8x4096x1024 .f32) (g : FVec Ideal S1024 .f32) (sh sc : FVec Ideal S8x1024 .f32) (R : Fin 32768) (k : Fin 1024) :
    normed h g sh sc (ix3 (elt R) (pos R) k) = nrow h g sh sc R k := by
  pointwise [normed]
  rfl

/-- The reference's projection, queries and gate. -/
def both (h : FVec Ideal S8x4096x1024 .f32) (g : FVec Ideal S1024 .f32) (sh sc : FVec Ideal S8x1024 .f32) (w : FVec Ideal S1024x2048 .f32) : FVec Ideal S8x4096x2048 .f32 :=
  Host.dotGeneral dot_S8x4096x1024_S1024x2048_S8x4096x2048_2_0_01_1_n_n none (normed h g sh sc) w

theorem both_apply (h : FVec Ideal S8x4096x1024 .f32) (g : FVec Ideal S1024 .f32) (sh sc : FVec Ideal S8x1024 .f32) (w : FVec Ideal S1024x2048 .f32) (R : Fin 32768) (n : Fin 2048) :
    both h g sh sc w (ix3 (elt R) (pos R) n) = ∑ k : Fin 1024, nrow h g sh sc R k * w (ix2 k n) := by
  pointwise [both]
  exact Finset.sum_congr rfl fun x _ => congrArg (· * w (ix2 x n)) (normed_apply h g sh sc R x)

/-- The queries' projection parted into heads. -/
def heads (p : FVec Ideal S8x4096x2048 .f32) : FVec Ideal S8x4096x16x64 .f32 :=
  shapeCast _ (extractStridedSlice S8x4096x1024 ![0, 0, 0] p slices_S8x4096x2048_S8x4096x1024_0_0_0) shapeCasts_S8x4096x1024_S8x4096x16x64

/-- The heads normalised and scaled. -/
def query (q : FVec Ideal S8x4096x16x64 .f32) (g : FVec Ideal S64 .f32) : FVec Ideal S32768x1024 .bf16 :=
  shapeCast _ (truncf .bf16 (mulf (mulf (mulf q (broadcastInDim S8x4096x16x64 ![0, 1, 2, 3] bcast_S8x4096x16x1_S8x4096x16x64_0_1_2_3
      (Host.rsqrt (addf (Host.divf (broadcastInDim S8x4096x16x1 ![0, 1, 2] bcast_S8x4096x16_S8x4096x16x1_0_1_2
          (Host.reduceAdd (mulf q q) (constant S_ .f32 0x00000000#32) reducesTo_S8x4096x16x64_S8x4096x16_d3 h_S_))
          (broadcastInDim S8x4096x16x1 ![] bcast_S_S8x4096x16x1 (constant S_ .f32 0x42800000#32)))
        (broadcastInDim S8x4096x16x1 ![] bcast_S_S8x4096x16x1 (constant S_ .f32 0x358637BD#32))))))
      (broadcastInDim S8x4096x16x64 ![0, 1, 2, 3] bcast_S1x1x1x64_S8x4096x16x64_0_1_2_3 (broadcastInDim S1x1x1x64 ![3] bcast_S64_S1x1x1x64_3 g)))
      (broadcastInDim S8x4096x16x64 ![] bcast_S_S8x4096x16x64 (constant S_ .f32 0x3E38AA3B#32))) bitsLt_bf16_f32) shapeCasts_S8x4096x16x64_S32768x1024

theorem heads_apply (p : FVec Ideal S8x4096x2048 .f32) (b : Fin 8) (s : Fin 4096) (hd : Fin 16) (x : Fin 64) :
    heads p (ix4 b s hd x) = p (ix3 b s (lo ⟨hd.val * 64 + x.val, by omega⟩)) := by
  pointwise [heads]
  rfl

/-- A column's head. -/
def headOf (n : Fin 1024) : Fin 16 := ⟨n.val / 64, by omega⟩

theorem query_apply (q : FVec Ideal S8x4096x16x64 .f32) (g : FVec Ideal S64 .f32) (R : Fin 32768) (n : Fin 1024) :
    query q g (ix2 R n) = q (ix4 (elt R) (pos R) (headOf n) (inHead n))
        * Ideal.rsqrt (Ideal.div (∑ x : Fin 64, q (ix4 (elt R) (pos R) (headOf n) x) * q (ix4 (elt R) (pos R) (headOf n) x)) (Ideal.ofBits FTy.f32 1115684864#32)
          + Ideal.ofBits FTy.f32 897988541#32)
      * g (ix1 (inHead n)) * Ideal.ofBits FTy.f32 1043900987#32 := by
  pointwise [query]
  rfl

/-- The reference's results of its arguments. -/
def plainQ (h : FVec Ideal S8x4096x1024 .f32) (g : FVec Ideal S1024 .f32) (sh sc : FVec Ideal S8x1024 .f32) (w : FVec Ideal S1024x2048 .f32) (qn : FVec Ideal S64 .f32) :
    FVec Ideal S32768x1024 .bf16 :=
  query (heads (both h g sh sc w)) qn

def plainG (h : FVec Ideal S8x4096x1024 .f32) (g : FVec Ideal S1024 .f32) (sh sc : FVec Ideal S8x1024 .f32) (w : FVec Ideal S1024x2048 .f32) :
    FVec Ideal S32768x1024 .bf16 :=
  shapeCast _ (truncf .bf16 (extractStridedSlice S8x4096x1024 ![0, 0, 1024] (both h g sh sc w) slices_S8x4096x2048_S8x4096x1024_0_0_1024) bitsLt_bf16_f32)
    shapeCasts_S8x4096x1024_S32768x1024

theorem plainQ_eq (h : FVec Ideal S8x4096x1024 .f32) (g : FVec Ideal S1024 .f32) (sh sc : FVec Ideal S8x1024 .f32) (w : FVec Ideal S1024x2048 .f32) (qn : FVec Ideal S64 .f32) :
    plainQ h g sh sc w qn = Cert.Kernel4Ideal.Closed.arrQ h g sh sc w qn := by
  funext j
  obtain ⟨R, n, rfl⟩ : ∃ (R : Fin 32768) (n : Fin 1024), j = ix2 R n := ⟨j 0, j 1, eq_ix2 j⟩
  refine (query_apply _ _ R n).trans ?_
  simp only [heads_apply, both_apply]
  have e : (⟨(headOf n).val * 64 + (inHead n).val, by have := (headOf n).isLt; have := (inHead n).isLt; omega⟩ : Fin 1024) = n :=
    Fin.ext (show n.val / 64 * 64 + n.val % 64 = n.val by omega)
  rw [e]
  rfl

theorem plainG_eq (h : FVec Ideal S8x4096x1024 .f32) (g : FVec Ideal S1024 .f32) (sh sc : FVec Ideal S8x1024 .f32) (w : FVec Ideal S1024x2048 .f32) :
    plainG h g sh sc w = Cert.Kernel4Ideal.Closed.arrG h g sh sc w := by
  funext j
  obtain ⟨R, n, rfl⟩ : ∃ (R : Fin 32768) (n : Fin 1024), j = ix2 R n := ⟨j 0, j 1, eq_ix2 j⟩
  pointwise [plainG]
  exact both_apply h g sh sc w R (hi n)

end Reference

theorem value : Cert.algebraic_Kernel4Ideal_Ref4Ideal := by
  intro m ρ m' ρ' hpre hagree
  refine ⟨fun c => Cert.Kernel4Ideal.Closed.resQ m c, fun c => Cert.Kernel4Ideal.Closed.resG m c, (θ_run Cert.Kernel4Ideal.defs _ _).mono (fun r h c => ⟨(h c).1.trans (Cert.Kernel4Ideal.Closed.finalQ m c), (h c).2.1.trans (Cert.Kernel4Ideal.Closed.finalG m c), (h c).2.2⟩) (Cert.Kernel4Ideal.Value.run_blocks m ρ), ?_⟩
  refine (θ_run Cert.Ref4Ideal.defs _ _).mono (fun r hr c => ⟨(hr c).1.trans ?_, (hr c).2.1.trans ?_, (hr c).2.2⟩) (Cert.Ref4Ideal.Value.run (F := Ideal) m' ρ')
  · obtain ⟨e0, e1, e2, e3, e4, e5⟩ := hagree c
    unfold Cert.Ref4Ideal.Value.res_main_v41
    rw [e0, e1, e2, e3, e4, e5]
    exact plainQ_eq _ _ _ _ _ _
  · obtain ⟨e0, e1, e2, e3, e4, e5⟩ := hagree c
    rw [e0, e1, e2, e3, e4]
    exact plainG_eq _ _ _ _ _

end Cert.QueryProj

end
-- ==== Proof.Out.lean ====
module

public import proofs.«01_k».proof.Defs
public import proofs.«01_k».proof.Proof.Gen.Kernel3
public import proofs.«01_k».proof.Proof.Gen.Kernel3Ideal
public import proofs.«01_k».proof.Proof.Gen.Kernel3Ideal.Value
public import proofs.«01_k».proof.Proof.Gen.Ref3Ideal.Run
public import Idealize.ShloMosaic.Lib.Pointwise

/-! The output projection of the state space layer with its gated linear unit and residual: the result of each row in closed form, and the reference's the same. -/

@[expose] public section

set_option maxRecDepth 16384

noncomputable section

namespace Cert.Kernel3Ideal.Closed

open Cert.Kernel3Ideal Cert.Kernel3Ideal.Gen Cert.Kernel3Ideal.Value Idealize.ShloMosaic Idealize.ShloMosaic.TcCoe Idealize.SL.Sem

/-- A row's element of its sequence. -/
def elt (R : Fin 32768) : Fin 8 := ⟨R.val / 4096, by omega⟩
/-- A row's place in its sequence. -/
def pos (R : Fin 32768) : Fin 4096 := ⟨R.val % 4096, by omega⟩
/-- The array's row of a block's row. -/
def row (t : Fin 64) (r : Fin 512) : Fin 32768 := ⟨t.val * 512 + r.val, by omega⟩

theorem elt_row (t : Fin 64) (r : Fin 512) : (⟨t.val / 8, by omega⟩ : Fin 8) = elt (row t r) :=
  Fin.ext (show t.val / 8 = (t.val * 512 + r.val) / 4096 by omega)

theorem hz2 : (![0, 0] : Fin 2 → Nat) = fun _ => 0 := funext fun a => by fin_cases a <;> rfl
theorem hz3 : (![0, 0, 0] : Fin 3 → Nat) = fun _ => 0 := funext fun a => by fin_cases a <;> rfl

/-- The activation of a value. -/
def act (v : EReal) : EReal :=
  v * (Ideal.ofBits FTy.f32 1056964608#32 * (1 + Ideal.tanh (Ideal.ofBits FTy.f32 1061962282#32 * (v + Ideal.ofBits FTy.f32 1027024659#32 * (v * (v * v))))))

/-- A column of the projection's first half, and the column of its second half that gates it. -/
def lo (n : Fin 1024) : Fin 2048 := ⟨n.val, by omega⟩
def hi (n : Fin 1024) : Fin 2048 := ⟨1024 + n.val, by omega⟩

/-- A column of a row's projection: the first half times the logistic of the second. -/
def glu (a : Fin 1024 → EReal) (w : Fin 1024 → Fin 2048 → EReal) (n : Fin 1024) : EReal :=
  (∑ k, act (a k) * w k (lo n)) * Ideal.logistic (∑ k, act (a k) * w k (hi n))

/-- The result: the residual, and the gate times the gated projection. -/
def arr (x0 x1 x2 : FVec Ideal S8x4096x1024 .f32) (x3 : FVec Ideal S1024 .f32) (x4 : FVec Ideal S1024x2048 .f32) (x5 : FVec Ideal S8x1024 .f32) :
    FVec Ideal S32768x1024 .f32 := fun j =>
  x2 (ix3 (elt (j 0)) (pos (j 0)) (j 1)) + x5 (ix2 (elt (j 0)) (j 1))
    * glu (fun k => x0 (ix3 (elt (j 0)) (pos (j 0)) k) + x3 (ix1 k) * x1 (ix3 (elt (j 0)) (pos (j 0)) k)) (fun k n => x4 (ix2 k n)) (j 1)

/-- What the body stores, read at a row and a column of the block. -/
theorem pay_apply (y0 y1 y2 : Vec Ideal S512x1024 .f32) (y3 : Vec Ideal S1x1024 .f32) (y4 : Vec Ideal S1024x2048 .bf16) (y5 : Vec Ideal S1x1x1024 .f32)
    (r : Fin 512) (n : Fin 1024) :
    k0_pay1 y0 y3 y1 y4 y2 y5 (ix2 r n)
      = y2 (ix2 r n) + y5 (ix3 0 0 n) * glu (fun k => y0 (ix2 r k) + y3 (ix2 0 k) * y1 (ix2 r k)) (fun k n => y4 (ix2 k n)) n := by
  pointwise [k0_pay1]
  rfl

/-- What the body leaves in the output's block is that store's payload of the blocks it loads whole. -/
theorem out_eq (y0 y1 y2 : Vec Ideal S512x1024 .f32) (y3 : Vec Ideal S1x1024 .f32) (y4 : Vec Ideal S1024x2048 .bf16) (y5 : Vec Ideal S1x1x1024 .f32) :
    out0_6 y0 y1 y2 y3 y4 y5 = k0_pay1 y0 y3 y1 y4 y2 y5 := by
  unfold out0_6
  rw [View.canon_unit_zero hz2]
  have l0 : View.ld y0 r0_0 = y0 := View.ld_unit_zero (S := S512x1024) hz2 _ _
  have l1 : View.ld y1 r0_0 = y1 := View.ld_unit_zero (S := S512x1024) hz2 _ _
  have l2 : View.ld y2 r0_0 = y2 := View.ld_unit_zero (S := S512x1024) hz2 _ _
  have l3 : View.ld y3 r0_1 = y3 := View.ld_unit_zero (S := S1x1024) hz2 _ _
  have l4 : View.ld y4 r0_2 = y4 := View.ld_unit_zero (S := S1024x2048) hz2 _ _
  have l5 : View.ld y5 r0_3 = y5 := View.ld_unit_zero (S := S1x1x1024) hz3 _ _
  rw [l0, l1, l2, l3, l4, l5]

/-- A row of the rows laid flat is a row of its sequence. -/
theorem flat_apply (x : FVec Ideal S8x4096x1024 .f32) (R : Fin 32768) (k : Fin 1024) :
    shapeCast S32768x1024 x shapeCasts_S8x4096x1024_S32768x1024 (ix2 R k) = x (ix3 (elt R) (pos R) k) := by
  pointwise []
  rfl

/-- A sequence's vector as the kernel's operand. -/
theorem mod_apply (x : FVec Ideal S8x1024 .f32) (b : Fin 8) (k : Fin 1024) :
    broadcastInDim S8x1x1024 ![0, 2] bcast_S8x1024_S8x1x1024_0_2 x (ix3 b 0 k) = x (ix2 b k) := by
  pointwise []

/-- A vector over the columns as the kernel's operand. -/
theorem vec_apply (x : FVec Ideal S1024 .f32) (k : Fin 1024) :
    broadcastInDim S1x1024 ![1] bcast_S1024_S1x1024_1 x (ix2 0 k) = x (ix1 k) := by
  pointwise []

variable (m : (ℓ : Loc nD τ sig) → Buf (Elt Ideal) ℓ)

theorem V_v0 (c : Dev nD) : (V m c main_v0 : Vec Ideal S32768x1024 .f32)
    = shapeCast S32768x1024 (m ((c : Thread nD τ).loc main_arg0) : Vec Ideal S8x4096x1024 .f32) shapeCasts_S8x4096x1024_S32768x1024 := by
  show StableHlo.after hostOps0 (fun b => m (c, b)) (Proc.devRef .tc main_v0) = _
  after_results <;> rfl

theorem V_v1 (c : Dev nD) : (V m c main_v1 : Vec Ideal S32768x1024 .f32)
    = shapeCast S32768x1024 (m ((c : Thread nD τ).loc main_arg1) : Vec Ideal S8x4096x1024 .f32) shapeCasts_S8x4096x1024_S32768x1024 := by
  show StableHlo.after hostOps0 (fun b => m (c, b)) (Proc.devRef .tc main_v1) = _
  after_results <;> rfl

theorem V_v2 (c : Dev nD) : (V m c main_v2 : Vec Ideal S32768x1024 .f32)
    = shapeCast S32768x1024 (m ((c : Thread nD τ).loc main_arg2) : Vec Ideal S8x4096x1024 .f32) shapeCasts_S8x4096x1024_S32768x1024 := by
  show StableHlo.after hostOps0 (fun b => m (c, b)) (Proc.devRef .tc main_v2) = _
  after_results <;> rfl

theorem V_v3 (c : Dev nD) : (V m c main_v3 : Vec Ideal S1x1024 .f32)
    = broadcastInDim S1x1024 ![1] bcast_S1024_S1x1024_1 (m ((c : Thread nD τ).loc main_arg3) : FVec Ideal S1024 .f32) := by
  show StableHlo.after hostOps0 (fun b => m (c, b)) (Proc.devRef .tc main_v3) = _
  after_results <;> rfl

theorem V_v4 (c : Dev nD) : (V m c main_v4 : Vec Ideal S1024x2048 .bf16)
    = (m ((c : Thread nD τ).loc main_arg4) : FVec Ideal S1024x2048 .f32) := by
  show StableHlo.after hostOps0 (fun b => m (c, b)) (Proc.devRef .tc main_v4) = _
  after_results <;> rfl

theorem V_v5 (c : Dev nD) : (V m c main_v5 : Vec Ideal S8x1x1024 .f32)
    = broadcastInDim S8x1x1024 ![0, 2] bcast_S8x1024_S8x1x1024_0_2 (m ((c : Thread nD τ).loc main_arg5) : FVec Ideal S8x1024 .f32) := by
  show StableHlo.after hostOps0 (fun b => m (c, b)) (Proc.devRef .tc main_v5) = _
  after_results <;> rfl

/-- The block each window reads at a point. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![t.val / 8, 0, 0] ∧ win0_6.index t = ![t.val, 0] :=
  (by decide +kernel : ∀ t : Fin grid0.N, _)

theorem emb0 (t : Fin cfg0.N) (r : Fin 512) (k : Fin 1024) :
    ((cfg0.win 0).blk t).view.emb (ix2 r k : S512x1024.Idx) = (ix2 (row t r) k : S32768x1024.Idx) := by
  have e := (idx t).1
  funext a; apply Fin.ext
  match a with
  | ⟨0, _⟩ => show win0_0.index t (0 : Fin 2) * 512 + 1 * r.val = t.val * 512 + r.val; rw [e]; show t.val * 512 + 1 * r.val = _; omega
  | ⟨1, _⟩ => show win0_0.index t (1 : Fin 2) * 1024 + 1 * k.val = k.val; rw [e]; show 0 * 1024 + 1 * k.val = _; omega

theorem emb1 (t : Fin cfg0.N) (r : Fin 512) (k : Fin 1024) :
    ((cfg0.win 1).blk t).view.emb (ix2 r k : S512x1024.Idx) = (ix2 (row t r) k : S32768x1024.Idx) := by
  have e := (idx t).2.1
  funext a; apply Fin.ext
  match a with
  | ⟨0, _⟩ => show win0_1.index t (0 : Fin 2) * 512 + 1 * r.val = t.val * 512 + r.val; rw [e]; show t.val * 512 + 1 * r.val = _; omega
  | ⟨1, _⟩ => show win0_1.index t (1 : Fin 2) * 1024 + 1 * k.val = k.val; rw [e]; show 0 * 1024 + 1 * k.val = _; omega

theorem emb2 (t : Fin cfg0.N) (r : Fin 512) (k : Fin 1024) :
    ((cfg0.win 2).blk t).view.emb (ix2 r k : S512x1024.Idx) = (ix2 (row t r) k : S32768x1024.Idx) := by
  have e := (idx t).2.2.1
  funext a; apply Fin.ext
  match a with
  | ⟨0, _⟩ => show win0_2.index t (0 : Fin 2) * 512 + 1 * r.val = t.val * 512 + r.val; rw [e]; show t.val * 512 + 1 * r.val = _; omega
  | ⟨1, _⟩ => show win0_2.index t (1 : Fin 2) * 1024 + 1 * k.val = k.val; rw [e]; show 0 * 1024 + 1 * k.val = _; omega

theorem emb3 (t : Fin cfg0.N) (k : Fin 1024) :
    ((cfg0.win 3).blk t).view.emb (ix2 0 k : S1x1024.Idx) = (ix2 0 k : S1x1024.Idx) := by
  have e := (idx t).2.2.2.1
  funext a; apply Fin.ext
  match a with
  | ⟨0, _⟩ => show win0_3.index t (0 : Fin 2) * 1 + 1 * 0 = 0; rw [e]; rfl
  | ⟨1, _⟩ => show win0_3.index t (1 : Fin 2) * 1024 + 1 * k.val = k.val; rw [e]; show 0 * 1024 + 1 * k.val = _; omega

theorem emb4 (t : Fin cfg0.N) (r : Fin 1024) (k : Fin 2048) :
    ((cfg0.win 4).blk t).view.emb (ix2 r k : S1024x2048.Idx) = (ix2 r k : S1024x2048.Idx) := by
  have e := (idx t).2.2.2.2.1
  funext a; apply Fin.ext
  match a with
  | ⟨0, _⟩ => show win0_4.index t (0 : Fin 2) * 1024 + 1 * r.val = r.val; rw [e]; show 0 * 1024 + 1 * r.val = _; omega
  | ⟨1, _⟩ => show win0_4.index t (1 : Fin 2) * 2048 + 1 * k.val = k.val; rw [e]; show 0 * 2048 + 1 * k.val = _; omega

theorem emb5 (t : Fin cfg0.N) (k : Fin 1024) :
    ((cfg0.win 5).blk t).view.emb (ix3 0 0 k : S1x1x1024.Idx) = (ix3 (⟨t.val / 8, by have : t.val < 64 := t.isLt; omega⟩ : Fin 8) 0 k : S8x1x1024.Idx) := by
  have e := (idx t).2.2.2.2.2.1
  funext a; apply Fin.ext
  match a with
  | ⟨0, _⟩ => show win0_5.index t (0 : Fin 3) * 1 + 1 * 0 = t.val / 8; rw [e]; show t.val / 8 * 1 + 1 * 0 = _; omega
  | ⟨1, _⟩ => show win0_5.index t (1 : Fin 3) * 1 + 1 * 0 = 0; rw [e]; rfl
  | ⟨2, _⟩ => show win0_5.index t (2 : Fin 3) * 1024 + 1 * k.val = k.val; rw [e]; show 0 * 1024 + 1 * k.val = _; omega

theorem emb6 (t : Fin cfg0.N) (r : Fin 512) (k : Fin 1024) :
    ((cfg0.win 6).blk t).view.emb (ix2 r k : S512x1024.Idx) = (ix2 (row t r) k : S32768x1024.Idx) := by
  have e := (idx t).2.2.2.2.2.2
  funext a; apply Fin.ext
  match a with
  | ⟨0, _⟩ => show win0_6.index t (0 : Fin 2) * 512 + 1 * r.val = t.val * 512 + r.val; rw [e]; show t.val * 512 + 1 * r.val = _; omega
  | ⟨1, _⟩ => show win0_6.index t (1 : Fin 2) * 1024 + 1 * k.val = k.val; rw [e]; show 0 * 1024 + 1 * k.val = _; omega

/-! The windows' blocks at a point, read in the arguments as launched. -/

theorem blk0 (c : Dev nD) (t : Fin cfg0.N) (r : Fin 512) (k : Fin 1024) :
    (iblk m c 0 t : Vec Ideal S512x1024 .f32) (ix2 r k)
      = (m ((c : Thread nD τ).loc main_arg0) : FVec Ideal S8x4096x1024 .f32) (ix3 (elt (row t r)) (pos (row t r)) k) := by
  show (V m c main_v0 : Vec Ideal S32768x1024 .f32) (((cfg0.win 0).blk t).view.emb (ix2 r k : S512x1024.Idx)) = _
  rw [emb0, V_v0, flat_apply]

theorem blk1 (c : Dev nD) (t : Fin cfg0.N) (r : Fin 512) (k : Fin 1024) :
    (iblk m c 1 t : Vec Ideal S512x1024 .f32) (ix2 r k)
      = (m ((c : Thread nD τ).loc main_arg1) : FVec Ideal S8x4096x1024 .f32) (ix3 (elt (row t r)) (pos (row t r)) k) := by
  show (V m c main_v1 : Vec Ideal S32768x1024 .f32) (((cfg0.win 1).blk t).view.emb (ix2 r k : S512x1024.Idx)) = _
  rw [emb1, V_v1, flat_apply]

theorem blk2 (c : Dev nD) (t : Fin cfg0.N) (r : Fin 512) (k : Fin 1024) :
    (iblk m c 2 t : Vec Ideal S512x1024 .f32) (ix2 r k)
      = (m ((c : Thread nD τ).loc main_arg2) : FVec Ideal S8x4096x1024 .f32) (ix3 (elt (row t r)) (pos (row t r)) k) := by
  show (V m c main_v2 : Vec Ideal S32768x1024 .f32) (((cfg0.win 2).blk t).view.emb (ix2 r k : S512x1024.Idx)) = _
  rw [emb2, V_v2, flat_apply]

theorem blk3 (c : Dev nD) (t : Fin cfg0.N) (k : Fin 1024) :
    (iblk m c 3 t : Vec Ideal S1x1024 .f32) (ix2 0 k) = (m ((c : Thread nD τ).loc main_arg3) : FVec Ideal S1024 .f32) (ix1 k) := by
  show (V m c main_v3 : Vec Ideal S1x1024 .f32) (((cfg0.win 3).blk t).view.emb (ix2 0 k : S1x1024.Idx)) = _
  rw [emb3, V_v3, vec_apply]

theorem blk4 (c : Dev nD) (t : Fin cfg0.N) (r : Fin 1024) (k : Fin 2048) :
    (iblk m c 4 t : Vec Ideal S1024x2048 .bf16) (ix2 r k) = (m ((c : Thread nD τ).loc main_arg4) : FVec Ideal S1024x2048 .f32) (ix2 r k) := by
  show (V m c main_v4 : Vec Ideal S1024x2048 .bf16) (((cfg0.win 4).blk t).view.emb (ix2 r k : S1024x2048.Idx)) = _
  rw [emb4, V_v4]

theorem blk5 (c : Dev nD) (t : Fin cfg0.N) (r : Fin 512) (k : Fin 1024) :
    (iblk m c 5 t : Vec Ideal S1x1x1024 .f32) (ix3 0 0 k) = (m ((c : Thread nD τ).loc main_arg5) : FVec Ideal S8x1024 .f32) (ix2 (elt (row t r)) k) := by
  show (V m c main_v5 : Vec Ideal S8x1x1024 .f32) (((cfg0.win 5).blk t).view.emb (ix3 0 0 k : S1x1x1024.Idx)) = _
  rw [emb5, V_v5, mod_apply, ← elt_row t r]

/-- The result on the arguments as launched. -/
def res (c : Dev nD) : FVec Ideal S32768x1024 .f32 :=
  arr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What a point writes back is its block of the result. -/
theorem flushed_eq (c : Dev nD) (t : Fin cfg0.N) :
    (dats m 0 c).flushed 6 t = ((cfg0.win 6).blk t).view.read (Elt Ideal) (res m c) := by
  rw [flushed6, out_eq]
  funext j
  obtain ⟨r, n, rfl⟩ : ∃ (r : Fin 512) (n : Fin 1024), j = (ix2 r n : S512x1024.Idx) := ⟨j 0, j 1, eq_ix2 j⟩
  refine (pay_apply _ _ _ _ _ _ r n).trans ?_
  show _ = res m c (((cfg0.win 6).blk t).view.emb (ix2 r n : S512x1024.Idx))
  rw [emb6]
  simp only [blk0, blk1, blk2, blk3, blk4, fun k => blk5 m c t r k]
  rfl

/-- Every place of the result lies in some point's block. -/
theorem covered (i : S32768x1024.Idx) : ∃ t : Fin cfg0.N, (cfg0.win 6).flush t = true ∧ i ∈ ((cfg0.win 6).blk t).view.set := by
  obtain ⟨R, k, rfl⟩ : ∃ (R : Fin 32768) (k : Fin 1024), i = ix2 R k := ⟨i 0, i 1, eq_ix2 i⟩
  refine ⟨(⟨R.val / 512, by show _ < 64; omega⟩ : Fin cfg0.N), flush0_6 _, ?_⟩
  have e : R = row (⟨R.val / 512, by omega⟩ : Fin 64) ⟨R.val % 512, by omega⟩ := Fin.ext (show R.val = R.val / 512 * 512 + R.val % 512 by omega)
  rw [(congrArg (fun q : Fin 32768 => (ix2 q k : S32768x1024.Idx)) e).trans (emb6 (⟨R.val / 512, by show _ < 64; omega⟩ : Fin cfg0.N) ⟨R.val % 512, by omega⟩ k).symm]
  exact View.emb_mem_set _ _

/-- The result's array after the run. -/
theorem final (c : Dev nD) : (dats m 0 c).arrAt 6 cfg0.N = res m c :=
  (dats m 0 c).arrAt_eq_of_cover 6 (res m c) (fun t _ => flushed_eq m c t) covered

end Cert.Kernel3Ideal.Closed

namespace Cert.GluProj

open Idealize.ShloMosaic Idealize.ShloMosaic.TcCoe Idealize.SL.Sem
open Cert.Kernel3Ideal.Closed (elt pos act)

/-- The two programs have one text: the same kernel, the same body table, the same calls. -/
theorem kernel_table {F : FTy → Type} [FloatOps F] : @Cert.Kernel3.defs₀ F _ _ = @Cert.Kernel3Ideal.defs₀ F _ _ := by
  unfold Cert.Kernel3.defs₀ Cert.Kernel3Ideal.defs₀
  refine congrArg Defs.onTc ?_
  funext l a
  match l, a with
  | ⟨0, _⟩, (t, s) => rfl

theorem kernel_defs {F : FTy → Type} [FloatOps F] : @Cert.Kernel3.defs F _ _ = @Cert.Kernel3Ideal.defs F _ _ := by
  unfold Cert.Kernel3.defs Cert.Kernel3Ideal.defs
  exact congrArg (Pipeline.defs _) kernel_table

theorem frame_bits : Cert.quiescent_Kernel3 := fun m ρ _ => by
  rw [kernel_defs]
  exact (θ_run Cert.Kernel3Ideal.defs _ _).mono (fun _ h => h) (Cert.Kernel3Ideal.Gen.frame (F := Bits) m ρ)

theorem frame_ideal : Cert.quiescent_Kernel3Ideal := fun m ρ _ => Cert.Kernel3Ideal.Gen.frame m ρ

theorem frame_ref : Cert.quiescent_Ref3Ideal := fun m ρ _ =>
  (θ_run Cert.Ref3Ideal.defs _ _).mono (fun r h => ⟨fun c => (h c).2, Idealize.ShloMosaic.sem_eq_zero_of_no_sems (by decide) r.2⟩)
    (Cert.Ref3Ideal.Value.run (F := Ideal) m ρ)

section Reference
open Cert.Ref3Ideal Cert.Ref3Ideal.Gen

/-- The scan's result with the skipped input. -/
def skip (y u : FVec Ideal S8x4096x1024 .f32) (d : FVec Ideal S1024 .f32) : FVec Ideal S8x4096x1024 .f32 :=
  addf y (mulf (broadcastInDim S8x4096x1024 ![0, 1, 2] bcast_S1x1x1024_S8x4096x1024_0_1_2 (broadcastInDim S1x1x1024 ![2] bcast_S1024_S1x1x1024_2 d)) u)

theorem skip_apply (y u : FVec Ideal S8x4096x1024 .f32) (d : FVec Ideal S1024 .f32) (b : Fin 8) (s : Fin 4096) (k : Fin 1024) :
    skip y u d (ix3 b s k) = y (ix3 b s k) + d (ix1 k) * u (ix3 b s k) := by
  pointwise [skip]

/-- The reference's activation. -/
def gelu (v : FVec Ideal S8x4096x1024 .f32) : FVec Ideal S8x4096x1024 .f32 :=
  mulf v (mulf (broadcastInDim S8x4096x1024 ![] bcast_S_S8x4096x1024 (constant S_ .f32 0x3F000000#32))
    (addf (broadcastInDim S8x4096x1024 ![] bcast_S_S8x4096x1024 (constant S_ .f32 0x3F800000#32))
      (Host.tanh (mulf (broadcastInDim S8x4096x1024 ![] bcast_S_S8x4096x1024 (constant S_ .f32 0x3F4C422A#32))
        (addf v (mulf (broadcastInDim S8x4096x1024 ![] bcast_S_S8x4096x1024 (constant S_ .f32 0x3D372713#32)) (mulf (mulf v v) v)))))))

theorem gelu_apply (v : FVec Ideal S8x4096x1024 .f32) (b : Fin 8) (s : Fin 4096) (k : Fin 1024) : gelu v (ix3 b s k) = act (v (ix3 b s k)) := by
  pointwise [gelu]
  rw [mul_assoc (v (ix3 b s k)) (v (ix3 b s k)) (v (ix3 b s k))]
  rfl

/-- The projection of the activated rows, both halves. -/
def both (v : FVec Ideal S8x4096x1024 .f32) (w : FVec Ideal S1024x2048 .f32) : FVec Ideal S8x4096x2048 .f32 :=
  Host.dotGeneral dot_S8x4096x1024_S1024x2048_S8x4096x2048_2_0_01_1_n_n none (gelu v) w

theorem both_apply (v : FVec Ideal S8x4096x1024 .f32) (w : FVec Ideal S1024x2048 .f32) (b : Fin 8) (s : Fin 4096) (n : Fin 2048) :
    both v w (ix3 b s n) = ∑ k : Fin 1024, act (v (ix3 b s k)) * w (ix2 k n) := by
  pointwise [both]
  simp only [gelu_apply]

/-- The reference's result of its arguments. -/
def plain (y u h : FVec Ideal S8x4096x1024 .f32) (d : FVec Ideal S1024 .f32) (w : FVec Ideal S1024x2048 .f32) (g : FVec Ideal S8x1024 .f32) :
    FVec Ideal S32768x1024 .f32 :=
  shapeCast _ (addf h (mulf
      (broadcastInDim S8x4096x1024 ![0, 1, 2] bcast_S8x1x1024_S8x4096x1024_0_1_2 (broadcastInDim S8x1x1024 ![0, 2] bcast_S8x1024_S8x1x1024_0_2 g))
      (mulf (extractStridedSlice S8x4096x1024 ![0, 0, 0] (both (skip y u d) w) slices_S8x4096x2048_S8x4096x1024_0_0_0)
        (Host.divf (broadcastInDim S8x4096x1024 ![] bcast_S_S8x4096x1024 (constant S_ .f32 0x3F800000#32))
          (addf (broadcastInDim S8x4096x1024 ![] bcast_S_S8x4096x1024 (constant S_ .f32 0x3F800000#32))
            (Host.exp (Host.negf (extractStridedSlice S8x4096x1024 ![0, 0, 1024] (both (skip y u d) w) slices_S8x4096x2048_S8x4096x1024_0_0_1024))))))))
    shapeCasts_S8x4096x1024_S32768x1024

theorem plain_eq (y u h : FVec Ideal S8x4096x1024 .f32) (d : FVec Ideal S1024 .f32) (w : FVec Ideal S1024x2048 .f32) (g : FVec Ideal S8x1024 .f32) :
    plain y u h d w g = Cert.Kernel3Ideal.Closed.arr y u h d w g := by
  funext j
  obtain ⟨R, k, rfl⟩ : ∃ (R : Fin 32768) (k : Fin 1024), j = ix2 R k := ⟨j 0, j 1, eq_ix2 j⟩
  pointwise [plain]
  simp only [both_apply, skip_apply]
  rfl

end Reference

theorem value : Cert.algebraic_Kernel3Ideal_Ref3Ideal := by
  intro m ρ m' ρ' hpre hagree
  refine ⟨fun c => Cert.Kernel3Ideal.Closed.res m c, (θ_run Cert.Kernel3Ideal.defs _ _).mono (fun r h c => ⟨(h c).1.trans (Cert.Kernel3Ideal.Closed.final m c), (h c).2⟩) (Cert.Kernel3Ideal.Value.run_blocks m ρ), ?_⟩
  refine (θ_run Cert.Ref3Ideal.defs _ _).mono (fun r hr c => ⟨(hr c).1.trans ?_, (hr c).2⟩) (Cert.Ref3Ideal.Value.run (F := Ideal) m' ρ')
  obtain ⟨e0, e1, e2, e3, e4, e5⟩ := hagree c
  unfold Cert.Ref3Ideal.Value.res_main_v31
  rw [e0, e1, e2, e3, e4, e5]
  exact plain_eq _ _ _ _ _ _

end Cert.GluProj

end
-- ==== Proof.In.lean ====
module

public import proofs.«01_k».proof.Defs
public import proofs.«01_k».proof.Proof.Gen.Kernel2
public import proofs.«01_k».proof.Proof.Gen.Kernel2Ideal
public import proofs.«01_k».proof.Proof.Gen.Kernel2Ideal.Value
public import proofs.«01_k».proof.Proof.Gen.Ref2Ideal.Run
public import Idealize.ShloMosaic.Lib.Pointwise

/-! The input projection of the state space layer: the result of each row in closed form, and the reference's the same. -/

@[expose] public section

set_option maxRecDepth 16384

noncomputable section

namespace Cert.Kernel2Ideal.Closed

open Cert.Kernel2Ideal Cert.Kernel2Ideal.Gen Cert.Kernel2Ideal.Value Idealize.ShloMosaic Idealize.ShloMosaic.TcCoe Idealize.SL.Sem

/-- A row's element of its sequence. -/
def elt (R : Fin 32768) : Fin 8 := ⟨R.val / 4096, by omega⟩
/-- A row's place in its sequence. -/
def pos (R : Fin 32768) : Fin 4096 := ⟨R.val % 4096, by omega⟩
/-- The array's row of a block's row. -/
def row (t : Fin 64) (r : Fin 512) : Fin 32768 := ⟨t.val * 512 + r.val, by omega⟩

theorem elt_row (t : Fin 64) (r : Fin 512) : (⟨t.val / 8, by omega⟩ : Fin 8) = elt (row t r) :=
  Fin.ext (show t.val / 8 = (t.val * 512 + r.val) / 4096 by omega)

theorem hz2 : (![0, 0] : Fin 2 → Nat) = fun _ => 0 := funext fun a => by fin_cases a <;> rfl
theorem hz3 : (![0, 0, 0] : Fin 3 → Nat) = fun _ => 0 := funext fun a => by fin_cases a <;> rfl

/-- A row over the root of its mean square, scaled by the columns' vector, and modulated. -/
def modn (h g sh sc : Fin 1024 → EReal) (k : Fin 1024) : EReal :=
  h k * Ideal.rsqrt (Ideal.div (∑ x : Fin 1024, h x * h x) (Ideal.ofBits FTy.f32 1149239296#32) + Ideal.ofBits FTy.f32 897988541#32) * g k * (1 + sc k) + sh k

/-- The modulated row of the arguments. -/
def nrow (x0 : FVec Ideal S8x4096x1024 .f32) (x1 : FVec Ideal S1024 .f32) (x2 x3 : FVec Ideal S8x1024 .f32) (R : Fin 32768) : Fin 1024 → EReal :=
  modn (fun x => x0 (ix3 (elt R) (pos R) x)) (fun x => x1 (ix1 x)) (fun x => x2 (ix2 (elt R) x)) (fun x => x3 (ix2 (elt R) x))

/-- The result: the modulated rows times the weights. -/
def arr (x0 : FVec Ideal S8x4096x1024 .f32) (x1 : FVec Ideal S1024 .f32) (x2 x3 : FVec Ideal S8x1024 .f32) (x4 : FVec Ideal S1024x1024 .f32) :
    FVec Ideal S32768x1024 .f32 := fun j => ∑ k : Fin 1024, nrow x0 x1 x2 x3 (j 0) k * x4 (ix2 k (j 1))

/-- What the body stores, read at a row and a column of the block. -/
theorem pay_apply (y0 : Vec Ideal S512x1024 .f32) (y1 : Vec Ideal S1x1024 .f32) (y2 y3 : Vec Ideal S1x1x1024 .f32) (y4 : Vec Ideal S1024x1024 .bf16)
    (r : Fin 512) (n : Fin 1024) :
    k0_pay1 y0 y1 y2 y3 y4 (ix2 r n)
      = ∑ k : Fin 1024, modn (fun x => y0 (ix2 r x)) (fun x => y1 (ix2 0 x)) (fun x => y2 (ix3 0 0 x)) (fun x => y3 (ix3 0 0 x)) k * y4 (ix2 k n) := by
  pointwise [k0_pay1]
  rfl

/-- What the body leaves in the output's block is that store's payload of the blocks it loads whole. -/
theorem out_eq (y0 : Vec Ideal S512x1024 .f32) (y1 : Vec Ideal S1x1024 .f32) (y2 y3 : Vec Ideal S1x1x1024 .f32) (y4 : Vec Ideal S1024x1024 .bf16) :
    out0_5 y0 y1 y2 y3 y4 = k0_pay1 y0 y1 y2 y3 y4 := by
  unfold out0_5
  rw [View.canon_unit_zero hz2]
  have l0 : View.ld y0 r0_0 = y0 := View.ld_unit_zero (S := S512x1024) hz2 _ _
  have l1 : View.ld y1 r0_1 = y1 := View.ld_unit_zero (S := S1x1024) hz2 _ _
  have l2 : View.ld y2 r0_2 = y2 := View.ld_unit_zero (S := S1x1x1024) hz3 _ _
  have l3 : View.ld y3 r0_2 = y3 := View.ld_unit_zero (S := S1x1x1024) hz3 _ _
  have l4 : View.ld y4 r0_3 = y4 := View.ld_unit_zero (S := S1024x1024) hz2 _ _
  rw [l0, l1, l2, l3, l4]

/-- A row of the rows laid flat is a row of its sequence. -/
theorem flat_apply (x : FVec Ideal S8x4096x1024 .f32) (R : Fin 32768) (k : Fin 1024) :
    shapeCast S32768x1024 x shapeCasts_S8x4096x1024_S32768x1024 (ix2 R k) = x (ix3 (elt R) (pos R) k) := by
  pointwise []
  rfl

/-- A sequence's vector as the kernel's operand. -/
theorem mod_apply (x : FVec Ideal S8x1024 .f32) (b : Fin 8) (k : Fin 1024) :
    broadcastInDim S8x1x1024 ![0, 2] bcast_S8x1024_S8x1x1024_0_2 x (ix3 b 0 k) = x (ix2 b k) := by
  pointwise []

/-- A vector over the columns as the kernel's operand. -/
theorem vec_apply (x : FVec Ideal S1024 .f32) (k : Fin 1024) :
    broadcastInDim S1x1024 ![1] bcast_S1024_S1x1024_1 x (ix2 0 k) = x (ix1 k) := by
  pointwise []

variable (m : (ℓ : Loc nD τ sig) → Buf (Elt Ideal) ℓ)

theorem V_v0 (c : Dev nD) : (V m c main_v0 : Vec Ideal S32768x1024 .f32)
    = shapeCast S32768x1024 (m ((c : Thread nD τ).loc main_arg0) : Vec Ideal S8x4096x1024 .f32) shapeCasts_S8x4096x1024_S32768x1024 := by
  show StableHlo.after hostOps0 (fun b => m (c, b)) (Proc.devRef .tc main_v0) = _
  after_results <;> rfl

theorem V_v1 (c : Dev nD) : (V m c main_v1 : Vec Ideal S1x1024 .f32)
    = broadcastInDim S1x1024 ![1] bcast_S1024_S1x1024_1 (m ((c : Thread nD τ).loc main_arg1) : FVec Ideal S1024 .f32) := by
  show StableHlo.after hostOps0 (fun b => m (c, b)) (Proc.devRef .tc main_v1) = _
  after_results <;> rfl

theorem V_v2 (c : Dev nD) : (V m c main_v2 : Vec Ideal S8x1x1024 .f32)
    = broadcastInDim S8x1x1024 ![0, 2] bcast_S8x1024_S8x1x1024_0_2 (m ((c : Thread nD τ).loc main_arg2) : FVec Ideal S8x1024 .f32) := by
  show StableHlo.after hostOps0 (fun b => m (c, b)) (Proc.devRef .tc main_v2) = _
  after_results <;> rfl

theorem V_v3 (c : Dev nD) : (V m c main_v3 : Vec Ideal S8x1x1024 .f32)
    = broadcastInDim S8x1x1024 ![0, 2] bcast_S8x1024_S8x1x1024_0_2 (m ((c : Thread nD τ).loc main_arg3) : FVec Ideal S8x1024 .f32) := by
  show StableHlo.after hostOps0 (fun b => m (c, b)) (Proc.devRef .tc main_v3) = _
  after_results <;> rfl

theorem V_v4 (c : Dev nD) : (V m c main_v4 : Vec Ideal S1024x1024 .bf16)
    = (m ((c : Thread nD τ).loc main_arg4) : FVec Ideal S1024x1024 .f32) := by
  show StableHlo.after hostOps0 (fun b => m (c, b)) (Proc.devRef .tc main_v4) = _
  after_results <;> rfl

/-- The block each window reads at a point. -/
theorem idx : ∀ t : Fin cfg0.N, win0_0.index t = ![t.val, 0] ∧ win0_1.index t = ![0, 0] ∧ win0_2.index t = ![t.val / 8, 0, 0] ∧ win0_3.index t = ![t.val / 8, 0, 0] ∧ win0_4.index t = ![0, 0] ∧ win0_5.index t = ![t.val, 0] :=
  (by decide +kernel : ∀ t : Fin grid0.N, _)

theorem emb0 (t : Fin cfg0.N) (r : Fin 512) (k : Fin 1024) :
    ((cfg0.win 0).blk t).view.emb (ix2 r k : S512x1024.Idx) = (ix2 (row t r) k : S32768x1024.Idx) := by
  have e := (idx t).1
  funext a; apply Fin.ext
  match a with
  | ⟨0, _⟩ => show win0_0.index t (0 : Fin 2) * 512 + 1 * r.val = t.val * 512 + r.val; rw [e]; show t.val * 512 + 1 * r.val = _; omega
  | ⟨1, _⟩ => show win0_0.index t (1 : Fin 2) * 1024 + 1 * k.val = k.val; rw [e]; show 0 * 1024 + 1 * k.val = _; omega

theorem emb1 (t : Fin cfg0.N) (k : Fin 1024) :
    ((cfg0.win 1).blk t).view.emb (ix2 0 k : S1x1024.Idx) = (ix2 0 k : S1x1024.Idx) := by
  have e := (idx t).2.1
  funext a; apply Fin.ext
  match a with
  | ⟨0, _⟩ => show win0_1.index t (0 : Fin 2) * 1 + 1 * 0 = 0; rw [e]; rfl
  | ⟨1, _⟩ => show win0_1.index t (1 : Fin 2) * 1024 + 1 * k.val = k.val; rw [e]; show 0 * 1024 + 1 * k.val = _; omega

theorem emb2 (t : Fin cfg0.N) (k : Fin 1024) :
    ((cfg0.win 2).blk t).view.emb (ix3 0 0 k : S1x1x1024.Idx) = (ix3 (⟨t.val / 8, by have : t.val < 64 := t.isLt; omega⟩ : Fin 8) 0 k : S8x1x1024.Idx) := by
  have e := (idx t).2.2.1
  funext a; apply Fin.ext
  match a with
  | ⟨0, _⟩ => show win0_2.index t (0 : Fin 3) * 1 + 1 * 0 = t.val / 8; rw [e]; show t.val / 8 * 1 + 1 * 0 = _; omega
  | ⟨1, _⟩ => show win0_2.index t (1 : Fin 3) * 1 + 1 * 0 = 0; rw [e]; rfl
  | ⟨2, _⟩ => show win0_2.index t (2 : Fin 3) * 1024 + 1 * k.val = k.val; rw [e]; show 0 * 1024 + 1 * k.val = _; omega

theorem emb3 (t : Fin cfg0.N) (k : Fin 1024) :
    ((cfg0.win 3).blk t).view.emb (ix3 0 0 k : S1x1x1024.Idx) = (ix3 (⟨t.val / 8, by have : t.val < 64 := t.isLt; omega⟩ : Fin 8) 0 k : S8x1x1024.Idx) := by
  have e := (idx t).2.2.2.1
  funext a; apply Fin.ext
  match a with
  | ⟨0, _⟩ => show win0_3.index t (0 : Fin 3) * 1 + 1 * 0 = t.val / 8; rw [e]; show t.val / 8 * 1 + 1 * 0 = _; omega
  | ⟨1, _⟩ => show win0_3.index t (1 : Fin 3) * 1 + 1 * 0 = 0; rw [e]; rfl
  | ⟨2, _⟩ => show win0_3.index t (2 : Fin 3) * 1024 + 1 * k.val = k.val; rw [e]; show 0 * 1024 + 1 * k.val = _; omega

theorem emb4 (t : Fin cfg0.N) (r : Fin 1024) (k : Fin 1024) :
    ((cfg0.win 4).blk t).view.emb (ix2 r k : S1024x1024.Idx) = (ix2 r k : S1024x1024.Idx) := by
  have e := (idx t).2.2.2.2.1
  funext a; apply Fin.ext
  match a with
  | ⟨0, _⟩ => show win0_4.index t (0 : Fin 2) * 1024 + 1 * r.val = r.val; rw [e]; show 0 * 1024 + 1 * r.val = _; omega
  | ⟨1, _⟩ => show win0_4.index t (1 : Fin 2) * 1024 + 1 * k.val = k.val; rw [e]; show 0 * 1024 + 1 * k.val = _; omega

theorem emb5 (t : Fin cfg0.N) (r : Fin 512) (k : Fin 1024) :
    ((cfg0.win 5).blk t).view.emb (ix2 r k : S512x1024.Idx) = (ix2 (row t r) k : S32768x1024.Idx) := by
  have e := (idx t).2.2.2.2.2
  funext a; apply Fin.ext
  match a with
  | ⟨0, _⟩ => show win0_5.index t (0 : Fin 2) * 512 + 1 * r.val = t.val * 512 + r.val; rw [e]; show t.val * 512 + 1 * r.val = _; omega
  | ⟨1, _⟩ => show win0_5.index t (1 : Fin 2) * 1024 + 1 * k.val = k.val; rw [e]; show 0 * 1024 + 1 * k.val = _; omega

/-! The windows' blocks at a point, read in the arguments as launched. -/

theorem blk0 (c : Dev nD) (t : Fin cfg0.N) (r : Fin 512) (k : Fin 1024) :
    (iblk m c 0 t : Vec Ideal S512x1024 .f32) (ix2 r k)
      = (m ((c : Thread nD τ).loc main_arg0) : FVec Ideal S8x4096x1024 .f32) (ix3 (elt (row t r)) (pos (row t r)) k) := by
  show (V m c main_v0 : Vec Ideal S32768x1024 .f32) (((cfg0.win 0).blk t).view.emb (ix2 r k : S512x1024.Idx)) = _
  rw [emb0, V_v0, flat_apply]

theorem blk1 (c : Dev nD) (t : Fin cfg0.N) (k : Fin 1024) :
    (iblk m c 1 t : Vec Ideal S1x1024 .f32) (ix2 0 k) = (m ((c : Thread nD τ).loc main_arg1) : FVec Ideal S1024 .f32) (ix1 k) := by
  show (V m c main_v1 : Vec Ideal S1x1024 .f32) (((cfg0.win 1).blk t).view.emb (ix2 0 k : S1x1024.Idx)) = _
  rw [emb1, V_v1, vec_apply]

theorem blk2 (c : Dev nD) (t : Fin cfg0.N) (r : Fin 512) (k : Fin 1024) :
    (iblk m c 2 t : Vec Ideal S1x1x1024 .f32) (ix3 0 0 k) = (m ((c : Thread nD τ).loc main_arg2) : FVec Ideal S8x1024 .f32) (ix2 (elt (row t r)) k) := by
  show (V m c main_v2 : Vec Ideal S8x1x1024 .f32) (((cfg0.win 2).blk t).view.emb (ix3 0 0 k : S1x1x1024.Idx)) = _
  rw [emb2, V_v2, mod_apply, ← elt_row t r]

theorem blk3 (c : Dev nD) (t : Fin cfg0.N) (r : Fin 512) (k : Fin 1024) :
    (iblk m c 3 t : Vec Ideal S1x1x1024 .f32) (ix3 0 0 k) = (m ((c : Thread nD τ).loc main_arg3) : FVec Ideal S8x1024 .f32) (ix2 (elt (row t r)) k) := by
  show (V m c main_v3 : Vec Ideal S8x1x1024 .f32) (((cfg0.win 3).blk t).view.emb (ix3 0 0 k : S1x1x1024.Idx)) = _
  rw [emb3, V_v3, mod_apply, ← elt_row t r]

theorem blk4 (c : Dev nD) (t : Fin cfg0.N) (r : Fin 1024) (k : Fin 1024) :
    (iblk m c 4 t : Vec Ideal S1024x1024 .bf16) (ix2 r k) = (m ((c : Thread nD τ).loc main_arg4) : FVec Ideal S1024x1024 .f32) (ix2 r k) := by
  show (V m c main_v4 : Vec Ideal S1024x1024 .bf16) (((cfg0.win 4).blk t).view.emb (ix2 r k : S1024x1024.Idx)) = _
  rw [emb4, V_v4]

/-- The result on the arguments as launched. -/
def res (c : Dev nD) : FVec Ideal S32768x1024 .f32 :=
  arr (m ((c : Thread nD τ).loc main_arg0)) (m ((c : Thread nD τ).loc main_arg1)) (m ((c : Thread nD τ).loc main_arg2))
    (m ((c : Thread nD τ).loc main_arg3)) (m ((c : Thread nD τ).loc main_arg4))

/-- What a point writes back is its block of the result. -/
theorem flushed_eq (c : Dev nD) (t : Fin cfg0.N) :
    (dats m 0 c).flushed 5 t = ((cfg0.win 5).blk t).view.read (Elt Ideal) (res m c) := by
  rw [flushed5, out_eq]
  funext j
  obtain ⟨r, n, rfl⟩ : ∃ (r : Fin 512) (n : Fin 1024), j = (ix2 r n : S512x1024.Idx) := ⟨j 0, j 1, eq_ix2 j⟩
  refine (pay_apply _ _ _ _ _ r n).trans ?_
  show _ = res m c (((cfg0.win 5).blk t).view.emb (ix2 r n : S512x1024.Idx))
  rw [emb5]
  simp only [blk0, blk1, fun k => blk2 m c t r k, fun k => blk3 m c t r k, blk4]
  rfl

/-- Every place of the result lies in some point's block. -/
theorem covered (i : S32768x1024.Idx) : ∃ t : Fin cfg0.N, (cfg0.win 5).flush t = true ∧ i ∈ ((cfg0.win 5).blk t).view.set := by
  obtain ⟨R, k, rfl⟩ : ∃ (R : Fin 32768) (k : Fin 1024), i = ix2 R k := ⟨i 0, i 1, eq_ix2 i⟩
  refine ⟨(⟨R.val / 512, by show _ < 64; omega⟩ : Fin cfg0.N), flush0_5 _, ?_⟩
  have e : R = row (⟨R.val / 512, by omega⟩ : Fin 64) ⟨R.val % 512, by omega⟩ := Fin.ext (show R.val = R.val / 512 * 512 + R.val % 512 by omega)
  rw [(congrArg (fun q : Fin 32768 => (ix2 q k : S32768x1024.Idx)) e).trans (emb5 (⟨R.val / 512, by show _ < 64; omega⟩ : Fin cfg0.N) ⟨R.val % 512, by omega⟩ k).symm]
  exact View.emb_mem_set _ _

/-- The result's array after the run. -/
theorem final (c : Dev nD) : (dats m 0 c).arrAt 5 cfg0.N = res m c :=
  (dats m 0 c).arrAt_eq_of_cover 5 (res m c) (fun t _ => flushed_eq m c t) covered

end Cert.Kernel2Ideal.Closed

namespace Cert.InProj

open Idealize.ShloMosaic Idealize.ShloMosaic.TcCoe Idealize.SL.Sem
open Cert.Kernel2Ideal.Closed (elt pos nrow)

/-- The two programs have one text: the same kernel, the same body table, the same calls. -/
theorem kernel_table {F : FTy → Type} [FloatOps F] : @Cert.Kernel2.defs₀ F _ _ = @Cert.Kernel2Ideal.defs₀ F _ _ := by
  unfold Cert.Kernel2.defs₀ Cert.Kernel2Ideal.defs₀
  refine congrArg Defs.onTc ?_
  funext l a
  match l, a with
  | ⟨0, _⟩, (t, s) => rfl

theorem kernel_defs {F : FTy → Type} [FloatOps F] : @Cert.Kernel2.defs F _ _ = @Cert.Kernel2Ideal.defs F _ _ := by
  unfold Cert.Kernel2.defs Cert.Kernel2Ideal.defs
  exact congrArg (Pipeline.defs _) kernel_table

theorem frame_bits : Cert.quiescent_Kernel2 := fun m ρ _ => by
  rw [kernel_defs]
  exact (θ_run Cert.Kernel2Ideal.defs _ _).mono (fun _ h => h) (Cert.Kernel2Ideal.Gen.frame (F := Bits) m ρ)

theorem frame_ideal : Cert.quiescent_Kernel2Ideal := fun m ρ _ => Cert.Kernel2Ideal.Gen.frame m ρ

theorem frame_ref : Cert.quiescent_Ref2Ideal := fun m ρ _ =>
  (θ_run Cert.Ref2Ideal.defs _ _).mono (fun r h => ⟨fun c => (h c).2, Idealize.ShloMosaic.sem_eq_zero_of_no_sems (by decide) r.2⟩)
    (Cert.Ref2Ideal.Value.run (F := Ideal) m ρ)

section Reference
open Cert.Ref2Ideal Cert.Ref2Ideal.Gen

/-- The reference's modulated rows. -/
def normed (h : FVec Ideal S8x4096x1024 .f32) (g : FVec Ideal S1024 .f32) (sh sc : FVec Ideal S8x1024 .f32) : FVec Ideal S8x4096x1024 .f32 :=
  addf (mulf (mulf (mulf h (broadcastInDim S8x4096x1024 ![0, 1, 2] bcast_S8x4096x1_S8x4096x1024_0_1_2
        (Host.rsqrt (addf (Host.divf (broadcastInDim S8x4096x1 ![0, 1] bcast_S8x4096_S8x4096x1_0_1
            (Host.reduceAdd (mulf h h) (constant S_ .f32 0x00000000#32) reducesTo_S8x4096x1024_S8x4096_d2 h_S_))
            (broadcastInDim S8x4096x1 ![] bcast_S_S8x4096x1 (constant S_ .f32 0x44800000#32)))
          (broadcastInDim S8x4096x1 ![] bcast_S_S8x4096x1 (constant S_ .f32 0x358637BD#32))))))
      (broadcastInDim S8x4096x1024 ![0, 1, 2] bcast_S1x1x1024_S8x4096x1024_0_1_2 (broadcastInDim S1x1x1024 ![2] bcast_S1024_S1x1x1024_2 g)))
      (broadcastInDim S8x4096x1024 ![0, 1, 2] bcast_S8x1x1024_S8x4096x1024_0_1_2
        (addf (broadcastInDim S8x1x1024 ![] bcast_S_S8x1x1024 (constant S_ .f32 0x3F800000#32)) (broadcastInDim S8x1x1024 ![0, 2] bcast_S8x1024_S8x1x1024_0_2 sc))))
    (broadcastInDim S8x4096x1024 ![0, 1, 2] bcast_S8x1x1024_S8x4096x1024_0_1_2 (broadcastInDim S8x1x1024 ![0, 2] bcast_S8x1024_S8x1x1024_0_2 sh))

theorem normed_apply (h : FVec Ideal S8x4096x1024 .f32) (g : FVec Ideal S1024 .f32) (sh sc : FVec Ideal S8x1024 .f32) (R : Fin 32768) (k : Fin 1024) :
    normed h g sh sc (ix3 (elt R) (pos R) k) = nrow h g sh sc R k := by
  pointwise [normed]
  rfl

/-- The reference's result of its arguments. -/
def plain (h : FVec Ideal S8x4096x1024 .f32) (g : FVec Ideal S1024 .f32) (sh sc : FVec Ideal S8x1024 .f32) (w : FVec Ideal S1024x1024 .f32) :
    FVec Ideal S32768x1024 .f32 :=
  shapeCast _ (Host.dotGeneral dot_S8x4096x1024_S1024x1024_S8x4096x1024_2_0_01_1_n_n none (normed h g sh sc) w : FVec Ideal S8x4096x1024 .f32)
    shapeCasts_S8x4096x1024_S32768x1024

theorem plain_eq (h : FVec Ideal S8x4096x1024 .f32) (g : FVec Ideal S1024 .f32) (sh sc : FVec Ideal S8x1024 .f32) (w : FVec Ideal S1024x1024 .f32) :
    plain h g sh sc w = Cert.Kernel2Ideal.Closed.arr h g sh sc w := by
  funext j
  obtain ⟨R, k, rfl⟩ : ∃ (R : Fin 32768) (k : Fin 1024), j = ix2 R k := ⟨j 0, j 1, eq_ix2 j⟩
  pointwise [plain]
  exact Finset.sum_congr rfl fun x _ => congrArg (· * w (ix2 x k)) (normed_apply h g sh sc R x)

end Reference

theorem value : Cert.algebraic_Kernel2Ideal_Ref2Ideal := by
  intro m ρ m' ρ' hpre hagree
  refine ⟨fun c => Cert.Kernel2Ideal.Closed.res m c, (θ_run Cert.Kernel2Ideal.defs _ _).mono (fun r h c => ⟨(h c).1.trans (Cert.Kernel2Ideal.Closed.final m c), (h c).2⟩) (Cert.Kernel2Ideal.Value.run_blocks m ρ), ?_⟩
  refine (θ_run Cert.Ref2Ideal.defs _ _).mono (fun r hr c => ⟨(hr c).1.trans ?_, (hr c).2⟩) (Cert.Ref2Ideal.Value.run (F := Ideal) m' ρ')
  obtain ⟨e0, e1, e2, e3, e4⟩ := hagree c
  rw [e0, e1, e2, e3, e4]
  exact plain_eq _ _ _ _ _

end Cert.InProj

end
-- ==== Proof.Kv.lean ====
module

public import proofs.«01_k».proof.Defs
public import proofs.«01_k».proof.Proof.Qg
public import proofs.«01_k».proof.Proof.Gen.Kernel6
public import proofs.«01_k».proof.Proof.Gen.Kernel6Ideal
public import proofs.«01_k».proof.Proof.Gen.Kernel6Ideal.Value
public import proofs.«01_k».proof.Proof.Gen.Ref6Ideal.Run
public import Idealize.ShloMosaic.Lib.Pointwise
public import Idealize.ShloMosaic.Lib.Pipeline.ValueKit.Acc

/-! The attention layer's shared keys, normalised head by head, and its values, the rows along the lanes: both in closed form, and the reference's the same. -/

@[expose] public section

set_option maxRecDepth 16384

noncomputable section

namespace Cert.Kernel6Ideal.Closed

open Cert.Kernel6Ideal Cert.Kernel6Ideal.Gen Cert.Kernel6Ideal.Value Idealize.ShloMosaic Idealize.ShloMosaic.TcCoe Idealize.SL.Sem
open Cert.Kernel4Ideal.Closed (elt pos row elt_row nrow brow headn inHead headCol cat cat_apply norm_apply proj_apply tiled tiled_apply flat_apply mod_apply vec_apply)

/-- A column of the weights' keys, and the column of the values at the same place. -/
def ck (n : Fin 1024) : Fin 2064 := ⟨n.val, by omega⟩
def cv (n : Fin 1024) : Fin 2064 := ⟨1024 + n.val, by omega⟩
/-- The values' row is an element's column; with a lane it is a row of its sequence. -/
def col (R : Fin 8192) : Fin 1024 := ⟨R.val % 1024, by omega⟩
def tok (R : Fin 8192) (s : Fin 4096) : Fin 32768 := ⟨R.val / 1024 * 4096 + s.val, by omega⟩

/-- The keys: the first projection head by head normalised, scaled by the heads' vector. -/
def arrK (x0 : FVec Ideal S8x4096x1024 .f32) (x1 : FVec Ideal S1024 .f32) (x2 x3 : FVec Ideal S8x1024 .f32) (x4 : FVec Ideal S1024x2064 .f32) (x6 : FVec Ideal S64 .f32) :
    FVec Ideal S32768x1024 .bf16 := fun j =>
  headn (fun n => ∑ k : Fin 1024, nrow x0 x1 x2 x3 (j 0) k * x4 (ix2 k (ck n))) (j 1) * x6 (ix1 (inHead (j 1)))

/-- The values: the second projection, an element's columns down the rows and its sequence along the lanes. -/
def arrV (x0 : FVec Ideal S8x4096x1024 .f32) (x1 : FVec Ideal S1024 .f32) (x2 x3 : FVec Ideal S8x1024 .f32) (x4 : FVec Ideal S1024x2064 .f32) :
    FVec Ideal S8192x4096 .bf16 := fun j =>
  ∑ k : Fin 1024, nrow x0 x1 x2 x3 (tok (j 0) (j 1)) k * x4 (ix2 k (cv (col (j 0))))

/-- The keys' last step: scaled by the heads' vector. -/
def scaled (g : FVec Ideal S1x1024 .f32) (c : FVec Ideal S512x1024 .f32) : FVec Ideal S512x1024 .bf16 :=
  truncf .bf16 (mulf c (broadcastTo S512x1024 g broadcasts_S1x1024_S512x1024)) bitsLt_bf16_f32

theorem scaled_apply (g : FVec Ideal S1x1024 .f32) (c : FVec Ideal S512x1024 .f32) (r : Fin 512) (n : Fin 1024) :
    scaled g c (ix2 r n) = c (ix2 r n) * g (ix2 0 n) := by
  pointwise [scaled]

/-- A block of keys and a block of values, of the blocks the body loads: the normalised rows and their projection are the query kernel's. -/
def bodyK (y0 : Vec Ideal S512x1024 .f32) (y1 : Vec Ideal S1x1024 .f32) (y2 y3 : Vec Ideal S1x1x1024 .f32) (y4 : Vec Ideal S1024x1024 .bf16) (y8 : Vec Ideal S1x1024 .f32) :
    FVec Ideal S512x1024 .bf16 :=
  scaled (k0_pay9 y8) (cat Cert.Kernel4Ideal.Gen.k0_pay6 (Cert.Kernel4Ideal.Gen.k0_pay4 y0 y1 y2 y3 y4))
def bodyV (y0 : Vec Ideal S512x1024 .f32) (y1 : Vec Ideal S1x1024 .f32) (y2 y3 : Vec Ideal S1x1x1024 .f32) (y5 : Vec Ideal S1024x1024 .bf16) :
    FVec Ideal S1024x512 .bf16 :=
  k0_pay32 (Cert.Kernel4Ideal.Gen.k0_pay3 y0 y1 y2 y3) y5

theorem bodyK_apply (y0 : Vec Ideal S512x1024 .f32) (y1 : Vec Ideal S1x1024 .f32) (y2 y3 : Vec Ideal S1x1x1024 .f32) (y4 : Vec Ideal S1024x1024 .bf16) (y8 : Vec Ideal S1x1024 .f32)
    (r : Fin 512) (n : Fin 1024) :
    bodyK y0 y1 y2 y3 y4 y8 (ix2 r n) = headn (fun n => ∑ k : Fin 1024, brow y0 y1 y2 y3 r k * y4 (ix2 k n)) n * y8 (ix2 0 n) := by
  unfold bodyK
  rw [scaled_apply]
  have e : k0_pay9 y8 (ix2 0 n) = y8 (ix2 0 n) := by pointwise [k0_pay9]
  rw [e]
  refine congrArg (· * y8 (ix2 0 n)) ((cat_apply _ r n).trans (congrArg (fun q => headn q n) (funext fun k => ?_)))
  exact proj_apply y0 y1 y2 y3 y4 r k

theorem bodyV_apply (y0 : Vec Ideal S512x1024 .f32) (y1 : Vec Ideal S1x1024 .f32) (y2 y3 : Vec Ideal S1x1x1024 .f32) (y5 : Vec Ideal S1024x1024 .bf16)
    (n : Fin 1024) (r : Fin 512) :
    bodyV y0 y1 y2 y3 y5 (ix2 n r) = ∑ k : Fin 1024, brow y0 y1 y2 y3 r k * y5 (ix2 n k) := by
  unfold bodyV
  have e : ∀ z : FVec Ideal S512x1024 .bf16, k0_pay32 z y5 (ix2 n r) = ∑ k : Fin 1024, y5 (ix2 n k) * z (ix2 r k) := fun z => by pointwise [k0_pay32]
  refine (e _).trans (Finset.sum_congr rfl fun k _ => ?_)
  rw [mul_comm]
  exact congrArg (· * y5 (ix2 n k)) (norm_apply y0 y1 y2 y3 r k)

variable (m : (ℓ : Loc nD τ sig) → Buf (Elt Ideal) ℓ)

/-- What a point's body leaves in the keys' block and in the values'; the first point of a sequence also clears the carried sum, which neither reads. -/
theorem leftK (c : Dev nD) (t : Fin cfg0.N) :
    (outsAt0 m c t.val t.isLt).1 = bodyK (iblk m c 0 t) (iblk m c 1 t) (iblk m c 2 t) (iblk m c 3 t) (iblk m c 4 t) (iblk m c 8 t) := by
  by_cases h : t.val % 8 = 0
  · rw [outsAt0_A m c t h]
    dsimp only
    frame_out
    rfl
  · rw [outsAt0_B m c t h]
    dsimp only
    frame_out
    rfl

theorem leftV (c : Dev nD) (t : Fin cfg0.N) :
    (outsAt0 m c t.val t.isLt).2.1 = bodyV (iblk m c 0 t) (iblk m c 1 t) (iblk m c 2 t) (iblk m c 3 t) (iblk m c 5 t) := by
  by_cases h : t.val % 8 = 0
  · rw [outsAt0_A m c t h]
    dsimp only
    frame_out
    rfl
  · rw [outsAt0_B m c t h]
    dsimp only
    frame_out
    rfl

theorem V_v9 (c : Dev nD) : (V m c main_v9 : Vec Ideal S32768x1024 .f32)
    = shapeCast S32768x1024 (m ((c : Thread nD τ).loc main_arg0) : FVec Ideal S8x4096x1024 .f32) shapeCasts_S8x4096x1024_S32768x1024 := by
  show StableHlo.after hostOps0 (fun b => m (c, b)) (Proc.devRef .tc main_v9) = _
  after_results <;> rfl

theorem V_v10 (c : Dev nD) : (V m c main_v10 : Vec Ideal S1x1024 .f32)
    = broadcastInDim S1x1024 ![1] bcast_S1024_S1x1024_1 (m ((c : Thread nD τ).loc main_arg1) : FVec Ideal S1024 .f32) := by
  show StableHlo.after hostOps0 (fun b => m (c, b)) (Proc.devRef .tc main_v10) = _
  after_results <;> rfl

theorem V_v11 (c : Dev nD) : (V m c main_v11 : Vec Ideal S8x1x1024 .f32)
    = broadcastInDim S8x1x1024 ![0, 2] bcast_S8x1024_S8x1x1024_0_2 (m ((c : Thread nD τ).loc main_arg2) : FVec Ideal S8x1024 .f32) := by
  show StableHlo.after hostOps0 (fun b => m (c, b)) (Proc.devRef .tc main_v11) = _
  after_results <;> rfl

theorem V_v12 (c : Dev nD) : (V m c main_v12 : Vec Ideal S8x1x1024 .f32)
    = broadcastInDim S8x1x1024 ![0, 2] bcast_S8x1024_S8x1x1024_0_2 (m ((c : Thread nD τ).loc main_arg3) : FVec Ideal S8x1024 .f32) := by
  show StableHlo.after hostOps0 (fun b => m (c, b)) (Proc.devRef .tc main_v12) = _
  after_results <;> rfl

theorem V_v14 (c : Dev nD) : (V m c main_v14 : Vec Ideal S1024x1024 .bf16)
    = extractStridedSlice S1024x1024 ![0, 0] (m ((c : Thread nD τ).loc main_arg4) : FVec Ideal S1024x2064 .f32) slices_S1024x2064_S1024x1024_0_0 := by
  show StableHlo.after hostOps0 (fun b => m (c, b)) (Proc.devRef .tc main_v14) = _
  after_results <;> rfl

theorem V_v17 (c : Dev nD) : (V m c main_v17 : Vec Ideal S1024x1024 .bf16)
    = transpose S1024x1024 [1, 0] (extractStridedSlice S1024x1024 ![0, 1024] (m ((c : Thread nD τ).loc main_arg4) : FVec Ideal S1024x2064 .f32) slices_S1024x2064_S1024x1024_0_1024) transposes_S1024x1024_S1024x1024_1_0 := by
  show StableHlo.after hostOps0 (fun b => m (c, b)) (Proc.devRef .tc main_v17) = _
  after_results <;> rfl

theorem V_v21 (c : Dev nD) : (V m c main_v21 : Vec Ideal S1x1024 .f32)
    = tiled (m ((c : Thread nD τ).loc main_arg6) : FVec Ideal S64 .f32) := by
  show StableHlo.after hostOps0 (fun b => m (c, b)) (Proc.devRef .tc main_v21) = _
  after_results <;> rfl

theorem keys_apply (x : FVec Ideal S1024x2064 .f32) (r k : Fin 1024) :
    extractStridedSlice S1024x1024 ![0, 0] x slices_S1024x2064_S1024x1024_0_0 (ix2 r k) = x (ix2 r (ck k)) := by
  pointwise []
  rfl

theorem values_apply (x : FVec Ideal S1024x2064 .f32) (r k : Fin 1024) :
    transpose S1024x1024 [1, 0] (extractStridedSlice S1024x1024 ![0, 1024] x slices_S1024x2064_S1024x1024_0_1024) transposes_S1024x1024_S1024x1024_1_0 (ix2 r k)
      = x (ix2 k (cv r)) := by
  pointwise []
  rfl

/-- The block each window reads at a point. -/
theorem idx : ∀ t : Fin cfg0.N, win0_0.index t = ![t.val, 0] ∧ win0_1.index t = ![0, 0] ∧ win0_2.index t = ![t.val / 8, 0, 0] ∧ win0_3.index t = ![t.val / 8, 0, 0] ∧ win0_4.index t = ![0, 0] ∧ win0_5.index t = ![0, 0] ∧ win0_8.index t = ![0, 0] ∧ win0_11.index t = ![t.val, 0] ∧ win0_12.index t = ![t.val / 8, t.val % 8] :=
  (by decide +kernel : ∀ t : Fin grid0.N, _)

theorem emb0 (t : Fin cfg0.N) (r : Fin 512) (k : Fin 1024) :
    ((cfg0.win 0).blk t).view.emb (ix2 r k : S512x1024.Idx) = (ix2 (row t r) k : S32768x1024.Idx) := by
  have e := (idx t).1
  funext a; apply Fin.ext
  match a with
  | ⟨0, _⟩ => show win0_0.index t (0 : Fin 2) * 512 + 1 * r.val = t.val * 512 + r.val; rw [e]; show t.val * 512 + 1 * r.val = _; omega
  | ⟨1, _⟩ => show win0_0.index t (1 : Fin 2) * 1024 + 1 * k.val = k.val; rw [e]; show 0 * 1024 + 1 * k.val = _; omega

theorem emb1 (t : Fin cfg0.N) (k : Fin 1024) :
    ((cfg0.win 1).blk t).view.emb (ix2 0 k : S1x1024.Idx) = (ix2 0 k : S1x1024.Idx) := by
  have e := (idx t).2.1
  funext a; apply Fin.ext
  match a with
  | ⟨0, _⟩ => show win0_1.index t (0 : Fin 2) * 1 + 1 * 0 = 0; rw [e]; rfl
  | ⟨1, _⟩ => show win0_1.index t (1 : Fin 2) * 1024 + 1 * k.val = k.val; rw [e]; show 0 * 1024 + 1 * k.val = _; omega

theorem emb2 (t : Fin cfg0.N) (k : Fin 1024) :
    ((cfg0.win 2).blk t).view.emb (ix3 0 0 k : S1x1x1024.Idx) = (ix3 (⟨t.val / 8, by have : t.val < 64 := t.isLt; omega⟩ : Fin 8) 0 k : S8x1x1024.Idx) := by
  have e := (idx t).2.2.1
  funext a; apply Fin.ext
  match a with
  | ⟨0, _⟩ => show win0_2.index t (0 : Fin 3) * 1 + 1 * 0 = t.val / 8; rw [e]; show t.val / 8 * 1 + 1 * 0 = _; omega
  | ⟨1, _⟩ => show win0_2.index t (1 : Fin 3) * 1 + 1 * 0 = 0; rw [e]; rfl
  | ⟨2, _⟩ => show win0_2.index t (2 : Fin 3) * 1024 + 1 * k.val = k.val; rw [e]; show 0 * 1024 + 1 * k.val = _; omega

theorem emb3 (t : Fin cfg0.N) (k : Fin 1024) :
    ((cfg0.win 3).blk t).view.emb (ix3 0 0 k : S1x1x1024.Idx) = (ix3 (⟨t.val / 8, by have : t.val < 64 := t.isLt; omega⟩ : Fin 8) 0 k : S8x1x1024.Idx) := by
  have e := (idx t).2.2.2.1
  funext a; apply Fin.ext
  match a with
  | ⟨0, _⟩ => show win0_3.index t (0 : Fin 3) * 1 + 1 * 0 = t.val / 8; rw [e]; show t.val / 8 * 1 + 1 * 0 = _; omega
  | ⟨1, _⟩ => show win0_3.index t (1 : Fin 3) * 1 + 1 * 0 = 0; rw [e]; rfl
  | ⟨2, _⟩ => show win0_3.index t (2 : Fin 3) * 1024 + 1 * k.val = k.val; rw [e]; show 0 * 1024 + 1 * k.val = _; omega

theorem emb4 (t : Fin cfg0.N) (r : Fin 1024) (k : Fin 1024) :
    ((cfg0.win 4).blk t).view.emb (ix2 r k : S1024x1024.Idx) = (ix2 r k : S1024x1024.Idx) := by
  have e := (idx t).2.2.2.2.1
  funext a; apply Fin.ext
  match a with
  | ⟨0, _⟩ => show win0_4.index t (0 : Fin 2) * 1024 + 1 * r.val = r.val; rw [e]; show 0 * 1024 + 1 * r.val = _; omega
  | ⟨1, _⟩ => show win0_4.index t (1 : Fin 2) * 1024 + 1 * k.val = k.val; rw [e]; show 0 * 1024 + 1 * k.val = _; omega

theorem emb5 (t : Fin cfg0.N) (r : Fin 1024) (k : Fin 1024) :
    ((cfg0.win 5).blk t).view.emb (ix2 r k : S1024x1024.Idx) = (ix2 r k : S1024x1024.Idx) := by
  have e := (idx t).2.2.2.2.2.1
  funext a; apply Fin.ext
  match a with
  | ⟨0, _⟩ => show win0_5.index t (0 : Fin 2) * 1024 + 1 * r.val = r.val; rw [e]; show 0 * 1024 + 1 * r.val = _; omega
  | ⟨1, _⟩ => show win0_5.index t (1 : Fin 2) * 1024 + 1 * k.val = k.val; rw [e]; show 0 * 1024 + 1 * k.val = _; omega

theorem emb8 (t : Fin cfg0.N) (k : Fin 1024) :
    ((cfg0.win 8).blk t).view.emb (ix2 0 k : S1x1024.Idx) = (ix2 0 k : S1x1024.Idx) := by
  have e := (idx t).2.2.2.2.2.2.1
  funext a; apply Fin.ext
  match a with
  | ⟨0, _⟩ => show win0_8.index t (0 : Fin 2) * 1 + 1 * 0 = 0; rw [e]; rfl
  | ⟨1, _⟩ => show win0_8.index t (1 : Fin 2) * 1024 + 1 * k.val = k.val; rw [e]; show 0 * 1024 + 1 * k.val = _; omega

theorem emb11 (t : Fin cfg0.N) (r : Fin 512) (k : Fin 1024) :
    ((cfg0.win 11).blk t).view.emb (ix2 r k : S512x1024.Idx) = (ix2 (row t r) k : S32768x1024.Idx) := by
  have e := (idx t).2.2.2.2.2.2.2.1
  funext a; apply Fin.ext
  match a with
  | ⟨0, _⟩ => show win0_11.index t (0 : Fin 2) * 512 + 1 * r.val = t.val * 512 + r.val; rw [e]; show t.val * 512 + 1 * r.val = _; omega
  | ⟨1, _⟩ => show win0_11.index t (1 : Fin 2) * 1024 + 1 * k.val = k.val; rw [e]; show 0 * 1024 + 1 * k.val = _; omega

/-- The values' row of a block's row, and the lane of a block's lane. -/
def vrow (t : Fin 64) (n : Fin 1024) : Fin 8192 := ⟨t.val / 8 * 1024 + n.val, by omega⟩
def vlane (t : Fin 64) (r : Fin 512) : Fin 4096 := ⟨t.val % 8 * 512 + r.val, by omega⟩

theorem emb12 (t : Fin cfg0.N) (n : Fin 1024) (r : Fin 512) :
    ((cfg0.win 12).blk t).view.emb (ix2 n r : S1024x512.Idx) = (ix2 (vrow t n) (vlane t r) : S8192x4096.Idx) := by
  have e := (idx t).2.2.2.2.2.2.2.2
  funext a; apply Fin.ext
  match a with
  | ⟨0, _⟩ => show win0_12.index t (0 : Fin 2) * 1024 + 1 * n.val = t.val / 8 * 1024 + n.val; rw [e]; show t.val / 8 * 1024 + 1 * n.val = _; omega
  | ⟨1, _⟩ => show win0_12.index t (1 : Fin 2) * 512 + 1 * r.val = t.val % 8 * 512 + r.val; rw [e]; show t.val % 8 * 512 + 1 * r.val = _; omega

theorem tok_row (t : Fin 64) (n : Fin 1024) (r : Fin 512) : tok (vrow t n) (vlane t r) = row t r :=
  Fin.ext (show (t.val / 8 * 1024 + n.val) / 1024 * 4096 + (t.val % 8 * 512 + r.val) = t.val * 512 + r.val by omega)

theorem col_row (t : Fin 64) (n : Fin 1024) : col (vrow t n) = n :=
  Fin.ext (show (t.val / 8 * 1024 + n.val) % 1024 = n.val by omega)

/-! The windows' blocks at a point, read in the arguments as launched. -/

theorem blk0 (c : Dev nD) (t : Fin cfg0.N) (r : Fin 512) (k : Fin 1024) :
    (iblk m c 0 t : Vec Ideal S512x1024 .f32) (ix2 r k)
      = (m ((c : Thread nD τ).loc main_arg0) : FVec Ideal S8x4096x1024 .f32) (ix3 (elt (row t r)) (pos (row t r)) k) := by
  show (V m c main_v9 : Vec Ideal S32768x1024 .f32) (((cfg0.win 0).blk t).view.emb (ix2 r k : S512x1024.Idx)) = _
  rw [emb0, V_v9]
  exact flat_apply _ _ _

theorem blk1 (c : Dev nD) (t : Fin cfg0.N) (k : Fin 1024) :
    (iblk m c 1 t : Vec Ideal S1x1024 .f32) (ix2 0 k) = (m ((c : Thread nD τ).loc main_arg1) : FVec Ideal S1024 .f32) (ix1 k) := by
  show (V m c main_v10 : Vec Ideal S1x1024 .f32) (((cfg0.win 1).blk t).view.emb (ix2 0 k : S1x1024.Idx)) = _
  rw [emb1, V_v10]
  exact vec_apply _ _

theorem blk2 (c : Dev nD) (t : Fin cfg0.N) (r : Fin 512) (k : Fin 1024) :
    (iblk m c 2 t : Vec Ideal S1x1x1024 .f32) (ix3 0 0 k) = (m ((c : Thread nD τ).loc main_arg2) : FVec Ideal S8x1024 .f32) (ix2 (elt (row t r)) k) := by
  show (V m c main_v11 : Vec Ideal S8x1x1024 .f32) (((cfg0.win 2).blk t).view.emb (ix3 0 0 k : S1x1x1024.Idx)) = _
  rw [emb2, V_v11, ← elt_row t r]
  exact mod_apply _ _ _

theorem blk3 (c : Dev nD) (t : Fin cfg0.N) (r : Fin 512) (k : Fin 1024) :
    (iblk m c 3 t : Vec Ideal S1x1x1024 .f32) (ix3 0 0 k) = (m ((c : Thread nD τ).loc main_arg3) : FVec Ideal S8x1024 .f32) (ix2 (elt (row t r)) k) := by
  show (V m c main_v12 : Vec Ideal S8x1x1024 .f32) (((cfg0.win 3).blk t).view.emb (ix3 0 0 k : S1x1x1024.Idx)) = _
  rw [emb3, V_v12, ← elt_row t r]
  exact mod_apply _ _ _

theorem blk4 (c : Dev nD) (t : Fin cfg0.N) (r k : Fin 1024) :
    (iblk m c 4 t : Vec Ideal S1024x1024 .bf16) (ix2 r k) = (m ((c : Thread nD τ).loc main_arg4) : FVec Ideal S1024x2064 .f32) (ix2 r (ck k)) := by
  show (V m c main_v14 : Vec Ideal S1024x1024 .bf16) (((cfg0.win 4).blk t).view.emb (ix2 r k : S1024x1024.Idx)) = _
  rw [emb4, V_v14, keys_apply]

theorem blk5 (c : Dev nD) (t : Fin cfg0.N) (r k : Fin 1024) :
    (iblk m c 5 t : Vec Ideal S1024x1024 .bf16) (ix2 r k) = (m ((c : Thread nD τ).loc main_arg4) : FVec Ideal S1024x2064 .f32) (ix2 k (cv r)) := by
  show (V m c main_v17 : Vec Ideal S1024x1024 .bf16) (((cfg0.win 5).blk t).view.emb (ix2 r k : S1024x1024.Idx)) = _
  rw [emb5, V_v17, values_apply]

theorem blk8 (c : Dev nD) (t : Fin cfg0.N) (k : Fin 1024) :
    (iblk m c 8 t : Vec Ideal S1x1024 .f32) (ix2 0 k) = (m ((c : Thread nD τ).loc main_arg6) : FVec Ideal S64 .f32) (ix1 (inHead k)) := by
  show (V m c main_v21 : Vec Ideal S1x1024 .f32) (((cfg0.win 8).blk t).view.emb (ix2 0 k : S1x1024.Idx)) = _
  rw [emb8, V_v21]
  exact tiled_apply _ _

/-- A point's modulated row is the array's. -/
theorem brow_eq (c : Dev nD) (t : Fin cfg0.N) (r : Fin 512) :
    brow (iblk m c 0 t) (iblk m c 1 t) (iblk m c 2 t) (iblk m c 3 t) r
      = nrow (m ((c : Thread nD τ).loc main_arg0)) (m ((c : Thread nD τ).loc main_arg1)) (m ((c : Thread nD τ).loc main_arg2)) (m ((c : Thread nD τ).loc main_arg3)) (row t r) := by
  unfold brow nrow
  simp only [blk0, blk1, fun k => blk2 m c t r k, fun k => blk3 m c t r k]

/-- The two results on the arguments as launched. -/
def resK (c : Dev nD) : FVec Ideal S32768x1024 .bf16 :=
  arrK (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg6))
def resV (c : Dev nD) : FVec Ideal S8192x4096 .bf16 :=
  arrV (m ((c : Thread nD τ).loc main_arg0)) (m ((c : Thread nD τ).loc main_arg1)) (m ((c : Thread nD τ).loc main_arg2))
    (m ((c : Thread nD τ).loc main_arg3)) (m ((c : Thread nD τ).loc main_arg4))

/-- What a point writes back is its block of each result. -/
theorem flushed_eqK (c : Dev nD) (t : Fin cfg0.N) :
    (dats m 0 c).flushed 11 t = ((cfg0.win 11).blk t).view.read (Elt Ideal) (resK m c) := by
  rw [flushed11, leftK]
  funext j
  obtain ⟨r, n, rfl⟩ : ∃ (r : Fin 512) (n : Fin 1024), j = (ix2 r n : S512x1024.Idx) := ⟨j 0, j 1, eq_ix2 j⟩
  refine (bodyK_apply _ _ _ _ _ _ r n).trans ?_
  show _ = resK m c (((cfg0.win 11).blk t).view.emb (ix2 r n : S512x1024.Idx))
  rw [emb11]
  simp only [brow_eq, blk4, blk8]
  rfl

theorem flushed_eqV (c : Dev nD) (t : Fin cfg0.N) :
    (dats m 0 c).flushed 12 t = ((cfg0.win 12).blk t).view.read (Elt Ideal) (resV m c) := by
  rw [flushed12, leftV]
  funext j
  obtain ⟨n, r, rfl⟩ : ∃ (n : Fin 1024) (r : Fin 512), j = (ix2 n r : S1024x512.Idx) := ⟨j 0, j 1, eq_ix2 j⟩
  refine (bodyV_apply _ _ _ _ _ n r).trans ?_
  show _ = resV m c (((cfg0.win 12).blk t).view.emb (ix2 n r : S1024x512.Idx))
  rw [emb12]
  simp only [brow_eq, blk5]
  unfold resV arrV
  show _ = ∑ k : Fin 1024, nrow _ _ _ _ (tok (vrow t n) (vlane t r)) k * _
  rw [tok_row t n r]
  show _ = ∑ k : Fin 1024, _ * (_ : EReal)
  refine Finset.sum_congr rfl fun k _ => ?_
  show _ = _ * (m ((c : Thread nD τ).loc main_arg4) : FVec Ideal S1024x2064 .f32) (ix2 k (cv (col (vrow t n))))
  rw [col_row t n]

/-- Every place of the result lies in some point's block. -/
theorem coveredK (i : S32768x1024.Idx) : ∃ t : Fin cfg0.N, (cfg0.win 11).flush t = true ∧ i ∈ ((cfg0.win 11).blk t).view.set := by
  obtain ⟨R, k, rfl⟩ : ∃ (R : Fin 32768) (k : Fin 1024), i = ix2 R k := ⟨i 0, i 1, eq_ix2 i⟩
  refine ⟨(⟨R.val / 512, by show _ < 64; omega⟩ : Fin cfg0.N), flush0_11 _, ?_⟩
  have e : R = row (⟨R.val / 512, by omega⟩ : Fin 64) ⟨R.val % 512, by omega⟩ := Fin.ext (show R.val = R.val / 512 * 512 + R.val % 512 by omega)
  rw [(congrArg (fun q : Fin 32768 => (ix2 q k : S32768x1024.Idx)) e).trans (emb11 (⟨R.val / 512, by show _ < 64; omega⟩ : Fin cfg0.N) ⟨R.val % 512, by omega⟩ k).symm]
  exact View.emb_mem_set _ _

theorem coveredV (i : S8192x4096.Idx) : ∃ t : Fin cfg0.N, (cfg0.win 12).flush t = true ∧ i ∈ ((cfg0.win 12).blk t).view.set := by
  obtain ⟨R, s, rfl⟩ : ∃ (R : Fin 8192) (s : Fin 4096), i = ix2 R s := ⟨i 0, i 1, eq_ix2 i⟩
  have ht : R.val / 1024 * 8 + s.val / 512 < 64 := by omega
  refine ⟨(⟨R.val / 1024 * 8 + s.val / 512, ht⟩ : Fin cfg0.N), flush0_12 _, ?_⟩
  have e : R = vrow (⟨R.val / 1024 * 8 + s.val / 512, ht⟩ : Fin 64) ⟨R.val % 1024, by omega⟩ :=
    Fin.ext (show R.val = (R.val / 1024 * 8 + s.val / 512) / 8 * 1024 + R.val % 1024 by omega)
  have e' : s = vlane (⟨R.val / 1024 * 8 + s.val / 512, ht⟩ : Fin 64) ⟨s.val % 512, by omega⟩ :=
    Fin.ext (show s.val = (R.val / 1024 * 8 + s.val / 512) % 8 * 512 + s.val % 512 by omega)
  rw [(congrArg₂ (fun (q : Fin 8192) (u : Fin 4096) => (ix2 q u : S8192x4096.Idx)) e e').trans
    (emb12 (⟨R.val / 1024 * 8 + s.val / 512, ht⟩ : Fin cfg0.N) ⟨R.val % 1024, by omega⟩ ⟨s.val % 512, by omega⟩).symm]
  exact View.emb_mem_set _ _

/-- The results' arrays after the run. -/
theorem finalK (c : Dev nD) : (dats m 0 c).arrAt 11 cfg0.N = resK m c :=
  (dats m 0 c).arrAt_eq_of_cover 11 (resK m c) (fun t _ => flushed_eqK m c t) coveredK

theorem finalV (c : Dev nD) : (dats m 0 c).arrAt 12 cfg0.N = resV m c :=
  (dats m 0 c).arrAt_eq_of_cover 12 (resV m c) (fun t _ => flushed_eqV m c t) coveredV

end Cert.Kernel6Ideal.Closed

namespace Cert.KeyValue

open Idealize.ShloMosaic Idealize.ShloMosaic.TcCoe Idealize.SL.Sem
open Cert.Kernel4Ideal.Closed (elt pos nrow headn inHead headCol)
open Cert.Kernel6Ideal.Closed (ck cv col tok)
open Cert.QueryProj (normed normed_apply headOf)

set_option maxHeartbeats 4000000 in
/-- The two programs have one text: the same kernel, the same body table, the same calls. -/
theorem kernel_table {F : FTy → Type} [FloatOps F] : @Cert.Kernel6.defs₀ F _ _ = @Cert.Kernel6Ideal.defs₀ F _ _ := by
  unfold Cert.Kernel6.defs₀ Cert.Kernel6Ideal.defs₀
  refine congrArg Defs.onTc ?_
  funext l a
  match l, a with
  | ⟨0, _⟩, (t, s) => rfl

theorem kernel_defs {F : FTy → Type} [FloatOps F] : @Cert.Kernel6.defs F _ _ = @Cert.Kernel6Ideal.defs F _ _ := by
  unfold Cert.Kernel6.defs Cert.Kernel6Ideal.defs
  exact congrArg (Pipeline.defs _) kernel_table

set_option maxHeartbeats 4000000 in
theorem frame_bits : Cert.quiescent_Kernel6 := fun m ρ _ => by
  rw [kernel_defs]
  exact (θ_run Cert.Kernel6Ideal.defs _ _).mono (fun _ h => h) (Cert.Kernel6Ideal.Gen.frame (F := Bits) m ρ)

theorem frame_ideal : Cert.quiescent_Kernel6Ideal := fun m ρ _ => Cert.Kernel6Ideal.Gen.frame m ρ

theorem frame_ref : Cert.quiescent_Ref6Ideal := fun m ρ _ =>
  (θ_run Cert.Ref6Ideal.defs _ _).mono (fun r h => ⟨fun c => (h c).2.2, Idealize.ShloMosaic.sem_eq_zero_of_no_sems (by decide) r.2⟩)
    (Cert.Ref6Ideal.Value.run (F := Ideal) m ρ)

section Reference
open Cert.Ref6Ideal Cert.Ref6Ideal.Gen

/-- The reference's one projection. -/
def all (h : FVec Ideal S8x4096x1024 .f32) (g : FVec Ideal S1024 .f32) (sh sc : FVec Ideal S8x1024 .f32) (w : FVec Ideal S1024x2064 .f32) : FVec Ideal S8x4096x2064 .f32 :=
  Host.dotGeneral dot_S8x4096x1024_S1024x2064_S8x4096x2064_2_0_01_1_n_n none (normed h g sh sc) w

theorem all_apply (h : FVec Ideal S8x4096x1024 .f32) (g : FVec Ideal S1024 .f32) (sh sc : FVec Ideal S8x1024 .f32) (w : FVec Ideal S1024x2064 .f32) (R : Fin 32768) (n : Fin 2064) :
    all h g sh sc w (ix3 (elt R) (pos R) n) = ∑ k : Fin 1024, nrow h g sh sc R k * w (ix2 k n) := by
  have e : ∀ z : FVec Ideal S8x4096x1024 .f32, Host.dotGeneral dot_S8x4096x1024_S1024x2064_S8x4096x2064_2_0_01_1_n_n none z w (ix3 (elt R) (pos R) n)
      = ∑ k : Fin 1024, z (ix3 (elt R) (pos R) k) * w (ix2 k n) := fun z => by pointwise []
  exact (e _).trans (Finset.sum_congr rfl fun x _ => congrArg (· * w (ix2 x n)) (normed_apply h g sh sc R x))

/-- The keys parted into heads. -/
def heads (p : FVec Ideal S8x4096x2064 .f32) : FVec Ideal S8x4096x16x64 .f32 :=
  shapeCast _ (extractStridedSlice S8x4096x1024 ![0, 0, 0] p slices_S8x4096x2064_S8x4096x1024_0_0_0) shapeCasts_S8x4096x1024_S8x4096x16x64

theorem heads_apply (p : FVec Ideal S8x4096x2064 .f32) (b : Fin 8) (s : Fin 4096) (hd : Fin 16) (x : Fin 64) :
    heads p (ix4 b s hd x) = p (ix3 b s (ck ⟨hd.val * 64 + x.val, by omega⟩)) := by
  pointwise [heads]
  rfl

/-- The heads normalised and scaled by their vector. -/
def key (q : FVec Ideal S8x4096x16x64 .f32) (g : FVec Ideal S64 .f32) : FVec Ideal S32768x1024 .bf16 :=
  shapeCast _ (truncf .bf16 (mulf (mulf q (broadcastInDim S8x4096x16x64 ![0, 1, 2, 3] bcast_S8x4096x16x1_S8x4096x16x64_0_1_2_3
      (Host.rsqrt (addf (Host.divf (broadcastInDim S8x4096x16x1 ![0, 1, 2] bcast_S8x4096x16_S8x4096x16x1_0_1_2
          (Host.reduceAdd (mulf q q) (constant S_ .f32 0x00000000#32) reducesTo_S8x4096x16x64_S8x4096x16_d3 h_S_))
          (broadcastInDim S8x4096x16x1 ![] bcast_S_S8x4096x16x1 (constant S_ .f32 0x42800000#32)))
        (broadcastInDim S8x4096x16x1 ![] bcast_S_S8x4096x16x1 (constant S_ .f32 0x358637BD#32))))))
      (broadcastInDim S8x4096x16x64 ![0, 1, 2, 3] bcast_S1x1x1x64_S8x4096x16x64_0_1_2_3 (broadcastInDim S1x1x1x64 ![3] bcast_S64_S1x1x1x64_3 g)))
    bitsLt_bf16_f32) shapeCasts_S8x4096x16x64_S32768x1024

theorem key_apply (q : FVec Ideal S8x4096x16x64 .f32) (g : FVec Ideal S64 .f32) (R : Fin 32768) (n : Fin 1024) :
    key q g (ix2 R n) = q (ix4 (elt R) (pos R) (headOf n) (inHead n))
        * Ideal.rsqrt (Ideal.div (∑ x : Fin 64, q (ix4 (elt R) (pos R) (headOf n) x) * q (ix4 (elt R) (pos R) (headOf n) x)) (Ideal.ofBits FTy.f32 1115684864#32)
          + Ideal.ofBits FTy.f32 897988541#32)
      * g (ix1 (inHead n)) := by
  pointwise [key]
  rfl

/-- The reference's results of its arguments. -/
def plainK (h : FVec Ideal S8x4096x1024 .f32) (g : FVec Ideal S1024 .f32) (sh sc : FVec Ideal S8x1024 .f32) (w : FVec Ideal S1024x2064 .f32) (kn : FVec Ideal S64 .f32) :
    FVec Ideal S32768x1024 .bf16 :=
  key (heads (all h g sh sc w)) kn

/-- The projection's last columns, each element's columns down the rows. -/
def turned (p : FVec Ideal S8x4096x2064 .f32) : FVec Ideal S8192x4096 .bf16 :=
  shapeCast _ (transpose S8x1024x4096 [0, 2, 1] (truncf .bf16 (extractStridedSlice S8x4096x1024 ![0, 0, 1024] p slices_S8x4096x2064_S8x4096x1024_0_0_1024) bitsLt_bf16_f32)
    transposes_S8x4096x1024_S8x1024x4096_0_2_1) shapeCasts_S8x1024x4096_S8192x4096

theorem turned_apply (p : FVec Ideal S8x4096x2064 .f32) (R : Fin 8192) (s : Fin 4096) :
    turned p (ix2 R s) = p (ix3 (⟨R.val / 1024, by omega⟩ : Fin 8) s (cv (col R))) := by
  pointwise [turned]
  rfl

def plainV (h : FVec Ideal S8x4096x1024 .f32) (g : FVec Ideal S1024 .f32) (sh sc : FVec Ideal S8x1024 .f32) (w : FVec Ideal S1024x2064 .f32) : FVec Ideal S8192x4096 .bf16 :=
  turned (all h g sh sc w)

theorem plainK_eq (h : FVec Ideal S8x4096x1024 .f32) (g : FVec Ideal S1024 .f32) (sh sc : FVec Ideal S8x1024 .f32) (w : FVec Ideal S1024x2064 .f32) (kn : FVec Ideal S64 .f32) :
    plainK h g sh sc w kn = Cert.Kernel6Ideal.Closed.arrK h g sh sc w kn := by
  funext j
  obtain ⟨R, n, rfl⟩ : ∃ (R : Fin 32768) (n : Fin 1024), j = ix2 R n := ⟨j 0, j 1, eq_ix2 j⟩
  refine (key_apply _ _ R n).trans ?_
  simp only [heads_apply, all_apply]
  have e : (⟨(headOf n).val * 64 + (inHead n).val, by have := (headOf n).isLt; have := (inHead n).isLt; omega⟩ : Fin 1024) = n :=
    Fin.ext (show n.val / 64 * 64 + n.val % 64 = n.val by omega)
  rw [e]
  rfl

theorem plainV_eq (h : FVec Ideal S8x4096x1024 .f32) (g : FVec Ideal S1024 .f32) (sh sc : FVec Ideal S8x1024 .f32) (w : FVec Ideal S1024x2064 .f32) :
    plainV h g sh sc w = Cert.Kernel6Ideal.Closed.arrV h g sh sc w := by
  funext j
  obtain ⟨R, s, rfl⟩ : ∃ (R : Fin 8192) (s : Fin 4096), j = ix2 R s := ⟨j 0, j 1, eq_ix2 j⟩
  refine (turned_apply _ R s).trans ?_
  have e : (⟨R.val / 1024, by omega⟩ : Fin 8) = elt (tok R s) := Fin.ext (show R.val / 1024 = (R.val / 1024 * 4096 + s.val) / 4096 by omega)
  have e' : s = pos (tok R s) := Fin.ext (show s.val = (R.val / 1024 * 4096 + s.val) % 4096 by omega)
  refine (congrArg₂ (fun (b : Fin 8) (u : Fin 4096) => all h g sh sc w (ix3 b u (cv (col R)))) e e').trans ?_
  exact all_apply h g sh sc w (tok R s) (cv (col R))

end Reference

theorem value : Cert.algebraic_Kernel6Ideal_Ref6Ideal := by
  intro m ρ m' ρ' hpre hagree
  refine ⟨fun c => Cert.Kernel6Ideal.Closed.resK m c, fun c => Cert.Kernel6Ideal.Closed.resV m c,
    (θ_run Cert.Kernel6Ideal.defs _ _).mono (fun r h c => ⟨(h c).1.trans (Cert.Kernel6Ideal.Closed.finalK m c), (h c).2.1.trans (Cert.Kernel6Ideal.Closed.finalV m c), (h c).2.2.2.2⟩)
      (Cert.Kernel6Ideal.Value.run_blocks m ρ), ?_⟩
  refine (θ_run Cert.Ref6Ideal.defs _ _).mono (fun r hr c => ⟨(hr c).1.trans ?_, (hr c).2.1.trans ?_, (hr c).2.2⟩) (Cert.Ref6Ideal.Value.run (F := Ideal) m' ρ')
  · obtain ⟨e0, e1, e2, e3, e4, e5, e6, e7, e8⟩ := hagree c
    unfold Cert.Ref6Ideal.Value.res_main_v40
    rw [e0, e1, e2, e3, e4, e6]
    exact plainK_eq _ _ _ _ _ _
  · obtain ⟨e0, e1, e2, e3, e4, e5, e6, e7, e8⟩ := hagree c
    rw [e0, e1, e2, e3, e4]
    exact plainV_eq _ _ _ _ _

end Cert.KeyValue

end
-- ==== Proof.Ada.lean ====
module

public import proofs.«01_k».proof.Defs
public import proofs.«01_k».proof.Proof.Gen.Kernel7
public import proofs.«01_k».proof.Proof.Gen.Kernel7Ideal
public import proofs.«01_k».proof.Proof.Gen.Kernel7Ideal.Value
public import proofs.«01_k».proof.Proof.Gen.Ref7Ideal.Run
public import Idealize.ShloMosaic.Lib.Pointwise

/-! The modulations of the layers' sub-layers: each in closed form, and the reference's the same. -/

@[expose] public section

set_option maxRecDepth 16384

noncomputable section

namespace Cert.Kernel7Ideal.Closed

open Cert.Kernel7Ideal Cert.Kernel7Ideal.Gen Cert.Kernel7Ideal.Value Idealize.ShloMosaic Idealize.ShloMosaic.TcCoe Idealize.SL.Sem

/-- The layer of a sub-layer. -/
def layer (s : Fin 4) : Fin 2 := ⟨s.val / 2, by omega⟩
/-- Which of its layer's two a sub-layer is. -/
def sub (s : Fin 4) : Fin 2 := ⟨s.val % 2, by omega⟩

/-- A sub-layer's modulation of a sequence at a column: the condition times its logistic, against the weights, and the bias. -/
def mod (x0 : FVec Ideal S8x1024 .f32) (x1 : FVec Ideal S2x2x1024x3072 .f32) (x2 : FVec Ideal S2x2x3072 .f32) (s : Fin 4) (b : Fin 8) (n : Fin 3072) : EReal :=
  (∑ k : Fin 1024, x0 (ix2 b k) * Ideal.logistic (x0 (ix2 b k)) * x1 (ix4 (layer s) (sub s) k n)) + x2 (ix3 (layer s) (sub s) n)

/-- The same as an array. -/
def arr (x0 : FVec Ideal S8x1024 .f32) (x1 : FVec Ideal S2x2x1024x3072 .f32) (x2 : FVec Ideal S2x2x3072 .f32) : FVec Ideal S4x8x3072 .f32 :=
  fun j => mod x0 x1 x2 (j 0) (j 1) (j 2)

/-- What the body stores, read at a sequence and a column of the block. -/
theorem pay_apply (y0 : Vec Ideal S8x1024 .f32) (y1 : Vec Ideal S1x1024x512 .f32) (y2 : Vec Ideal S1x1x512 .f32) (b : Fin 8) (n : Fin 512) :
    k0_pay1 y0 y1 y2 (ix3 0 b n)
      = (∑ k : Fin 1024, y0 (ix2 b k) * Ideal.logistic (y0 (ix2 b k)) * y1 (ix3 0 k n)) + y2 (ix3 0 0 n) := by
  pointwise [k0_pay1]

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output's block is that store's payload of the blocks it loads whole. -/
theorem out_eq (y0 : Vec Ideal S8x1024 .f32) (y1 : Vec Ideal S1x1024x512 .f32) (y2 : Vec Ideal S1x1x512 .f32) :
    out0_3 y0 y1 y2 = k0_pay1 y0 y1 y2 := by
  unfold out0_3
  rw [View.canon_unit_zero hz3]
  have l0 : View.ld y0 r0_0 = y0 := View.ld_unit_zero (S := S8x1024) hz2 _ _
  have l1 : View.ld y1 r0_1 = y1 := View.ld_unit_zero (S := S1x1024x512) hz3 _ _
  have l2 : View.ld y2 r0_2 = y2 := View.ld_unit_zero (S := S1x1x512) hz3 _ _
  rw [l0, l1, l2]

variable (m : (ℓ : Loc nD τ sig) → Buf (Elt Ideal) ℓ)

theorem V_v0 (c : Dev nD) : (V m c main_v0 : Vec Ideal S4x1024x3072 .f32)
    = shapeCast S4x1024x3072 (m ((c : Thread nD τ).loc main_arg1) : Vec Ideal S2x2x1024x3072 .f32) shapeCasts_S2x2x1024x3072_S4x1024x3072 := by
  show StableHlo.after hostOps0 (fun b => m (c, b)) (Proc.devRef .tc main_v0) = _
  after_results <;> rfl

theorem V_v1 (c : Dev nD) : (V m c main_v1 : Vec Ideal S4x1x3072 .f32)
    = shapeCast S4x1x3072 (m ((c : Thread nD τ).loc main_arg2) : Vec Ideal S2x2x3072 .f32) shapeCasts_S2x2x3072_S4x1x3072 := by
  show StableHlo.after hostOps0 (fun b => m (c, b)) (Proc.devRef .tc main_v1) = _
  after_results <;> rfl

/-- The block each window reads at a point. -/
theorem idx : ∀ t : Fin cfg0.N, win0_0.index t = ![0, 0] ∧ win0_1.index t = ![t.val / 6, 0, t.val % 6] ∧ win0_2.index t = ![t.val / 6, 0, t.val % 6]
    ∧ win0_3.index t = ![t.val / 6, 0, t.val % 6] :=
  (by decide +kernel : ∀ t : Fin grid0.N, _)

/-- A point's sub-layer. -/
def which (t : Fin 24) : Fin 4 := ⟨t.val / 6, by omega⟩
/-- The array's column of a block's column. -/
def col (t : Fin 24) (n : Fin 512) : Fin 3072 := ⟨t.val % 6 * 512 + n.val, by omega⟩

theorem emb0 (t : Fin cfg0.N) (b : Fin 8) (k : Fin 1024) : ((cfg0.win 0).blk t).view.emb (ix2 b k : S8x1024.Idx) = (ix2 b k : S8x1024.Idx) := by
  have e := (idx t).1
  funext a; apply Fin.ext
  match a with
  | ⟨0, _⟩ => show win0_0.index t (0 : Fin 2) * 8 + 1 * b.val = b.val; rw [e]; show 0 * 8 + 1 * b.val = _; omega
  | ⟨1, _⟩ => show win0_0.index t (1 : Fin 2) * 1024 + 1 * k.val = k.val; rw [e]; show 0 * 1024 + 1 * k.val = _; omega

theorem emb1 (t : Fin cfg0.N) (k : Fin 1024) (n : Fin 512) :
    ((cfg0.win 1).blk t).view.emb (ix3 0 k n : S1x1024x512.Idx) = (ix3 (which t) k (col t n) : S4x1024x3072.Idx) := by
  have e := (idx t).2.1
  funext a; apply Fin.ext
  match a with
  | ⟨0, _⟩ => show win0_1.index t (0 : Fin 3) * 1 + 1 * 0 = t.val / 6; rw [e]; show t.val / 6 * 1 + 1 * 0 = _; omega
  | ⟨1, _⟩ => show win0_1.index t (1 : Fin 3) * 1024 + 1 * k.val = k.val; rw [e]; show 0 * 1024 + 1 * k.val = _; omega
  | ⟨2, _⟩ => show win0_1.index t (2 : Fin 3) * 512 + 1 * n.val = t.val % 6 * 512 + n.val; rw [e]; show t.val % 6 * 512 + 1 * n.val = _; omega

theorem emb2 (t : Fin cfg0.N) (n : Fin 512) :
    ((cfg0.win 2).blk t).view.emb (ix3 0 0 n : S1x1x512.Idx) = (ix3 (which t) 0 (col t n) : S4x1x3072.Idx) := by
  have e := (idx t).2.2.1
  funext a; apply Fin.ext
  match a with
  | ⟨0, _⟩ => show win0_2.index t (0 : Fin 3) * 1 + 1 * 0 = t.val / 6; rw [e]; show t.val / 6 * 1 + 1 * 0 = _; omega
  | ⟨1, _⟩ => show win0_2.index t (1 : Fin 3) * 1 + 1 * 0 = 0; rw [e]; rfl
  | ⟨2, _⟩ => show win0_2.index t (2 : Fin 3) * 512 + 1 * n.val = t.val % 6 * 512 + n.val; rw [e]; show t.val % 6 * 512 + 1 * n.val = _; omega

theorem emb3 (t : Fin cfg0.N) (b : Fin 8) (n : Fin 512) :
    ((cfg0.win 3).blk t).view.emb (ix3 0 b n : S1x8x512.Idx) = (ix3 (which t) b (col t n) : S4x8x3072.Idx) := by
  have e := (idx t).2.2.2
  funext a; apply Fin.ext
  match a with
  | ⟨0, _⟩ => show win0_3.index t (0 : Fin 3) * 1 + 1 * 0 = t.val / 6; rw [e]; show t.val / 6 * 1 + 1 * 0 = _; omega
  | ⟨1, _⟩ => show win0_3.index t (1 : Fin 3) * 8 + 1 * b.val = b.val; rw [e]; show 0 * 8 + 1 * b.val = _; omega
  | ⟨2, _⟩ => show win0_3.index t (2 : Fin 3) * 512 + 1 * n.val = t.val % 6 * 512 + n.val; rw [e]; show t.val % 6 * 512 + 1 * n.val = _; omega

/-- A sub-layer's weights are its layer's. -/
theorem weights_apply (x : FVec Ideal S2x2x1024x3072 .f32) (s : Fin 4) (k : Fin 1024) (n : Fin 3072) :
    shapeCast S4x1024x3072 x shapeCasts_S2x2x1024x3072_S4x1024x3072 (ix3 s k n) = x (ix4 (layer s) (sub s) k n) := by
  pointwise []
  rfl

/-- A sub-layer's bias is its layer's. -/
theorem bias_apply (x : FVec Ideal S2x2x3072 .f32) (s : Fin 4) (n : Fin 3072) :
    shapeCast S4x1x3072 x shapeCasts_S2x2x3072_S4x1x3072 (ix3 s 0 n) = x (ix3 (layer s) (sub s) n) := by
  pointwise []
  rfl

/-- The windows' blocks at a point, read. -/
theorem blk0 (c : Dev nD) (t : Fin cfg0.N) (b : Fin 8) (k : Fin 1024) :
    (iblk m c 0 t : Vec Ideal S8x1024 .f32) (ix2 b k) = (m ((c : Thread nD τ).loc main_arg0) : FVec Ideal S8x1024 .f32) (ix2 b k) := by
  show (V m c main_arg0 : Vec Ideal S8x1024 .f32) (((cfg0.win 0).blk t).view.emb (ix2 b k : S8x1024.Idx)) = _
  rw [emb0, V_main_arg0]

theorem blk1 (c : Dev nD) (t : Fin cfg0.N) (k : Fin 1024) (n : Fin 512) :
    (iblk m c 1 t : Vec Ideal S1x1024x512 .f32) (ix3 0 k n)
      = (m ((c : Thread nD τ).loc main_arg1) : FVec Ideal S2x2x1024x3072 .f32) (ix4 (layer (which t)) (sub (which t)) k (col t n)) := by
  show (V m c main_v0 : Vec Ideal S4x1024x3072 .f32) (((cfg0.win 1).blk t).view.emb (ix3 0 k n : S1x1024x512.Idx)) = _
  rw [emb1, V_v0, weights_apply]

theorem blk2 (c : Dev nD) (t : Fin cfg0.N) (n : Fin 512) :
    (iblk m c 2 t : Vec Ideal S1x1x512 .f32) (ix3 0 0 n)
      = (m ((c : Thread nD τ).loc main_arg2) : FVec Ideal S2x2x3072 .f32) (ix3 (layer (which t)) (sub (which t)) (col t n)) := by
  show (V m c main_v1 : Vec Ideal S4x1x3072 .f32) (((cfg0.win 2).blk t).view.emb (ix3 0 0 n : S1x1x512.Idx)) = _
  rw [emb2, V_v1, bias_apply]

/-- The result on the arguments as launched. -/
def res (c : Dev nD) : FVec Ideal S4x8x3072 .f32 :=
  arr (m ((c : Thread nD τ).loc main_arg0)) (m ((c : Thread nD τ).loc main_arg1)) (m ((c : Thread nD τ).loc main_arg2))

/-- What a point writes back is its block of the result. -/
theorem flushed_eq (c : Dev nD) (t : Fin cfg0.N) :
    (dats m 0 c).flushed 3 t = ((cfg0.win 3).blk t).view.read (Elt Ideal) (res m c) := by
  rw [flushed3, out_eq]
  funext j
  obtain ⟨z, b, n, rfl⟩ : ∃ (z : Fin 1) (b : Fin 8) (n : Fin 512), j = (ix3 z b n : S1x8x512.Idx) := ⟨j 0, j 1, j 2, eq_ix3 j⟩
  obtain rfl : z = 0 := Subsingleton.elim _ _
  refine (pay_apply _ _ _ b n).trans ?_
  show _ = res m c (((cfg0.win 3).blk t).view.emb (ix3 0 b n : S1x8x512.Idx))
  rw [emb3, blk2]
  simp only [blk0, blk1]
  rfl

/-- Every place of the result lies in some point's block. -/
theorem covered (i : S4x8x3072.Idx) : ∃ t : Fin cfg0.N, (cfg0.win 3).flush t = true ∧ i ∈ ((cfg0.win 3).blk t).view.set := by
  obtain ⟨s, b, k, rfl⟩ : ∃ (s : Fin 4) (b : Fin 8) (k : Fin 3072), i = ix3 s b k := ⟨i 0, i 1, i 2, eq_ix3 i⟩
  let t : Fin 24 := ⟨s.val * 6 + k.val / 512, by omega⟩
  refine ⟨(t : Fin cfg0.N), flush0_3 _, ?_⟩
  have es : s = which t := Fin.ext (show s.val = (s.val * 6 + k.val / 512) / 6 by omega)
  have ek : k = col t ⟨k.val % 512, by omega⟩ := Fin.ext (show k.val = (s.val * 6 + k.val / 512) % 6 * 512 + k.val % 512 by omega)
  have e : (ix3 s b k : S4x8x3072.Idx) = ix3 (which t) b (col t ⟨k.val % 512, by omega⟩) := by
    rw [← es, ← ek]
  rw [e.trans (emb3 (t : Fin cfg0.N) b ⟨k.val % 512, by omega⟩).symm]
  exact View.emb_mem_set _ _

/-- The result's array after the run. -/
theorem final (c : Dev nD) : (dats m 0 c).arrAt 3 cfg0.N = res m c :=
  (dats m 0 c).arrAt_eq_of_cover 3 (res m c) (fun t _ => flushed_eq m c t) covered

end Cert.Kernel7Ideal.Closed

namespace Cert.Modulation

open Idealize.ShloMosaic Idealize.ShloMosaic.TcCoe Idealize.SL.Sem

theorem kernel_table {F : FTy → Type} [FloatOps F] : @Cert.Kernel7.defs₀ F _ _ = @Cert.Kernel7Ideal.defs₀ F _ _ := by
  unfold Cert.Kernel7.defs₀ Cert.Kernel7Ideal.defs₀
  refine congrArg Defs.onTc ?_
  funext l a
  match l, a with
  | ⟨0, _⟩, (t, s) => rfl

theorem kernel_defs {F : FTy → Type} [FloatOps F] : @Cert.Kernel7.defs F _ _ = @Cert.Kernel7Ideal.defs F _ _ := by
  unfold Cert.Kernel7.defs Cert.Kernel7Ideal.defs
  exact congrArg (Pipeline.defs _) kernel_table

theorem frame_bits : Cert.quiescent_Kernel7 := fun m ρ _ => by
  rw [kernel_defs]
  exact (θ_run Cert.Kernel7Ideal.defs _ _).mono (fun _ h => h) (Cert.Kernel7Ideal.Gen.frame (F := Bits) m ρ)

theorem frame_ideal : Cert.quiescent_Kernel7Ideal := fun m ρ _ => Cert.Kernel7Ideal.Gen.frame m ρ

theorem frame_ref : Cert.quiescent_Ref7Ideal := fun m ρ _ =>
  (θ_run Cert.Ref7Ideal.defs _ _).mono (fun r h => ⟨fun c => (h c).2, Idealize.ShloMosaic.sem_eq_zero_of_no_sems (by decide) r.2⟩)
    (Cert.Ref7Ideal.Value.run (F := Ideal) m ρ)

section Reference
open Cert.Ref7Ideal Cert.Ref7Ideal.Gen

/-- The condition times its logistic, by the reference's division. -/
def silu (x : FVec Ideal S8x1024 .f32) : FVec Ideal S8x1024 .f32 :=
  mulf x (Host.divf (broadcastInDim S8x1024 ![] bcast_S_S8x1024 (constant S_ .f32 0x3F800000#32))
    (addf (broadcastInDim S8x1024 ![] bcast_S_S8x1024 (constant S_ .f32 0x3F800000#32)) (Host.exp (Host.negf x))))

/-- The reference's products: the weights against the condition, the sequence last. -/
def prod (x : FVec Ideal S8x1024 .f32) (w : FVec Ideal S2x2x1024x3072 .f32) : FVec Ideal S2x2x3072x8 .f32 :=
  Host.dotGeneral dot_S2x2x1024x3072_S8x1024_S2x2x3072x8_2_1_013_0_n_n none w (silu x)

theorem silu_apply (x : FVec Ideal S8x1024 .f32) (b : Fin 8) (k : Fin 1024) : silu x (ix2 b k) = x (ix2 b k) * Ideal.logistic (x (ix2 b k)) := by
  pointwise [silu]
  rfl

theorem prod_apply (x : FVec Ideal S8x1024 .f32) (w : FVec Ideal S2x2x1024x3072 .f32) (l s : Fin 2) (n : Fin 3072) (b : Fin 8) :
    prod x w (ix4 l s n b) = ∑ k : Fin 1024, w (ix4 l s k n) * silu x (ix2 b k) := by
  unfold prod
  generalize silu x = y
  pointwise []

/-- The reference's result of its arguments. -/
def plain (x : FVec Ideal S8x1024 .f32) (w : FVec Ideal S2x2x1024x3072 .f32) (b : FVec Ideal S2x2x3072 .f32) : FVec Ideal S4x8x3072 .f32 :=
  shapeCast _ (addf (transpose S2x2x8x3072 [0, 1, 3, 2] (prod x w) transposes_S2x2x3072x8_S2x2x8x3072_0_1_3_2)
    (broadcastInDim S2x2x8x3072 ![0, 1, 2, 3] bcast_S2x2x1x3072_S2x2x8x3072_0_1_2_3
      (broadcastInDim S2x2x1x3072 ![0, 1, 3] bcast_S2x2x3072_S2x2x1x3072_0_1_3 b))) shapeCasts_S2x2x8x3072_S4x8x3072

theorem plain_apply (x : FVec Ideal S8x1024 .f32) (w : FVec Ideal S2x2x1024x3072 .f32) (v : FVec Ideal S2x2x3072 .f32) (s : Fin 4) (b : Fin 8) (n : Fin 3072) :
    plain x w v (ix3 s b n) = prod x w (ix4 (Cert.Kernel7Ideal.Closed.layer s) (Cert.Kernel7Ideal.Closed.sub s) n b)
      + v (ix3 (Cert.Kernel7Ideal.Closed.layer s) (Cert.Kernel7Ideal.Closed.sub s) n) := by
  unfold plain
  generalize prod x w = y
  pointwise []
  rfl

theorem plain_eq (x : FVec Ideal S8x1024 .f32) (w : FVec Ideal S2x2x1024x3072 .f32) (v : FVec Ideal S2x2x3072 .f32) :
    plain x w v = Cert.Kernel7Ideal.Closed.arr x w v := by
  funext j
  obtain ⟨s, b, n, rfl⟩ : ∃ (s : Fin 4) (b : Fin 8) (n : Fin 3072), j = ix3 s b n := ⟨j 0, j 1, j 2, eq_ix3 j⟩
  rw [plain_apply, prod_apply]
  show _ = Cert.Kernel7Ideal.Closed.mod x w v s b n
  unfold Cert.Kernel7Ideal.Closed.mod
  refine congrArg (· + _) (Finset.sum_congr rfl fun k _ => ?_)
  rw [silu_apply, mul_comm]

end Reference

theorem value : Cert.algebraic_Kernel7Ideal_Ref7Ideal := by
  intro m ρ m' ρ' hpre hagree
  refine ⟨fun c => Cert.Kernel7Ideal.Closed.res m c, (θ_run Cert.Kernel7Ideal.defs _ _).mono (fun r h c => ⟨(h c).1.trans (Cert.Kernel7Ideal.Closed.final m c), (h c).2⟩) (Cert.Kernel7Ideal.Value.run_blocks m ρ), ?_⟩
  refine (θ_run Cert.Ref7Ideal.defs _ _).mono (fun r hr c => ⟨(hr c).1.trans ?_, (hr c).2⟩) (Cert.Ref7Ideal.Value.run (F := Ideal) m' ρ')
  obtain ⟨e0, e1, e2⟩ := hagree c
  rw [e0, e1, e2]
  exact plain_eq _ _ _

end Cert.Modulation

end
-- ==== Proof.DecMath.lean ====
module

public import proofs.«01_k».proof.Defs
public import proofs.«01_k».proof.Proof.Qg
public import Idealize.ShloMosaic.Lib.Pointwise

/-! Facts of the extended reals the decays rest on: which products are real numbers, the logarithm of a gate, and running sums by doubling. -/

@[expose] public section

set_option maxRecDepth 16384

noncomputable section

namespace Cert.Decay

open Idealize.ShloMosaic
open Cert.Kernel4Ideal.Closed (modn)

/-- A real number among the extended reals. -/
def Real' (x : EReal) : Prop := ∃ r : ℝ, x = (r : EReal)

theorem Real'.add {x y : EReal} (hx : Real' x) (hy : Real' y) : Real' (x + y) := by
  obtain ⟨a, rfl⟩ := hx; obtain ⟨b, rfl⟩ := hy; exact ⟨a + b, (EReal.coe_add a b).symm⟩
theorem Real'.mul {x y : EReal} (hx : Real' x) (hy : Real' y) : Real' (x * y) := by
  obtain ⟨a, rfl⟩ := hx; obtain ⟨b, rfl⟩ := hy; exact ⟨a * b, (EReal.coe_mul a b).symm⟩
theorem Real'.sub_self {x : EReal} (hx : Real' x) : x - x = 0 := by
  obtain ⟨a, rfl⟩ := hx
  rw [← EReal.coe_sub, _root_.sub_self, EReal.coe_zero]
theorem real_one : Real' 1 := ⟨1, EReal.coe_one.symm⟩

/-- Less than the top in size is real. -/
theorem real_of_abs {x : EReal} (h : max x (-x) < ⊤) : Real' x := by
  induction x using EReal.rec with
  | bot => simp at h
  | top => simp at h
  | coe r => exact ⟨r, rfl⟩

theorem eps_pos : ∃ e : ℝ, 0 < e ∧ Ideal.ofBits FTy.f32 897988541#32 = (e : EReal) := by
  refine ⟨_, ?_, by simp only [Ideal.ofBits, Ideal.ieee]; rfl⟩
  rw [if_neg (by decide)]
  positivity

theorem width : ∃ w : ℝ, 0 < w ∧ Ideal.ofBits FTy.f32 1149239296#32 = (w : EReal) := by
  refine ⟨_, ?_, by simp only [Ideal.ofBits, Ideal.ieee]; rfl⟩
  rw [if_neg (by decide)]
  positivity

theorem mul_self_nonneg' (x : EReal) : 0 ≤ x * x := by
  induction x using EReal.rec with
  | bot => simp
  | top => simp
  | coe r => rw [← EReal.coe_mul]; exact EReal.coe_nonneg.2 (mul_self_nonneg r)

/-- The reciprocal root of a sum of squares' mean, over nought by a little, is real. -/
theorem real_rsqrt {s e w : EReal} (hs : 0 ≤ s) (he : ∃ r : ℝ, 0 < r ∧ e = r) (hw : ∃ r : ℝ, 0 < r ∧ w = r) : Real' (Ideal.rsqrt (Ideal.div s w + e)) := by
  obtain ⟨e, he, rfl⟩ := he
  obtain ⟨w, hw, rfl⟩ := hw
  rw [Ideal.div_coe hw.ne']
  have h0 : (0 : ℝ) < 1 / w := by positivity
  induction s using EReal.rec with
  | bot => simp at hs
  | top =>
    rw [EReal.top_mul_coe_of_pos h0, EReal.top_add_coe, Ideal.rsqrt_top]
    exact ⟨0, EReal.coe_zero.symm⟩
  | coe r =>
    have hr : 0 ≤ r := EReal.coe_nonneg.1 hs
    rw [← EReal.coe_mul, ← EReal.coe_add, Ideal.rsqrt_coe]
    have : 0 < r * (1 / w) + e := by positivity
    rw [if_neg (not_lt.2 this.le), if_neg this.ne']
    exact ⟨_, rfl⟩

/-- A row over the root of its mean square is real: where an entry is not, the root's reciprocal is nought. -/
theorem real_normed (h : Fin 1024 → EReal) (k : Fin 1024) :
    Real' (h k * Ideal.rsqrt (Ideal.div (∑ x : Fin 1024, h x * h x) (Ideal.ofBits FTy.f32 1149239296#32) + Ideal.ofBits FTy.f32 897988541#32)) := by
  have hs : 0 ≤ ∑ x : Fin 1024, h x * h x := Finset.sum_nonneg fun x _ => mul_self_nonneg' _
  by_cases hk : h k * h k = ⊤
  · have ht : ∑ x : Fin 1024, h x * h x = ⊤ :=
      top_le_iff.1 (hk ▸ Finset.single_le_sum (f := fun x => h x * h x) (fun x _ => mul_self_nonneg' _) (Finset.mem_univ k))
    obtain ⟨e, he, he'⟩ := eps_pos
    obtain ⟨w, hw, hw'⟩ := width
    have h0 : (0 : ℝ) < 1 / w := by positivity
    rw [ht, he', hw', Ideal.div_coe hw.ne', EReal.top_mul_coe_of_pos h0, EReal.top_add_coe, Ideal.rsqrt_top, mul_zero]
    exact ⟨0, EReal.coe_zero.symm⟩
  · refine Real'.mul ?_ (real_rsqrt hs eps_pos width)
    revert hk
    generalize h k = x
    intro hk
    induction x using EReal.rec with
    | bot => simp at hk
    | top => simp at hk
    | coe r => exact ⟨r, rfl⟩

/-- The modulated row is real where the vectors are. -/
theorem real_modn {h g sh sc : Fin 1024 → EReal} (hg : ∀ k, Real' (g k)) (hsh : ∀ k, Real' (sh k)) (hsc : ∀ k, Real' (sc k)) (k : Fin 1024) : Real' (modn h g sh sc k) :=
  (((real_normed h k).mul (hg k)).mul (real_one.add (hsc k))).add (hsh k)

/-- The three-part product of real rows and real columns is the one product. -/
theorem threeParts {x w : Fin 1024 → EReal} (hx : ∀ k, Real' (x k)) (hw : ∀ k, Real' (w k)) :
    (∑ k, x k * w k) + (∑ k, x k * (w k - w k)) + (∑ k, (x k - x k) * w k) = ∑ k, x k * w k := by
  have e1 : (∑ k, x k * (w k - w k)) = 0 := Finset.sum_eq_zero fun k _ => by rw [(hw k).sub_self, mul_zero]
  have e2 : (∑ k, (x k - x k) * w k) = 0 := Finset.sum_eq_zero fun k _ => by rw [(hx k).sub_self, zero_mul]
  rw [e1, e2, add_zero, add_zero]

/-- A gate's logarithm. -/
def gateLog (x : EReal) : EReal := min x 0 - Ideal.log1p (Ideal.exp (-max x (-x)))

theorem real_log1p (x : EReal) : Real' (Ideal.log1p (Ideal.exp (-max x (-x)))) := by
  have key : ∀ r : ℝ, 0 ≤ r → Real' (Ideal.log1p (r : EReal)) := fun r hr => by
    unfold Ideal.log1p
    rw [← EReal.coe_one, ← EReal.coe_add]
    show Real' (if 1 + r ≤ 0 then ⊥ else (Real.log (1 + r) : EReal))
    rw [if_neg (by linarith)]
    exact ⟨_, rfl⟩
  induction x using EReal.rec with
  | bot =>
    have : Ideal.exp (-max (⊥ : EReal) (-⊥)) = ((0 : ℝ) : EReal) := by
      rw [show -max (⊥ : EReal) (-⊥) = ⊥ by simp]; rfl
    rw [this]; exact key 0 le_rfl
  | top =>
    have : Ideal.exp (-max (⊤ : EReal) (-⊤)) = ((0 : ℝ) : EReal) := by
      rw [show -max (⊤ : EReal) (-⊤) = ⊥ by simp]; rfl
    rw [this]; exact key 0 le_rfl
  | coe r =>
    have : Ideal.exp (-max (r : EReal) (-(r : EReal))) = ((Real.exp (-max r (-r)) : ℝ) : EReal) := by
      rw [← EReal.coe_neg, ← EReal.coe_strictMono.monotone.map_max, ← EReal.coe_neg]; rfl
    rw [this]; exact key _ (Real.exp_pos _).le

/-- The other way it is written: less the softened positive part of the opposite. -/
theorem gateLog_eq (x : EReal) :
    -(max (-x) 0 + Ideal.log1p (Ideal.exp (-max (-x) (-(-x))))) = gateLog x := by
  unfold gateLog
  rw [neg_neg, max_comm (-x) x]
  obtain ⟨l, hl⟩ := real_log1p x
  rw [hl, EReal.neg_add (Or.inr (EReal.coe_ne_top _)) (Or.inr (EReal.coe_ne_bot _))]
  congr 1
  induction x using EReal.rec with
  | bot => simp
  | top => simp
  | coe r =>
    rw [← EReal.coe_neg, ← EReal.coe_zero, ← EReal.coe_strictMono.monotone.map_max, ← EReal.coe_strictMono.monotone.map_min, ← EReal.coe_neg,
      max_neg_neg_zero r]
where
  max_neg_neg_zero (r : ℝ) : -max (-r) 0 = min r 0 := by
    rcases le_total r 0 with h | h
    · rw [max_eq_left (by linarith), min_eq_left h, neg_neg]
    · rw [max_eq_right (by linarith), min_eq_right h, neg_zero]

/-! Sums over a window of the places up to one. -/

/-- The sum of the `w` entries ending at `r`, as far as they reach back. -/
def window (f : ℕ → EReal) (w r : ℕ) : EReal := ∑ i ∈ Finset.range w, if i ≤ r then f (r - i) else 0

theorem window_one (f : ℕ → EReal) (r : ℕ) : window f 1 r = f r := by simp [window]

theorem window_double (f : ℕ → EReal) (w r : ℕ) : window f w r + (if w ≤ r then window f w (r - w) else 0) = window f (w + w) r := by
  unfold window
  rw [Finset.sum_range_add]
  congr 1
  by_cases h : w ≤ r
  · rw [if_pos h]
    refine Finset.sum_congr rfl fun i _ => ?_
    by_cases h' : i ≤ r - w
    · rw [if_pos h', if_pos (by omega), show r - w - i = r - (w + i) by omega]
    · rw [if_neg h', if_neg (by omega)]
  · rw [if_neg h]
    exact (Finset.sum_eq_zero fun i _ => if_neg (by omega)).symm

theorem window_all (f : ℕ → EReal) (w r : ℕ) (h : r < w) : window f w r = ∑ i ∈ Finset.range (r + 1), f i := by
  obtain ⟨d, rfl⟩ : ∃ d, w = r + 1 + d := ⟨w - (r + 1), by omega⟩
  unfold window
  rw [Finset.sum_range_add, ← Finset.sum_range_reflect f (r + 1)]
  have e : (∑ i ∈ Finset.range d, if r + 1 + i ≤ r then f (r - (r + 1 + i)) else 0) = 0 := Finset.sum_eq_zero fun i _ => if_neg (by omega)
  rw [e, add_zero]
  refine Finset.sum_congr rfl fun i hi => ?_
  have := Finset.mem_range.1 hi
  rw [if_pos (by omega)]
  congr 1

end Cert.Decay

end
-- ==== Proof.DecBody.lean ====
module

public import proofs.«01_k».proof.Defs
public import proofs.«01_k».proof.Proof.Qg
public import proofs.«01_k».proof.Proof.DecMath
public import proofs.«01_k».proof.Proof.Gen.Kernel8Ideal
public import proofs.«01_k».proof.Proof.Gen.Kernel8Ideal.Value
public import Idealize.ShloMosaic.Lib.Pointwise
public import Idealize.ShloMosaic.Lib.Pipeline.ValueKit.Acc
public import Idealize.ShloMosaic.Lib.Pipeline.ReadBack

/-! The decays' part of the shared keys' and values' kernel: what a block's body computes of the blocks it loads, entry by entry. -/

@[expose] public section

set_option maxRecDepth 16384

noncomputable section

namespace Cert.Kernel8Ideal.Closed

open Cert.Kernel8Ideal Cert.Kernel8Ideal.Gen Cert.Kernel8Ideal.Value Idealize.ShloMosaic Idealize.ShloMosaic.TcCoe Idealize.SL.Sem
open Cert.Kernel4Ideal.Closed (elt pos row elt_row nrow brow modn)
open Cert.Decay

/-- The block's modulated rows. -/
theorem rows_apply (y0 : Vec Ideal S512x1024 .f32) (y1 : Vec Ideal S1x1024 .f32) (y2 y3 : Vec Ideal S1x1x1024 .f32) (r : Fin 512) (k : Fin 1024) :
    k0_pay6 y0 y1 y2 y3 (ix2 r k) = brow y0 y1 y2 y3 r k := by
  pointwise [k0_pay6]
  rfl

/-- A lane of the second half of the weights' parts. -/
def far (l : Fin 128) : Fin 256 := ⟨128 + l.val, by omega⟩
def near (l : Fin 128) : Fin 256 := ⟨l.val, by omega⟩

/-- The logits: a product in three parts and the bias. -/
def logit (x : FVec Ideal S512x1024 .f32) (y6 : Vec Ideal S1024x256 .bf16) (y6' : Vec Ideal S1024x128 .bf16) (y7 : Vec Ideal S1x128 .f32) : FVec Ideal S512x128 .f32 :=
  have v262 : FVec Ideal S512x256 .f32 := matmul dot_S512x1024_S1024x256_S512x256_1_0_0_1_n_n none (k0_pay33 x) (shapeCast S1024x256 y6 shapeCasts_S1024x256_S1024x256 : FVec Ideal S1024x256 .bf16) (constant S512x256 .f32 0x00000000#32)
  addf (addf (addf (extractStridedSlice S512x128 ![0, 0] v262 slices_S512x256_o0_0_S512x128) (extractStridedSlice S512x128 ![0, 128] v262 slices_S512x256_o0_128_S512x128))
    (matmul dot_S512x1024_S1024x128_S512x128_1_0_0_1_n_n none (k0_pay34 x) (shapeCast S1024x128 y6' shapeCasts_S1024x128_S1024x128 : FVec Ideal S1024x128 .bf16) (constant S512x128 .f32 0x00000000#32)))
    (broadcastTo S512x128 (shapeCast S1x128 y7 shapeCasts_S1x128_S1x128) broadcasts_S1x128_S512x128)

theorem logit_apply (x : FVec Ideal S512x1024 .f32) (y6 : Vec Ideal S1024x256 .bf16) (y6' : Vec Ideal S1024x128 .bf16) (y7 : Vec Ideal S1x128 .f32) (r : Fin 512) (l : Fin 128) :
    logit x y6 y6' y7 (ix2 r l) = (∑ k : Fin 1024, x (ix2 r k) * y6 (ix2 k (near l))) + (∑ k : Fin 1024, x (ix2 r k) * y6 (ix2 k (far l)))
      + (∑ k : Fin 1024, (x (ix2 r k) - x (ix2 r k)) * y6' (ix2 k l)) + y7 (ix2 0 l) := by
  pointwise [logit, k0_pay33, k0_pay34]
  rfl

/-- The gates' logarithms. -/
def gates (z : FVec Ideal S512x128 .f32) : FVec Ideal S512x128 .f32 :=
  subf (minimumf z (broadcast S512x128 (Scalar.ofBits .f32 0x00000000#32)))
    (log1p (exp (subf (broadcast S512x128 (Scalar.ofBits .f32 0x00000000#32)) (absf z))))

theorem gates_apply (z : FVec Ideal S512x128 .f32) (r : Fin 512) (l : Fin 128) : gates z (ix2 r l) = gateLog (z (ix2 r l)) := by
  pointwise [gates]
  unfold gateLog
  simp only [Ideal.ofBits_zero_f32, zero_sub]
  rfl

/-- One doubling: each row with the row `w` before it. -/
def doubled (w : BitVec 32) (z : FVec Ideal S512x128 .f32) : FVec Ideal S512x128 .f32 :=
  addf z (select (cmpi .sge (iota .tc S512x128 32 [0] iota_S512x128_d0_w32) (broadcast S512x128 w)) (dynamicRotate 0 w none z rotates_S512x128_d0)
    (broadcast S512x128 (Scalar.ofBits .f32 0x00000000#32)))

theorem doubled_apply (n : ℕ) (w : BitVec 32) (hw : w.toNat = n) (hn : n < 512)
    (hb : ∀ r : Fin 512, IntOp.cmpi .sge (BitVec.ofNat 32 r.val) w = if n ≤ r.val then 1#1 else 0#1)
    (z : FVec Ideal S512x128 .f32) (l : Fin 128) (f : ℕ → EReal) (hz : ∀ r : Fin 512, z (ix2 r l) = window f n r.val) (r : Fin 512) :
    doubled w z (ix2 r l) = window f (n + n) r.val := by
  have e : doubled w z (ix2 r l) = z (ix2 r l) + if n ≤ r.val then window f n (r.val - n) else 0 := by
    have e1 : cmpi .sge (iota .tc S512x128 32 [0] iota_S512x128_d0_w32) (broadcast S512x128 w) (ix2 r l) = if n ≤ r.val then 1#1 else 0#1 := by
      rw [← hb r]; pointwise []
    show z (ix2 r l) + Scalar.select (cmpi .sge (iota .tc S512x128 32 [0] iota_S512x128_d0_w32) (broadcast S512x128 w) (ix2 r l)) (dynamicRotate 0 w none z rotates_S512x128_d0 (ix2 r l)) (Ideal.ofBits .f32 0x00000000#32) = _
    rw [e1]
    by_cases h : n ≤ r.val
    · rw [if_pos h, if_pos h]
      congr 1
      refine Eq.trans ?_ (hz ⟨r.val - n, by omega⟩)
      show dynamicRotate 0 w none z rotates_S512x128_d0 (ix2 r l) = _
      rw [Pointwise.dynamicRotate_apply]
      refine congrArg z (funext fun a => Fin.ext ?_)
      match a with
      | ⟨0, _⟩ =>
        show (r.val + 512 - (w.toNat + 0) % 512) % 512 = r.val - n
        rw [hw]; omega
      | ⟨1, _⟩ => rfl
    · rw [if_neg h, if_neg h]
      congr 1
      exact Ideal.ofBits_zero_f32
  rw [e, hz r]
  exact window_double f n r.val

/-- The nine doublings. -/
def scanned (z : FVec Ideal S512x128 .f32) : FVec Ideal S512x128 .f32 :=
  doubled 256#32 (doubled 128#32 (doubled 64#32 (doubled 32#32 (doubled 16#32 (doubled 8#32 (doubled 4#32 (doubled 2#32 (doubled 1#32 z))))))))

theorem scanned_apply (z : FVec Ideal S512x128 .f32) (l : Fin 128) (f : ℕ → EReal) (hz : ∀ r : Fin 512, z (ix2 r l) = f r.val) (r : Fin 512) :
    scanned z (ix2 r l) = ∑ i ∈ Finset.range (r.val + 1), f i := by
  rw [← window_all f 512 r.val r.isLt]
  have h1 := doubled_apply 1 1#32 rfl (by decide) (by decide +kernel) z l f fun r => (hz r).trans (window_one f r.val).symm
  have h2 := doubled_apply 2 2#32 rfl (by decide) (by decide +kernel) _ l f h1
  have h3 := doubled_apply 4 4#32 rfl (by decide) (by decide +kernel) _ l f h2
  have h4 := doubled_apply 8 8#32 rfl (by decide) (by decide +kernel) _ l f h3
  have h5 := doubled_apply 16 16#32 rfl (by decide) (by decide +kernel) _ l f h4
  have h6 := doubled_apply 32 32#32 rfl (by decide) (by decide +kernel) _ l f h5
  have h7 := doubled_apply 64 64#32 rfl (by decide) (by decide +kernel) _ l f h6
  have h8 := doubled_apply 128 128#32 rfl (by decide) (by decide +kernel) _ l f h7
  exact doubled_apply 256 256#32 rfl (by decide) (by decide +kernel) _ l f h8 r

/-- The running sums of a block, over the sum carried into it. -/
def running (x : FVec Ideal S512x1024 .f32) (y6 : Vec Ideal S1024x256 .bf16) (y6' : Vec Ideal S1024x128 .bf16) (y7 : Vec Ideal S1x128 .f32) (s : Vec Ideal S1x128 .f32) : FVec Ideal S512x128 .f32 :=
  k0_pay37 (iota .tc S512x128 32 [0] iota_S512x128_d0_w32) (k0_pay35 (k0_pay33 x) (k0_pay34 x) y6 y6' y7) k0_pay36 s

theorem gates_eq (x : FVec Ideal S512x1024 .f32) (y6 : Vec Ideal S1024x256 .bf16) (y6' : Vec Ideal S1024x128 .bf16) (y7 : Vec Ideal S1x128 .f32) :
    k0_pay35 (k0_pay33 x) (k0_pay34 x) y6 y6' y7 = doubled 4#32 (doubled 2#32 (doubled 1#32 (gates (logit x y6 y6' y7)))) := by
  rfl

theorem scan_eq (z : FVec Ideal S512x128 .f32) (s : Vec Ideal S1x128 .f32) :
    k0_pay37 (iota .tc S512x128 32 [0] iota_S512x128_d0_w32) z k0_pay36 s
      = addf (doubled 256#32 (doubled 128#32 (doubled 64#32 (doubled 32#32 (doubled 16#32 (doubled 8#32 z)))))) (broadcastTo S512x128 s broadcasts_S1x128_S512x128) := by
  rfl

theorem running_eq (x : FVec Ideal S512x1024 .f32) (y6 : Vec Ideal S1024x256 .bf16) (y6' : Vec Ideal S1024x128 .bf16) (y7 : Vec Ideal S1x128 .f32) (s : Vec Ideal S1x128 .f32) :
    running x y6 y6' y7 s = addf (scanned (gates (logit x y6 y6' y7))) (broadcastTo S512x128 s broadcasts_S1x128_S512x128) := by
  unfold running
  rw [gates_eq, scan_eq]
  rfl

theorem running_apply (x : FVec Ideal S512x1024 .f32) (y6 : Vec Ideal S1024x256 .bf16) (y6' : Vec Ideal S1024x128 .bf16) (y7 : Vec Ideal S1x128 .f32) (s : Vec Ideal S1x128 .f32)
    (l : Fin 128) (f : ℕ → EReal) (hf : ∀ r : Fin 512, gateLog (logit x y6 y6' y7 (ix2 r l)) = f r.val) (r : Fin 512) :
    running x y6 y6' y7 s (ix2 r l) = (∑ i ∈ Finset.range (r.val + 1), f i) + s (ix2 0 l) := by
  rw [running_eq]
  have e : ∀ a : FVec Ideal S512x128 .f32, addf a (broadcastTo S512x128 s broadcasts_S1x128_S512x128) (ix2 r l) = a (ix2 r l) + s (ix2 0 l) := fun a => by pointwise []
  rw [e, scanned_apply _ l f (fun r => (gates_apply _ r l).trans (hf r))]

/-- What is carried on: the last row. -/
theorem last_apply (z : FVec Ideal S512x128 .f32) (l : Fin 128) :
    k0_pay1 (extractStridedSlice S1x128 ![511, 0] z slices_S512x128_o511_0_S1x128) (ix2 0 l) = z (ix2 511 l) := by
  pointwise [k0_pay1]

/-- The sums in base two, and the three parts they are laid in. -/
def base2 (x : EReal) : EReal := x * Ideal.ofBits FTy.f32 0x3FB8AA3B#32
def part (x : EReal) (j : ℕ) : EReal := if j = 0 then x else if j = 1 then x - x else x - x - (x - x)

/-- Which part, and of which lane, a row of the table is. -/
theorem laid_apply (v : FVec Ideal S512x128 .f32) (y9 : Vec Ideal S384x256 .bf16) (y10 : Vec Ideal S1x256 .f32) (r : Fin 512) (n : Fin 256) :
    k0_pay2 v y9 y10 (ix2 r n) = (∑ q : Fin 384, part (base2 (v (ix2 r (⟨q.val % 128, by omega⟩ : Fin 128)))) (q.val / 128) * y9 (ix2 q n)) + y10 (ix2 0 n) := by
  pointwise [k0_pay2]
  refine congrArg (· + y10 (ix2 0 n)) (Finset.sum_congr rfl fun q _ => congrArg (· * y9 (ix2 q n)) ?_)
  have at' : ∀ {a b : Fin 128}, a.val = b.val → v (ix2 r a) = v (ix2 r b) := fun e => congrArg (fun x => v (ix2 r x)) (Fin.ext e)
  unfold part
  split
  · next h =>
    rw [if_pos (show q.val / 128 = 0 by have : q.val < 128 := h; omega)]
    exact congrArg base2 (at' (show q.val = q.val % 128 by have : q.val < 128 := h; omega))
  · next h =>
    have h : ¬q.val < 128 := h
    rw [if_neg (show ¬q.val / 128 = 0 by omega)]
    split
    · next h' =>
      have h' : q.val - 128 < 128 := h'
      rw [if_pos (show q.val / 128 = 1 by omega)]
      exact congrArg (fun x => base2 x - base2 x) (at' (show q.val - 128 = q.val % 128 by omega))
    · next h' =>
      have h' : ¬q.val - 128 < 128 := h'
      rw [if_neg (show ¬q.val / 128 = 1 by omega)]
      exact congrArg (fun x => base2 x - base2 x - (base2 x - base2 x)) (at' (show q.val - 128 - 128 = q.val % 128 by omega))

/-- A block of the keys' lanes and a block of the queries'. -/
def bodyKa (v : FVec Ideal S512x128 .f32) (y9 : Vec Ideal S384x256 .bf16) (y10 : Vec Ideal S1x256 .f32) : FVec Ideal S512x128 .bf16 := k0_pay3 v y9 y10
def bodyQa (v : FVec Ideal S512x128 .f32) (y9 : Vec Ideal S384x256 .bf16) (y10 : Vec Ideal S1x256 .f32) : FVec Ideal S512x128 .bf16 := k0_pay4 v y9 y10

theorem bodyKa_apply (v : FVec Ideal S512x128 .f32) (y9 : Vec Ideal S384x256 .bf16) (y10 : Vec Ideal S1x256 .f32) (r : Fin 512) (l : Fin 128) :
    bodyKa v y9 y10 (ix2 r l) = (∑ q : Fin 384, part (base2 (v (ix2 r (⟨q.val % 128, by omega⟩ : Fin 128)))) (q.val / 128) * y9 (ix2 q (near l))) + y10 (ix2 0 (near l)) := by
  refine Eq.trans ?_ (laid_apply v y9 y10 r (near l))
  have e : ∀ a : FVec Ideal S512x256 .bf16, extractStridedSlice S512x128 ![0, 0] a slices_S512x256_o0_0_S512x128 (ix2 r l) = a (ix2 r (near l)) := fun a => by
    pointwise []
    rfl
  exact e (k0_pay2 v y9 y10)

theorem bodyQa_apply (v : FVec Ideal S512x128 .f32) (y9 : Vec Ideal S384x256 .bf16) (y10 : Vec Ideal S1x256 .f32) (r : Fin 512) (l : Fin 128) :
    bodyQa v y9 y10 (ix2 r l) = (∑ q : Fin 384, part (base2 (v (ix2 r (⟨q.val % 128, by omega⟩ : Fin 128)))) (q.val / 128) * y9 (ix2 q (far l))) + y10 (ix2 0 (far l)) := by
  refine Eq.trans ?_ (laid_apply v y9 y10 r (far l))
  have e : ∀ a : FVec Ideal S512x256 .bf16, extractStridedSlice S512x128 ![0, 128] a slices_S512x256_o0_128_S512x128 (ix2 r l) = a (ix2 r (far l)) := fun a => by
    pointwise []
    rfl
  exact e (k0_pay2 v y9 y10)

variable (m : (ℓ : Loc nD τ sig) → Buf (Elt Ideal) ℓ)

/-- The first block of weights the product takes again: the parts' first half. -/
def again (y6 : Vec Ideal S1024x256 .bf16) : Vec Ideal S1024x128 .bf16 := View.ld y6 (Rect.unit ![0, 0] ![1024, 128] inb_S1024x256_S1024x128_0_0)

theorem again_apply (y6 : Vec Ideal S1024x256 .bf16) (k : Fin 1024) (l : Fin 128) : again y6 (ix2 k l) = y6 (ix2 k (near l)) :=
  congrArg y6 (funext fun a => Fin.ext (by
    match a with
    | ⟨0, _⟩ => show 0 + 1 * k.val = k.val; omega
    | ⟨1, _⟩ => show 0 + 1 * l.val = l.val; omega))

/-- The running sums at a point, over what is carried into it. -/
def sums (c : Dev nD) (t : Fin cfg0.N) (s : Vec Ideal S1x128 .f32) : FVec Ideal S512x128 .f32 :=
  running (k0_pay6 (iblk m c 0 t) (iblk m c 1 t) (iblk m c 2 t) (iblk m c 3 t)) (iblk m c 6 t) (again (iblk m c 6 t)) (iblk m c 7 t) s

/-- What is carried into a point: nought at a sequence's first, else what the point before left. -/
def into (c : Dev nD) (t : Fin cfg0.N) : Vec Ideal S1x128 .f32 :=
  if h : t.val % 8 = 0 then (k0_pay5 : FVec Ideal S1x128 .f32) else (outsAt0 m c (t.val - 1) (by have := t.isLt; omega)).2.2.2.2

/-- What a point leaves in the carried sums and in the two blocks. -/
theorem leftS (c : Dev nD) (t : Fin cfg0.N) :
    (outsAt0 m c t.val t.isLt).2.2.2.2 = k0_pay1 (extractStridedSlice S1x128 ![511, 0] (sums m c t (into m c t)) slices_S512x128_o511_0_S1x128) := by
  by_cases h : t.val % 8 = 0
  · rw [show into m c t = (k0_pay5 : FVec Ideal S1x128 .f32) from dif_pos h, outsAt0_A m c t h]
    dsimp only
    frame_out
    rfl
  · rw [show into m c t = _ from dif_neg h, outsAt0_B m c t h]
    dsimp only
    frame_out
    rw [read_unread_whole]
    rfl

theorem leftKa (c : Dev nD) (t : Fin cfg0.N) :
    (outsAt0 m c t.val t.isLt).2.2.1 = bodyKa (sums m c t (into m c t)) (iblk m c 9 t) (iblk m c 10 t) := by
  by_cases h : t.val % 8 = 0
  · rw [show into m c t = (k0_pay5 : FVec Ideal S1x128 .f32) from dif_pos h, outsAt0_A m c t h]
    dsimp only
    frame_out
    rfl
  · rw [show into m c t = _ from dif_neg h, outsAt0_B m c t h]
    dsimp only
    frame_out
    rw [read_unread_whole]
    rfl

theorem leftQa (c : Dev nD) (t : Fin cfg0.N) :
    (outsAt0 m c t.val t.isLt).2.2.2.1 = bodyQa (sums m c t (into m c t)) (iblk m c 9 t) (iblk m c 10 t) := by
  by_cases h : t.val % 8 = 0
  · rw [show into m c t = (k0_pay5 : FVec Ideal S1x128 .f32) from dif_pos h, outsAt0_A m c t h]
    dsimp only
    frame_out
    rfl
  · rw [show into m c t = _ from dif_neg h, outsAt0_B m c t h]
    dsimp only
    frame_out
    rw [read_unread_whole]
    rfl

theorem nought_apply (l : Fin 128) : (k0_pay5 : FVec Ideal S1x128 .f32) (ix2 0 l) = 0 := by
  pointwise [k0_pay5]

end Cert.Kernel8Ideal.Closed

end
-- ==== Proof.DecWords.lean ====
module

public import proofs.«01_k».proof.Kernel8Ideal
public import Mathlib.Tactic.IntervalCases

/-! The decays' part of the shared keys' and values' kernel: the words of its two tables of constants, by their row and lane. A table is read as a whole, 128 rows of 128 words at a time, by the choice it is printed as. -/

@[expose] public section

set_option maxRecDepth 65536

noncomputable section

namespace Cert.Kernel8Ideal.Closed

open Cert.Kernel8Ideal

/-- The lane a row's part is laid in. -/
def placeOf (q : ℕ) : ℕ := 6 * (q % 128) + q / 128

/-- One of 128 words by its number. -/
def pick (f : ℕ → BitVec 16) (n : ℕ) : BitVec 16 := match n with
  | 0 => f 0
  | 1 => f 1
  | 2 => f 2
  | 3 => f 3
  | 4 => f 4
  | 5 => f 5
  | 6 => f 6
  | 7 => f 7
  | 8 => f 8
  | 9 => f 9
  | 10 => f 10
  | 11 => f 11
  | 12 => f 12
  | 13 => f 13
  | 14 => f 14
  | 15 => f 15
  | 16 => f 16
  | 17 => f 17
  | 18 => f 18
  | 19 => f 19
  | 20 => f 20
  | 21 => f 21
  | 22 => f 22
  | 23 => f 23
  | 24 => f 24
  | 25 => f 25
  | 26 => f 26
  | 27 => f 27
  | 28 => f 28
  | 29 => f 29
  | 30 => f 30
  | 31 => f 31
  | 32 => f 32
  | 33 => f 33
  | 34 => f 34
  | 35 => f 35
  | 36 => f 36
  | 37 => f 37
  | 38 => f 38
  | 39 => f 39
  | 40 => f 40
  | 41 => f 41
  | 42 => f 42
  | 43 => f 43
  | 44 => f 44
  | 45 => f 45
  | 46 => f 46
  | 47 => f 47
  | 48 => f 48
  | 49 => f 49
  | 50 => f 50
  | 51 => f 51
  | 52 => f 52
  | 53 => f 53
  | 54 => f 54
  | 55 => f 55
  | 56 => f 56
  | 57 => f 57
  | 58 => f 58
  | 59 => f 59
  | 60 => f 60
  | 61 => f 61
  | 62 => f 62
  | 63 => f 63
  | 64 => f 64
  | 65 => f 65
  | 66 => f 66
  | 67 => f 67
  | 68 => f 68
  | 69 => f 69
  | 70 => f 70
  | 71 => f 71
  | 72 => f 72
  | 73 => f 73
  | 74 => f 74
  | 75 => f 75
  | 76 => f 76
  | 77 => f 77
  | 78 => f 78
  | 79 => f 79
  | 80 => f 80
  | 81 => f 81
  | 82 => f 82
  | 83 => f 83
  | 84 => f 84
  | 85 => f 85
  | 86 => f 86
  | 87 => f 87
  | 88 => f 88
  | 89 => f 89
  | 90 => f 90
  | 91 => f 91
  | 92 => f 92
  | 93 => f 93
  | 94 => f 94
  | 95 => f 95
  | 96 => f 96
  | 97 => f 97
  | 98 => f 98
  | 99 => f 99
  | 100 => f 100
  | 101 => f 101
  | 102 => f 102
  | 103 => f 103
  | 104 => f 104
  | 105 => f 105
  | 106 => f 106
  | 107 => f 107
  | 108 => f 108
  | 109 => f 109
  | 110 => f 110
  | 111 => f 111
  | 112 => f 112
  | 113 => f 113
  | 114 => f 114
  | 115 => f 115
  | 116 => f 116
  | 117 => f 117
  | 118 => f 118
  | 119 => f 119
  | 120 => f 120
  | 121 => f 121
  | 122 => f 122
  | 123 => f 123
  | 124 => f 124
  | 125 => f 125
  | 126 => f 126
  | 127 => f 127
  | _ => 0x0000#16

theorem pick_eq (f : ℕ → BitVec 16) (n : ℕ) (hn : n < 128) : pick f n = f n := by
  interval_cases n <;> rfl

/-- The word of a row of the first table at a lane. -/
def entry0 (q l : ℕ) : BitVec 16 := bif Nat.blt (q % 128) 16 && Nat.beq l (placeOf q) then 0xBF80#16 else 0x0000#16

set_option maxHeartbeats 8000000 in
theorem part0_0 (i : ℕ) : lit0t1_0 i = pick (fun k => pick (entry0 (0 + k)) (i % 128)) (i / 128 % 128) := rfl
theorem top0_0 (i : ℕ) (h : i / 16384 = 0) : lit0t i = lit0t1_0 i := by
  unfold lit0t
  rw [h]
  rfl

set_option maxHeartbeats 8000000 in
theorem part0_1 (i : ℕ) : lit0t1_1 i = pick (fun k => pick (entry0 (128 + k)) (i % 128)) (i / 128 % 128) := rfl
theorem top0_1 (i : ℕ) (h : i / 16384 = 1) : lit0t i = lit0t1_1 i := by
  unfold lit0t
  rw [h]
  rfl

set_option maxHeartbeats 8000000 in
theorem part0_2 (i : ℕ) : lit0t1_2 i = pick (fun k => pick (entry0 (256 + k)) (i % 128)) (i / 128 % 128) := rfl
theorem top0_2 (i : ℕ) (h : i / 16384 = 2) : lit0t i = lit0t1_2 i := by
  unfold lit0t
  rw [h]
  rfl

theorem entry0_eq (q l : ℕ) : entry0 q l = if q % 128 < 16 ∧ l = placeOf q then 0xBF80#16 else 0x0000#16 := by
  unfold entry0
  by_cases h : q % 128 < 16 ∧ l = placeOf q
  · have a : Nat.blt (q % 128) 16 = true := Nat.blt_eq.mpr h.1
    have b : Nat.beq l (placeOf q) = true := Nat.beq_eq.mpr h.2
    rw [if_pos h, a, b]
    rfl
  · rw [if_neg h]
    have c : (Nat.blt (q % 128) 16 && Nat.beq l (placeOf q)) = false := by
      rw [Bool.eq_false_iff]
      intro e
      obtain ⟨a, b⟩ := Bool.and_eq_true_iff.mp e
      exact h ⟨Nat.blt_eq.mp a, Nat.beq_eq.mp b⟩
    rw [c]
    rfl

theorem word0 (q : Fin 384) (l : Fin 128) : lit0t (q.val * 128 + l.val) = if q.val % 128 < 16 ∧ l.val = placeOf q.val then 0xBF80#16 else 0x0000#16 := by
  have hq := q.isLt
  have hl := l.isLt
  have e1 : (q.val * 128 + l.val) % 128 = l.val := by omega
  have e2 : (q.val * 128 + l.val) / 128 % 128 = q.val % 128 := by omega
  have d : q.val / 128 = 0 ∨ q.val / 128 = 1 ∨ q.val / 128 = 2 := by omega
  have r : q.val % 128 < 128 := Nat.mod_lt _ (by decide)
  rcases d with d | d | d
  · rw [top0_0 _ (by omega), part0_0, e1, e2, pick_eq _ _ r, pick_eq _ _ hl, entry0_eq, show 0 + q.val % 128 = q.val by omega]
  · rw [top0_1 _ (by omega), part0_1, e1, e2, pick_eq _ _ r, pick_eq _ _ hl, entry0_eq, show 128 + q.val % 128 = q.val by omega]
  · rw [top0_2 _ (by omega), part0_2, e1, e2, pick_eq _ _ r, pick_eq _ _ hl, entry0_eq, show 256 + q.val % 128 = q.val by omega]

/-- The word of a row of the second table at a lane. -/
def entry1 (q l : ℕ) : BitVec 16 := bif Nat.blt (q % 128) 16 && Nat.beq l (3 + placeOf q) then 0x3F80#16 else 0x0000#16

set_option maxHeartbeats 8000000 in
theorem part1_0 (i : ℕ) : lit1t1_0 i = pick (fun k => pick (entry1 (0 + k)) (i % 128)) (i / 128 % 128) := rfl
theorem top1_0 (i : ℕ) (h : i / 16384 = 0) : lit1t i = lit1t1_0 i := by
  unfold lit1t
  rw [h]
  rfl

set_option maxHeartbeats 8000000 in
theorem part1_1 (i : ℕ) : lit1t1_1 i = pick (fun k => pick (entry1 (128 + k)) (i % 128)) (i / 128 % 128) := rfl
theorem top1_1 (i : ℕ) (h : i / 16384 = 1) : lit1t i = lit1t1_1 i := by
  unfold lit1t
  rw [h]
  rfl

set_option maxHeartbeats 8000000 in
theorem part1_2 (i : ℕ) : lit1t1_2 i = pick (fun k => pick (entry1 (256 + k)) (i % 128)) (i / 128 % 128) := rfl
theorem top1_2 (i : ℕ) (h : i / 16384 = 2) : lit1t i = lit1t1_2 i := by
  unfold lit1t
  rw [h]
  rfl

theorem entry1_eq (q l : ℕ) : entry1 q l = if q % 128 < 16 ∧ l = 3 + placeOf q then 0x3F80#16 else 0x0000#16 := by
  unfold entry1
  by_cases h : q % 128 < 16 ∧ l = 3 + placeOf q
  · have a : Nat.blt (q % 128) 16 = true := Nat.blt_eq.mpr h.1
    have b : Nat.beq l (3 + placeOf q) = true := Nat.beq_eq.mpr h.2
    rw [if_pos h, a, b]
    rfl
  · rw [if_neg h]
    have c : (Nat.blt (q % 128) 16 && Nat.beq l (3 + placeOf q)) = false := by
      rw [Bool.eq_false_iff]
      intro e
      obtain ⟨a, b⟩ := Bool.and_eq_true_iff.mp e
      exact h ⟨Nat.blt_eq.mp a, Nat.beq_eq.mp b⟩
    rw [c]
    rfl

theorem word1 (q : Fin 384) (l : Fin 128) : lit1t (q.val * 128 + l.val) = if q.val % 128 < 16 ∧ l.val = 3 + placeOf q.val then 0x3F80#16 else 0x0000#16 := by
  have hq := q.isLt
  have hl := l.isLt
  have e1 : (q.val * 128 + l.val) % 128 = l.val := by omega
  have e2 : (q.val * 128 + l.val) / 128 % 128 = q.val % 128 := by omega
  have d : q.val / 128 = 0 ∨ q.val / 128 = 1 ∨ q.val / 128 = 2 := by omega
  have r : q.val % 128 < 128 := Nat.mod_lt _ (by decide)
  rcases d with d | d | d
  · rw [top1_0 _ (by omega), part1_0, e1, e2, pick_eq _ _ r, pick_eq _ _ hl, entry1_eq, show 0 + q.val % 128 = q.val by omega]
  · rw [top1_1 _ (by omega), part1_1, e1, e2, pick_eq _ _ r, pick_eq _ _ hl, entry1_eq, show 128 + q.val % 128 = q.val by omega]
  · rw [top1_2 _ (by omega), part1_2, e1, e2, pick_eq _ _ r, pick_eq _ _ hl, entry1_eq, show 256 + q.val % 128 = q.val by omega]

end Cert.Kernel8Ideal.Closed

end
-- ==== Proof.DecHost.lean ====
module

public import proofs.«01_k».proof.Proof.DecBody
public import proofs.«01_k».proof.Proof.DecWords
public import Idealize.ShloMosaic.Lib.Routing.OpsSet

/-! The decays' part of the shared keys' and values' kernel: the arrays laid out before the launch, entry by entry — the forget weights and biases in their first lanes, and the tables that lay the sums out. -/

@[expose] public section

set_option maxRecDepth 16384

noncomputable section

namespace Cert.Kernel8Ideal.Closed

open Cert.Kernel8Ideal Cert.Kernel8Ideal.Gen Cert.Kernel8Ideal.Value Idealize.ShloMosaic Idealize.ShloMosaic.TcCoe Idealize.SL.Sem
open Cert.Decay

/-- A head's lane, and its column of the weights. -/
def lane (h : Fin 16) : Fin 128 := ⟨h.val, by omega⟩
def cf (h : Fin 16) : Fin 2064 := ⟨2048 + h.val, by omega⟩

/-- The forget weights in the first lanes of nought. -/
def forget (w : FVec Ideal S1024x2064 .f32) : FVec Ideal S1024x128 .f32 :=
  Host.scatter scatter_S1024x128_S1_S1024x16_01_n_1_0 (fun _ b => b) (broadcastInDim S1024x128 ![] bcast_S_S1024x128 (constant S_ .f32 0x00000000#32))
    (broadcastInDim S1 ![] bcast_S_S1 (constantI S_ 32 0#32)) (extractStridedSlice S1024x16 ![0, 2048] w slices_S1024x2064_S1024x16_0_2048)

theorem forget_apply (w : FVec Ideal S1024x2064 .f32) (k : Fin 1024) (h : Fin 16) : forget w (ix2 k (lane h)) = w (ix2 k (cf h)) := by
  have read : ∀ (k : Fin 1024) (h : Fin 16), extractStridedSlice S1024x16 ![0, 2048] w slices_S1024x2064_S1024x16_0_2048 (ix2 k h) = w (ix2 k (cf h)) := fun k h => by
    pointwise []
    rfl
  have lands : ∀ (k' : Fin 1024) (h' : Fin 16), scatter_S1024x128_S1_S1024x16_01_n_1_0.resultIdx? (ix2 k' h')
      (broadcastInDim S1 ![] bcast_S_S1 (constantI S_ 32 0#32) : IVec S1 32) = some (ix2 k (lane h)) ↔ k'.val = k.val ∧ h'.val = h.val := fun k' h' => by
    refine (Routing.resultIdx?_ix2 (R := 1024) (C := 128) scatter_S1024x128_S1_S1024x16_01_n_1_0 (ix2 k' h') _ k (lane h)).trans ?_
    have s0 : scatter_S1024x128_S1_S1024x16_01_n_1_0.start (ix2 k' h') (broadcastInDim S1 ![] bcast_S_S1 (constantI S_ 32 0#32) : IVec S1 32) 0 = 0 := by
      unfold ScatterDims.start; split <;> rfl
    have s1 : scatter_S1024x128_S1_S1024x16_01_n_1_0.start (ix2 k' h') (broadcastInDim S1 ![] bcast_S_S1 (constantI S_ 32 0#32) : IVec S1 32) 1 = 0 := by
      unfold ScatterDims.start; split <;> rfl
    have w0 : scatter_S1024x128_S1_S1024x16_01_n_1_0.window (ix2 k' h') 0 = k'.val := rfl
    have w1 : scatter_S1024x128_S1_S1024x16_01_n_1_0.window (ix2 k' h') 1 = h'.val := rfl
    rw [s0, s1, w0, w1]
    show _ ∧ (0 : Int) + (h'.val : Int) = (h.val : Int) ↔ _
    omega
  refine Routing.scatter_set_hit _ _ _ _ _ _ (fun j hj => ?_) (ix2 k h) ((lands k h).2 ⟨rfl, rfl⟩)
  obtain ⟨k', h', rfl⟩ : ∃ (k' : Fin 1024) (h' : Fin 16), j = (ix2 k' h' : S1024x16.Idx) := ⟨j 0, j 1, eq_ix2 j⟩
  obtain ⟨e1, e2⟩ := (lands k' h').1 hj
  obtain rfl := Fin.ext e1
  obtain rfl := Fin.ext e2
  exact read k' h'

/-- The forget biases in the first lanes of nought. -/
def bias (b : FVec Ideal S16 .f32) : FVec Ideal S1x128 .f32 :=
  Host.scatter scatter_S1x128_S2_S16_0_0_01_0 (fun _ b => b) (broadcastInDim S1x128 ![] bcast_S_S1x128 (constant S_ .f32 0x00000000#32))
    (concatenate S2 0 [⟨S1, (broadcastInDim S1 ![] bcast_S_S1 (constantI S_ 32 0#32) : IVec S1 32)⟩, ⟨S1, (broadcastInDim S1 ![] bcast_S_S1 (constantI S_ 32 0#32) : IVec S1 32)⟩] concatenates_S1_S1_S2_d0) b

theorem bias_apply (b : FVec Ideal S16 .f32) (h : Fin 16) : bias b (ix2 0 (lane h)) = b (ix1 h) := by
  have z : ∀ p, (concatenate S2 0 [⟨S1, (broadcastInDim S1 ![] bcast_S_S1 (constantI S_ 32 0#32) : IVec S1 32)⟩, ⟨S1, (broadcastInDim S1 ![] bcast_S_S1 (constantI S_ 32 0#32) : IVec S1 32)⟩] concatenates_S1_S1_S2_d0 : IVec S2 32) p = 0#32 := fun p => by
    obtain ⟨p, rfl⟩ : ∃ p' : Fin 2, p = ix1 p' := ⟨p 0, eq_ix1 p⟩
    revert p
    decide
  have lands : ∀ (h' : Fin 16) (i : IVec S2 32) (hi : ∀ p, i p = 0#32), scatter_S1x128_S2_S16_0_0_01_0.resultIdx? (ix1 h') i = some (ix2 0 (lane h)) ↔ h'.val = h.val := fun h' i hi => by
    refine (Routing.resultIdx?_ix2 (R := 1) (C := 128) scatter_S1x128_S2_S16_0_0_01_0 (ix1 h') i 0 (lane h)).trans ?_
    have s0 : scatter_S1x128_S2_S16_0_0_01_0.start (ix1 h') i 0 = 0 := by
      unfold ScatterDims.start; split
      · rw [hi]; rfl
      · rfl
    have s1 : scatter_S1x128_S2_S16_0_0_01_0.start (ix1 h') i 1 = 0 := by
      unfold ScatterDims.start; split
      · rw [hi]; rfl
      · rfl
    have w0 : scatter_S1x128_S2_S16_0_0_01_0.window (ix1 h') 0 = 0 := rfl
    have w1 : scatter_S1x128_S2_S16_0_0_01_0.window (ix1 h') 1 = h'.val := rfl
    rw [s0, s1, w0, w1]
    show (0 : Int) + ((0 : ℕ) : Int) = ((0 : ℕ) : Int) ∧ (0 : Int) + (h'.val : Int) = (h.val : Int) ↔ _
    omega
  refine Routing.scatter_set_hit _ _ _ _ _ _ (fun j hj => ?_) (ix1 h) ((lands h _ z).2 rfl)
  obtain ⟨h', rfl⟩ : ∃ h' : Fin 16, j = (ix1 h' : S16.Idx) := ⟨j 0, eq_ix1 j⟩
  exact congrArg (fun q => b (ix1 q)) (Fin.ext ((lands h' _ z).1 hj))

/-- The weights beside what their rounding leaves of them. -/
def beside (a : FVec Ideal S1024x128 .f32) : FVec Ideal S1024x256 .bf16 :=
  concatenate S1024x256 1 [⟨S1024x128, truncf .bf16 a bitsLt_bf16_f32⟩, ⟨S1024x128, truncf .bf16 (subf a (extf .f32 (truncf .bf16 a bitsLt_bf16_f32) bitsLt_bf16_f32)) bitsLt_bf16_f32⟩] concatenates_S1024x128_S1024x128_S1024x256_d1

theorem beside_near (a : FVec Ideal S1024x128 .f32) (k : Fin 1024) (l : Fin 128) : beside a (ix2 k (near l)) = a (ix2 k l) := by
  have e : beside a (ix2 k (near l)) = if h : (near l).val < 128 then a (ix2 k ⟨(near l).val, h⟩) else a (ix2 k ⟨(near l).val - 128, by omega⟩) - a (ix2 k ⟨(near l).val - 128, by omega⟩) := by
    pointwise [beside]
  rw [e, dif_pos (show (near l).val < 128 from l.isLt)]
  rfl

theorem beside_far (a : FVec Ideal S1024x128 .f32) (k : Fin 1024) (l : Fin 128) : beside a (ix2 k (far l)) = a (ix2 k l) - a (ix2 k l) := by
  have e : beside a (ix2 k (far l)) = if h : (far l).val < 128 then a (ix2 k ⟨(far l).val, h⟩) else a (ix2 k ⟨(far l).val - 128, by omega⟩) - a (ix2 k ⟨(far l).val - 128, by omega⟩) := by
    pointwise [beside]
  rw [e, dif_neg (show ¬(far l).val < 128 by show ¬128 + l.val < 128; omega)]
  exact congrArg (fun q => a (ix2 k q) - a (ix2 k q)) (Fin.ext (show 128 + l.val - 128 = l.val by omega))

/-! The table the laid parts are gathered by: a row is a part's lane, a column the lane it is laid in, and its opposite's. -/

/-- The lane a row's part is laid in. -/
def laneOf (q : Fin 384) : ℕ := placeOf q.val

/-- The words of the table's two halves. -/
def words0 : FVec Ideal S384x128 .bf16 := fun i => FloatOps.ofBits .bf16 (lit0 (S384x128.rowMajor i))
def words1 : FVec Ideal S384x128 .bf16 := fun i => FloatOps.ofBits .bf16 (lit1 (S384x128.rowMajor i))

theorem zero_bf16 : Ideal.ofBits FTy.bf16 0x0000#16 = 0 := by simp [Ideal.ofBits, Ideal.ieee]

theorem words0_apply (q : Fin 384) (l : Fin 128) : words0 (ix2 q l) = if q.val % 128 < 16 ∧ l.val = laneOf q then -1 else 0 := by
  have e : lit0 (S384x128.rowMajor (ix2 q l)) = lit0t (q.val * 128 + l.val) := congrArg lit0t (Shape.rowMajor_val_two (ix2 q l : S384x128.Idx))
  show Ideal.ofBits FTy.bf16 (lit0 (S384x128.rowMajor (ix2 q l))) = _
  rw [e, word0]
  unfold laneOf
  split
  · rw [Ideal.ofBits_neg_one_bf16]; rfl
  · exact zero_bf16
theorem words1_apply (q : Fin 384) (l : Fin 128) : words1 (ix2 q l) = if q.val % 128 < 16 ∧ l.val = 3 + laneOf q then 1 else 0 := by
  have e : lit1 (S384x128.rowMajor (ix2 q l)) = lit1t (q.val * 128 + l.val) := congrArg lit1t (Shape.rowMajor_val_two (ix2 q l : S384x128.Idx))
  show Ideal.ofBits FTy.bf16 (lit1 (S384x128.rowMajor (ix2 q l))) = _
  rw [e, word1]
  unfold laneOf
  split
  · exact Ideal.ofBits_one_bf16
  · exact zero_bf16

/-- The two halves side by side. -/
def pair (a b : FVec Ideal S384x128 .bf16) : FVec Ideal S384x256 .bf16 := concatenate S384x256 1 [⟨S384x128, a⟩, ⟨S384x128, b⟩] concatenates_S384x128_S384x128_S384x256_d1
theorem pair_apply (a b : FVec Ideal S384x128 .bf16) (q : Fin 384) (n : Fin 256) :
    pair a b (ix2 q n) = if h : n.val < 128 then a (ix2 q ⟨n.val, h⟩) else b (ix2 q ⟨n.val - 128, by omega⟩) := by
  pointwise [pair]

def table : FVec Ideal S384x256 .bf16 := pair words0 words1

theorem table_apply (q : Fin 384) (n : Fin 256) :
    table (ix2 q n) = if q.val % 128 < 16 ∧ n.val = laneOf q then -1 else if q.val % 128 < 16 ∧ n.val = 131 + laneOf q then 1 else 0 := by
  refine (pair_apply words0 words1 q n).trans ?_
  have hq := q.isLt
  have hn := n.isLt
  have hl : q.val % 128 < 16 → laneOf q < 96 := fun h => by unfold laneOf placeOf; omega
  by_cases h : n.val < 128
  · rw [dif_pos h, words0_apply]
    have e : ¬(q.val % 128 < 16 ∧ n.val = 131 + laneOf q) := by omega
    rw [if_neg e]
  · rw [dif_neg h, words1_apply]
    have e : ¬(q.val % 128 < 16 ∧ n.val = laneOf q) := fun c => by have := hl c.1; omega
    rw [if_neg e]
    exact if_congr (and_congr_right fun _ => by show n.val - 128 = 3 + laneOf q ↔ _; omega) rfl rfl

/-- The words of the lanes that are one. -/
def lanes2 : FVec Ideal S1x128 .f32 := fun i => FloatOps.ofBits .f32 (lit2 (S1x128.rowMajor i))
def lanes3 : FVec Ideal S1x128 .f32 := fun i => FloatOps.ofBits .f32 (lit3 (S1x128.rowMajor i))

theorem word2 : ∀ l : Fin 128, lit2 l = if l.val < 96 ∧ 3 ≤ l.val % 6 then 0x3F800000#32 else 0x00000000#32 := by decide +kernel
theorem word3 : ∀ l : Fin 128, lit3 l = if l.val < 96 ∧ l.val % 6 < 3 then 0x3F800000#32 else 0x00000000#32 := by decide +kernel

theorem place (l : Fin 128) : S1x128.rowMajor (ix2 0 l) = l := Fin.ext ((Shape.rowMajor_val_two (ix2 0 l : S1x128.Idx)).trans (show 0 * 128 + l.val = l.val by omega))

theorem lanes2_apply (l : Fin 128) : lanes2 (ix2 0 l) = if l.val < 96 ∧ 3 ≤ l.val % 6 then 1 else 0 := by
  show Ideal.ofBits FTy.f32 (lit2 (S1x128.rowMajor (ix2 0 l))) = _
  rw [place, word2]
  split
  · exact Ideal.ofBits_one_f32
  · exact Ideal.ofBits_zero_f32
theorem lanes3_apply (l : Fin 128) : lanes3 (ix2 0 l) = if l.val < 96 ∧ l.val % 6 < 3 then 1 else 0 := by
  show Ideal.ofBits FTy.f32 (lit3 (S1x128.rowMajor (ix2 0 l))) = _
  rw [place, word3]
  split
  · exact Ideal.ofBits_one_f32
  · exact Ideal.ofBits_zero_f32

def line (a b : FVec Ideal S1x128 .f32) : FVec Ideal S1x256 .f32 := concatenate S1x256 1 [⟨S1x128, a⟩, ⟨S1x128, b⟩] concatenates_S1x128_S1x128_S1x256_d1
theorem line_apply (a b : FVec Ideal S1x128 .f32) (n : Fin 256) :
    line a b (ix2 0 n) = if h : n.val < 128 then a (ix2 0 ⟨n.val, h⟩) else b (ix2 0 ⟨n.val - 128, by omega⟩) := by
  pointwise [line]

def added : FVec Ideal S1x256 .f32 := line lanes2 lanes3

theorem added_apply (n : Fin 256) : added (ix2 0 n) = if n.val % 128 < 96 ∧ (3 ≤ n.val % 128 % 6 ↔ n.val < 128) then 1 else 0 := by
  refine (line_apply lanes2 lanes3 n).trans ?_
  have hn := n.isLt
  by_cases h : n.val < 128
  · rw [dif_pos h, lanes2_apply]
    have e : n.val % 128 = n.val := Nat.mod_eq_of_lt h
    rw [e]
    exact if_congr (and_congr_right fun _ => (iff_true_right h).symm) rfl rfl
  · rw [dif_neg h, lanes3_apply]
    have e : n.val % 128 = n.val - 128 := by omega
    rw [e]
    exact if_congr (and_congr_right fun _ => (Nat.not_le.symm.trans (iff_false_right h).symm)) rfl rfl

/-! What the launch finds in these buffers. -/

variable (m : (ℓ : Loc nD τ sig) → Buf (Elt Ideal) ℓ)

theorem V_v11 (c : Dev nD) : (V m c main_v11 : Vec Ideal S32768x1024 .f32)
    = shapeCast S32768x1024 (m ((c : Thread nD τ).loc main_arg0) : FVec Ideal S8x4096x1024 .f32) shapeCasts_S8x4096x1024_S32768x1024 := by
  show StableHlo.after hostOps0 (fun b => m (c, b)) (Proc.devRef .tc main_v11) = _
  after_results <;> rfl

theorem V_v12 (c : Dev nD) : (V m c main_v12 : Vec Ideal S1x1024 .f32)
    = broadcastInDim S1x1024 ![1] bcast_S1024_S1x1024_1 (m ((c : Thread nD τ).loc main_arg1) : FVec Ideal S1024 .f32) := by
  show StableHlo.after hostOps0 (fun b => m (c, b)) (Proc.devRef .tc main_v12) = _
  after_results <;> rfl

theorem V_v13 (c : Dev nD) : (V m c main_v13 : Vec Ideal S8x1x1024 .f32)
    = broadcastInDim S8x1x1024 ![0, 2] bcast_S8x1024_S8x1x1024_0_2 (m ((c : Thread nD τ).loc main_arg2) : FVec Ideal S8x1024 .f32) := by
  show StableHlo.after hostOps0 (fun b => m (c, b)) (Proc.devRef .tc main_v13) = _
  after_results <;> rfl

theorem V_v14 (c : Dev nD) : (V m c main_v14 : Vec Ideal S8x1x1024 .f32)
    = broadcastInDim S8x1x1024 ![0, 2] bcast_S8x1024_S8x1x1024_0_2 (m ((c : Thread nD τ).loc main_arg3) : FVec Ideal S8x1024 .f32) := by
  show StableHlo.after hostOps0 (fun b => m (c, b)) (Proc.devRef .tc main_v14) = _
  after_results <;> rfl

theorem V_v28 (c : Dev nD) : (V m c main_v28 : Vec Ideal S1024x256 .bf16)
    = beside (forget (m ((c : Thread nD τ).loc main_arg4) : FVec Ideal S1024x2064 .f32)) := by
  show StableHlo.after hostOps0 (fun b => m (c, b)) (Proc.devRef .tc main_v28) = _
  after_results <;> rfl

theorem V_v8 (c : Dev nD) : (V m c main_v8 : Vec Ideal S1x128 .f32)
    = bias (m ((c : Thread nD τ).loc main_arg5) : FVec Ideal S16 .f32) := by
  show StableHlo.after hostOps0 (fun b => m (c, b)) (Proc.devRef .tc main_v8) = _
  after_results <;> rfl

theorem V_v9 (c : Dev nD) : (V m c main_v9 : Vec Ideal S384x256 .bf16)
    = table := by
  show StableHlo.after hostOps0 (fun b => m (c, b)) (Proc.devRef .tc main_v9) = _
  after_results <;> rfl

theorem V_v10 (c : Dev nD) : (V m c main_v10 : Vec Ideal S1x256 .f32)
    = added := by
  show StableHlo.after hostOps0 (fun b => m (c, b)) (Proc.devRef .tc main_v10) = _
  after_results <;> rfl

end Cert.Kernel8Ideal.Closed

end
-- ==== Proof.DecRun.lean ====
module

public import proofs.«01_k».proof.Proof.DecHost

/-! The decays' part of the shared keys' and values' kernel: its blocks read in the arguments as launched, the sums carried from point to point, and the two results in closed form. -/

@[expose] public section

set_option maxRecDepth 16384

noncomputable section

namespace Cert.Kernel8Ideal.Closed

open Cert.Kernel8Ideal Cert.Kernel8Ideal.Gen Cert.Kernel8Ideal.Value Idealize.ShloMosaic Idealize.ShloMosaic.TcCoe Idealize.SL.Sem
open Cert.Kernel4Ideal.Closed (elt pos row elt_row nrow brow modn flat_apply mod_apply vec_apply)
open Cert.Decay

/-! The closed form. -/

/-- The gate's logarithm of a head at a place of a sequence; nought past its end. -/
def gateAt (x0 : FVec Ideal S8x4096x1024 .f32) (x1 : FVec Ideal S1024 .f32) (x2 x3 : FVec Ideal S8x1024 .f32) (x4 : FVec Ideal S1024x2064 .f32) (x5 : FVec Ideal S16 .f32)
    (b : Fin 8) (h : Fin 16) (i : ℕ) : EReal :=
  if hi : i < 4096 then gateLog ((∑ k : Fin 1024, nrow x0 x1 x2 x3 ⟨b.val * 4096 + i, by omega⟩ k * x4 (ix2 k (cf h))) + x5 (ix1 h)) else 0

/-- The sum of the gates' logarithms up to a row, in base two. -/
def decay (x0 : FVec Ideal S8x4096x1024 .f32) (x1 : FVec Ideal S1024 .f32) (x2 x3 : FVec Ideal S8x1024 .f32) (x4 : FVec Ideal S1024x2064 .f32) (x5 : FVec Ideal S16 .f32)
    (R : Fin 32768) (h : Fin 16) : EReal :=
  base2 (∑ i ∈ Finset.range ((pos R).val + 1), gateAt x0 x1 x2 x3 x4 x5 (elt R) h i)

/-- A head's six lanes: for the keys the three parts with their signs changed and three ones, for the queries three ones and the three parts; nought past the heads. -/
def lanesK (f : Fin 16 → EReal) (l : Fin 128) : EReal := if hl : l.val < 96 then if l.val % 6 < 3 then -part (f ⟨l.val / 6, by omega⟩) (l.val % 6) else 1 else 0
def lanesQ (f : Fin 16 → EReal) (l : Fin 128) : EReal := if hl : l.val < 96 then if l.val % 6 < 3 then 1 else part (f ⟨l.val / 6, by omega⟩) (l.val % 6 - 3) else 0

/-- A block's lanes: of the sums by the two tables. -/
theorem laidK (v : FVec Ideal S512x128 .f32) (r : Fin 512) (f : Fin 16 → EReal) (hf : ∀ h, base2 (v (ix2 r (lane h))) = f h) (l : Fin 128) :
    (∑ q : Fin 384, part (base2 (v (ix2 r (⟨q.val % 128, by omega⟩ : Fin 128)))) (q.val / 128) * table (ix2 q (near l))) + added (ix2 0 (near l)) = lanesK f l := by
  have hl := l.isLt
  rw [added_apply]
  have t : ∀ q : Fin 384, table (ix2 q (near l)) = if q.val % 128 < 16 ∧ l.val = laneOf q then -1 else 0 := fun q => by
    rw [table_apply]
    show (if q.val % 128 < 16 ∧ l.val = laneOf q then (-1 : EReal) else if q.val % 128 < 16 ∧ l.val = 131 + laneOf q then 1 else 0) = _
    rw [if_neg (show ¬(q.val % 128 < 16 ∧ l.val = 131 + laneOf q) by omega)]
  simp only [t]
  show _ + (if l.val % 128 < 96 ∧ (3 ≤ l.val % 128 % 6 ↔ l.val < 128) then (1 : EReal) else 0) = _
  unfold lanesK
  by_cases h96 : l.val < 96
  · rw [dif_pos h96]
    by_cases h3 : l.val % 6 < 3
    · rw [if_pos h3, if_neg (by omega), add_zero]
      have hq : l.val % 6 * 128 + l.val / 6 < 384 := by omega
      rw [Finset.sum_eq_single (⟨l.val % 6 * 128 + l.val / 6, hq⟩ : Fin 384)]
      · have a1 : (l.val % 6 * 128 + l.val / 6) % 128 = l.val / 6 := by omega
        have a2 : (l.val % 6 * 128 + l.val / 6) / 128 = l.val % 6 := by omega
        rw [if_pos (by unfold laneOf placeOf; dsimp only; rw [a1, a2]; omega), mul_neg, mul_one]
        have e : (⟨(l.val % 6 * 128 + l.val / 6) % 128, by omega⟩ : Fin 128) = lane ⟨l.val / 6, by omega⟩ := Fin.ext (show (l.val % 6 * 128 + l.val / 6) % 128 = l.val / 6 by omega)
        show -part (base2 (v (ix2 r (⟨(l.val % 6 * 128 + l.val / 6) % 128, by omega⟩ : Fin 128)))) ((l.val % 6 * 128 + l.val / 6) / 128) = _
        rw [e, hf, show (l.val % 6 * 128 + l.val / 6) / 128 = l.val % 6 by omega]
      · intro q _ hne
        rw [if_neg, mul_zero]
        rintro ⟨h, h'⟩
        unfold laneOf placeOf at h'
        exact hne (Fin.ext (show q.val = l.val % 6 * 128 + l.val / 6 by omega))
      · intro h; exact (h (Finset.mem_univ _)).elim
    · rw [if_neg h3, if_pos (by omega), Finset.sum_eq_zero, zero_add]
      intro q _
      rw [if_neg, mul_zero]
      rintro ⟨h, h'⟩
      unfold laneOf placeOf at h'
      have hb : q.val / 128 < 3 := by omega
      generalize q.val / 128 = b at h' hb
      generalize q.val % 128 = a at h'
      omega
  · rw [dif_neg h96, if_neg (by omega), Finset.sum_eq_zero, zero_add]
    intro q _
    rw [if_neg, mul_zero]
    rintro ⟨h, h'⟩
    unfold laneOf placeOf at h'
    omega

theorem laidQ (v : FVec Ideal S512x128 .f32) (r : Fin 512) (f : Fin 16 → EReal) (hf : ∀ h, base2 (v (ix2 r (lane h))) = f h) (l : Fin 128) :
    (∑ q : Fin 384, part (base2 (v (ix2 r (⟨q.val % 128, by omega⟩ : Fin 128)))) (q.val / 128) * table (ix2 q (far l))) + added (ix2 0 (far l)) = lanesQ f l := by
  have hl := l.isLt
  rw [added_apply]
  have t : ∀ q : Fin 384, table (ix2 q (far l)) = if q.val % 128 < 16 ∧ l.val = 3 + laneOf q then 1 else 0 := fun q => by
    rw [table_apply]
    show (if q.val % 128 < 16 ∧ 128 + l.val = laneOf q then (-1 : EReal) else if q.val % 128 < 16 ∧ 128 + l.val = 131 + laneOf q then 1 else 0) = _
    rw [if_neg (show ¬(q.val % 128 < 16 ∧ 128 + l.val = laneOf q) by unfold laneOf placeOf; omega)]
    exact if_congr (by omega) rfl rfl
  simp only [t]
  show _ + (if (128 + l.val) % 128 < 96 ∧ (3 ≤ (128 + l.val) % 128 % 6 ↔ 128 + l.val < 128) then (1 : EReal) else 0) = _
  unfold lanesQ
  by_cases h96 : l.val < 96
  · rw [dif_pos h96]
    by_cases h3 : l.val % 6 < 3
    · rw [if_pos h3, if_pos (by omega), Finset.sum_eq_zero, zero_add]
      intro q _
      rw [if_neg, mul_zero]
      rintro ⟨h, h'⟩
      unfold laneOf placeOf at h'
      have hb : q.val / 128 < 3 := by omega
      generalize q.val / 128 = b at h' hb
      generalize q.val % 128 = a at h'
      omega
    · rw [if_neg h3, if_neg (by omega), add_zero]
      have hq : (l.val % 6 - 3) * 128 + l.val / 6 < 384 := by omega
      rw [Finset.sum_eq_single (⟨(l.val % 6 - 3) * 128 + l.val / 6, hq⟩ : Fin 384)]
      · have a1 : ((l.val % 6 - 3) * 128 + l.val / 6) % 128 = l.val / 6 := by omega
        have a2 : ((l.val % 6 - 3) * 128 + l.val / 6) / 128 = l.val % 6 - 3 := by omega
        rw [if_pos (by unfold laneOf placeOf; dsimp only; rw [a1, a2]; omega), mul_one]
        have e : (⟨((l.val % 6 - 3) * 128 + l.val / 6) % 128, by omega⟩ : Fin 128) = lane ⟨l.val / 6, by omega⟩ := Fin.ext (show ((l.val % 6 - 3) * 128 + l.val / 6) % 128 = l.val / 6 by omega)
        show part (base2 (v (ix2 r (⟨((l.val % 6 - 3) * 128 + l.val / 6) % 128, by omega⟩ : Fin 128)))) (((l.val % 6 - 3) * 128 + l.val / 6) / 128) = _
        rw [e, hf, show ((l.val % 6 - 3) * 128 + l.val / 6) / 128 = l.val % 6 - 3 by omega]
      · intro q _ hne
        rw [if_neg, mul_zero]
        rintro ⟨h, h'⟩
        unfold laneOf placeOf at h'
        exact hne (Fin.ext (show q.val = (l.val % 6 - 3) * 128 + l.val / 6 by omega))
      · intro h; exact (h (Finset.mem_univ _)).elim
  · rw [dif_neg h96, if_neg (by omega), Finset.sum_eq_zero, zero_add]
    intro q _
    rw [if_neg, mul_zero]
    rintro ⟨h, h'⟩
    unfold laneOf placeOf at h'
    omega

variable (m : (ℓ : Loc nD τ sig) → Buf (Elt Ideal) ℓ)

/-- The block each window reads at a point. -/
theorem idx : ∀ t : Fin cfg0.N, win0_0.index t = ![t.val, 0] ∧ win0_1.index t = ![0, 0] ∧ win0_2.index t = ![t.val / 8, 0, 0] ∧ win0_3.index t = ![t.val / 8, 0, 0] ∧ win0_6.index t = ![0, 0] ∧ win0_7.index t = ![0, 0] ∧ win0_9.index t = ![0, 0] ∧ win0_10.index t = ![0, 0] ∧ win0_13.index t = ![t.val, 0] ∧ win0_14.index t = ![t.val, 0] :=
  (by decide +kernel : ∀ t : Fin grid0.N, _)

theorem emb0 (t : Fin cfg0.N) (r : Fin 512) (k : Fin 1024) :
    ((cfg0.win 0).blk t).view.emb (ix2 r k : S512x1024.Idx) = (ix2 (row t r) k : S32768x1024.Idx) := by
  have e := (idx t).1
  funext a; apply Fin.ext
  match a with
  | ⟨0, _⟩ => show win0_0.index t (0 : Fin 2) * 512 + 1 * r.val = t.val * 512 + r.val; rw [e]; show t.val * 512 + 1 * r.val = _; omega
  | ⟨1, _⟩ => show win0_0.index t (1 : Fin 2) * 1024 + 1 * k.val = k.val; rw [e]; show 0 * 1024 + 1 * k.val = _; omega

theorem emb1 (t : Fin cfg0.N) (k : Fin 1024) :
    ((cfg0.win 1).blk t).view.emb (ix2 0 k : S1x1024.Idx) = (ix2 0 k : S1x1024.Idx) := by
  have e := (idx t).2.1
  funext a; apply Fin.ext
  match a with
  | ⟨0, _⟩ => show win0_1.index t (0 : Fin 2) * 1 + 1 * 0 = 0; rw [e]; rfl
  | ⟨1, _⟩ => show win0_1.index t (1 : Fin 2) * 1024 + 1 * k.val = k.val; rw [e]; show 0 * 1024 + 1 * k.val = _; omega

theorem emb2 (t : Fin cfg0.N) (k : Fin 1024) :
    ((cfg0.win 2).blk t).view.emb (ix3 0 0 k : S1x1x1024.Idx) = (ix3 (⟨t.val / 8, by have : t.val < 64 := t.isLt; omega⟩ : Fin 8) 0 k : S8x1x1024.Idx) := by
  have e := (idx t).2.2.1
  funext a; apply Fin.ext
  match a with
  | ⟨0, _⟩ => show win0_2.index t (0 : Fin 3) * 1 + 1 * 0 = t.val / 8; rw [e]; show t.val / 8 * 1 + 1 * 0 = _; omega
  | ⟨1, _⟩ => show win0_2.index t (1 : Fin 3) * 1 + 1 * 0 = 0; rw [e]; rfl
  | ⟨2, _⟩ => show win0_2.index t (2 : Fin 3) * 1024 + 1 * k.val = k.val; rw [e]; show 0 * 1024 + 1 * k.val = _; omega

theorem emb3 (t : Fin cfg0.N) (k : Fin 1024) :
    ((cfg0.win 3).blk t).view.emb (ix3 0 0 k : S1x1x1024.Idx) = (ix3 (⟨t.val / 8, by have : t.val < 64 := t.isLt; omega⟩ : Fin 8) 0 k : S8x1x1024.Idx) := by
  have e := (idx t).2.2.2.1
  funext a; apply Fin.ext
  match a with
  | ⟨0, _⟩ => show win0_3.index t (0 : Fin 3) * 1 + 1 * 0 = t.val / 8; rw [e]; show t.val / 8 * 1 + 1 * 0 = _; omega
  | ⟨1, _⟩ => show win0_3.index t (1 : Fin 3) * 1 + 1 * 0 = 0; rw [e]; rfl
  | ⟨2, _⟩ => show win0_3.index t (2 : Fin 3) * 1024 + 1 * k.val = k.val; rw [e]; show 0 * 1024 + 1 * k.val = _; omega

theorem emb6 (t : Fin cfg0.N) (r : Fin 1024) (k : Fin 256) :
    ((cfg0.win 6).blk t).view.emb (ix2 r k : S1024x256.Idx) = (ix2 r k : S1024x256.Idx) := by
  have e := (idx t).2.2.2.2.1
  funext a; apply Fin.ext
  match a with
  | ⟨0, _⟩ => show win0_6.index t (0 : Fin 2) * 1024 + 1 * r.val = r.val; rw [e]; show 0 * 1024 + 1 * r.val = _; omega
  | ⟨1, _⟩ => show win0_6.index t (1 : Fin 2) * 256 + 1 * k.val = k.val; rw [e]; show 0 * 256 + 1 * k.val = _; omega

theorem emb7 (t : Fin cfg0.N) (r : Fin 1) (k : Fin 128) :
    ((cfg0.win 7).blk t).view.emb (ix2 r k : S1x128.Idx) = (ix2 r k : S1x128.Idx) := by
  have e := (idx t).2.2.2.2.2.1
  funext a; apply Fin.ext
  match a with
  | ⟨0, _⟩ => show win0_7.index t (0 : Fin 2) * 1 + 1 * r.val = r.val; rw [e]; show 0 * 1 + 1 * r.val = _; omega
  | ⟨1, _⟩ => show win0_7.index t (1 : Fin 2) * 128 + 1 * k.val = k.val; rw [e]; show 0 * 128 + 1 * k.val = _; omega

theorem emb9 (t : Fin cfg0.N) (r : Fin 384) (k : Fin 256) :
    ((cfg0.win 9).blk t).view.emb (ix2 r k : S384x256.Idx) = (ix2 r k : S384x256.Idx) := by
  have e := (idx t).2.2.2.2.2.2.1
  funext a; apply Fin.ext
  match a with
  | ⟨0, _⟩ => show win0_9.index t (0 : Fin 2) * 384 + 1 * r.val = r.val; rw [e]; show 0 * 384 + 1 * r.val = _; omega
  | ⟨1, _⟩ => show win0_9.index t (1 : Fin 2) * 256 + 1 * k.val = k.val; rw [e]; show 0 * 256 + 1 * k.val = _; omega

theorem emb10 (t : Fin cfg0.N) (r : Fin 1) (k : Fin 256) :
    ((cfg0.win 10).blk t).view.emb (ix2 r k : S1x256.Idx) = (ix2 r k : S1x256.Idx) := by
  have e := (idx t).2.2.2.2.2.2.2.1
  funext a; apply Fin.ext
  match a with
  | ⟨0, _⟩ => show win0_10.index t (0 : Fin 2) * 1 + 1 * r.val = r.val; rw [e]; show 0 * 1 + 1 * r.val = _; omega
  | ⟨1, _⟩ => show win0_10.index t (1 : Fin 2) * 256 + 1 * k.val = k.val; rw [e]; show 0 * 256 + 1 * k.val = _; omega

theorem emb13 (t : Fin cfg0.N) (r : Fin 512) (k : Fin 128) :
    ((cfg0.win 13).blk t).view.emb (ix2 r k : S512x128.Idx) = (ix2 (row t r) k : S32768x128.Idx) := by
  have e := (idx t).2.2.2.2.2.2.2.2.1
  funext a; apply Fin.ext
  match a with
  | ⟨0, _⟩ => show win0_13.index t (0 : Fin 2) * 512 + 1 * r.val = t.val * 512 + r.val; rw [e]; show t.val * 512 + 1 * r.val = _; omega
  | ⟨1, _⟩ => show win0_13.index t (1 : Fin 2) * 128 + 1 * k.val = k.val; rw [e]; show 0 * 128 + 1 * k.val = _; omega

theorem emb14 (t : Fin cfg0.N) (r : Fin 512) (k : Fin 128) :
    ((cfg0.win 14).blk t).view.emb (ix2 r k : S512x128.Idx) = (ix2 (row t r) k : S32768x128.Idx) := by
  have e := (idx t).2.2.2.2.2.2.2.2.2
  funext a; apply Fin.ext
  match a with
  | ⟨0, _⟩ => show win0_14.index t (0 : Fin 2) * 512 + 1 * r.val = t.val * 512 + r.val; rw [e]; show t.val * 512 + 1 * r.val = _; omega
  | ⟨1, _⟩ => show win0_14.index t (1 : Fin 2) * 128 + 1 * k.val = k.val; rw [e]; show 0 * 128 + 1 * k.val = _; omega

/-! The windows' blocks at a point, read in the arguments as launched. -/

theorem blk0 (c : Dev nD) (t : Fin cfg0.N) (r : Fin 512) (k : Fin 1024) :
    (iblk m c 0 t : Vec Ideal S512x1024 .f32) (ix2 r k)
      = (m ((c : Thread nD τ).loc main_arg0) : FVec Ideal S8x4096x1024 .f32) (ix3 (elt (row t r)) (pos (row t r)) k) := by
  show (V m c main_v11 : Vec Ideal S32768x1024 .f32) (((cfg0.win 0).blk t).view.emb (ix2 r k : S512x1024.Idx)) = _
  rw [emb0, V_v11]
  exact flat_apply _ _ _

theorem blk1 (c : Dev nD) (t : Fin cfg0.N) (k : Fin 1024) :
    (iblk m c 1 t : Vec Ideal S1x1024 .f32) (ix2 0 k) = (m ((c : Thread nD τ).loc main_arg1) : FVec Ideal S1024 .f32) (ix1 k) := by
  show (V m c main_v12 : Vec Ideal S1x1024 .f32) (((cfg0.win 1).blk t).view.emb (ix2 0 k : S1x1024.Idx)) = _
  rw [emb1, V_v12]
  exact vec_apply _ _

theorem blk2 (c : Dev nD) (t : Fin cfg0.N) (r : Fin 512) (k : Fin 1024) :
    (iblk m c 2 t : Vec Ideal S1x1x1024 .f32) (ix3 0 0 k) = (m ((c : Thread nD τ).loc main_arg2) : FVec Ideal S8x1024 .f32) (ix2 (elt (row t r)) k) := by
  show (V m c main_v13 : Vec Ideal S8x1x1024 .f32) (((cfg0.win 2).blk t).view.emb (ix3 0 0 k : S1x1x1024.Idx)) = _
  rw [emb2, V_v13, ← elt_row t r]
  exact mod_apply _ _ _

theorem blk3 (c : Dev nD) (t : Fin cfg0.N) (r : Fin 512) (k : Fin 1024) :
    (iblk m c 3 t : Vec Ideal S1x1x1024 .f32) (ix3 0 0 k) = (m ((c : Thread nD τ).loc main_arg3) : FVec Ideal S8x1024 .f32) (ix2 (elt (row t r)) k) := by
  show (V m c main_v14 : Vec Ideal S8x1x1024 .f32) (((cfg0.win 3).blk t).view.emb (ix3 0 0 k : S1x1x1024.Idx)) = _
  rw [emb3, V_v14, ← elt_row t r]
  exact mod_apply _ _ _

theorem blk6 (c : Dev nD) (t : Fin cfg0.N) (r : Fin 1024) (k : Fin 256) :
    (iblk m c 6 t : Vec Ideal S1024x256 .bf16) (ix2 r k) = beside (forget (m ((c : Thread nD τ).loc main_arg4) : FVec Ideal S1024x2064 .f32)) (ix2 r k) := by
  show (V m c main_v28 : Vec Ideal S1024x256 .bf16) (((cfg0.win 6).blk t).view.emb (ix2 r k : S1024x256.Idx)) = _
  rw [emb6, V_v28]

theorem blk7 (c : Dev nD) (t : Fin cfg0.N) (r : Fin 1) (k : Fin 128) :
    (iblk m c 7 t : Vec Ideal S1x128 .f32) (ix2 r k) = bias (m ((c : Thread nD τ).loc main_arg5) : FVec Ideal S16 .f32) (ix2 r k) := by
  show (V m c main_v8 : Vec Ideal S1x128 .f32) (((cfg0.win 7).blk t).view.emb (ix2 r k : S1x128.Idx)) = _
  rw [emb7, V_v8]

theorem blk9 (c : Dev nD) (t : Fin cfg0.N) (r : Fin 384) (k : Fin 256) :
    (iblk m c 9 t : Vec Ideal S384x256 .bf16) (ix2 r k) = table (ix2 r k) := by
  show (V m c main_v9 : Vec Ideal S384x256 .bf16) (((cfg0.win 9).blk t).view.emb (ix2 r k : S384x256.Idx)) = _
  rw [emb9, V_v9]

theorem blk10 (c : Dev nD) (t : Fin cfg0.N) (r : Fin 1) (k : Fin 256) :
    (iblk m c 10 t : Vec Ideal S1x256 .f32) (ix2 r k) = added (ix2 r k) := by
  show (V m c main_v10 : Vec Ideal S1x256 .f32) (((cfg0.win 10).blk t).view.emb (ix2 r k : S1x256.Idx)) = _
  rw [emb10, V_v10]

/-- A point's modulated row is the array's. -/
theorem brow_eq (c : Dev nD) (t : Fin cfg0.N) (r : Fin 512) :
    brow (iblk m c 0 t) (iblk m c 1 t) (iblk m c 2 t) (iblk m c 3 t) r
      = nrow (m ((c : Thread nD τ).loc main_arg0)) (m ((c : Thread nD τ).loc main_arg1)) (m ((c : Thread nD τ).loc main_arg2)) (m ((c : Thread nD τ).loc main_arg3)) (row t r) := by
  unfold brow nrow
  simp only [blk0, blk1, fun k => blk2 m c t r k, fun k => blk3 m c t r k]

/-- The launch's vectors and forget weights are real numbers. -/
structure RealAt (c : Dev nD) : Prop where
  g : ∀ k : Fin 1024, Real' ((m ((c : Thread nD τ).loc main_arg1) : FVec Ideal S1024 .f32) (ix1 k))
  sh : ∀ (b : Fin 8) (k : Fin 1024), Real' ((m ((c : Thread nD τ).loc main_arg2) : FVec Ideal S8x1024 .f32) (ix2 b k))
  sc : ∀ (b : Fin 8) (k : Fin 1024), Real' ((m ((c : Thread nD τ).loc main_arg3) : FVec Ideal S8x1024 .f32) (ix2 b k))
  w : ∀ (k : Fin 1024) (h : Fin 16), Real' ((m ((c : Thread nD τ).loc main_arg4) : FVec Ideal S1024x2064 .f32) (ix2 k (cf h)))

/-- The gates' logarithms and the decays of the arguments as launched. -/
def gateOf (c : Dev nD) : Fin 8 → Fin 16 → ℕ → EReal :=
  gateAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
def decayOf (c : Dev nD) : Fin 32768 → Fin 16 → EReal :=
  decay (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- A block's logits: the three-part product is the one product. -/
theorem logit_eq (c : Dev nD) (ok : RealAt m c) (t : Fin cfg0.N) (r : Fin 512) (h : Fin 16) :
    gateLog (logit (k0_pay6 (iblk m c 0 t) (iblk m c 1 t) (iblk m c 2 t) (iblk m c 3 t)) (iblk m c 6 t) (again (iblk m c 6 t)) (iblk m c 7 t) (ix2 r (lane h)))
      = gateOf m c (⟨t.val / 8, by have : t.val < 64 := t.isLt; omega⟩ : Fin 8) h (t.val % 8 * 512 + r.val) := by
  have ht : t.val < 64 := t.isLt
  rw [logit_apply]
  simp only [rows_apply, again_apply, blk6, blk7, beside_near, beside_far, forget_apply, bias_apply, brow_eq]
  have key := threeParts (x := nrow (m ((c : Thread nD τ).loc main_arg0)) (m ((c : Thread nD τ).loc main_arg1)) (m ((c : Thread nD τ).loc main_arg2)) (m ((c : Thread nD τ).loc main_arg3)) (row t r))
    (w := fun k => (m ((c : Thread nD τ).loc main_arg4) : FVec Ideal S1024x2064 .f32) (ix2 k (cf h))) (fun k => real_modn ok.g (ok.sh _) (ok.sc _) k) (fun k => ok.w k h)
  refine (congrArg (fun z => gateLog (z + (m ((c : Thread nD τ).loc main_arg5) : FVec Ideal S16 .f32) (ix1 h))) key).trans ?_
  unfold gateOf gateAt
  have hi : t.val % 8 * 512 + r.val < 4096 := by omega
  rw [dif_pos hi]
  have e : row t r = (⟨t.val / 8 * 4096 + (t.val % 8 * 512 + r.val), by omega⟩ : Fin 32768) := Fin.ext (show t.val * 512 + r.val = t.val / 8 * 4096 + (t.val % 8 * 512 + r.val) by omega)
  exact congrArg (fun R => gateLog ((∑ k : Fin 1024, nrow (m ((c : Thread nD τ).loc main_arg0)) (m ((c : Thread nD τ).loc main_arg1)) (m ((c : Thread nD τ).loc main_arg2)) (m ((c : Thread nD τ).loc main_arg3)) R k
    * (m ((c : Thread nD τ).loc main_arg4) : FVec Ideal S1024x2064 .f32) (ix2 k (cf h))) + (m ((c : Thread nD τ).loc main_arg5) : FVec Ideal S16 .f32) (ix1 h))) e

/-- The running sums at a point, given what is carried into it. -/
theorem sums_step (c : Dev nD) (ok : RealAt m c) (h : Fin 16) (t : Fin cfg0.N)
    (hs : into m c t (ix2 0 (lane h)) = ∑ i ∈ Finset.range (t.val % 8 * 512), gateOf m c (⟨t.val / 8, by have : t.val < 64 := t.isLt; omega⟩ : Fin 8) h i) (r : Fin 512) :
    sums m c t (into m c t) (ix2 r (lane h))
      = ∑ i ∈ Finset.range (t.val % 8 * 512 + (r.val + 1)), gateOf m c (⟨t.val / 8, by have : t.val < 64 := t.isLt; omega⟩ : Fin 8) h i := by
  unfold sums
  rw [running_apply _ _ _ _ _ (lane h) (fun i => gateOf m c (⟨t.val / 8, by have : t.val < 64 := t.isLt; omega⟩ : Fin 8) h (t.val % 8 * 512 + i)) (fun r => logit_eq m c ok t r h) r, hs,
    Finset.sum_range_add _ (t.val % 8 * 512) (r.val + 1), add_comm]

/-- What is carried into a point is the sum of the sequence's rows before it. -/
theorem into_eq (c : Dev nD) (ok : RealAt m c) (h : Fin 16) : ∀ (n : ℕ) (t : Fin cfg0.N), t.val = n →
    into m c t (ix2 0 (lane h)) = ∑ i ∈ Finset.range (t.val % 8 * 512), gateOf m c (⟨t.val / 8, by have : t.val < 64 := t.isLt; omega⟩ : Fin 8) h i := by
  intro n
  induction n with
  | zero =>
    intro t ht
    rw [show into m c t = (k0_pay5 : FVec Ideal S1x128 .f32) from dif_pos (by rw [ht]), nought_apply, show t.val % 8 * 512 = 0 by rw [ht], Finset.sum_range_zero]
  | succ n ih =>
    intro t ht
    by_cases h0 : t.val % 8 = 0
    · rw [show into m c t = (k0_pay5 : FVec Ideal S1x128 .f32) from dif_pos h0, nought_apply, h0, Finset.sum_range_zero]
    · have hp : t.val - 1 < cfg0.N := by have := t.isLt; omega
      have hb : (t.val - 1) / 8 = t.val / 8 := by omega
      rw [show into m c t = (outsAt0 m c (t.val - 1) hp).2.2.2.2 from dif_neg h0]
      refine (congrFun (leftS m c ⟨t.val - 1, hp⟩) (ix2 0 (lane h))).trans ?_
      rw [last_apply, sums_step m c ok h ⟨t.val - 1, hp⟩ (ih ⟨t.val - 1, hp⟩ (by show t.val - 1 = n; omega)) 511]
      have e : (t.val - 1) % 8 * 512 + ((511 : Fin 512).val + 1) = t.val % 8 * 512 := by show (t.val - 1) % 8 * 512 + (511 + 1) = _; omega
      show (∑ i ∈ Finset.range ((t.val - 1) % 8 * 512 + ((511 : Fin 512).val + 1)), _) = _
      rw [e]
      refine Finset.sum_congr rfl fun i _ => congrArg (fun b => gateOf m c b h i) (Fin.ext hb)

/-- A row's sums in base two are its decays. -/
theorem decay_eq (c : Dev nD) (ok : RealAt m c) (t : Fin cfg0.N) (r : Fin 512) (h : Fin 16) :
    base2 (sums m c t (into m c t) (ix2 r (lane h))) = decayOf m c (row t r) h := by
  have ht : t.val < 64 := t.isLt
  rw [sums_step m c ok h t (into_eq m c ok h t.val t rfl) r]
  unfold decayOf decay
  have e : (pos (row t r)).val + 1 = t.val % 8 * 512 + (r.val + 1) := by show (t.val * 512 + r.val) % 4096 + 1 = _; omega
  rw [e, ← elt_row t r]
  rfl

/-- The two results on the arguments as launched. -/
def resKa (c : Dev nD) : FVec Ideal S32768x128 .bf16 := fun j => lanesK (decayOf m c (j 0)) (j 1)
def resQa (c : Dev nD) : FVec Ideal S32768x128 .bf16 := fun j => lanesQ (decayOf m c (j 0)) (j 1)

theorem flushed_eqKa (c : Dev nD) (ok : RealAt m c) (t : Fin cfg0.N) :
    (dats m 0 c).flushed 13 t = ((cfg0.win 13).blk t).view.read (Elt Ideal) (resKa m c) := by
  rw [flushed13, leftKa]
  funext j
  obtain ⟨r, l, rfl⟩ : ∃ (r : Fin 512) (l : Fin 128), j = (ix2 r l : S512x128.Idx) := ⟨j 0, j 1, eq_ix2 j⟩
  refine (bodyKa_apply _ _ _ r l).trans ?_
  show _ = resKa m c (((cfg0.win 13).blk t).view.emb (ix2 r l : S512x128.Idx))
  rw [emb13]
  simp only [blk9, blk10]
  exact laidK _ r _ (fun h => decay_eq m c ok t r h) l

theorem coveredKa (i : S32768x128.Idx) : ∃ t : Fin cfg0.N, (cfg0.win 13).flush t = true ∧ i ∈ ((cfg0.win 13).blk t).view.set := by
  obtain ⟨R, k, rfl⟩ : ∃ (R : Fin 32768) (k : Fin 128), i = ix2 R k := ⟨i 0, i 1, eq_ix2 i⟩
  refine ⟨(⟨R.val / 512, by show _ < 64; omega⟩ : Fin cfg0.N), flush0_13 _, ?_⟩
  have e : R = row (⟨R.val / 512, by omega⟩ : Fin 64) ⟨R.val % 512, by omega⟩ := Fin.ext (show R.val = R.val / 512 * 512 + R.val % 512 by omega)
  rw [(congrArg (fun q : Fin 32768 => (ix2 q k : S32768x128.Idx)) e).trans (emb13 (⟨R.val / 512, by show _ < 64; omega⟩ : Fin cfg0.N) ⟨R.val % 512, by omega⟩ k).symm]
  exact View.emb_mem_set _ _

theorem finalKa (c : Dev nD) (ok : RealAt m c) : (dats m 0 c).arrAt 13 cfg0.N = resKa m c :=
  (dats m 0 c).arrAt_eq_of_cover 13 (resKa m c) (fun t _ => flushed_eqKa m c ok t) coveredKa

theorem flushed_eqQa (c : Dev nD) (ok : RealAt m c) (t : Fin cfg0.N) :
    (dats m 0 c).flushed 14 t = ((cfg0.win 14).blk t).view.read (Elt Ideal) (resQa m c) := by
  rw [flushed14, leftQa]
  funext j
  obtain ⟨r, l, rfl⟩ : ∃ (r : Fin 512) (l : Fin 128), j = (ix2 r l : S512x128.Idx) := ⟨j 0, j 1, eq_ix2 j⟩
  refine (bodyQa_apply _ _ _ r l).trans ?_
  show _ = resQa m c (((cfg0.win 14).blk t).view.emb (ix2 r l : S512x128.Idx))
  rw [emb14]
  simp only [blk9, blk10]
  exact laidQ _ r _ (fun h => decay_eq m c ok t r h) l

theorem coveredQa (i : S32768x128.Idx) : ∃ t : Fin cfg0.N, (cfg0.win 14).flush t = true ∧ i ∈ ((cfg0.win 14).blk t).view.set := by
  obtain ⟨R, k, rfl⟩ : ∃ (R : Fin 32768) (k : Fin 128), i = ix2 R k := ⟨i 0, i 1, eq_ix2 i⟩
  refine ⟨(⟨R.val / 512, by show _ < 64; omega⟩ : Fin cfg0.N), flush0_14 _, ?_⟩
  have e : R = row (⟨R.val / 512, by omega⟩ : Fin 64) ⟨R.val % 512, by omega⟩ := Fin.ext (show R.val = R.val / 512 * 512 + R.val % 512 by omega)
  rw [(congrArg (fun q : Fin 32768 => (ix2 q k : S32768x128.Idx)) e).trans (emb14 (⟨R.val / 512, by show _ < 64; omega⟩ : Fin cfg0.N) ⟨R.val % 512, by omega⟩ k).symm]
  exact View.emb_mem_set _ _

theorem finalQa (c : Dev nD) (ok : RealAt m c) : (dats m 0 c).arrAt 14 cfg0.N = resQa m c :=
  (dats m 0 c).arrAt_eq_of_cover 14 (resQa m c) (fun t _ => flushed_eqQa m c ok t) coveredQa

end Cert.Kernel8Ideal.Closed

end
-- ==== Proof.DecRef.lean ====
module

public import proofs.«01_k».proof.Proof.DecRun
public import proofs.«01_k».proof.Proof.Gen.Ref8Ideal.Run
public import Idealize.ShloMosaic.Lib.Routing.Ops

/-! The decays as the reference writes them: the whole logits at once, one running sum along the sequence, and the lanes laid by joining arrays. -/

@[expose] public section

set_option maxRecDepth 16384

noncomputable section

namespace Cert.Decays

open Cert.Ref8Ideal Cert.Ref8Ideal.Gen Idealize.ShloMosaic Idealize.ShloMosaic.TcCoe Idealize.SL.Sem
open Cert.Kernel4Ideal.Closed (elt pos nrow)
open Cert.Kernel8Ideal.Closed (cf base2 part gateAt decay lanesK lanesQ)
open Cert.QueryProj (normed normed_apply)
open Cert.Decay

/-- The logits' opposites. -/
def opp (z : FVec Ideal S8x4096x1024 .f32) (w : FVec Ideal S1024x2064 .f32) (fb : FVec Ideal S16 .f32) : FVec Ideal S8x4096x16 .f32 :=
  Host.negf (addf (Host.dotGeneral dot_S8x4096x1024_S1024x16_S8x4096x16_2_0_01_1_n_n none z (extractStridedSlice S1024x16 ![0, 2048] w slices_S1024x2064_S1024x16_0_2048))
    (broadcastInDim S8x4096x16 ![0, 1, 2] bcast_S1x1x16_S8x4096x16_0_1_2 (broadcastInDim S1x1x16 ![2] bcast_S16_S1x1x16_2 fb)))

theorem opp_apply (z : FVec Ideal S8x4096x1024 .f32) (w : FVec Ideal S1024x2064 .f32) (fb : FVec Ideal S16 .f32) (b : Fin 8) (s : Fin 4096) (h : Fin 16) :
    opp z w fb (ix3 b s h) = -((∑ k : Fin 1024, z (ix3 b s k) * w (ix2 k (cf h))) + fb (ix1 h)) := by
  pointwise [opp]
  rfl

/-- The gates' logarithms of the logits' opposites. -/
def logs (a : FVec Ideal S8x4096x16 .f32) : FVec Ideal S8x4096x16 .f32 :=
  Host.negf (select (cmpf .une (subf a (broadcastInDim S8x4096x16 ![] bcast_S_S8x4096x16 (constant S_ .f32 0x00000000#32))) (subf a (broadcastInDim S8x4096x16 ![] bcast_S_S8x4096x16 (constant S_ .f32 0x00000000#32))))
    (addf a (broadcastInDim S8x4096x16 ![] bcast_S_S8x4096x16 (constant S_ .f32 0x00000000#32)))
    (addf (maximumf a (broadcastInDim S8x4096x16 ![] bcast_S_S8x4096x16 (constant S_ .f32 0x00000000#32)))
      (Host.log1p (Host.exp (Host.negf (Host.absf (subf a (broadcastInDim S8x4096x16 ![] bcast_S_S8x4096x16 (constant S_ .f32 0x00000000#32)))))))))

theorem logs_apply (a : FVec Ideal S8x4096x16 .f32) (b : Fin 8) (s : Fin 4096) (h : Fin 16) : logs a (ix3 b s h) = gateLog (-a (ix3 b s h)) := by
  rw [← gateLog_eq, neg_neg]
  pointwise [logs]
  rw [if_neg (fun h => h rfl)]
  rfl

/-- A sum of products over a list, in order, is their sum. -/
theorem foldl_add {ι : Type} (l : List ι) (F : ι → EReal) (v : EReal) : l.foldl (fun r n => r + F n) v = v + (l.map F).sum := by
  induction l generalizing v with
  | nil => simp
  | cons n l ih => rw [List.foldl_cons, ih, List.map_cons, List.sum_cons, add_assoc]

/-- A window that ends at a place, as long as the sequence, sums the places up to it. -/
theorem window_sum (g : ℕ → EReal) (s : ℕ) (hs : s < 4096) : (∑ n ∈ Finset.range 4096, if 4095 ≤ s + n then g (s + n - 4095) else 0) = ∑ i ∈ Finset.range (s + 1), g i := by
  have e : Finset.range 4096 = Finset.range ((4095 - s) + (s + 1)) := congrArg Finset.range (by omega)
  rw [e, Finset.sum_range_add, Finset.sum_eq_zero (fun n hn => if_neg (by have := Finset.mem_range.1 hn; omega)), zero_add]
  refine Finset.sum_congr rfl fun i _ => ?_
  rw [if_pos (by omega), show s + (4095 - s + i) - 4095 = i by omega]

/-- The running sum along the sequence. -/
def total (x : FVec Ideal S8x4096x16 .f32) : FVec Ideal S8x4096x16 .f32 :=
  Host.reduceWindowAdd ![1, 4096, 1] ![1, 1, 1] ![0, 4095, 0] ![0, 0, 0] x (broadcastInDim S_ ![] bcast_S_S_ (constant S_ .f32 0x00000000#32))
    reduceWindows_S8x4096x16_S8x4096x16_w1s1p0_0_w4096s1p4095_0_w1s1p0_0 h_S_

abbrev W : Shape := ⟨3, ![1, 4096, 1]⟩
theorem numelW : W.numel = 4096 := by decide +kernel
theorem symmW (n : Fin W.numel) : W.rowMajor.symm n = ix3 (0 : Fin 1) (n.cast numelW) (0 : Fin 1) :=
  (W.rowMajor.symm_apply_eq).2 (Fin.ext (by
    rw [Shape.rowMajor_val_three]
    show n.val = (0 * 4096 + n.val) * 1 + 0
    omega))

theorem total_apply (x : FVec Ideal S8x4096x16 .f32) (b : Fin 8) (s : Fin 4096) (h : Fin 16) (g : ℕ → EReal) (hg : ∀ i : Fin 4096, x (ix3 b i h) = g i.val) :
    total x (ix3 b s h) = ∑ i ∈ Finset.range (s.val + 1), g i := by
  rw [← window_sum g s.val s.isLt]
  unfold total Host.reduceWindowAdd
  rw [Ideal.hostReduceWindowAdd_def]
  unfold Ideal.hostReduceWindowAdd Host.reduceWindow
  dsimp only
  rw [foldl_add]
  have hv : ((broadcastInDim S_ ![] bcast_S_S_ (constant S_ .f32 0x00000000#32) : FVec Ideal S_ .f32) (Shape.Idx.first h_S_)) = 0 := Ideal.ofBits_zero_f32
  refine (congrArg₂ (· + ·) hv rfl).trans ((zero_add _).trans ?_)
  rw [← Fin.sum_univ_def]
  refine (Fintype.sum_equiv (finCongr numelW) _ (fun n : Fin 4096 => if 4095 ≤ s.val + n.val then g (s.val + n.val - 4095) else 0) fun n => ?_).trans
    (Fin.sum_univ_eq_sum_range (fun n => if 4095 ≤ s.val + n then g (s.val + n - 4095) else 0) 4096)
  have w0 : (W.rowMajor.symm n 0).val = 0 := by rw [symmW]; rfl
  have w1 : (W.rowMajor.symm n 1).val = n.val := by rw [symmW]; rfl
  have w2 : (W.rowMajor.symm n 2).val = 0 := by rw [symmW]; rfl
  have hn : n.val < 4096 := (n.cast numelW).isLt
  have hs := s.isLt
  have e0 : b.val * 1 + (W.rowMajor.symm n 0).val - 0 = b.val := by rw [w0]; omega
  have e1 : s.val * 1 + (W.rowMajor.symm n 1).val - 4095 = s.val + n.val - 4095 := by rw [w1]; omega
  have e2 : h.val * 1 + (W.rowMajor.symm n 2).val - 0 = h.val := by rw [w2]; omega
  have b0 : 0 ≤ b.val * 1 + (W.rowMajor.symm n 0).val ∧ b.val * 1 + (W.rowMajor.symm n 0).val - 0 < 8 := ⟨Nat.zero_le _, e0.symm ▸ b.isLt⟩
  have b2 : 0 ≤ h.val * 1 + (W.rowMajor.symm n 2).val ∧ h.val * 1 + (W.rowMajor.symm n 2).val - 0 < 16 := ⟨Nat.zero_le _, e2.symm ▸ h.isLt⟩
  show _ = if 4095 ≤ s.val + n.val then g (s.val + n.val - 4095) else 0
  split
  · next hin =>
    have h1 := (hin 1).1
    change 4095 ≤ s.val * 1 + (W.rowMajor.symm n 1).val at h1
    rw [w1] at h1
    rw [if_pos (by omega)]
    refine (congrArg x (funext fun a => Fin.ext ?_)).trans (hg ⟨s.val + n.val - 4095, by omega⟩)
    match a with
    | ⟨0, _⟩ => exact e0
    | ⟨1, _⟩ => exact e1
    | ⟨2, _⟩ => exact e2
  · next hin =>
    rw [if_neg fun hle => hin fun a => by
      match a with
      | ⟨0, _⟩ => exact b0
      | ⟨1, _⟩ =>
        show 4095 ≤ s.val * 1 + (W.rowMajor.symm n 1).val ∧ s.val * 1 + (W.rowMajor.symm n 1).val - 4095 < 4096
        rw [w1]
        omega
      | ⟨2, _⟩ => exact b2]
    exact hv

/-- The running sum in base two. -/
def scaled (x : FVec Ideal S8x4096x16 .f32) : FVec Ideal S8x4096x16 .f32 :=
  mulf x (broadcastInDim S8x4096x16 ![] bcast_S_S8x4096x16 (constant S_ .f32 0x3FB8AA3B#32))

theorem scaled_apply (x : FVec Ideal S8x4096x16 .f32) (b : Fin 8) (s : Fin 4096) (h : Fin 16) : scaled x (ix3 b s h) = base2 (x (ix3 b s h)) := by
  pointwise [scaled]
  rfl

/-- An array's three parts: its rounding, the rounding of what is left, and the rest. -/
def parts (f : FVec Ideal S8x4096x16 .f32) : FVec Ideal S8x4096x16x3 .f32 :=
  concatenate S8x4096x16x3 3
    [⟨S8x4096x16x1, (broadcastInDim S8x4096x16x1 ![0, 1, 2] bcast_S8x4096x16_S8x4096x16x1_0_1_2 (extf .f32 (truncf .bf16 f bitsLt_bf16_f32) bitsLt_bf16_f32) : FVec Ideal S8x4096x16x1 .f32)⟩,
     ⟨S8x4096x16x1, (broadcastInDim S8x4096x16x1 ![0, 1, 2] bcast_S8x4096x16_S8x4096x16x1_0_1_2
       (extf .f32 (truncf .bf16 (subf f (extf .f32 (truncf .bf16 f bitsLt_bf16_f32) bitsLt_bf16_f32)) bitsLt_bf16_f32) bitsLt_bf16_f32) : FVec Ideal S8x4096x16x1 .f32)⟩,
     ⟨S8x4096x16x1, (broadcastInDim S8x4096x16x1 ![0, 1, 2] bcast_S8x4096x16_S8x4096x16x1_0_1_2
       (subf (subf f (extf .f32 (truncf .bf16 f bitsLt_bf16_f32) bitsLt_bf16_f32))
         (extf .f32 (truncf .bf16 (subf f (extf .f32 (truncf .bf16 f bitsLt_bf16_f32) bitsLt_bf16_f32)) bitsLt_bf16_f32) bitsLt_bf16_f32)) : FVec Ideal S8x4096x16x1 .f32)⟩]
    concatenates_S8x4096x16x1_S8x4096x16x1_S8x4096x16x1_S8x4096x16x3_d3

theorem parts_apply (f : FVec Ideal S8x4096x16 .f32) (b : Fin 8) (s : Fin 4096) (h : Fin 16) (j : Fin 3) : parts f (ix4 b s h j) = part (f (ix3 b s h)) j.val := by
  pointwise [parts]
  unfold part
  match j with
  | ⟨0, _⟩ => rfl
  | ⟨1, _⟩ => rfl
  | ⟨2, _⟩ => rfl

/-- The parts' opposites, then ones. -/
def sixK (p : FVec Ideal S8x4096x16x3 .f32) : FVec Ideal S8x4096x16x6 .f32 :=
  concatenate S8x4096x16x6 3 [⟨S8x4096x16x3, (Host.negf p : FVec Ideal S8x4096x16x3 .f32)⟩,
    ⟨S8x4096x16x3, (broadcastInDim S8x4096x16x3 ![] bcast_S_S8x4096x16x3 (constant S_ .f32 0x3F800000#32) : FVec Ideal S8x4096x16x3 .f32)⟩] concatenates_S8x4096x16x3_S8x4096x16x3_S8x4096x16x6_d3
/-- Ones, then the parts. -/
def sixQ (p : FVec Ideal S8x4096x16x3 .f32) : FVec Ideal S8x4096x16x6 .f32 :=
  concatenate S8x4096x16x6 3 [⟨S8x4096x16x3, (broadcastInDim S8x4096x16x3 ![] bcast_S_S8x4096x16x3 (constant S_ .f32 0x3F800000#32) : FVec Ideal S8x4096x16x3 .f32)⟩,
    ⟨S8x4096x16x3, p⟩] concatenates_S8x4096x16x3_S8x4096x16x3_S8x4096x16x6_d3

theorem sixK_apply (p : FVec Ideal S8x4096x16x3 .f32) (b : Fin 8) (s : Fin 4096) (h : Fin 16) (j : Fin 6) :
    sixK p (ix4 b s h j) = if hj : j.val < 3 then -p (ix4 b s h ⟨j.val, hj⟩) else 1 := by
  pointwise [sixK]

theorem sixQ_apply (p : FVec Ideal S8x4096x16x3 .f32) (b : Fin 8) (s : Fin 4096) (h : Fin 16) (j : Fin 6) :
    sixQ p (ix4 b s h j) = if hj : j.val < 3 then 1 else p (ix4 b s h ⟨j.val - 3, by omega⟩) := by
  pointwise [sixQ]

/-- The heads' six lanes side by side, and nought past them. -/
def wide (x : FVec Ideal S8x4096x16x6 .f32) : FVec Ideal S32768x128 .bf16 :=
  truncf .bf16 (concatenate S32768x128 1 [⟨S32768x96, (shapeCast _ x shapeCasts_S8x4096x16x6_S32768x96 : FVec Ideal S32768x96 .f32)⟩,
    ⟨S32768x32, (broadcastInDim S32768x32 ![] bcast_S_S32768x32 (constant S_ .f32 0x00000000#32) : FVec Ideal S32768x32 .f32)⟩] concatenates_S32768x96_S32768x32_S32768x128_d1) bitsLt_bf16_f32

theorem wide_apply (x : FVec Ideal S8x4096x16x6 .f32) (R : Fin 32768) (l : Fin 128) :
    wide x (ix2 R l) = if hl : l.val < 96 then x (ix4 (elt R) (pos R) (⟨l.val / 6, by omega⟩ : Fin 16) (⟨l.val % 6, by omega⟩ : Fin 6)) else 0 := by
  pointwise [wide]
  rfl

/-- The reference's results of its arguments. -/
def decays (x0 : FVec Ideal S8x4096x1024 .f32) (x1 : FVec Ideal S1024 .f32) (x2 x3 : FVec Ideal S8x1024 .f32) (x4 : FVec Ideal S1024x2064 .f32) (x5 : FVec Ideal S16 .f32) :
    FVec Ideal S8x4096x16x3 .f32 := parts (scaled (total (logs (opp (normed x0 x1 x2 x3) x4 x5))))
def plainKa (x0 : FVec Ideal S8x4096x1024 .f32) (x1 : FVec Ideal S1024 .f32) (x2 x3 : FVec Ideal S8x1024 .f32) (x4 : FVec Ideal S1024x2064 .f32) (x5 : FVec Ideal S16 .f32) :
    FVec Ideal S32768x128 .bf16 := wide (sixK (decays x0 x1 x2 x3 x4 x5))
def plainQa (x0 : FVec Ideal S8x4096x1024 .f32) (x1 : FVec Ideal S1024 .f32) (x2 x3 : FVec Ideal S8x1024 .f32) (x4 : FVec Ideal S1024x2064 .f32) (x5 : FVec Ideal S16 .f32) :
    FVec Ideal S32768x128 .bf16 := wide (sixQ (decays x0 x1 x2 x3 x4 x5))

theorem gate_apply (x0 : FVec Ideal S8x4096x1024 .f32) (x1 : FVec Ideal S1024 .f32) (x2 x3 : FVec Ideal S8x1024 .f32) (x4 : FVec Ideal S1024x2064 .f32) (x5 : FVec Ideal S16 .f32)
    (b : Fin 8) (i : Fin 4096) (h : Fin 16) : logs (opp (normed x0 x1 x2 x3) x4 x5) (ix3 b i h) = gateAt x0 x1 x2 x3 x4 x5 b h i.val := by
  rw [logs_apply, opp_apply, neg_neg]
  unfold gateAt
  rw [dif_pos i.isLt]
  have hb := b.isLt
  have hi := i.isLt
  have e0 : b = elt (⟨b.val * 4096 + i.val, by omega⟩ : Fin 32768) := Fin.ext (show b.val = (b.val * 4096 + i.val) / 4096 by omega)
  have e1 : i = pos (⟨b.val * 4096 + i.val, by omega⟩ : Fin 32768) := Fin.ext (show i.val = (b.val * 4096 + i.val) % 4096 by omega)
  have e : ∀ k : Fin 1024, normed x0 x1 x2 x3 (ix3 b i k) = nrow x0 x1 x2 x3 (⟨b.val * 4096 + i.val, by omega⟩ : Fin 32768) k := fun k =>
    (congrArg₂ (fun (b : Fin 8) (i : Fin 4096) => normed x0 x1 x2 x3 (ix3 b i k)) e0 e1).trans (normed_apply x0 x1 x2 x3 _ k)
  exact congrArg (fun z => gateLog (z + x5 (ix1 h))) (Finset.sum_congr rfl fun k _ => congrArg (· * x4 (ix2 k (cf h))) (e k))

theorem decays_apply (x0 : FVec Ideal S8x4096x1024 .f32) (x1 : FVec Ideal S1024 .f32) (x2 x3 : FVec Ideal S8x1024 .f32) (x4 : FVec Ideal S1024x2064 .f32) (x5 : FVec Ideal S16 .f32)
    (R : Fin 32768) (h : Fin 16) (j : Fin 3) : decays x0 x1 x2 x3 x4 x5 (ix4 (elt R) (pos R) h j) = part (decay x0 x1 x2 x3 x4 x5 R h) j.val := by
  refine (parts_apply _ _ _ _ _).trans ?_
  rw [scaled_apply, total_apply _ (elt R) (pos R) h (gateAt x0 x1 x2 x3 x4 x5 (elt R) h) fun i => gate_apply x0 x1 x2 x3 x4 x5 (elt R) i h]
  rfl

theorem plainKa_eq (x0 : FVec Ideal S8x4096x1024 .f32) (x1 : FVec Ideal S1024 .f32) (x2 x3 : FVec Ideal S8x1024 .f32) (x4 : FVec Ideal S1024x2064 .f32) (x5 : FVec Ideal S16 .f32) :
    plainKa x0 x1 x2 x3 x4 x5 = fun j => lanesK (decay x0 x1 x2 x3 x4 x5 (j 0)) (j 1) := by
  funext j
  obtain ⟨R, l, rfl⟩ : ∃ (R : Fin 32768) (l : Fin 128), j = ix2 R l := ⟨j 0, j 1, eq_ix2 j⟩
  show wide (sixK (decays x0 x1 x2 x3 x4 x5)) (ix2 R l) = lanesK (decay x0 x1 x2 x3 x4 x5 R) l
  rw [wide_apply]
  unfold lanesK
  by_cases hl : l.val < 96
  · rw [dif_pos hl, dif_pos hl, sixK_apply]
    by_cases hj : l.val % 6 < 3
    · rw [dif_pos hj, if_pos hj, decays_apply]
    · rw [dif_neg hj, if_neg hj]
  · rw [dif_neg hl, dif_neg hl]

theorem plainQa_eq (x0 : FVec Ideal S8x4096x1024 .f32) (x1 : FVec Ideal S1024 .f32) (x2 x3 : FVec Ideal S8x1024 .f32) (x4 : FVec Ideal S1024x2064 .f32) (x5 : FVec Ideal S16 .f32) :
    plainQa x0 x1 x2 x3 x4 x5 = fun j => lanesQ (decay x0 x1 x2 x3 x4 x5 (j 0)) (j 1) := by
  funext j
  obtain ⟨R, l, rfl⟩ : ∃ (R : Fin 32768) (l : Fin 128), j = ix2 R l := ⟨j 0, j 1, eq_ix2 j⟩
  show wide (sixQ (decays x0 x1 x2 x3 x4 x5)) (ix2 R l) = lanesQ (decay x0 x1 x2 x3 x4 x5 R) l
  rw [wide_apply]
  unfold lanesQ
  by_cases hl : l.val < 96
  · rw [dif_pos hl, dif_pos hl, sixQ_apply]
    by_cases hj : l.val % 6 < 3
    · rw [dif_pos hj, if_pos hj]
    · rw [dif_neg hj, if_neg hj, decays_apply]
  · rw [dif_neg hl, dif_neg hl]

end Cert.Decays

end
-- ==== Proof.Dec.lean ====
module

public import proofs.«01_k».proof.Proof.DecRef
public import proofs.«01_k».proof.Proof.Gen.Kernel8
public import proofs.«01_k».proof.Proof.Gen.Kernel8Ideal
public import proofs.«01_k».proof.Proof.Gen.Kernel8Ideal.Value
public import proofs.«01_k».proof.Proof.Gen.Ref8Ideal.Run
public import proofs.«01_k».proof.Proof.Gen.Pre_finite

/-! The decays' call: its runs, the condition on its arguments, and its two results against the reference's. -/

@[expose] public section

set_option maxRecDepth 16384

noncomputable section

namespace Cert.Decays

open Idealize.ShloMosaic Idealize.ShloMosaic.TcCoe Idealize.SL.Sem
open Cert.Kernel8Ideal.Closed (cf RealAt)
open Cert.Decay (Real' real_of_abs)

set_option maxHeartbeats 4000000 in
/-- The two programs have one text: the same kernel, the same body table, the same calls. -/
theorem kernel_table {F : FTy → Type} [FloatOps F] : @Cert.Kernel8.defs₀ F _ _ = @Cert.Kernel8Ideal.defs₀ F _ _ := by
  unfold Cert.Kernel8.defs₀ Cert.Kernel8Ideal.defs₀
  refine congrArg Defs.onTc ?_
  funext l a
  match l, a with
  | ⟨0, _⟩, (t, s) => rfl

set_option maxHeartbeats 4000000 in
theorem kernel_defs {F : FTy → Type} [FloatOps F] : @Cert.Kernel8.defs F _ _ = @Cert.Kernel8Ideal.defs F _ _ := by
  unfold Cert.Kernel8.defs Cert.Kernel8Ideal.defs
  exact congrArg (Pipeline.defs _) kernel_table

set_option maxHeartbeats 4000000 in
theorem frame_bits : Cert.quiescent_Kernel8 := fun m ρ _ => by
  rw [kernel_defs]
  exact (θ_run Cert.Kernel8Ideal.defs _ _).mono (fun _ h => h) (Cert.Kernel8Ideal.Gen.frame (F := Bits) m ρ)

theorem frame_ideal : Cert.quiescent_Kernel8Ideal := fun m ρ _ => Cert.Kernel8Ideal.Gen.frame m ρ
theorem frame_ideal_finite : Cert.quiescent_Kernel8Ideal_pre_finite := fun m ρ _ => frame_ideal m ρ trivial

theorem frame_ref : Cert.quiescent_Ref8Ideal := fun m ρ _ =>
  (θ_run Cert.Ref8Ideal.defs _ _).mono (fun r h => ⟨fun c => (h c).2.2, Idealize.ShloMosaic.sem_eq_zero_of_no_sems (by decide) r.2⟩)
    (Cert.Ref8Ideal.Value.run (F := Ideal) m ρ)
theorem frame_ref_finite : Cert.quiescent_Ref8Ideal_pre_finite := fun m ρ _ => frame_ref m ρ trivial

section Condition
open Cert.Pre_finite

theorem inf_top : Ideal.ofBits FTy.f32 0x7F800000#32 = ⊤ := by
  simp [Ideal.ofBits, Ideal.ieee]

theorem of_below {x : EReal} (h : BitVec.ofBool (decide (max x (-x) < Ideal.ofBits FTy.f32 0x7F800000#32)) = 1#1) : Real' x := by
  refine real_of_abs ?_
  rw [← inf_top]
  by_contra hn
  rw [decide_eq_false hn] at h
  exact absurd h (by decide)

/-- The condition of one array of each shape, all ones: every entry is a real number. -/
theorem finite1 (x : FVec Ideal S1024 .f32)
    (h : cmpf .olt (Host.absf x) (broadcastInDim S1024 ![] Facts.bcast_S_S1024 (constant S_ .f32 0x7F800000#32)) = fun _ => 1#1) (k : Fin 1024) : Real' (x (ix1 k)) :=
  of_below (congrFun h (ix1 k))
theorem finite2 (x : FVec Ideal S8x1024 .f32)
    (h : cmpf .olt (Host.absf x) (broadcastInDim S8x1024 ![] Facts.bcast_S_S8x1024 (constant S_ .f32 0x7F800000#32)) = fun _ => 1#1) (b : Fin 8) (k : Fin 1024) : Real' (x (ix2 b k)) :=
  of_below (congrFun h (ix2 b k))
theorem finite4 (x : FVec Ideal S1024x2064 .f32)
    (h : cmpf .olt (Host.absf (extractStridedSlice S1024x16 ![0, 2048] x Facts.slices_S1024x2064_S1024x16_0_2048))
      (broadcastInDim S1024x16 ![] Facts.bcast_S_S1024x16 (constant S_ .f32 0x7F800000#32)) = fun _ => 1#1) (k : Fin 1024) (q : Fin 16) : Real' (x (ix2 k (cf q))) := by
  have e : extractStridedSlice S1024x16 ![0, 2048] x Facts.slices_S1024x2064_S1024x16_0_2048 (ix2 k q) = x (ix2 k (cf q)) := by
    pointwise []
    rfl
  rw [← e]
  exact of_below (congrFun h (ix2 k q))

theorem real_at (m : (ℓ : Loc Cert.Kernel8Ideal.nD Cert.Kernel8Ideal.τ Cert.Kernel8Ideal.sig) → Buf (Elt Ideal) ℓ) (h : Cert.Pre_Kernel8Ideal_finite m) (c : Dev Cert.Kernel8Ideal.nD) : RealAt m c := by
  obtain ⟨h1, h2, h3, h4⟩ := h c
  exact ⟨finite1 _ h1, finite2 _ h2, finite2 _ h3, finite4 _ h4⟩

end Condition

theorem value : Cert.algebraic_Kernel8Ideal_Ref8Ideal_pre_finite := by
  intro m ρ m' ρ' hpre hagree
  refine ⟨fun c => Cert.Kernel8Ideal.Closed.resKa m c, fun c => Cert.Kernel8Ideal.Closed.resQa m c,
    (θ_run Cert.Kernel8Ideal.defs _ _).mono (fun r h c => ⟨(h c).2.2.1.trans (Cert.Kernel8Ideal.Closed.finalKa m c (real_at m hpre c)),
        (h c).2.2.2.1.trans (Cert.Kernel8Ideal.Closed.finalQa m c (real_at m hpre c)), (h c).2.2.2.2⟩)
      (Cert.Kernel8Ideal.Value.run_blocks m ρ), ?_⟩
  refine (θ_run Cert.Ref8Ideal.defs _ _).mono (fun r hr c => ⟨(hr c).1.trans ?_, (hr c).2.1.trans ?_, (hr c).2.2⟩) (Cert.Ref8Ideal.Value.run (F := Ideal) m' ρ')
  · obtain ⟨e0, e1, e2, e3, e4, e5, -⟩ := hagree c
    unfold Cert.Ref8Ideal.Value.res_main_v49
    rw [e0, e1, e2, e3, e4, e5]
    exact plainKa_eq _ _ _ _ _ _
  · obtain ⟨e0, e1, e2, e3, e4, e5, -⟩ := hagree c
    unfold Cert.Ref8Ideal.Value.res_main_v51
    rw [e0, e1, e2, e3, e4, e5]
    exact plainQa_eq _ _ _ _ _ _

end Cert.Decays

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.KernelIdeal.Skeleton
public import proofs.«01_k».proof.Proof.Gen.Pre_in_range
public import proofs.«01_k».proof.Proof.Gen.Pre_planned
public import proofs.«01_k».proof.Proof.Gen.RefIdeal.Run
public import proofs.«01_k».proof.Proof.Frames
public import proofs.«01_k».proof.Proof.Plan
public import proofs.«01_k».proof.Proof.Dense
public import proofs.«01_k».proof.Proof.Item
public import proofs.«01_k».proof.Proof.Value
public import proofs.«01_k».proof.Proof.Og
public import proofs.«01_k».proof.Proof.Qg
public import proofs.«01_k».proof.Proof.Out
public import proofs.«01_k».proof.Proof.In
public import proofs.«01_k».proof.Proof.Kv
public import proofs.«01_k».proof.Proof.Ada
public import proofs.«01_k».proof.Proof.Dec
public import Idealize.ShloMosaic.Lib.Claim
public import Idealize.ShloMosaic.Adequacy
public import Idealize.ShloMosaic.Init

/-! The certificate: the frames, and the values over the extended reals, of the experts' kernel and of six of the layer's other calls. -/

@[expose] public section

set_option maxRecDepth 16384

noncomputable section

namespace Cert.Experts

open Idealize.ShloMosaic Idealize.ShloMosaic.TcCoe Idealize.SL.Sem
open Cert.KernelIdeal Cert.KernelIdeal.Experts

/-- The predicate's arrays all ones: the launch's arrays follow a plan. -/
theorem planned_at (m : (ℓ : Loc nD τ sig) → Buf (Elt Ideal) ℓ) (h : Cert.Pre_KernelIdeal_planned m) (c : Dev nD) : PlannedAt m c := by
  obtain rfl : c = 0 := Subsingleton.elim _ _
  obtain ⟨h1, h2, h3, h4, h5, h6, h7, h8, h9, h10⟩ := h 0
  exact planned_of _ _ _ _ _ _ _ _ _ _ _ (Prod.ext h1 (Prod.ext h2 (Prod.ext h3 (Prod.ext h4 (Prod.ext h5 (Prod.ext h6 (Prod.ext h7 (Prod.ext h8 (Prod.ext h9 h10)))))))))

theorem frame_ideal_planned : Cert.quiescent_KernelIdeal_pre_planned := fun m ρ h =>
  frame_of m ρ (inRange_of m (planned_at m h 0))

theorem frame_ref_planned : Cert.quiescent_RefIdeal_pre_planned := fun m ρ _ =>
  (θ_run Cert.RefIdeal.defs _ _).mono (fun r h => ⟨fun c => (h c).2,
      Idealize.ShloMosaic.sem_eq_zero_of_no_sems (by decide) r.2⟩)
    (Cert.RefIdeal.Value.run (F := Ideal) m ρ)

/-- The kernel's result is the dense mixture of its arguments. -/
theorem kernel_run (m : (ℓ : Loc nD τ sig) → Buf (Elt Ideal) ℓ) (ρ : Dev nD → PrngReg) (h : Cert.Pre_KernelIdeal_planned m) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v0)
        = Cert.RefIdeal.Dense.dense (V m c main_arg0) (V m c main_arg1) (V m c main_arg2) (V m c main_arg3) (V m c main_arg4)) :=
  (θ_run Cert.KernelIdeal.defs _ _).mono
    (fun r hr c => out_eq m (planned_at m h c) (inRange_of m (planned_at m h 0)) _ ((hr.1 c).1 4))
    (run_main m ρ (ok_of m (inRange_of m (planned_at m h 0))) (inRange_of m (planned_at m h 0)))

theorem value : Cert.algebraic_KernelIdeal_RefIdeal_pre_planned := by
  intro m ρ m' ρ' hpre hagree
  have both := θ_run_and (kernel_run m ρ hpre) (frame_ideal_planned m ρ hpre)
  refine ⟨_, (θ_run Cert.KernelIdeal.defs _ _).mono (fun r hr c => ⟨hr.1 c, hr.2.1 c⟩) both, ?_⟩
  refine (θ_run Cert.RefIdeal.defs _ _).mono (fun r hr c => ⟨(hr c).1.trans ?_, (hr c).2⟩) (Cert.RefIdeal.Value.run (F := Ideal) m' ρ')
  obtain ⟨e0, e1, e2, e3, e4, -⟩ := hagree c
  rw [e0, e1, e2, e3, e4]
  rfl

end Cert.Experts

namespace Cert.Proof

theorem claim : Cert.Claim :=
  ⟨Cert.Kernel.Gen.facts, Cert.KernelIdeal.Gen.facts, Cert.RefIdeal.Gen.facts, Cert.Kernel2.Gen.facts, Cert.Kernel2Ideal.Gen.facts, Cert.Ref2Ideal.Gen.facts,
    Cert.Kernel3.Gen.facts, Cert.Kernel3Ideal.Gen.facts, Cert.Ref3Ideal.Gen.facts, Cert.Kernel4.Gen.facts, Cert.Kernel4Ideal.Gen.facts, Cert.Ref4Ideal.Gen.facts,
    Cert.Kernel5.Gen.facts, Cert.Kernel5Ideal.Gen.facts, Cert.Ref5Ideal.Gen.facts, Cert.Kernel6.Gen.facts, Cert.Kernel6Ideal.Gen.facts, Cert.Ref6Ideal.Gen.facts,
    Cert.Kernel7.Gen.facts, Cert.Kernel7Ideal.Gen.facts, Cert.Ref7Ideal.Gen.facts, Cert.Kernel8.Gen.facts, Cert.Kernel8Ideal.Gen.facts, Cert.Ref8Ideal.Gen.facts,
    Cert.Pre_in_range.Gen.facts, Cert.Pre_planned.Gen.facts, Cert.Pre_finite.Gen.facts,
    Cert.Experts.frame_bits, Cert.Experts.frame_ideal, Cert.Experts.frame_ideal_planned, Cert.Experts.frame_ref, Cert.Experts.frame_ref_planned,
    Cert.InProj.frame_bits, Cert.InProj.frame_ideal, Cert.InProj.frame_ref,
    Cert.GluProj.frame_bits, Cert.GluProj.frame_ideal, Cert.GluProj.frame_ref,
    Cert.QueryProj.frame_bits, Cert.QueryProj.frame_ideal, Cert.QueryProj.frame_ref,
    Cert.OutProj.frame_bits, Cert.OutProj.frame_ideal, Cert.OutProj.frame_ref,
    Cert.KeyValue.frame_bits, Cert.KeyValue.frame_ideal, Cert.KeyValue.frame_ref,
    Cert.Modulation.frame_bits, Cert.Modulation.frame_ideal, Cert.Modulation.frame_ref,
    Cert.Decays.frame_bits, Cert.Decays.frame_ideal, Cert.Decays.frame_ideal_finite, Cert.Decays.frame_ref, Cert.Decays.frame_ref_finite,
    trivial, Cert.Experts.value, trivial, Cert.InProj.value, trivial, Cert.GluProj.value, trivial, Cert.QueryProj.value, trivial, Cert.OutProj.value, trivial, Cert.KeyValue.value, trivial, Cert.Modulation.value, trivial, Cert.Decays.value⟩

end Cert.Proof

end
